-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleRefIdeal (m : (ℓ : Loc Cert.MlpSampleRefIdeal.nD Cert.MlpSampleRefIdeal.τ Cert.MlpSampleRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2)
      ∧ r.2.mem ((c.tc : Thread Cert.ProjSampleRefIdeal.nD Cert.ProjSampleRefIdeal.τ).loc Cert.ProjSampleRefIdeal.main_arg3) = m ((c.tc : Thread Cert.ProjSampleRefIdeal.nD Cert.ProjSampleRefIdeal.τ).loc Cert.ProjSampleRefIdeal.main_arg3))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3)
      ∧ r.2.mem ((c.tc : Thread Cert.MlpSample.nD Cert.MlpSample.τ).loc Cert.MlpSample.main_arg4) = m ((c.tc : Thread Cert.MlpSample.nD Cert.MlpSample.τ).loc Cert.MlpSample.main_arg4)
      ∧ r.2.mem ((c.tc : Thread Cert.MlpSample.nD Cert.MlpSample.τ).loc Cert.MlpSample.main_arg5) = m ((c.tc : Thread Cert.MlpSample.nD Cert.MlpSample.τ).loc Cert.MlpSample.main_arg5)
      ∧ r.2.mem ((c.tc : Thread Cert.MlpSample.nD Cert.MlpSample.τ).loc Cert.MlpSample.main_arg6) = m ((c.tc : Thread Cert.MlpSample.nD Cert.MlpSample.τ).loc Cert.MlpSample.main_arg6))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
      ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
      ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5)
      ∧ r.2.mem ((c.tc : Thread Cert.MlpSampleIdeal.nD Cert.MlpSampleIdeal.τ).loc Cert.MlpSampleIdeal.main_arg6) = m ((c.tc : Thread Cert.MlpSampleIdeal.nD Cert.MlpSampleIdeal.τ).loc Cert.MlpSampleIdeal.main_arg6))
      ∧ r.2.sem = fun _ => 0)

def quiescent_MlpSampleRefIdeal [hMlpSampleRefIdeal : Cert.MlpSampleRefIdeal.Facts] : Prop :=
  ∀ (m : (ℓ : Loc Cert.MlpSampleRefIdeal.nD Cert.MlpSampleRefIdeal.τ Cert.MlpSampleRefIdeal.sig) → Buf (Elt Ideal) ℓ) (g : Dev Cert.MlpSampleRefIdeal.nD → PrngReg), Pre_MlpSampleRefIdeal m →
    θ_run (Cert.MlpSampleRefIdeal.defs (F := Ideal)) (onTc (τ := Cert.MlpSampleRefIdeal.τ) (Cert.MlpSampleRefIdeal.main (F := Ideal))) ⟨m, fun _ => 0, g⟩ (fun r => (∀ c : Dev Cert.MlpSampleRefIdeal.nD,
      r.2.mem ((c.tc : Thread Cert.MlpSampleRefIdeal.nD Cert.MlpSampleRefIdeal.τ).loc Cert.MlpSampleRefIdeal.main_arg0) = m ((c.tc : Thread Cert.MlpSampleRefIdeal.nD Cert.MlpSampleRefIdeal.τ).loc Cert.MlpSampleRefIdeal.main_arg0)
      ∧ r.2.mem ((c.tc : Thread Cert.MlpSampleRefIdeal.nD Cert.MlpSampleRefIdeal.τ).loc Cert.MlpSampleRefIdeal.main_arg1) = m ((c.tc : Thread Cert.MlpSampleRefIdeal.nD Cert.MlpSampleRefIdeal.τ).loc Cert.MlpSampleRefIdeal.main_arg1)
      ∧ r.2.mem ((c.tc : Thread Cert.MlpSampleRefIdeal.nD Cert.MlpSampleRefIdeal.τ).loc Cert.MlpSampleRefIdeal.main_arg2) = m ((c.tc : Thread Cert.MlpSampleRefIdeal.nD Cert.MlpSampleRefIdeal.τ).loc Cert.MlpSampleRefIdeal.main_arg2)
      ∧ r.2.mem ((c.tc : Thread Cert.MlpSampleRefIdeal.nD Cert.MlpSampleRefIdeal.τ).loc Cert.MlpSampleRefIdeal.main_arg3) = m ((c.tc : Thread Cert.MlpSampleRefIdeal.nD Cert.MlpSampleRefIdeal.τ).loc Cert.MlpSampleRefIdeal.main_arg3)
      ∧ r.2.mem ((c.tc : Thread Cert.MlpSampleRefIdeal.nD Cert.MlpSampleRefIdeal.τ).loc Cert.MlpSampleRefIdeal.main_arg4) = m ((c.tc : Thread Cert.MlpSampleRefIdeal.nD Cert.MlpSampleRefIdeal.τ).loc Cert.MlpSampleRefIdeal.main_arg4)
      ∧ r.2.mem ((c.tc : Thread Cert.MlpSampleRefIdeal.nD Cert.MlpSampleRefIdeal.τ).loc Cert.MlpSampleRefIdeal.main_arg5) = m ((c.tc : Thread Cert.MlpSampleRefIdeal.nD Cert.MlpSampleRefIdeal.τ).loc Cert.MlpSampleRefIdeal.main_arg5)
      ∧ r.2.mem ((c.tc : Thread Cert.MlpSampleRefIdeal.nD Cert.MlpSampleRefIdeal.τ).loc Cert.MlpSampleRefIdeal.main_arg6) = m ((c.tc : Thread Cert.MlpSampleRefIdeal.nD Cert.MlpSampleRefIdeal.τ).loc Cert.MlpSampleRefIdeal.main_arg6))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)) →
    ∃ (v0 : (c : Dev Cert.ConvIdeal.nD) → Buf (Elt Ideal) ((c.tc : Thread Cert.ConvIdeal.nD Cert.ConvIdeal.τ).loc Cert.ConvIdeal.main_v12_0)) (v1 : (c : Dev Cert.ConvIdeal.nD) → Buf (Elt Ideal) ((c.tc : Thread Cert.ConvIdeal.nD Cert.ConvIdeal.τ).loc Cert.ConvIdeal.main_v12_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v12_0) = v0 c
          ∧ r.2.mem ((c.tc : Thread Cert.ConvIdeal.nD Cert.ConvIdeal.τ).loc Cert.ConvIdeal.main_v12_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v259) = v0 c
          ∧ r.2.mem ((c.tc : Thread Cert.ConvRefIdeal.nD Cert.ConvRefIdeal.τ).loc Cert.ConvRefIdeal.main_v13) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)
      ∧ m' ((c.tc : Thread Cert.GmlpRefIdeal.nD Cert.GmlpRefIdeal.τ).loc Cert.GmlpRefIdeal.main_arg6) = m ((c.tc : Thread Cert.GmlpIdeal.nD Cert.GmlpIdeal.τ).loc Cert.GmlpIdeal.main_arg6)) →
    ∃ (v0 : (c : Dev Cert.GmlpIdeal.nD) → Buf (Elt Ideal) ((c.tc : Thread Cert.GmlpIdeal.nD Cert.GmlpIdeal.τ).loc Cert.GmlpIdeal.main_v19)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v19) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v56) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v10_0)) (v1 : (c : Dev Cert.ProjIdeal.nD) → Buf (Elt Ideal) ((c.tc : Thread Cert.ProjIdeal.nD Cert.ProjIdeal.τ).loc Cert.ProjIdeal.main_v10_1)) (v2 : (c : Dev Cert.ProjIdeal.nD) → Buf (Elt Ideal) ((c.tc : Thread Cert.ProjIdeal.nD Cert.ProjIdeal.τ).loc Cert.ProjIdeal.main_v10_2)) (v3 : (c : Dev Cert.ProjIdeal.nD) → Buf (Elt Ideal) ((c.tc : Thread Cert.ProjIdeal.nD Cert.ProjIdeal.τ).loc Cert.ProjIdeal.main_v10_3)) (v4 : (c : Dev Cert.ProjIdeal.nD) → Buf (Elt Ideal) ((c.tc : Thread Cert.ProjIdeal.nD Cert.ProjIdeal.τ).loc Cert.ProjIdeal.main_v10_4)) (v5 : (c : Dev Cert.ProjIdeal.nD) → Buf (Elt Ideal) ((c.tc : Thread Cert.ProjIdeal.nD Cert.ProjIdeal.τ).loc Cert.ProjIdeal.main_v10_5)) (v6 : (c : Dev Cert.ProjIdeal.nD) → Buf (Elt Ideal) ((c.tc : Thread Cert.ProjIdeal.nD Cert.ProjIdeal.τ).loc Cert.ProjIdeal.main_v10_6)) (v7 : (c : Dev Cert.ProjIdeal.nD) → Buf (Elt Ideal) ((c.tc : Thread Cert.ProjIdeal.nD Cert.ProjIdeal.τ).loc Cert.ProjIdeal.main_v10_7)) (v8 : (c : Dev Cert.ProjIdeal.nD) → Buf (Elt Ideal) ((c.tc : Thread Cert.ProjIdeal.nD Cert.ProjIdeal.τ).loc Cert.ProjIdeal.main_v10_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10_0) = v0 c
          ∧ r.2.mem ((c.tc : Thread Cert.ProjIdeal.nD Cert.ProjIdeal.τ).loc Cert.ProjIdeal.main_v10_1) = v1 c
          ∧ r.2.mem ((c.tc : Thread Cert.ProjIdeal.nD Cert.ProjIdeal.τ).loc Cert.ProjIdeal.main_v10_2) = v2 c
          ∧ r.2.mem ((c.tc : Thread Cert.ProjIdeal.nD Cert.ProjIdeal.τ).loc Cert.ProjIdeal.main_v10_3) = v3 c
          ∧ r.2.mem ((c.tc : Thread Cert.ProjIdeal.nD Cert.ProjIdeal.τ).loc Cert.ProjIdeal.main_v10_4) = v4 c
          ∧ r.2.mem ((c.tc : Thread Cert.ProjIdeal.nD Cert.ProjIdeal.τ).loc Cert.ProjIdeal.main_v10_5) = v5 c
          ∧ r.2.mem ((c.tc : Thread Cert.ProjIdeal.nD Cert.ProjIdeal.τ).loc Cert.ProjIdeal.main_v10_6) = v6 c
          ∧ r.2.mem ((c.tc : Thread Cert.ProjIdeal.nD Cert.ProjIdeal.τ).loc Cert.ProjIdeal.main_v10_7) = v7 c
          ∧ r.2.mem ((c.tc : Thread Cert.ProjIdeal.nD Cert.ProjIdeal.τ).loc Cert.ProjIdeal.main_v10_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v46) = v0 c
          ∧ r.2.mem ((c.tc : Thread Cert.ProjRefIdeal.nD Cert.ProjRefIdeal.τ).loc Cert.ProjRefIdeal.main_v35) = v1 c
          ∧ r.2.mem ((c.tc : Thread Cert.ProjRefIdeal.nD Cert.ProjRefIdeal.τ).loc Cert.ProjRefIdeal.main_v36) = v2 c
          ∧ r.2.mem ((c.tc : Thread Cert.ProjRefIdeal.nD Cert.ProjRefIdeal.τ).loc Cert.ProjRefIdeal.main_v48) = v3 c
          ∧ r.2.mem ((c.tc : Thread Cert.ProjRefIdeal.nD Cert.ProjRefIdeal.τ).loc Cert.ProjRefIdeal.main_v38) = v4 c
          ∧ r.2.mem ((c.tc : Thread Cert.ProjRefIdeal.nD Cert.ProjRefIdeal.τ).loc Cert.ProjRefIdeal.main_v49) = v5 c
          ∧ r.2.mem ((c.tc : Thread Cert.ProjRefIdeal.nD Cert.ProjRefIdeal.τ).loc Cert.ProjRefIdeal.main_v50) = v6 c
          ∧ r.2.mem ((c.tc : Thread Cert.ProjRefIdeal.nD Cert.ProjRefIdeal.τ).loc Cert.ProjRefIdeal.main_v51) = v7 c
          ∧ r.2.mem ((c.tc : Thread Cert.ProjRefIdeal.nD Cert.ProjRefIdeal.τ).loc Cert.ProjRefIdeal.main_v52) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_v49) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v13) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)) →
    ∃ (v0 : (c : Dev Cert.ProjSampleIdeal.nD) → Buf (Elt Ideal) ((c.tc : Thread Cert.ProjSampleIdeal.nD Cert.ProjSampleIdeal.τ).loc Cert.ProjSampleIdeal.main_v10_0)) (v1 : (c : Dev Cert.ProjSampleIdeal.nD) → Buf (Elt Ideal) ((c.tc : Thread Cert.ProjSampleIdeal.nD Cert.ProjSampleIdeal.τ).loc Cert.ProjSampleIdeal.main_v10_1)) (v2 : (c : Dev Cert.ProjSampleIdeal.nD) → Buf (Elt Ideal) ((c.tc : Thread Cert.ProjSampleIdeal.nD Cert.ProjSampleIdeal.τ).loc Cert.ProjSampleIdeal.main_v10_2)) (v3 : (c : Dev Cert.ProjSampleIdeal.nD) → Buf (Elt Ideal) ((c.tc : Thread Cert.ProjSampleIdeal.nD Cert.ProjSampleIdeal.τ).loc Cert.ProjSampleIdeal.main_v10_3)) (v4 : (c : Dev Cert.ProjSampleIdeal.nD) → Buf (Elt Ideal) ((c.tc : Thread Cert.ProjSampleIdeal.nD Cert.ProjSampleIdeal.τ).loc Cert.ProjSampleIdeal.main_v10_4)) (v5 : (c : Dev Cert.ProjSampleIdeal.nD) → Buf (Elt Ideal) ((c.tc : Thread Cert.ProjSampleIdeal.nD Cert.ProjSampleIdeal.τ).loc Cert.ProjSampleIdeal.main_v10_5)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v10_0) = v0 c
          ∧ r.2.mem ((c.tc : Thread Cert.ProjSampleIdeal.nD Cert.ProjSampleIdeal.τ).loc Cert.ProjSampleIdeal.main_v10_1) = v1 c
          ∧ r.2.mem ((c.tc : Thread Cert.ProjSampleIdeal.nD Cert.ProjSampleIdeal.τ).loc Cert.ProjSampleIdeal.main_v10_2) = v2 c
          ∧ r.2.mem ((c.tc : Thread Cert.ProjSampleIdeal.nD Cert.ProjSampleIdeal.τ).loc Cert.ProjSampleIdeal.main_v10_3) = v3 c
          ∧ r.2.mem ((c.tc : Thread Cert.ProjSampleIdeal.nD Cert.ProjSampleIdeal.τ).loc Cert.ProjSampleIdeal.main_v10_4) = v4 c
          ∧ r.2.mem ((c.tc : Thread Cert.ProjSampleIdeal.nD Cert.ProjSampleIdeal.τ).loc Cert.ProjSampleIdeal.main_v10_5) = v5 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v43) = v0 c
          ∧ r.2.mem ((c.tc : Thread Cert.ProjSampleRefIdeal.nD Cert.ProjSampleRefIdeal.τ).loc Cert.ProjSampleRefIdeal.main_v35) = v1 c
          ∧ r.2.mem ((c.tc : Thread Cert.ProjSampleRefIdeal.nD Cert.ProjSampleRefIdeal.τ).loc Cert.ProjSampleRefIdeal.main_v36) = v2 c
          ∧ r.2.mem ((c.tc : Thread Cert.ProjSampleRefIdeal.nD Cert.ProjSampleRefIdeal.τ).loc Cert.ProjSampleRefIdeal.main_v44) = v3 c
          ∧ r.2.mem ((c.tc : Thread Cert.ProjSampleRefIdeal.nD Cert.ProjSampleRefIdeal.τ).loc Cert.ProjSampleRefIdeal.main_v38) = v4 c
          ∧ r.2.mem ((c.tc : Thread Cert.ProjSampleRefIdeal.nD Cert.ProjSampleRefIdeal.τ).loc Cert.ProjSampleRefIdeal.main_v41) = v5 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2)
          ∧ r.2.mem ((c.tc : Thread Cert.ProjSampleRefIdeal.nD Cert.ProjSampleRefIdeal.τ).loc Cert.ProjSampleRefIdeal.main_arg3) = m' ((c.tc : Thread Cert.ProjSampleRefIdeal.nD Cert.ProjSampleRefIdeal.τ).loc Cert.ProjSampleRefIdeal.main_arg3))

def preserves_MlpSample_MlpSampleIdeal : Prop :=
  True

def algebraic_MlpSampleIdeal_MlpSampleRefIdeal [hMlpSampleIdeal : Cert.MlpSampleIdeal.Facts] [hMlpSampleRefIdeal : Cert.MlpSampleRefIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleRefIdeal.nD Cert.MlpSampleRefIdeal.τ Cert.MlpSampleRefIdeal.sig) → Buf (Elt Ideal) ℓ) (g' : Dev Cert.MlpSampleRefIdeal.nD → PrngReg), Pre_MlpSampleIdeal m →
    (∀ c : Dev Cert.MlpSampleIdeal.nD,
      m' ((c.tc : Thread Cert.MlpSampleRefIdeal.nD Cert.MlpSampleRefIdeal.τ).loc Cert.MlpSampleRefIdeal.main_arg0) = m ((c.tc : Thread Cert.MlpSampleIdeal.nD Cert.MlpSampleIdeal.τ).loc Cert.MlpSampleIdeal.main_arg0)
      ∧ m' ((c.tc : Thread Cert.MlpSampleRefIdeal.nD Cert.MlpSampleRefIdeal.τ).loc Cert.MlpSampleRefIdeal.main_arg1) = m ((c.tc : Thread Cert.MlpSampleIdeal.nD Cert.MlpSampleIdeal.τ).loc Cert.MlpSampleIdeal.main_arg1)
      ∧ m' ((c.tc : Thread Cert.MlpSampleRefIdeal.nD Cert.MlpSampleRefIdeal.τ).loc Cert.MlpSampleRefIdeal.main_arg2) = m ((c.tc : Thread Cert.MlpSampleIdeal.nD Cert.MlpSampleIdeal.τ).loc Cert.MlpSampleIdeal.main_arg2)
      ∧ m' ((c.tc : Thread Cert.MlpSampleRefIdeal.nD Cert.MlpSampleRefIdeal.τ).loc Cert.MlpSampleRefIdeal.main_arg3) = m ((c.tc : Thread Cert.MlpSampleIdeal.nD Cert.MlpSampleIdeal.τ).loc Cert.MlpSampleIdeal.main_arg3)
      ∧ m' ((c.tc : Thread Cert.MlpSampleRefIdeal.nD Cert.MlpSampleRefIdeal.τ).loc Cert.MlpSampleRefIdeal.main_arg4) = m ((c.tc : Thread Cert.MlpSampleIdeal.nD Cert.MlpSampleIdeal.τ).loc Cert.MlpSampleIdeal.main_arg4)
      ∧ m' ((c.tc : Thread Cert.MlpSampleRefIdeal.nD Cert.MlpSampleRefIdeal.τ).loc Cert.MlpSampleRefIdeal.main_arg5) = m ((c.tc : Thread Cert.MlpSampleIdeal.nD Cert.MlpSampleIdeal.τ).loc Cert.MlpSampleIdeal.main_arg5)
      ∧ m' ((c.tc : Thread Cert.MlpSampleRefIdeal.nD Cert.MlpSampleRefIdeal.τ).loc Cert.MlpSampleRefIdeal.main_arg6) = m ((c.tc : Thread Cert.MlpSampleIdeal.nD Cert.MlpSampleIdeal.τ).loc Cert.MlpSampleIdeal.main_arg6)) →
    ∃ (v0 : (c : Dev Cert.MlpSampleIdeal.nD) → Buf (Elt Ideal) ((c.tc : Thread Cert.MlpSampleIdeal.nD Cert.MlpSampleIdeal.τ).loc Cert.MlpSampleIdeal.main_v4)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v4) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
          ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
          ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5)
          ∧ r.2.mem ((c.tc : Thread Cert.MlpSampleIdeal.nD Cert.MlpSampleIdeal.τ).loc Cert.MlpSampleIdeal.main_arg6) = m ((c.tc : Thread Cert.MlpSampleIdeal.nD Cert.MlpSampleIdeal.τ).loc Cert.MlpSampleIdeal.main_arg6))
      ∧ θ_run (Cert.MlpSampleRefIdeal.defs (F := Ideal)) (onTc (τ := Cert.MlpSampleRefIdeal.τ) (Cert.MlpSampleRefIdeal.main (F := Ideal))) ⟨m', fun _ => 0, g'⟩ (fun r => ∀ c : Dev Cert.MlpSampleRefIdeal.nD,
          r.2.mem ((c.tc : Thread Cert.MlpSampleRefIdeal.nD Cert.MlpSampleRefIdeal.τ).loc Cert.MlpSampleRefIdeal.main_v13) = v0 c
          ∧ r.2.mem ((c.tc : Thread Cert.MlpSampleRefIdeal.nD Cert.MlpSampleRefIdeal.τ).loc Cert.MlpSampleRefIdeal.main_arg0) = m' ((c.tc : Thread Cert.MlpSampleRefIdeal.nD Cert.MlpSampleRefIdeal.τ).loc Cert.MlpSampleRefIdeal.main_arg0)
          ∧ r.2.mem ((c.tc : Thread Cert.MlpSampleRefIdeal.nD Cert.MlpSampleRefIdeal.τ).loc Cert.MlpSampleRefIdeal.main_arg1) = m' ((c.tc : Thread Cert.MlpSampleRefIdeal.nD Cert.MlpSampleRefIdeal.τ).loc Cert.MlpSampleRefIdeal.main_arg1)
          ∧ r.2.mem ((c.tc : Thread Cert.MlpSampleRefIdeal.nD Cert.MlpSampleRefIdeal.τ).loc Cert.MlpSampleRefIdeal.main_arg2) = m' ((c.tc : Thread Cert.MlpSampleRefIdeal.nD Cert.MlpSampleRefIdeal.τ).loc Cert.MlpSampleRefIdeal.main_arg2)
          ∧ r.2.mem ((c.tc : Thread Cert.MlpSampleRefIdeal.nD Cert.MlpSampleRefIdeal.τ).loc Cert.MlpSampleRefIdeal.main_arg3) = m' ((c.tc : Thread Cert.MlpSampleRefIdeal.nD Cert.MlpSampleRefIdeal.τ).loc Cert.MlpSampleRefIdeal.main_arg3)
          ∧ r.2.mem ((c.tc : Thread Cert.MlpSampleRefIdeal.nD Cert.MlpSampleRefIdeal.τ).loc Cert.MlpSampleRefIdeal.main_arg4) = m' ((c.tc : Thread Cert.MlpSampleRefIdeal.nD Cert.MlpSampleRefIdeal.τ).loc Cert.MlpSampleRefIdeal.main_arg4)
          ∧ r.2.mem ((c.tc : Thread Cert.MlpSampleRefIdeal.nD Cert.MlpSampleRefIdeal.τ).loc Cert.MlpSampleRefIdeal.main_arg5) = m' ((c.tc : Thread Cert.MlpSampleRefIdeal.nD Cert.MlpSampleRefIdeal.τ).loc Cert.MlpSampleRefIdeal.main_arg5)
          ∧ r.2.mem ((c.tc : Thread Cert.MlpSampleRefIdeal.nD Cert.MlpSampleRefIdeal.τ).loc Cert.MlpSampleRefIdeal.main_arg6) = m' ((c.tc : Thread Cert.MlpSampleRefIdeal.nD Cert.MlpSampleRefIdeal.τ).loc Cert.MlpSampleRefIdeal.main_arg6))

def Claim : Prop :=
  ∃ (hConv : Cert.Conv.Facts) (hConvIdeal : Cert.ConvIdeal.Facts) (hConvRefIdeal : Cert.ConvRefIdeal.Facts) (hGmlp : Cert.Gmlp.Facts) (hGmlpIdeal : Cert.GmlpIdeal.Facts) (hGmlpRefIdeal : Cert.GmlpRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMlp : Cert.Mlp.Facts) (hMlpIdeal : Cert.MlpIdeal.Facts) (hMlpRefIdeal : Cert.MlpRefIdeal.Facts) (hProjSample : Cert.ProjSample.Facts) (hProjSampleIdeal : Cert.ProjSampleIdeal.Facts) (hProjSampleRefIdeal : Cert.ProjSampleRefIdeal.Facts) (hMlpSample : Cert.MlpSample.Facts) (hMlpSampleIdeal : Cert.MlpSampleIdeal.Facts) (hMlpSampleRefIdeal : Cert.MlpSampleRefIdeal.Facts),
    quiescent_Conv (hConv := hConv)
    ∧ quiescent_ConvIdeal (hConvIdeal := hConvIdeal)
    ∧ quiescent_ConvRefIdeal (hConvRefIdeal := hConvRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mlp (hMlp := hMlp)
    ∧ quiescent_MlpIdeal (hMlpIdeal := hMlpIdeal)
    ∧ quiescent_MlpRefIdeal (hMlpRefIdeal := hMlpRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_MlpSample (hMlpSample := hMlpSample)
    ∧ quiescent_MlpSampleIdeal (hMlpSampleIdeal := hMlpSampleIdeal)
    ∧ quiescent_MlpSampleRefIdeal (hMlpSampleRefIdeal := hMlpSampleRefIdeal)
    ∧ preserves_Conv_ConvIdeal
    ∧ algebraic_ConvIdeal_ConvRefIdeal (hConvIdeal := hConvIdeal) (hConvRefIdeal := hConvRefIdeal)
    ∧ preserves_Gmlp_GmlpIdeal
    ∧ algebraic_GmlpIdeal_GmlpRefIdeal (hGmlpIdeal := hGmlpIdeal) (hGmlpRefIdeal := hGmlpRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Mlp_MlpIdeal
    ∧ algebraic_MlpIdeal_MlpRefIdeal (hMlpIdeal := hMlpIdeal) (hMlpRefIdeal := hMlpRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_MlpSample_MlpSampleIdeal
    ∧ algebraic_MlpSampleIdeal_MlpSampleRefIdeal (hMlpSampleIdeal := hMlpSampleIdeal) (hMlpSampleRefIdeal := hMlpSampleRefIdeal)
-- ==== Conv.lean ====
abbrev S4x8192x1024 : Shape := ⟨3, ![4, 8192, 1024]⟩
abbrev S4x30x1024 : Shape := ⟨3, ![4, 30, 1024]⟩
abbrev S1024x9288 : Shape := ⟨2, ![1024, 9288]⟩
abbrev S31x1024 : Shape := ⟨2, ![31, 1024]⟩
abbrev S1024 : Shape := ⟨1, ![1024]⟩
abbrev S1024x1024 : Shape := ⟨2, ![1024, 1024]⟩
abbrev S1024x2120 : Shape := ⟨2, ![1024, 2120]⟩
abbrev S_ : Shape := ⟨0, ![]⟩
abbrev S1024x2176 : Shape := ⟨2, ![1024, 2176]⟩
abbrev S1024x3072 : Shape := ⟨2, ![1024, 3072]⟩
abbrev S1x1024 : Shape := ⟨2, ![1, 1024]⟩
abbrev S1x512x1024 : Shape := ⟨3, ![1, 512, 1024]⟩
abbrev S1x30x1024 : Shape := ⟨3, ![1, 30, 1024]⟩
abbrev S1x544x1024 : Shape := ⟨3, ![1, 544, 1024]⟩
abbrev S512x1024 : Shape := ⟨2, ![512, 1024]⟩
abbrev S7x544x256 : Shape := ⟨3, ![7, 544, 256]⟩
abbrev S1x2x1024 : Shape := ⟨3, ![1, 2, 1024]⟩
abbrev S1x536x256 : Shape := ⟨3, ![1, 536, 256]⟩
abbrev S536x256 : Shape := ⟨2, ![536, 256]⟩
abbrev S1x256 : Shape := ⟨2, ![1, 256]⟩
abbrev S8x256 : Shape := ⟨2, ![8, 256]⟩
abbrev S8x8x256 : Shape := ⟨3, ![8, 8, 256]⟩
abbrev S1x64x256 : Shape := ⟨3, ![1, 64, 256]⟩
abbrev S64x256 : Shape := ⟨2, ![64, 256]⟩
abbrev S1x8x256 : Shape := ⟨3, ![1, 8, 256]⟩
abbrev S512 : Shape := ⟨1, ![512]⟩
abbrev S512x1 : Shape := ⟨2, ![512, 1]⟩

abbrev nBuf : Space → Nat
  | .hbm => 24
  | .vmem => 18
  | .smem => 0
  | _ => 0

abbrev bufTy : (tb : Table) → Fin (tcTables nBuf tb) → BufTy
  | .hbm, ⟨0, _⟩ => ⟨S4x8192x1024, .bf16⟩
  | .hbm, ⟨1, _⟩ => ⟨S4x30x1024, .f32⟩
  | .hbm, ⟨2, _⟩ => ⟨S1024x9288, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x9288, .bf16⟩
  | .hbm, ⟨9, _⟩ => ⟨S1024x2120, .bf16⟩
  | .hbm, ⟨10, _⟩ => ⟨S_, .i32⟩
  | .hbm, ⟨11, _⟩ => ⟨S_, .bf16⟩
  | .hbm, ⟨12, _⟩ => ⟨S1024x2176, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x3072, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4x8192x1024, .bf16⟩
  | .hbm, ⟨23, _⟩ => ⟨S4x30x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x30x1024, .f32⟩
  | .local _ .vmem, ⟨3, _⟩ => ⟨S1x30x1024, .f32⟩
  | .local _ .vmem, ⟨4, _⟩ => ⟨S1024x1024, .bf16⟩
  | .local _ .vmem, ⟨5, _⟩ => ⟨S1024x1024, .bf16⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x30x1024, .f32⟩
  | .local _ .vmem, ⟨14, _⟩ => ⟨S1x30x1024, .f32⟩
  | .local _ .vmem, ⟨15, _⟩ => ⟨S1x544x1024, .f32⟩
  | .local _ .vmem, ⟨16, _⟩ => ⟨S512x1024, .f32⟩
  | .local _ .vmem, ⟨17, _⟩ => ⟨S7x544x256, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x30x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ConvRefIdeal.lean ====
abbrev S4x8192x1024 : Shape := ⟨3, ![4, 8192, 1024]⟩
abbrev S4x30x1024 : Shape := ⟨3, ![4, 30, 1024]⟩
abbrev S1024x9288 : Shape := ⟨2, ![1024, 9288]⟩
abbrev S31x1024 : Shape := ⟨2, ![31, 1024]⟩
abbrev S1024 : Shape := ⟨1, ![1024]⟩
abbrev S1024x1024 : Shape := ⟨2, ![1024, 1024]⟩
abbrev S1024x2048 : Shape := ⟨2, ![1024, 2048]⟩
abbrev S4x8192x2048 : Shape := ⟨3, ![4, 8192, 2048]⟩
abbrev S_ : Shape := ⟨0, ![]⟩
abbrev S4x8222x1024 : Shape := ⟨3, ![4, 8222, 1024]⟩
abbrev S1x1024 : Shape := ⟨2, ![1, 1024]⟩
abbrev S1x1x1024 : Shape := ⟨3, ![1, 1, 1024]⟩
abbrev S4x8192 : Shape := ⟨2, ![4, 8192]⟩
abbrev S4x8192x1 : Shape := ⟨3, ![4, 8192, 1]⟩

abbrev nBuf : Space → Nat
  | .hbm => 283
  | .vmem => 0
  | .smem => 0
  | _ => 0

abbrev hbmTy0_0 (i : Nat) : BufTy := match i % 128 with
  | 0 => ⟨S4x8192x1024, .bf16⟩
  | 1 => ⟨S4x30x1024, .f32⟩
  | 2 => ⟨S1024x9288, .f32⟩
  | 3 => ⟨S31x1024, .f32⟩
  | 4 => ⟨S1024, .f32⟩
  | 5 => ⟨S1024, .f32⟩
  | 6 => ⟨S1024, .f32⟩
  | 7 => ⟨S1024x1024, .f32⟩
  | 8 => ⟨S4x8192x1024, .f32⟩
  | 9 => ⟨S1024x2048, .f32⟩
  | 10 => ⟨S4x8192x2048, .f32⟩
  | 11 => ⟨S4x8192x1024, .f32⟩
  | 12 => ⟨S4x8192x1024, .f32⟩
  | 13 => ⟨S4x8192x1024, .f32⟩
  | 14 => ⟨S4x8192x1024, .f32⟩
  | 15 => ⟨S_, .f32⟩
  | 16 => ⟨S4x8192x1024, .f32⟩
  | 17 => ⟨S4x8192x1024, .f32⟩
  | 18 => ⟨S_, .f32⟩
  | 19 => ⟨S4x8192x1024, .f32⟩
  | 20 => ⟨S4x8192x1024, .f32⟩
  | 21 => ⟨S4x8192x1024, .f32⟩
  | 22 => ⟨S4x8222x1024, .f32⟩
  | 23 => ⟨S4x30x1024, .f32⟩
  | 24 => ⟨S1x1024, .f32⟩
  | 25 => ⟨S1024, .f32⟩
  | 26 => ⟨S4x8192x1024, .f32⟩
  | 27 => ⟨S1x1x1024, .f32⟩
  | 28 => ⟨S4x8192x1024, .f32⟩
  | 29 => ⟨S4x8192x1024, .f32⟩
  | 30 => ⟨S1x1024, .f32⟩
  | 31 => ⟨S1024, .f32⟩
  | 32 => ⟨S4x8192x1024, .f32⟩
  | 33 => ⟨S1x1x1024, .f32⟩
  | 34 => ⟨S4x8192x1024, .f32⟩
  | 35 => ⟨S4x8192x1024, .f32⟩
  | 36 => ⟨S4x8192x1024, .f32⟩
  | 37 => ⟨S1x1024, .f32⟩
  | 38 => ⟨S1024, .f32⟩
  | 39 => ⟨S4x8192x1024, .f32⟩
  | 40 => ⟨S1x1x1024, .f32⟩
  | 41 => ⟨S4x8192x1024, .f32⟩
  | 42 => ⟨S4x8192x1024, .f32⟩
  | 43 => ⟨S4x8192x1024, .f32⟩
  | 44 => ⟨S1x1024, .f32⟩
  | 45 => ⟨S1024, .f32⟩
  | 46 => ⟨S4x8192x1024, .f32⟩
  | 47 => ⟨S1x1x1024, .f32⟩
  | 48 => ⟨S4x8192x1024, .f32⟩
  | 49 => ⟨S4x8192x1024, .f32⟩
  | 50 => ⟨S4x8192x1024, .f32⟩
  | 51 => ⟨S1x1024, .f32⟩
  | 52 => ⟨S1024, .f32⟩
  | 53 => ⟨S4x8192x1024, .f32⟩
  | 54 => ⟨S1x1x1024, .f32⟩
  | 55 => ⟨S4x8192x1024, .f32⟩
  | 56 => ⟨S4x8192x1024, .f32⟩
  | 57 => ⟨S4x8192x1024, .f32⟩
  | 58 => ⟨S1x1024, .f32⟩
  | 59 => ⟨S1024, .f32⟩
  | 60 => ⟨S4x8192x1024, .f32⟩
  | 61 => ⟨S1x1x1024, .f32⟩
  | 62 => ⟨S4x8192x1024, .f32⟩
  | 63 => ⟨S4x8192x1024, .f32⟩
  | 64 => ⟨S4x8192x1024, .f32⟩
  | 65 => ⟨S1x1024, .f32⟩
  | 66 => ⟨S1024, .f32⟩
  | 67 => ⟨S4x8192x1024, .f32⟩
  | 68 => ⟨S1x1x1024, .f32⟩
  | 69 => ⟨S4x8192x1024, .f32⟩
  | 70 => ⟨S4x8192x1024, .f32⟩
  | 71 => ⟨S4x8192x1024, .f32⟩
  | 72 => ⟨S1x1024, .f32⟩
  | 73 => ⟨S1024, .f32⟩
  | 74 => ⟨S4x8192x1024, .f32⟩
  | 75 => ⟨S1x1x1024, .f32⟩
  | 76 => ⟨S4x8192x1024, .f32⟩
  | 77 => ⟨S4x8192x1024, .f32⟩
  | 78 => ⟨S4x8192x1024, .f32⟩
  | 79 => ⟨S1x1024, .f32⟩
  | 80 => ⟨S1024, .f32⟩
  | 81 => ⟨S4x8192x1024, .f32⟩
  | 82 => ⟨S1x1x1024, .f32⟩
  | 83 => ⟨S4x8192x1024, .f32⟩
  | 84 => ⟨S4x8192x1024, .f32⟩
  | 85 => ⟨S4x8192x1024, .f32⟩
  | 86 => ⟨S1x1024, .f32⟩
  | 87 => ⟨S1024, .f32⟩
  | 88 => ⟨S4x8192x1024, .f32⟩
  | 89 => ⟨S1x1x1024, .f32⟩
  | 90 => ⟨S4x8192x1024, .f32⟩
  | 91 => ⟨S4x8192x1024, .f32⟩
  | 92 => ⟨S4x8192x1024, .f32⟩
  | 93 => ⟨S1x1024, .f32⟩
  | 94 => ⟨S1024, .f32⟩
  | 95 => ⟨S4x8192x1024, .f32⟩
  | 96 => ⟨S1x1x1024, .f32⟩
  | 97 => ⟨S4x8192x1024, .f32⟩
  | 98 => ⟨S4x8192x1024, .f32⟩
  | 99 => ⟨S4x8192x1024, .f32⟩
  | 100 => ⟨S1x1024, .f32⟩
  | 101 => ⟨S1024, .f32⟩
  | 102 => ⟨S4x8192x1024, .f32⟩
  | 103 => ⟨S1x1x1024, .f32⟩
  | 104 => ⟨S4x8192x1024, .f32⟩
  | 105 => ⟨S4x8192x1024, .f32⟩
  | 106 => ⟨S4x8192x1024, .f32⟩
  | 107 => ⟨S1x1024, .f32⟩
  | 108 => ⟨S1024, .f32⟩
  | 109 => ⟨S4x8192x1024, .f32⟩
  | 110 => ⟨S1x1x1024, .f32⟩
  | 111 => ⟨S4x8192x1024, .f32⟩
  | 112 => ⟨S4x8192x1024, .f32⟩
  | 113 => ⟨S4x8192x1024, .f32⟩
  | 114 => ⟨S1x1024, .f32⟩
  | 115 => ⟨S1024, .f32⟩
  | 116 => ⟨S4x8192x1024, .f32⟩
  | 117 => ⟨S1x1x1024, .f32⟩
  | 118 => ⟨S4x8192x1024, .f32⟩
  | 119 => ⟨S4x8192x1024, .f32⟩
  | 120 => ⟨S4x8192x1024, .f32⟩
  | 121 => ⟨S1x1024, .f32⟩
  | 122 => ⟨S1024, .f32⟩
  | 123 => ⟨S4x8192x1024, .f32⟩
  | 124 => ⟨S1x1x1024, .f32⟩
  | 125 => ⟨S4x8192x1024, .f32⟩
  | 126 => ⟨S4x8192x1024, .f32⟩
  | 127 => ⟨S4x8192x1024, .f32⟩
  | _ => ⟨S4x8192x1024, .bf16⟩

abbrev hbmTy0_1 (i : Nat) : BufTy := match i % 128 with
  | 0 => ⟨S1x1024, .f32⟩
  | 1 => ⟨S1024, .f32⟩
  | 2 => ⟨S4x8192x1024, .f32⟩
  | 3 => ⟨S1x1x1024, .f32⟩
  | 4 => ⟨S4x8192x1024, .f32⟩
  | 5 => ⟨S4x8192x1024, .f32⟩
  | 6 => ⟨S4x8192x1024, .f32⟩
  | 7 => ⟨S1x1024, .f32⟩
  | 8 => ⟨S1024, .f32⟩
  | 9 => ⟨S4x8192x1024, .f32⟩
  | 10 => ⟨S1x1x1024, .f32⟩
  | 11 => ⟨S4x8192x1024, .f32⟩
  | 12 => ⟨S4x8192x1024, .f32⟩
  | 13 => ⟨S4x8192x1024, .f32⟩
  | 14 => ⟨S1x1024, .f32⟩
  | 15 => ⟨S1024, .f32⟩
  | 16 => ⟨S4x8192x1024, .f32⟩
  | 17 => ⟨S1x1x1024, .f32⟩
  | 18 => ⟨S4x8192x1024, .f32⟩
  | 19 => ⟨S4x8192x1024, .f32⟩
  | 20 => ⟨S4x8192x1024, .f32⟩
  | 21 => ⟨S1x1024, .f32⟩
  | 22 => ⟨S1024, .f32⟩
  | 23 => ⟨S4x8192x1024, .f32⟩
  | 24 => ⟨S1x1x1024, .f32⟩
  | 25 => ⟨S4x8192x1024, .f32⟩
  | 26 => ⟨S4x8192x1024, .f32⟩
  | 27 => ⟨S4x8192x1024, .f32⟩
  | 28 => ⟨S1x1024, .f32⟩
  | 29 => ⟨S1024, .f32⟩
  | 30 => ⟨S4x8192x1024, .f32⟩
  | 31 => ⟨S1x1x1024, .f32⟩
  | 32 => ⟨S4x8192x1024, .f32⟩
  | 33 => ⟨S4x8192x1024, .f32⟩
  | 34 => ⟨S4x8192x1024, .f32⟩
  | 35 => ⟨S1x1024, .f32⟩
  | 36 => ⟨S1024, .f32⟩
  | 37 => ⟨S4x8192x1024, .f32⟩
  | 38 => ⟨S1x1x1024, .f32⟩
  | 39 => ⟨S4x8192x1024, .f32⟩
  | 40 => ⟨S4x8192x1024, .f32⟩
  | 41 => ⟨S4x8192x1024, .f32⟩
  | 42 => ⟨S1x1024, .f32⟩
  | 43 => ⟨S1024, .f32⟩
  | 44 => ⟨S4x8192x1024, .f32⟩
  | 45 => ⟨S1x1x1024, .f32⟩
  | 46 => ⟨S4x8192x1024, .f32⟩
  | 47 => ⟨S4x8192x1024, .f32⟩
  | 48 => ⟨S4x8192x1024, .f32⟩
  | 49 => ⟨S1x1024, .f32⟩
  | 50 => ⟨S1024, .f32⟩
  | 51 => ⟨S4x8192x1024, .f32⟩
  | 52 => ⟨S1x1x1024, .f32⟩
  | 53 => ⟨S4x8192x1024, .f32⟩
  | 54 => ⟨S4x8192x1024, .f32⟩
  | 55 => ⟨S4x8192x1024, .f32⟩
  | 56 => ⟨S1x1024, .f32⟩
  | 57 => ⟨S1024, .f32⟩
  | 58 => ⟨S4x8192x1024, .f32⟩
  | 59 => ⟨S1x1x1024, .f32⟩
  | 60 => ⟨S4x8192x1024, .f32⟩
  | 61 => ⟨S4x8192x1024, .f32⟩
  | 62 => ⟨S4x8192x1024, .f32⟩
  | 63 => ⟨S1x1024, .f32⟩
  | 64 => ⟨S1024, .f32⟩
  | 65 => ⟨S4x8192x1024, .f32⟩
  | 66 => ⟨S1x1x1024, .f32⟩
  | 67 => ⟨S4x8192x1024, .f32⟩
  | 68 => ⟨S4x8192x1024, .f32⟩
  | 69 => ⟨S4x8192x1024, .f32⟩
  | 70 => ⟨S1x1024, .f32⟩
  | 71 => ⟨S1024, .f32⟩
  | 72 => ⟨S4x8192x1024, .f32⟩
  | 73 => ⟨S1x1x1024, .f32⟩
  | 74 => ⟨S4x8192x1024, .f32⟩
  | 75 => ⟨S4x8192x1024, .f32⟩
  | 76 => ⟨S4x8192x1024, .f32⟩
  | 77 => ⟨S1x1024, .f32⟩
  | 78 => ⟨S1024, .f32⟩
  | 79 => ⟨S4x8192x1024, .f32⟩
  | 80 => ⟨S1x1x1024, .f32⟩
  | 81 => ⟨S4x8192x1024, .f32⟩
  | 82 => ⟨S4x8192x1024, .f32⟩
  | 83 => ⟨S4x8192x1024, .f32⟩
  | 84 => ⟨S1x1024, .f32⟩
  | 85 => ⟨S1024, .f32⟩
  | 86 => ⟨S4x8192x1024, .f32⟩
  | 87 => ⟨S1x1x1024, .f32⟩
  | 88 => ⟨S4x8192x1024, .f32⟩
  | 89 => ⟨S4x8192x1024, .f32⟩
  | 90 => ⟨S4x8192x1024, .f32⟩
  | 91 => ⟨S1x1024, .f32⟩
  | 92 => ⟨S1024, .f32⟩
  | 93 => ⟨S4x8192x1024, .f32⟩
  | 94 => ⟨S1x1x1024, .f32⟩
  | 95 => ⟨S4x8192x1024, .f32⟩
  | 96 => ⟨S4x8192x1024, .f32⟩
  | 97 => ⟨S4x8192x1024, .f32⟩
  | 98 => ⟨S1x1024, .f32⟩
  | 99 => ⟨S1024, .f32⟩
  | 100 => ⟨S4x8192x1024, .f32⟩
  | 101 => ⟨S1x1x1024, .f32⟩
  | 102 => ⟨S4x8192x1024, .f32⟩
  | 103 => ⟨S4x8192x1024, .f32⟩
  | 104 => ⟨S4x8192x1024, .f32⟩
  | 105 => ⟨S1x1024, .f32⟩
  | 106 => ⟨S1024, .f32⟩
  | 107 => ⟨S4x8192x1024, .f32⟩
  | 108 => ⟨S1x1x1024, .f32⟩
  | 109 => ⟨S4x8192x1024, .f32⟩
  | 110 => ⟨S4x8192x1024, .f32⟩
  | 111 => ⟨S4x8192x1024, .f32⟩
  | 112 => ⟨S1x1x1024, .f32⟩
  | 113 => ⟨S4x8192x1024, .f32⟩
  | 114 => ⟨S4x8192x1024, .f32⟩
  | 115 => ⟨S_, .f32⟩
  | 116 => ⟨S4x8192, .f32⟩
  | 117 => ⟨S4x8192x1, .f32⟩
  | 118 => ⟨S_, .f32⟩
  | 119 => ⟨S4x8192x1, .f32⟩
  | 120 => ⟨S4x8192x1, .f32⟩
  | 121 => ⟨S4x8192x1024, .f32⟩
  | 122 => ⟨S4x8192x1024, .f32⟩
  | 123 => ⟨S4x8192x1024, .f32⟩
  | 124 => ⟨S_, .f32⟩
  | 125 => ⟨S4x8192, .f32⟩
  | 126 => ⟨S4x8192x1, .f32⟩
  | 127 => ⟨S_, .f32⟩
  | _ => ⟨S4x8192x1024, .bf16⟩

abbrev hbmTy0_2 (i : Nat) : BufTy := match i % 128 with
  | 0 => ⟨S4x8192x1, .f32⟩
  | 1 => ⟨S4x8192x1, .f32⟩
  | 2 => ⟨S4x8192x1024, .f32⟩
  | 3 => ⟨S4x8192x1024, .f32⟩
  | 4 => ⟨S_, .f32⟩
  | 5 => ⟨S4x8192x1, .f32⟩
  | 6 => ⟨S4x8192x1, .f32⟩
  | 7 => ⟨S4x8192x1, .f32⟩
  | 8 => ⟨S4x8192x1024, .f32⟩
  | 9 => ⟨S4x8192x1024, .f32⟩
  | 10 => ⟨S1x1x1024, .f32⟩
  | 11 => ⟨S4x8192x1024, .f32⟩
  | 12 => ⟨S4x8192x1024, .f32⟩
  | 13 => ⟨S1x1x1024, .f32⟩
  | 14 => ⟨S4x8192x1024, .f32⟩
  | 15 => ⟨S4x8192x1024, .f32⟩
  | 16 => ⟨S4x8192x1024, .f32⟩
  | 17 => ⟨S4x8192x1024, .f32⟩
  | 18 => ⟨S_, .f32⟩
  | 19 => ⟨S4x8192x1024, .f32⟩
  | 20 => ⟨S4x8192x1024, .f32⟩
  | 21 => ⟨S_, .f32⟩
  | 22 => ⟨S4x8192x1024, .f32⟩
  | 23 => ⟨S4x8192x1024, .f32⟩
  | 24 => ⟨S4x8192x1024, .f32⟩
  | 25 => ⟨S4x8192x1024, .f32⟩
  | 26 => ⟨S4x8192x1024, .bf16⟩
  | _ => ⟨S4x8192x1024, .bf16⟩

abbrev hbmTy (i : Nat) : BufTy := match i / 128 with
  | 0 => hbmTy0_0 i
  | 1 => hbmTy0_1 i
  | 2 => hbmTy0_2 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_1 : Ref sig .tc := ⟨.hbm, 243, rfl⟩
abbrev main_v233 : Ref sig .tc := ⟨.hbm, 244, rfl⟩
abbrev main_v234 : Ref sig .tc := ⟨.hbm, 245, rfl⟩
abbrev main_cst_2 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_3 : Ref sig .tc := ⟨.hbm, 252, rfl⟩
abbrev main_v240 : Ref sig .tc := ⟨.hbm, 253, rfl⟩
abbrev main_v241 : Ref sig .tc := ⟨.hbm, 254, rfl⟩
abbrev main_cst_4 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_cst_5 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_call0_v0 : Ref sig .tc := ⟨.hbm, 272, rfl⟩
abbrev main_call0_v1 : Ref sig .tc := ⟨.hbm, 273, rfl⟩
abbrev main_call0_cst : Ref sig .tc := ⟨.hbm, 274, rfl⟩
abbrev main_call0_v2 : Ref sig .tc := ⟨.hbm, 275, rfl⟩
abbrev main_call0_v3 : Ref sig .tc := ⟨.hbm, 276, rfl⟩
abbrev main_call0_cst_0 : Ref sig .tc := ⟨.hbm, 277, rfl⟩
abbrev main_call0_v4 : Ref sig .tc := ⟨.hbm, 278, rfl⟩
abbrev main_call0_v5 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩

abbrev nD : Nat := 1
abbrev τ : Topo := Topo.v7x

variable {F : FTy → Type} [FloatOps F]
-- ==== Gmlp.lean ====
abbrev S4x8192x1024 : Shape := ⟨3, ![4, 8192, 1024]⟩
abbrev S1024x9288 : Shape := ⟨2, ![1024, 9288]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S1024x2120 : Shape := ⟨2, ![1024, 2120]⟩
abbrev S_ : Shape := ⟨0, ![]⟩
abbrev S1024x2176 : Shape := ⟨2, ![1024, 2176]⟩
abbrev S1024x3072 : Shape := ⟨2, ![1024, 3072]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 42
  | .vmem => 12
  | .smem => 0
  | _ => 0

abbrev bufTy : (tb : Table) → Fin (tcTables nBuf tb) → BufTy
  | .hbm, ⟨0, _⟩ => ⟨S4x8192x1024, .bf16⟩
  | .hbm, ⟨1, _⟩ => ⟨S1024x9288, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1024x9288, .bf16⟩
  | .hbm, ⟨8, _⟩ => ⟨S1024x2120, .bf16⟩
  | .hbm, ⟨9, _⟩ => ⟨S_, .i32⟩
  | .hbm, ⟨10, _⟩ => ⟨S_, .bf16⟩
  | .hbm, ⟨11, _⟩ => ⟨S1024x2176, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x3072, .bf16⟩
  | .hbm, ⟨17, _⟩ => ⟨S1024x1024, .bf16⟩
  | .hbm, ⟨18, _⟩ => ⟨S_, .i1⟩
  | .hbm, ⟨19, _⟩ => ⟨S128x128, .i1⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S_, .i1⟩
  | .hbm, ⟨27, _⟩ => ⟨S128x128, .i1⟩
  | .hbm, ⟨28, _⟩ => ⟨S128x128, .i1⟩
  | .hbm, ⟨29, _⟩ => ⟨S1x128x128, .i1⟩
  | .hbm, ⟨30, _⟩ => ⟨S_, .i32⟩
  | .hbm, ⟨31, _⟩ => ⟨S_, .f32⟩
  | .hbm, ⟨32, _⟩ => ⟨S8x128x128, .i1⟩
  | .hbm, ⟨33, _⟩ => ⟨S8x128x128, .f32⟩
  | .hbm, ⟨34, _⟩ => ⟨S8x128x128, .f32⟩
  | .hbm, ⟨35, _⟩ => ⟨S8x128x128, .bf16⟩
  | .hbm, ⟨36, _⟩ => ⟨S128x8, .f32⟩
  | .hbm, ⟨37, _⟩ => ⟨S128x8x128, .f32⟩
  | .hbm, ⟨38, _⟩ => ⟨S128x1024, .f32⟩
  | .hbm, ⟨39, _⟩ => ⟨S1x1024, .f32⟩
  | .hbm, ⟨40, _⟩ => ⟨S1x1024, .f32⟩
  | .hbm, ⟨41, _⟩ => ⟨S4x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S128x1024, .f32⟩
  | .local _ .vmem, ⟨8, _⟩ => ⟨S1024x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S512x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_call1_v0 : Ref sig .tc := ⟨.hbm, 20, rfl⟩
abbrev main_call1_c : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_c_0 : Ref sig .tc := ⟨.hbm, 26, rfl⟩
abbrev main_call1_v5 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GmlpRefIdeal.lean ====
abbrev S4x8192x1024 : Shape := ⟨3, ![4, 8192, 1024]⟩
abbrev S1024x9288 : Shape := ⟨2, ![1024, 9288]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S1024x2048 : Shape := ⟨2, ![1024, 2048]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x64x128x8x128 : Shape := ⟨5, ![4, 64, 128, 8, 128]⟩
abbrev S128x128 : Shape := ⟨2, ![128, 128]⟩
abbrev S1x128x128 : Shape := ⟨3, ![1, 128, 128]⟩
abbrev S8x4x64x128x128 : Shape := ⟨5, ![8, 4, 64, 128, 128]⟩
abbrev S128x8 : Shape := ⟨2, ![128, 8]⟩
abbrev S1x1x128x8x1 : Shape := ⟨5, ![1, 1, 128, 8, 1]⟩

abbrev nBuf : Space → Nat
  | .hbm => 86
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S1024x9288, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S4x8192x1024, .f32⟩
  | .hbm, ⟨8, _⟩ => ⟨S1024x2048, .f32⟩
  | .hbm, ⟨9, _⟩ => ⟨S4x8192x2048, .f32⟩
  | .hbm, ⟨10, _⟩ => ⟨S4x8192x2048, .f32⟩
  | .hbm, ⟨11, _⟩ => ⟨S4x8192x2048, .f32⟩
  | .hbm, ⟨12, _⟩ => ⟨S_, .f32⟩
  | .hbm, ⟨13, _⟩ => ⟨S4x8192x2048, .f32⟩
  | .hbm, ⟨14, _⟩ => ⟨S4x8192x2048, .f32⟩
  | .hbm, ⟨15, _⟩ => ⟨S4x8192x2048, .f32⟩
  | .hbm, ⟨16, _⟩ => ⟨S_, .f32⟩
  | .hbm, ⟨17, _⟩ => ⟨S4x8192x2048, .f32⟩
  | .hbm, ⟨18, _⟩ => ⟨S4x8192x2048, .f32⟩
  | .hbm, ⟨19, _⟩ => ⟨S4x8192x2048, .f32⟩
  | .hbm, ⟨20, _⟩ => ⟨S_, .f32⟩
  | .hbm, ⟨21, _⟩ => ⟨S4x8192x2048, .f32⟩
  | .hbm, ⟨22, _⟩ => ⟨S4x8192x2048, .f32⟩
  | .hbm, ⟨23, _⟩ => ⟨S_, .f32⟩
  | .hbm, ⟨24, _⟩ => ⟨S4x8192x2048, .f32⟩
  | .hbm, ⟨25, _⟩ => ⟨S4x8192x2048, .f32⟩
  | .hbm, ⟨26, _⟩ => ⟨S4x8192x2048, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x1, .f32⟩
  | .hbm, ⟨50, _⟩ => ⟨S4x8192x1024, .f32⟩
  | .hbm, ⟨51, _⟩ => ⟨S4x8192x1024, .f32⟩
  | .hbm, ⟨52, _⟩ => ⟨S1x1x1024, .f32⟩
  | .hbm, ⟨53, _⟩ => ⟨S4x8192x1024, .f32⟩
  | .hbm, ⟨54, _⟩ => ⟨S4x8192x1024, .f32⟩
  | .hbm, ⟨55, _⟩ => ⟨S1x1x1024, .f32⟩
  | .hbm, ⟨56, _⟩ => ⟨S4x8192x1024, .f32⟩
  | .hbm, ⟨57, _⟩ => ⟨S4x8192x1024, .f32⟩
  | .hbm, ⟨58, _⟩ => ⟨S4x64x128x8x128, .f32⟩
  | .hbm, ⟨59, _⟩ => ⟨S_, .i1⟩
  | .hbm, ⟨60, _⟩ => ⟨S128x128, .i1⟩
  | .hbm, ⟨61, _⟩ => ⟨S128x128, .i32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S_, .i1⟩
  | .hbm, ⟨68, _⟩ => ⟨S128x128, .i1⟩
  | .hbm, ⟨69, _⟩ => ⟨S128x128, .i1⟩
  | .hbm, ⟨70, _⟩ => ⟨S1x128x128, .i1⟩
  | .hbm, ⟨71, _⟩ => ⟨S_, .i32⟩
  | .hbm, ⟨72, _⟩ => ⟨S_, .f32⟩
  | .hbm, ⟨73, _⟩ => ⟨S8x128x128, .i1⟩
  | .hbm, ⟨74, _⟩ => ⟨S8x128x128, .f32⟩
  | .hbm, ⟨75, _⟩ => ⟨S8x128x128, .f32⟩
  | .hbm, ⟨76, _⟩ => ⟨S8x4x64x128x128, .f32⟩
  | .hbm, ⟨77, _⟩ => ⟨S4x64x128x8x128, .f32⟩
  | .hbm, ⟨78, _⟩ => ⟨S128x8, .f32⟩
  | .hbm, ⟨79, _⟩ => ⟨S1x1x128x8x1, .f32⟩
  | .hbm, ⟨80, _⟩ => ⟨S4x64x128x8x128, .f32⟩
  | .hbm, ⟨81, _⟩ => ⟨S4x64x128x8x128, .f32⟩
  | .hbm, ⟨82, _⟩ => ⟨S4x8192x1024, .f32⟩
  | .hbm, ⟨83, _⟩ => ⟨S4x8192x1024, .f32⟩
  | .hbm, ⟨84, _⟩ => ⟨S4x8192x1024, .f32⟩
  | .hbm, ⟨85, _⟩ => ⟨S4x8192x1024, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c : Ref sig .tc := ⟨.hbm, 59, rfl⟩
abbrev main_v43 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_0 : Ref sig .tc := ⟨.hbm, 67, rfl⟩
abbrev main_call0_v5 : Ref sig .tc := ⟨.hbm, 68, rfl⟩
abbrev main_v44 : Ref sig .tc := ⟨.hbm, 69, rfl⟩
abbrev main_v45 : Ref sig .tc := ⟨.hbm, 70, rfl⟩
abbrev main_c_8 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== Proj.lean ====
abbrev S4x8192x1024 : Shape := ⟨3, ![4, 8192, 1024]⟩
abbrev S1024x9288 : Shape := ⟨2, ![1024, 9288]⟩
abbrev S128 : Shape := ⟨1, ![128]⟩
abbrev S1024x2120 : Shape := ⟨2, ![1024, 2120]⟩
abbrev S_ : Shape := ⟨0, ![]⟩
abbrev S1024x2176 : Shape := ⟨2, ![1024, 2176]⟩
abbrev S1024x1024 : Shape := ⟨2, ![1024, 1024]⟩
abbrev S1024x3072 : Shape := ⟨2, ![1024, 3072]⟩
abbrev S1x128 : Shape := ⟨2, ![1, 128]⟩
abbrev S4x1024x8192 : Shape := ⟨3, ![4, 1024, 8192]⟩
abbrev S4x8192x256 : Shape := ⟨3, ![4, 8192, 256]⟩
abbrev S4x512x8192 : Shape := ⟨3, ![4, 512, 8192]⟩
abbrev S4x8192x64 : Shape := ⟨3, ![4, 8192, 64]⟩
abbrev S4x8x8192 : Shape := ⟨3, ![4, 8, 8192]⟩
abbrev S4x16x2x128x512 : Shape := ⟨5, ![4, 16, 2, 128, 512]⟩
abbrev S1x512x1024 : Shape := ⟨3, ![1, 512, 1024]⟩
abbrev S1x1024x512 : Shape := ⟨3, ![1, 1024, 512]⟩
abbrev S1x512x256 : Shape := ⟨3, ![1, 512, 256]⟩
abbrev S1x512x512 : Shape := ⟨3, ![1, 512, 512]⟩
abbrev S1x512x64 : Shape := ⟨3, ![1, 512, 64]⟩
abbrev S1x8x512 : Shape := ⟨3, ![1, 8, 512]⟩
abbrev S1x1x2x128x512 : Shape := ⟨5, ![1, 1, 2, 128, 512]⟩
abbrev S512x1024 : Shape := ⟨2, ![512, 1024]⟩
abbrev S512x2176 : Shape := ⟨2, ![512, 2176]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x128x512 : Shape := ⟨3, ![1, 128, 512]⟩
abbrev S1x512x128 : Shape := ⟨3, ![1, 512, 128]⟩
abbrev S512x256 : Shape := ⟨2, ![512, 256]⟩
abbrev S1x1x1x128x512 : Shape := ⟨5, ![1, 1, 1, 128, 512]⟩
abbrev S512x64 : Shape := ⟨2, ![512, 64]⟩
abbrev S8x512 : Shape := ⟨2, ![8, 512]⟩

abbrev nBuf : Space → Nat
  | .hbm => 25
  | .vmem => 23
  | .smem => 0
  | _ => 0

abbrev bufTy : (tb : Table) → Fin (tcTables nBuf tb) → BufTy
  | .hbm, ⟨0, _⟩ => ⟨S4x8192x1024, .bf16⟩
  | .hbm, ⟨1, _⟩ => ⟨S1024x9288, .f32⟩
  | .hbm, ⟨2, _⟩ => ⟨S128, .f32⟩
  | .hbm, ⟨3, _⟩ => ⟨S128, .f32⟩
  | .hbm, ⟨4, _⟩ => ⟨S1024x9288, .bf16⟩
  | .hbm, ⟨5, _⟩ => ⟨S1024x2120, .bf16⟩
  | .hbm, ⟨6, _⟩ => ⟨S_, .i32⟩
  | .hbm, ⟨7, _⟩ => ⟨S_, .bf16⟩
  | .hbm, ⟨8, _⟩ => ⟨S1024x2176, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x3072, .bf16⟩
  | .hbm, ⟨14, _⟩ => ⟨S1x128, .f32⟩
  | .hbm, ⟨15, _⟩ => ⟨S1x128, .f32⟩
  | .hbm, ⟨16, _⟩ => ⟨S4x1024x8192, .bf16⟩
  | .hbm, ⟨17, _⟩ => ⟨S4x8192x256, .f32⟩
  | .hbm, ⟨18, _⟩ => ⟨S4x8192x256, .f32⟩
  | .hbm, ⟨19, _⟩ => ⟨S4x512x8192, .bf16⟩
  | .hbm, ⟨20, _⟩ => ⟨S4x8192x64, .f32⟩
  | .hbm, ⟨21, _⟩ => ⟨S4x8x8192, .f32⟩
  | .hbm, ⟨22, _⟩ => ⟨S4x8192x256, .bf16⟩
  | .hbm, ⟨23, _⟩ => ⟨S4x16x2x128x512, .bf16⟩
  | .hbm, ⟨24, _⟩ => ⟨S4x8192x64, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x2176, .bf16⟩
  | .local _ .vmem, ⟨3, _⟩ => ⟨S1x128, .f32⟩
  | .local _ .vmem, ⟨4, _⟩ => ⟨S1x128, .f32⟩
  | .local _ .vmem, ⟨5, _⟩ => ⟨S1x1024x512, .bf16⟩
  | .local _ .vmem, ⟨6, _⟩ => ⟨S1x1024x512, .bf16⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x512, .bf16⟩
  | .local _ .vmem, ⟨12, _⟩ => ⟨S1x512x512, .bf16⟩
  | .local _ .vmem, ⟨13, _⟩ => ⟨S1x512x64, .f32⟩
  | .local _ .vmem, ⟨14, _⟩ => ⟨S1x512x64, .f32⟩
  | .local _ .vmem, ⟨15, _⟩ => ⟨S1x8x512, .f32⟩
  | .local _ .vmem, ⟨16, _⟩ => ⟨S1x8x512, .f32⟩
  | .local _ .vmem, ⟨17, _⟩ => ⟨S1x512x256, .bf16⟩
  | .local _ .vmem, ⟨18, _⟩ => ⟨S1x512x256, .bf16⟩
  | .local _ .vmem, ⟨19, _⟩ => ⟨S1x1x2x128x512, .bf16⟩
  | .local _ .vmem, ⟨20, _⟩ => ⟨S1x1x2x128x512, .bf16⟩
  | .local _ .vmem, ⟨21, _⟩ => ⟨S1x512x64, .bf16⟩
  | .local _ .vmem, ⟨22, _⟩ => ⟨S1x512x64, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev main_v10_7 : Ref sig .tc := ⟨.hbm, 23, rfl⟩
abbrev main_v10_8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ProjRefIdeal.lean ====
abbrev S4x8192x1024 : Shape := ⟨3, ![4, 8192, 1024]⟩
abbrev S1024x9288 : Shape := ⟨2, ![1024, 9288]⟩
abbrev S128 : Shape := ⟨1, ![128]⟩
abbrev S1024x2120 : Shape := ⟨2, ![1024, 2120]⟩
abbrev S4x8192x2120 : Shape := ⟨3, ![4, 8192, 2120]⟩
abbrev S4x8192x8x128 : Shape := ⟨4, ![4, 8192, 8, 128]⟩
abbrev S_ : Shape := ⟨0, ![]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8192x256 : Shape := ⟨3, ![4, 8192, 256]⟩
abbrev S4x8192x2x128 : Shape := ⟨4, ![4, 8192, 2, 128]⟩
abbrev S4x8192x2 : Shape := ⟨3, ![4, 8192, 2]⟩
abbrev S4x8192x2x1 : Shape := ⟨4, ![4, 8192, 2, 1]⟩
abbrev S4x8192x512 : Shape := ⟨3, ![4, 8192, 512]⟩
abbrev S4x8192x64 : Shape := ⟨3, ![4, 8192, 64]⟩
abbrev S4x16x512x2x128 : Shape := ⟨5, ![4, 16, 512, 2, 128]⟩
abbrev S4x16x2x128x512 : Shape := ⟨5, ![4, 16, 2, 128, 512]⟩
abbrev S4x1024x8192 : Shape := ⟨3, ![4, 1024, 8192]⟩
abbrev S4x512x8192 : Shape := ⟨3, ![4, 512, 8192]⟩
abbrev S4x8x8192 : Shape := ⟨3, ![4, 8, 8192]⟩

abbrev nBuf : Space → Nat
  | .hbm => 65
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S1024x9288, .f32⟩
  | .hbm, ⟨2, _⟩ => ⟨S128, .f32⟩
  | .hbm, ⟨3, _⟩ => ⟨S128, .f32⟩
  | .hbm, ⟨4, _⟩ => ⟨S4x8192x1024, .f32⟩
  | .hbm, ⟨5, _⟩ => ⟨S1024x2120, .f32⟩
  | .hbm, ⟨6, _⟩ => ⟨S4x8192x2120, .f32⟩
  | .hbm, ⟨7, _⟩ => ⟨S4x8192x1024, .f32⟩
  | .hbm, ⟨8, _⟩ => ⟨S4x8192x8x128, .f32⟩
  | .hbm, ⟨9, _⟩ => ⟨S4x8192x8x128, .f32⟩
  | .hbm, ⟨10, _⟩ => ⟨S_, .f32⟩
  | .hbm, ⟨11, _⟩ => ⟨S4x8192x8, .f32⟩
  | .hbm, ⟨12, _⟩ => ⟨S4x8192x8x1, .f32⟩
  | .hbm, ⟨13, _⟩ => ⟨S_, .f32⟩
  | .hbm, ⟨14, _⟩ => ⟨S4x8192x8x1, .f32⟩
  | .hbm, ⟨15, _⟩ => ⟨S4x8192x8x1, .f32⟩
  | .hbm, ⟨16, _⟩ => ⟨S_, .f32⟩
  | .hbm, ⟨17, _⟩ => ⟨S4x8192x8x1, .f32⟩
  | .hbm, ⟨18, _⟩ => ⟨S4x8192x8x1, .f32⟩
  | .hbm, ⟨19, _⟩ => ⟨S4x8192x8x1, .f32⟩
  | .hbm, ⟨20, _⟩ => ⟨S4x8192x8x128, .f32⟩
  | .hbm, ⟨21, _⟩ => ⟨S4x8192x8x128, .f32⟩
  | .hbm, ⟨22, _⟩ => ⟨S1x1x1x128, .f32⟩
  | .hbm, ⟨23, _⟩ => ⟨S4x8192x8x128, .f32⟩
  | .hbm, ⟨24, _⟩ => ⟨S4x8192x8x128, .f32⟩
  | .hbm, ⟨25, _⟩ => ⟨S_, .f32⟩
  | .hbm, ⟨26, _⟩ => ⟨S4x8192x8x128, .f32⟩
  | .hbm, ⟨27, _⟩ => ⟨S4x8192x8x128, .f32⟩
  | .hbm, ⟨28, _⟩ => ⟨S4x8192x256, .f32⟩
  | .hbm, ⟨29, _⟩ => ⟨S4x8192x2x128, .f32⟩
  | .hbm, ⟨30, _⟩ => ⟨S4x8192x2x128, .f32⟩
  | .hbm, ⟨31, _⟩ => ⟨S_, .f32⟩
  | .hbm, ⟨32, _⟩ => ⟨S4x8192x2, .f32⟩
  | .hbm, ⟨33, _⟩ => ⟨S4x8192x2x1, .f32⟩
  | .hbm, ⟨34, _⟩ => ⟨S_, .f32⟩
  | .hbm, ⟨35, _⟩ => ⟨S4x8192x2x1, .f32⟩
  | .hbm, ⟨36, _⟩ => ⟨S4x8192x2x1, .f32⟩
  | .hbm, ⟨37, _⟩ => ⟨S_, .f32⟩
  | .hbm, ⟨38, _⟩ => ⟨S4x8192x2x1, .f32⟩
  | .hbm, ⟨39, _⟩ => ⟨S4x8192x2x1, .f32⟩
  | .hbm, ⟨40, _⟩ => ⟨S4x8192x2x1, .f32⟩
  | .hbm, ⟨41, _⟩ => ⟨S4x8192x2x128, .f32⟩
  | .hbm, ⟨42, _⟩ => ⟨S4x8192x2x128, .f32⟩
  | .hbm, ⟨43, _⟩ => ⟨S1x1x1x128, .f32⟩
  | .hbm, ⟨44, _⟩ => ⟨S4x8192x2x128, .f32⟩
  | .hbm, ⟨45, _⟩ => ⟨S4x8192x2x128, .f32⟩
  | .hbm, ⟨46, _⟩ => ⟨S4x8192x256, .f32⟩
  | .hbm, ⟨47, _⟩ => ⟨S4x8192x256, .f32⟩
  | .hbm, ⟨48, _⟩ => ⟨S4x8192x512, .f32⟩
  | .hbm, ⟨49, _⟩ => ⟨S4x8192x64, .f32⟩
  | .hbm, ⟨50, _⟩ => ⟨S4x8192x8, .f32⟩
  | .hbm, ⟨51, _⟩ => ⟨S_, .f32⟩
  | .hbm, ⟨52, _⟩ => ⟨S4x8192x8, .f32⟩
  | .hbm, ⟨53, _⟩ => ⟨S4x8192x8, .f32⟩
  | .hbm, ⟨54, _⟩ => ⟨S4x16x512x2x128, .f32⟩
  | .hbm, ⟨55, _⟩ => ⟨S4x16x2x128x512, .f32⟩
  | .hbm, ⟨56, _⟩ => ⟨S4x8192x1024, .f32⟩
  | .hbm, ⟨57, _⟩ => ⟨S4x1024x8192, .f32⟩
  | .hbm, ⟨58, _⟩ => ⟨S4x1024x8192, .bf16⟩
  | .hbm, ⟨59, _⟩ => ⟨S4x512x8192, .f32⟩
  | .hbm, ⟨60, _⟩ => ⟨S4x512x8192, .bf16⟩
  | .hbm, ⟨61, _⟩ => ⟨S4x8x8192, .f32⟩
  | .hbm, ⟨62, _⟩ => ⟨S4x8192x256, .bf16⟩
  | .hbm, ⟨63, _⟩ => ⟨S4x16x2x128x512, .bf16⟩
  | .hbm, ⟨64, _⟩ => ⟨S4x8192x64, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Merge.lean ====
abbrev S4x8192x1024 : Shape := ⟨3, ![4, 8192, 1024]⟩
abbrev S4x1024x8192 : Shape := ⟨3, ![4, 1024, 8192]⟩
abbrev S4x1x1024 : Shape := ⟨3, ![4, 1, 1024]⟩
abbrev S1024x9288 : Shape := ⟨2, ![1024, 9288]⟩
abbrev S1024x1024 : Shape := ⟨2, ![1024, 1024]⟩
abbrev S1024 : Shape := ⟨1, ![1024]⟩
abbrev S1024x2120 : Shape := ⟨2, ![1024, 2120]⟩
abbrev S_ : Shape := ⟨0, ![]⟩
abbrev S1024x2176 : Shape := ⟨2, ![1024, 2176]⟩
abbrev S1024x3072 : Shape := ⟨2, ![1024, 3072]⟩
abbrev S1x1x1024 : Shape := ⟨3, ![1, 1, 1024]⟩
abbrev S1x512x1024 : Shape := ⟨3, ![1, 512, 1024]⟩
abbrev S1x1024x512 : Shape := ⟨3, ![1, 1024, 512]⟩
abbrev S512x1024 : Shape := ⟨2, ![512, 1024]⟩
abbrev S1024x512 : Shape := ⟨2, ![1024, 512]⟩
abbrev S1x512 : Shape := ⟨2, ![1, 512]⟩
abbrev S1x512x1 : Shape := ⟨3, ![1, 512, 1]⟩

abbrev nBuf : Space → Nat
  | .hbm => 27
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S4x8192x1024, .bf16⟩
  | .hbm, ⟨3, _⟩ => ⟨S4x8192x1024, .bf16⟩
  | .hbm, ⟨4, _⟩ => ⟨S4x1024x8192, .bf16⟩
  | .hbm, ⟨5, _⟩ => ⟨S4x1x1024, .f32⟩
  | .hbm, ⟨6, _⟩ => ⟨S1024x9288, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S4x1x1024, .f32⟩
  | .hbm, ⟨11, _⟩ => ⟨S4x1x1024, .f32⟩
  | .hbm, ⟨12, _⟩ => ⟨S1024x9288, .bf16⟩
  | .hbm, ⟨13, _⟩ => ⟨S1024x2120, .bf16⟩
  | .hbm, ⟨14, _⟩ => ⟨S_, .i32⟩
  | .hbm, ⟨15, _⟩ => ⟨S_, .bf16⟩
  | .hbm, ⟨16, _⟩ => ⟨S1024x2176, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x3072, .bf16⟩
  | .hbm, ⟨22, _⟩ => ⟨S1024x1024, .bf16⟩
  | .hbm, ⟨23, _⟩ => ⟨S1024x1024, .bf16⟩
  | .hbm, ⟨24, _⟩ => ⟨S1x1x1024, .f32⟩
  | .hbm, ⟨25, _⟩ => ⟨S4x8192x1024, .f32⟩
  | .hbm, ⟨26, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1x1024, .f32⟩
  | .local _ .vmem, ⟨11, _⟩ => ⟨S1x1x1024, .f32⟩
  | .local _ .vmem, ⟨12, _⟩ => ⟨S1024x3072, .bf16⟩
  | .local _ .vmem, ⟨13, _⟩ => ⟨S1024x1024, .bf16⟩
  | .local _ .vmem, ⟨14, _⟩ => ⟨S1024x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .bf16⟩
  | .local _ .vmem, ⟨23, _⟩ => ⟨S1x512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S4x8192x1024 : Shape := ⟨3, ![4, 8192, 1024]⟩
abbrev S4x1024x8192 : Shape := ⟨3, ![4, 1024, 8192]⟩
abbrev S4x1x1024 : Shape := ⟨3, ![4, 1, 1024]⟩
abbrev S1024x9288 : Shape := ⟨2, ![1024, 9288]⟩
abbrev S1024x1024 : Shape := ⟨2, ![1024, 1024]⟩
abbrev S1024 : Shape := ⟨1, ![1024]⟩
abbrev S1024x3072 : Shape := ⟨2, ![1024, 3072]⟩
abbrev S4x8192x3072 : Shape := ⟨3, ![4, 8192, 3072]⟩
abbrev S_ : Shape := ⟨0, ![]⟩
abbrev S4x8192x3x1024 : Shape := ⟨4, ![4, 8192, 3, 1024]⟩
abbrev S4x8192x1x1024 : Shape := ⟨4, ![4, 8192, 1, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S4x8192x1024, .bf16⟩
  | .hbm, ⟨3, _⟩ => ⟨S4x8192x1024, .bf16⟩
  | .hbm, ⟨4, _⟩ => ⟨S4x1024x8192, .bf16⟩
  | .hbm, ⟨5, _⟩ => ⟨S4x1x1024, .f32⟩
  | .hbm, ⟨6, _⟩ => ⟨S1024x9288, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S1024x3072, .f32⟩
  | .hbm, ⟨14, _⟩ => ⟨S4x8192x3072, .f32⟩
  | .hbm, ⟨15, _⟩ => ⟨S4x8192x3072, .f32⟩
  | .hbm, ⟨16, _⟩ => ⟨S4x8192x3072, .f32⟩
  | .hbm, ⟨17, _⟩ => ⟨S_, .f32⟩
  | .hbm, ⟨18, _⟩ => ⟨S4x8192x3072, .f32⟩
  | .hbm, ⟨19, _⟩ => ⟨S4x8192x3072, .f32⟩
  | .hbm, ⟨20, _⟩ => ⟨S_, .f32⟩
  | .hbm, ⟨21, _⟩ => ⟨S4x8192x3072, .f32⟩
  | .hbm, ⟨22, _⟩ => ⟨S4x8192x3072, .f32⟩
  | .hbm, ⟨23, _⟩ => ⟨S4x8192x3x1024, .f32⟩
  | .hbm, ⟨24, _⟩ => ⟨S4x1024x8192, .f32⟩
  | .hbm, ⟨25, _⟩ => ⟨S4x8192x1024, .f32⟩
  | .hbm, ⟨26, _⟩ => ⟨S4x8192x1024, .f32⟩
  | .hbm, ⟨27, _⟩ => ⟨S4x8192x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x1, .f32⟩
  | .hbm, ⟨55, _⟩ => ⟨S4x8192x1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | .hbm, ⟨60, _⟩ => ⟨S_, .f32⟩
  | .hbm, ⟨61, _⟩ => ⟨S4x1x1024, .f32⟩
  | .hbm, ⟨62, _⟩ => ⟨S4x1x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Mlp.lean ====
abbrev S4x8192x1024 : Shape := ⟨3, ![4, 8192, 1024]⟩
abbrev S4x1x1024 : Shape := ⟨3, ![4, 1, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1x4096 : Shape := ⟨2, ![1, 4096]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1024x1024 : Shape := ⟨2, ![1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S4x1x1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1x4096, .f32⟩
  | .hbm, ⟨10, _⟩ => ⟨S1x1024, .f32⟩
  | .hbm, ⟨11, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x4096, .bf16⟩
  | .local _ .vmem, ⟨7, _⟩ => ⟨S1x4096, .f32⟩
  | .local _ .vmem, ⟨8, _⟩ => ⟨S4096x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlpIdeal.lean ====
abbrev S4x8192x1024 : Shape := ⟨3, ![4, 8192, 1024]⟩
abbrev S4x1x1024 : Shape := ⟨3, ![4, 1, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1x4096 : Shape := ⟨2, ![1, 4096]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1024x1024 : Shape := ⟨2, ![1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S4x1x1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1x4096, .f32⟩
  | .hbm, ⟨10, _⟩ => ⟨S1x1024, .f32⟩
  | .hbm, ⟨11, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x4096, .bf16⟩
  | .local _ .vmem, ⟨7, _⟩ => ⟨S1x4096, .f32⟩
  | .local _ .vmem, ⟨8, _⟩ => ⟨S4096x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlpRefIdeal.lean ====
abbrev S4x8192x1024 : Shape := ⟨3, ![4, 8192, 1024]⟩
abbrev S4x1x1024 : Shape := ⟨3, ![4, 1, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x8192x4096 : Shape := ⟨3, ![4, 8192, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .bf16⟩
  | .hbm, ⟨2, _⟩ => ⟨S4x1x1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S4x8192x1024, .f32⟩
  | .hbm, ⟨8, _⟩ => ⟨S4x8192x4096, .f32⟩
  | .hbm, ⟨9, _⟩ => ⟨S1x1x4096, .f32⟩
  | .hbm, ⟨10, _⟩ => ⟨S4x8192x4096, .f32⟩
  | .hbm, ⟨11, _⟩ => ⟨S4x8192x4096, .f32⟩
  | .hbm, ⟨12, _⟩ => ⟨S_, .f32⟩
  | .hbm, ⟨13, _⟩ => ⟨S4x8192x4096, .f32⟩
  | .hbm, ⟨14, _⟩ => ⟨S4x8192x4096, .f32⟩
  | .hbm, ⟨15, _⟩ => ⟨S4x8192x4096, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== ProjSample.lean ====
abbrev S32x64x1024 : Shape := ⟨3, ![32, 64, 1024]⟩
abbrev S1024x9288 : Shape := ⟨2, ![1024, 9288]⟩
abbrev S128 : Shape := ⟨1, ![128]⟩
abbrev S1024x2120 : Shape := ⟨2, ![1024, 2120]⟩
abbrev S_ : Shape := ⟨0, ![]⟩
abbrev S1024x2176 : Shape := ⟨2, ![1024, 2176]⟩
abbrev S1024x1024 : Shape := ⟨2, ![1024, 1024]⟩
abbrev S1024x3072 : Shape := ⟨2, ![1024, 3072]⟩
abbrev S1x128 : Shape := ⟨2, ![1, 128]⟩
abbrev S32x64x256 : Shape := ⟨3, ![32, 64, 256]⟩
abbrev S32x64x512 : Shape := ⟨3, ![32, 64, 512]⟩
abbrev S32x64x64 : Shape := ⟨3, ![32, 64, 64]⟩
abbrev S32x64x8 : Shape := ⟨3, ![32, 64, 8]⟩
abbrev S8x64x1024 : Shape := ⟨3, ![8, 64, 1024]⟩
abbrev S8x64x256 : Shape := ⟨3, ![8, 64, 256]⟩
abbrev S8x64x512 : Shape := ⟨3, ![8, 64, 512]⟩
abbrev S8x64x64 : Shape := ⟨3, ![8, 64, 64]⟩
abbrev S8x64x8 : Shape := ⟨3, ![8, 64, 8]⟩
abbrev S512x1024 : Shape := ⟨2, ![512, 1024]⟩
abbrev S512x2176 : Shape := ⟨2, ![512, 2176]⟩
abbrev S512x128 : Shape := ⟨2, ![512, 128]⟩
abbrev S512 : Shape := ⟨1, ![512]⟩
abbrev S512x1 : Shape := ⟨2, ![512, 1]⟩
abbrev S8x64x128 : Shape := ⟨3, ![8, 64, 128]⟩
abbrev S512x256 : Shape := ⟨2, ![512, 256]⟩
abbrev S512x512 : Shape := ⟨2, ![512, 512]⟩
abbrev S512x64 : Shape := ⟨2, ![512, 64]⟩
abbrev S512x8 : Shape := ⟨2, ![512, 8]⟩

abbrev nBuf : Space → Nat
  | .hbm => 22
  | .vmem => 17
  | .smem => 0
  | _ => 0

abbrev bufTy : (tb : Table) → Fin (tcTables nBuf tb) → BufTy
  | .hbm, ⟨0, _⟩ => ⟨S32x64x1024, .bf16⟩
  | .hbm, ⟨1, _⟩ => ⟨S1024x9288, .f32⟩
  | .hbm, ⟨2, _⟩ => ⟨S128, .f32⟩
  | .hbm, ⟨3, _⟩ => ⟨S128, .f32⟩
  | .hbm, ⟨4, _⟩ => ⟨S1024x9288, .bf16⟩
  | .hbm, ⟨5, _⟩ => ⟨S1024x2120, .bf16⟩
  | .hbm, ⟨6, _⟩ => ⟨S_, .i32⟩
  | .hbm, ⟨7, _⟩ => ⟨S_, .bf16⟩
  | .hbm, ⟨8, _⟩ => ⟨S1024x2176, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x3072, .bf16⟩
  | .hbm, ⟨14, _⟩ => ⟨S1x128, .f32⟩
  | .hbm, ⟨15, _⟩ => ⟨S1x128, .f32⟩
  | .hbm, ⟨16, _⟩ => ⟨S32x64x1024, .bf16⟩
  | .hbm, ⟨17, _⟩ => ⟨S32x64x256, .f32⟩
  | .hbm, ⟨18, _⟩ => ⟨S32x64x256, .f32⟩
  | .hbm, ⟨19, _⟩ => ⟨S32x64x512, .bf16⟩
  | .hbm, ⟨20, _⟩ => ⟨S32x64x64, .f32⟩
  | .hbm, ⟨21, _⟩ => ⟨S32x64x8, .f32⟩
  | .local _ .vmem, ⟨0, _⟩ => ⟨S8x64x1024, .bf16⟩
  | .local _ .vmem, ⟨1, _⟩ => ⟨S8x64x1024, .bf16⟩
  | .local _ .vmem, ⟨2, _⟩ => ⟨S1024x2176, .bf16⟩
  | .local _ .vmem, ⟨3, _⟩ => ⟨S1x128, .f32⟩
  | .local _ .vmem, ⟨4, _⟩ => ⟨S1x128, .f32⟩
  | .local _ .vmem, ⟨5, _⟩ => ⟨S8x64x1024, .bf16⟩
  | .local _ .vmem, ⟨6, _⟩ => ⟨S8x64x1024, .bf16⟩
  | .local _ .vmem, ⟨7, _⟩ => ⟨S8x64x256, .f32⟩
  | .local _ .vmem, ⟨8, _⟩ => ⟨S8x64x256, .f32⟩
  | .local _ .vmem, ⟨9, _⟩ => ⟨S8x64x256, .f32⟩
  | .local _ .vmem, ⟨10, _⟩ => ⟨S8x64x256, .f32⟩
  | .local _ .vmem, ⟨11, _⟩ => ⟨S8x64x512, .bf16⟩
  | .local _ .vmem, ⟨12, _⟩ => ⟨S8x64x512, .bf16⟩
  | .local _ .vmem, ⟨13, _⟩ => ⟨S8x64x64, .f32⟩
  | .local _ .vmem, ⟨14, _⟩ => ⟨S8x64x64, .f32⟩
  | .local _ .vmem, ⟨15, _⟩ => ⟨S8x64x8, .f32⟩
  | .local _ .vmem, ⟨16, _⟩ => ⟨S8x64x8, .f32⟩
  | _, _ => ⟨S32x64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x64x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjSampleRefIdeal.lean ====
abbrev S32x64x1024 : Shape := ⟨3, ![32, 64, 1024]⟩
abbrev S1024x9288 : Shape := ⟨2, ![1024, 9288]⟩
abbrev S128 : Shape := ⟨1, ![128]⟩
abbrev S1024x2120 : Shape := ⟨2, ![1024, 2120]⟩
abbrev S32x64x2120 : Shape := ⟨3, ![32, 64, 2120]⟩
abbrev S32x64x8x128 : Shape := ⟨4, ![32, 64, 8, 128]⟩
abbrev S_ : Shape := ⟨0, ![]⟩
abbrev S32x64x8 : Shape := ⟨3, ![32, 64, 8]⟩
abbrev S32x64x8x1 : Shape := ⟨4, ![32, 64, 8, 1]⟩
abbrev S1x1x1x128 : Shape := ⟨4, ![1, 1, 1, 128]⟩
abbrev S32x64x256 : Shape := ⟨3, ![32, 64, 256]⟩
abbrev S32x64x2x128 : Shape := ⟨4, ![32, 64, 2, 128]⟩
abbrev S32x64x2 : Shape := ⟨3, ![32, 64, 2]⟩
abbrev S32x64x2x1 : Shape := ⟨4, ![32, 64, 2, 1]⟩
abbrev S32x64x512 : Shape := ⟨3, ![32, 64, 512]⟩
abbrev S32x64x64 : Shape := ⟨3, ![32, 64, 64]⟩

abbrev nBuf : Space → Nat
  | .hbm => 57
  | .vmem => 0
  | .smem => 0
  | _ => 0

abbrev bufTy : (tb : Table) → Fin (tcTables nBuf tb) → BufTy
  | .hbm, ⟨0, _⟩ => ⟨S32x64x1024, .bf16⟩
  | .hbm, ⟨1, _⟩ => ⟨S1024x9288, .f32⟩
  | .hbm, ⟨2, _⟩ => ⟨S128, .f32⟩
  | .hbm, ⟨3, _⟩ => ⟨S128, .f32⟩
  | .hbm, ⟨4, _⟩ => ⟨S32x64x1024, .f32⟩
  | .hbm, ⟨5, _⟩ => ⟨S1024x2120, .f32⟩
  | .hbm, ⟨6, _⟩ => ⟨S32x64x2120, .f32⟩
  | .hbm, ⟨7, _⟩ => ⟨S32x64x1024, .f32⟩
  | .hbm, ⟨8, _⟩ => ⟨S32x64x8x128, .f32⟩
  | .hbm, ⟨9, _⟩ => ⟨S32x64x8x128, .f32⟩
  | .hbm, ⟨10, _⟩ => ⟨S_, .f32⟩
  | .hbm, ⟨11, _⟩ => ⟨S32x64x8, .f32⟩
  | .hbm, ⟨12, _⟩ => ⟨S32x64x8x1, .f32⟩
  | .hbm, ⟨13, _⟩ => ⟨S_, .f32⟩
  | .hbm, ⟨14, _⟩ => ⟨S32x64x8x1, .f32⟩
  | .hbm, ⟨15, _⟩ => ⟨S32x64x8x1, .f32⟩
  | .hbm, ⟨16, _⟩ => ⟨S_, .f32⟩
  | .hbm, ⟨17, _⟩ => ⟨S32x64x8x1, .f32⟩
  | .hbm, ⟨18, _⟩ => ⟨S32x64x8x1, .f32⟩
  | .hbm, ⟨19, _⟩ => ⟨S32x64x8x1, .f32⟩
  | .hbm, ⟨20, _⟩ => ⟨S32x64x8x128, .f32⟩
  | .hbm, ⟨21, _⟩ => ⟨S32x64x8x128, .f32⟩
  | .hbm, ⟨22, _⟩ => ⟨S1x1x1x128, .f32⟩
  | .hbm, ⟨23, _⟩ => ⟨S32x64x8x128, .f32⟩
  | .hbm, ⟨24, _⟩ => ⟨S32x64x8x128, .f32⟩
  | .hbm, ⟨25, _⟩ => ⟨S_, .f32⟩
  | .hbm, ⟨26, _⟩ => ⟨S32x64x8x128, .f32⟩
  | .hbm, ⟨27, _⟩ => ⟨S32x64x8x128, .f32⟩
  | .hbm, ⟨28, _⟩ => ⟨S32x64x256, .f32⟩
  | .hbm, ⟨29, _⟩ => ⟨S32x64x2x128, .f32⟩
  | .hbm, ⟨30, _⟩ => ⟨S32x64x2x128, .f32⟩
  | .hbm, ⟨31, _⟩ => ⟨S_, .f32⟩
  | .hbm, ⟨32, _⟩ => ⟨S32x64x2, .f32⟩
  | .hbm, ⟨33, _⟩ => ⟨S32x64x2x1, .f32⟩
  | .hbm, ⟨34, _⟩ => ⟨S_, .f32⟩
  | .hbm, ⟨35, _⟩ => ⟨S32x64x2x1, .f32⟩
  | .hbm, ⟨36, _⟩ => ⟨S32x64x2x1, .f32⟩
  | .hbm, ⟨37, _⟩ => ⟨S_, .f32⟩
  | .hbm, ⟨38, _⟩ => ⟨S32x64x2x1, .f32⟩
  | .hbm, ⟨39, _⟩ => ⟨S32x64x2x1, .f32⟩
  | .hbm, ⟨40, _⟩ => ⟨S32x64x2x1, .f32⟩
  | .hbm, ⟨41, _⟩ => ⟨S32x64x2x128, .f32⟩
  | .hbm, ⟨42, _⟩ => ⟨S32x64x2x128, .f32⟩
  | .hbm, ⟨43, _⟩ => ⟨S1x1x1x128, .f32⟩
  | .hbm, ⟨44, _⟩ => ⟨S32x64x2x128, .f32⟩
  | .hbm, ⟨45, _⟩ => ⟨S32x64x2x128, .f32⟩
  | .hbm, ⟨46, _⟩ => ⟨S32x64x256, .f32⟩
  | .hbm, ⟨47, _⟩ => ⟨S32x64x256, .f32⟩
  | .hbm, ⟨48, _⟩ => ⟨S32x64x512, .f32⟩
  | .hbm, ⟨49, _⟩ => ⟨S32x64x64, .f32⟩
  | .hbm, ⟨50, _⟩ => ⟨S32x64x8, .f32⟩
  | .hbm, ⟨51, _⟩ => ⟨S_, .f32⟩
  | .hbm, ⟨52, _⟩ => ⟨S32x64x8, .f32⟩
  | .hbm, ⟨53, _⟩ => ⟨S32x64x8, .f32⟩
  | .hbm, ⟨54, _⟩ => ⟨S32x64x1024, .f32⟩
  | .hbm, ⟨55, _⟩ => ⟨S32x64x1024, .bf16⟩
  | .hbm, ⟨56, _⟩ => ⟨S32x64x512, .bf16⟩
  | _, _ => ⟨S32x64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== MlpSample.lean ====
abbrev S32x64x1024 : Shape := ⟨3, ![32, 64, 1024]⟩
abbrev S32x1x1024 : Shape := ⟨3, ![32, 1, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1x4096 : Shape := ⟨2, ![1, 4096]⟩
abbrev S1x1024 : Shape := ⟨2, ![1, 1024]⟩
abbrev S8x64x1024 : Shape := ⟨3, ![8, 64, 1024]⟩
abbrev S8x1x1024 : Shape := ⟨3, ![8, 1, 1024]⟩
abbrev S512x1024 : Shape := ⟨2, ![512, 1024]⟩
abbrev S1024x1024 : Shape := ⟨2, ![1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S32x64x1024, .f32⟩
  | .hbm, ⟨1, _⟩ => ⟨S32x64x1024, .bf16⟩
  | .hbm, ⟨2, _⟩ => ⟨S32x1x1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1x4096, .f32⟩
  | .hbm, ⟨10, _⟩ => ⟨S1x1024, .f32⟩
  | .hbm, ⟨11, _⟩ => ⟨S32x64x1024, .f32⟩
  | .local _ .vmem, ⟨0, _⟩ => ⟨S8x64x1024, .f32⟩
  | .local _ .vmem, ⟨1, _⟩ => ⟨S8x64x1024, .f32⟩
  | .local _ .vmem, ⟨2, _⟩ => ⟨S8x64x1024, .bf16⟩
  | .local _ .vmem, ⟨3, _⟩ => ⟨S8x64x1024, .bf16⟩
  | .local _ .vmem, ⟨4, _⟩ => ⟨S8x1x1024, .f32⟩
  | .local _ .vmem, ⟨5, _⟩ => ⟨S8x1x1024, .f32⟩
  | .local _ .vmem, ⟨6, _⟩ => ⟨S1024x4096, .bf16⟩
  | .local _ .vmem, ⟨7, _⟩ => ⟨S1x4096, .f32⟩
  | .local _ .vmem, ⟨8, _⟩ => ⟨S4096x1024, .bf16⟩
  | .local _ .vmem, ⟨9, _⟩ => ⟨S1x1024, .f32⟩
  | .local _ .vmem, ⟨10, _⟩ => ⟨S8x64x1024, .f32⟩
  | .local _ .vmem, ⟨11, _⟩ => ⟨S8x64x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlpSampleRefIdeal.lean ====
abbrev S32x64x1024 : Shape := ⟨3, ![32, 64, 1024]⟩
abbrev S32x1x1024 : Shape := ⟨3, ![32, 1, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S32x64x4096 : Shape := ⟨3, ![32, 64, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x64x1024, .bf16⟩
  | .hbm, ⟨2, _⟩ => ⟨S32x1x1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S32x64x1024, .f32⟩
  | .hbm, ⟨8, _⟩ => ⟨S32x64x4096, .f32⟩
  | .hbm, ⟨9, _⟩ => ⟨S1x1x4096, .f32⟩
  | .hbm, ⟨10, _⟩ => ⟨S32x64x4096, .f32⟩
  | .hbm, ⟨11, _⟩ => ⟨S32x64x4096, .f32⟩
  | .hbm, ⟨12, _⟩ => ⟨S_, .f32⟩
  | .hbm, ⟨13, _⟩ => ⟨S32x64x4096, .f32⟩
  | .hbm, ⟨14, _⟩ => ⟨S32x64x4096, .f32⟩
  | .hbm, ⟨15, _⟩ => ⟨S32x64x4096, .f32⟩
  | .hbm, ⟨16, _⟩ => ⟨S32x64x1024, .f32⟩
  | .hbm, ⟨17, _⟩ => ⟨S1x1x1024, .f32⟩
  | .hbm, ⟨18, _⟩ => ⟨S32x64x1024, .f32⟩
  | .hbm, ⟨19, _⟩ => ⟨S32x64x1024, .f32⟩
  | .hbm, ⟨20, _⟩ => ⟨S32x64x1024, .f32⟩
  | .hbm, ⟨21, _⟩ => ⟨S32x64x1024, .f32⟩
  | .hbm, ⟨22, _⟩ => ⟨S32x64x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.Conv.Math.lean ====
module

public import Idealize.ShloMosaic.Lib.Pointwise

@[expose] public section

set_option maxRecDepth 16384

noncomputable section

/-! The causal convolution branch: the functions of one row. -/

namespace Cert.Conv.Math

open Idealize.ShloMosaic

/-- The logistic function `1 / (1 + exp(-s))`. -/
def squash (s : EReal) : EReal := Ideal.div 1 (1 + Ideal.exp (-s))

/-- A product of two rows. -/
def dot (f g : Fin 1024 → EReal) : EReal := ∑ j : Fin 1024, f j * g j

/-- The gated linear unit of one row: one projection times the other, squashed. -/
def glu (h w v : Fin 1024 → EReal) : EReal := dot h w * squash (dot h v)

/-- The mean of a row. -/
def mean (f : Fin 1024 → EReal) : EReal := Ideal.div (∑ k : Fin 1024, f k) (Ideal.ofBits FTy.f32 1149239296#32)

/-- A row centred, divided by its deviation, scaled and shifted. -/
def lnorm (f : Fin 1024 → EReal) (g b : EReal) (d : Fin 1024) : EReal :=
  (f d - mean f) * Ideal.rsqrt (mean (fun k => (f k - mean f) * (f k - mean f)) + Ideal.ofBits FTy.f32 897988541#32) * g + b

/-- The sigmoid-weighted unit `x / (1 + exp(-x))`. -/
def silu (x : EReal) : EReal := x * squash x

/-- Thirty-one taps on thirty-one consecutive rows, added from the oldest row to the newest. -/
def taps (w a : Fin 31 → EReal) : EReal :=
  w 0 * a 0 + w 1 * a 1 + w 2 * a 2 + w 3 * a 3 + w 4 * a 4 + w 5 * a 5 + w 6 * a 6 + w 7 * a 7 + w 8 * a 8 + w 9 * a 9
    + w 10 * a 10 + w 11 * a 11 + w 12 * a 12 + w 13 * a 13 + w 14 * a 14 + w 15 * a 15 + w 16 * a 16 + w 17 * a 17
    + w 18 * a 18 + w 19 * a 19 + w 20 * a 20 + w 21 * a 21 + w 22 * a 22 + w 23 * a 23 + w 24 * a 24 + w 25 * a 25
    + w 26 * a 26 + w 27 * a 27 + w 28 * a 28 + w 29 * a 29 + w 30 * a 30

/-- The branch at one column: the convolved row normalised, passed through the unit, projected. -/
def branch (y g b w : Fin 1024 → EReal) : EReal := ∑ k : Fin 1024, silu (lnorm y (g k) (b k) k) * w k

end Cert.Conv.Math

end
-- ==== Proof.Conv.Loads.lean ====
module

public import proofs.«01_k».proof.Proof.Conv.Math
public import proofs.«01_k».proof.Proof.Gen.ConvIdeal.Value

@[expose] public section

set_option maxRecDepth 16384

noncomputable section

/-! The convolution branch: what the loads from its scratch arrays and its weights read.

An array is written here as a function of two natural numbers, a row and a column. -/

namespace Cert.ConvIdeal.Block

open Cert.ConvIdeal Cert.ConvIdeal.Gen Idealize.ShloMosaic Cert.Conv.Math

theorem hz2 : (![0, 0] : Fin 2 → Nat) = fun _ => 0 := funext fun a => by fin_cases a <;> rfl
theorem hz3 : (![0, 0, 0] : Fin 3 → Nat) = fun _ => 0 := funext fun a => by fin_cases a <;> rfl

/-- The padded rows' array by row and column. -/
def ap (X : Vec Ideal S1x544x1024 .f32) (r d : Nat) : EReal :=
  if h : r < 544 ∧ d < 1024 then X (ix3 0 ⟨r, h.1⟩ ⟨d, h.2⟩) else 0

/-- The taps' array by tap and column. -/
def wt (X : Vec Ideal S31x1024 .f32) (j d : Nat) : EReal :=
  if h : j < 31 ∧ d < 1024 then X (ix2 ⟨j, h.1⟩ ⟨d, h.2⟩) else 0

theorem ap_fin (X : Vec Ideal S1x544x1024 .f32) (r : Fin 544) (d : Fin 1024) : ap X r.val d.val = X (ix3 0 r d) :=
  dif_pos ⟨r.isLt, d.isLt⟩

theorem wt_fin (X : Vec Ideal S31x1024 .f32) (j : Fin 31) (d : Fin 1024) : wt X j.val d.val = X (ix2 j d) :=
  dif_pos ⟨j.isLt, d.isLt⟩

/-- A 64 × 256 block of an array. -/
def rows (f : Nat → Nat → EReal) (lo c0 : Nat) : Vec Ideal S1x64x256 .f32 := fun y => f (lo + (y 1).val) (c0 + (y 2).val)
/-- A 536 × 256 block of an array. -/
def tall (f : Nat → Nat → EReal) (lo c0 : Nat) : Vec Ideal S1x536x256 .f32 := fun y => f (lo + (y 1).val) (c0 + (y 2).val)
/-- A run of 256 columns of one tap. -/
def wrow (f : Nat → Nat → EReal) (j c0 : Nat) : Vec Ideal S1x256 .f32 := fun y => f j (c0 + (y 1).val)

theorem rows_apply (f : Nat → Nat → EReal) (lo c0 : Nat) (i : Fin 64) (e : Fin 256) :
    rows f lo c0 (ix3 0 i e) = f (lo + i.val) (c0 + e.val) := rfl
theorem tall_apply (f : Nat → Nat → EReal) (lo c0 : Nat) (i : Fin 536) (e : Fin 256) :
    tall f lo c0 (ix3 0 i e) = f (lo + i.val) (c0 + e.val) := rfl
theorem wrow_apply (f : Nat → Nat → EReal) (j c0 : Nat) (e : Fin 256) :
    wrow f j c0 (ix2 0 e) = f j (c0 + e.val) := rfl

theorem idx_rows (X : Vec Ideal S1x544x1024 .f32) (lo c0 : Nat) (inb : ∀ a, (![0, lo, c0] : Fin 3 → Nat) a + (![1, 64, 256] : Fin 3 → Nat) a ≤ S1x544x1024.size a) :
    (fun y => X ((Rect.unit (s := S1x544x1024) ![0, lo, c0] ![1, 64, 256] inb).toLoadRect.idx y)) = rows (ap X) lo c0 := by
  funext y
  have h1 : lo + 64 ≤ 544 := inb 1
  have h2 : c0 + 256 ≤ 1024 := inb 2
  have y1 : (y 1).val < 64 := (y 1).isLt
  have y2 : (y 2).val < 256 := (y 2).isLt
  have y0 : (y 0).val < 1 := (y 0).isLt
  refine Eq.trans ?_ (dif_pos (α := EReal) (c := lo + (y 1).val < 544 ∧ c0 + (y 2).val < 1024) ⟨by omega, by omega⟩).symm
  refine congrArg X (funext fun a => Fin.ext ?_)
  match a with
  | ⟨0, _⟩ => show 0 + 1 * (y 0).val = 0; omega
  | ⟨1, _⟩ => show lo + 1 * (y 1).val = lo + (y 1).val; omega
  | ⟨2, _⟩ => show c0 + 1 * (y 2).val = c0 + (y 2).val; omega

theorem idx_tall (X : Vec Ideal S1x544x1024 .f32) (lo c0 : Nat) (inb : ∀ a, (![0, lo, c0] : Fin 3 → Nat) a + (![1, 536, 256] : Fin 3 → Nat) a ≤ S1x544x1024.size a) :
    (fun y => X ((Rect.unit (s := S1x544x1024) ![0, lo, c0] ![1, 536, 256] inb).toLoadRect.idx y)) = tall (ap X) lo c0 := by
  funext y
  have h1 : lo + 536 ≤ 544 := inb 1
  have h2 : c0 + 256 ≤ 1024 := inb 2
  have y1 : (y 1).val < 536 := (y 1).isLt
  have y2 : (y 2).val < 256 := (y 2).isLt
  have y0 : (y 0).val < 1 := (y 0).isLt
  refine Eq.trans ?_ (dif_pos (α := EReal) (c := lo + (y 1).val < 544 ∧ c0 + (y 2).val < 1024) ⟨by omega, by omega⟩).symm
  refine congrArg X (funext fun a => Fin.ext ?_)
  match a with
  | ⟨0, _⟩ => show 0 + 1 * (y 0).val = 0; omega
  | ⟨1, _⟩ => show lo + 1 * (y 1).val = lo + (y 1).val; omega
  | ⟨2, _⟩ => show c0 + 1 * (y 2).val = c0 + (y 2).val; omega

/-- A load of rows from the padded rows, all of them stored before. -/
theorem cov_rows {κ : Kind} {sp : Space} (v : View sig κ sp S1x544x1024 .f32) (L : List (View.Piece (Elt Ideal) S1x544x1024 .f32)) (lo c0 : Nat)
    (inb : ∀ a, (![0, lo, c0] : Fin 3 → Nat) a + (![1, 64, 256] : Fin 3 → Nat) a ≤ S1x544x1024.size a) :
    v.readCov L (Rect.unit (s := S1x544x1024) ![0, lo, c0] ![1, 64, 256] inb).toLoadRect = rows (ap (View.canon L)) lo c0 := by
  rw [View.readCov_eq_canon']
  exact idx_rows _ lo c0 inb

theorem cov_tall {κ : Kind} {sp : Space} (v : View sig κ sp S1x544x1024 .f32) (L : List (View.Piece (Elt Ideal) S1x544x1024 .f32)) (lo c0 : Nat)
    (inb : ∀ a, (![0, lo, c0] : Fin 3 → Nat) a + (![1, 536, 256] : Fin 3 → Nat) a ≤ S1x544x1024.size a) :
    v.readCov L (Rect.unit (s := S1x544x1024) ![0, lo, c0] ![1, 536, 256] inb).toLoadRect = tall (ap (View.canon L)) lo c0 := by
  rw [View.readCov_eq_canon']
  exact idx_tall _ lo c0 inb

/-- A load of rows from the padded rows as they are. -/
theorem at_rows {κ : Kind} {sp : Space} (v : View sig κ sp S1x544x1024 .f32) (f : v.ty.Contents (Elt Ideal)) (lo c0 : Nat)
    (inb : ∀ a, (![0, lo, c0] : Fin 3 → Nat) a + (![1, 64, 256] : Fin 3 → Nat) a ≤ S1x544x1024.size a) :
    v.readAt (Elt Ideal) (Rect.unit (s := S1x544x1024) ![0, lo, c0] ![1, 64, 256] inb).toLoadRect f = rows (ap (v.read (Elt Ideal) f)) lo c0 :=
  idx_rows _ lo c0 inb

theorem at_tall {κ : Kind} {sp : Space} (v : View sig κ sp S1x544x1024 .f32) (f : v.ty.Contents (Elt Ideal)) (lo c0 : Nat)
    (inb : ∀ a, (![0, lo, c0] : Fin 3 → Nat) a + (![1, 536, 256] : Fin 3 → Nat) a ≤ S1x544x1024.size a) :
    v.readAt (Elt Ideal) (Rect.unit (s := S1x544x1024) ![0, lo, c0] ![1, 536, 256] inb).toLoadRect f = tall (ap (v.read (Elt Ideal) f)) lo c0 :=
  idx_tall _ lo c0 inb

/-- A load of a tap's run of columns. -/
theorem at_wrow (a : Memref sig .tc .vmem S31x1024 .f32) (h : a.IsWhole) (X : Vec Ideal S31x1024 .f32) (j c0 : Nat)
    (inb : ∀ i, (![j, c0] : Fin 2 → Nat) i + (![1, 256] : Fin 2 → Nat) i ≤ S31x1024.size i) :
    a.view.readAt (Elt Ideal) (Rect.unit (s := S31x1024) ![j, c0] ![1, 256] inb).toLoadRect (h.unread X) = wrow (wt X) j c0 := by
  rw [View.readAt_eq_ld, Memref.IsWhole.read_unread]
  funext y
  have h1 : j + 1 ≤ 31 := inb 0
  have h2 : c0 + 256 ≤ 1024 := inb 1
  have y1 : (y 1).val < 256 := (y 1).isLt
  have y0 : (y 0).val < 1 := (y 0).isLt
  refine Eq.trans ?_ (dif_pos (α := EReal) (c := j < 31 ∧ c0 + (y 1).val < 1024) ⟨by omega, by omega⟩).symm
  refine congrArg X (funext fun a => Fin.ext ?_)
  match a with
  | ⟨0, _⟩ => show j + 1 * (y 0).val = j; omega
  | ⟨1, _⟩ => show c0 + 1 * (y 1).val = c0 + (y 1).val; omega

/-- The shifted copies' array holds in slab `s` the rows from row `s + 1` on, of the 256 columns from `c0` on. -/
def Shifted (L : List (View.Piece (Elt Ideal) S7x544x256 .f32)) (f : Nat → Nat → EReal) (c0 : Nat) : Prop :=
  ∀ (s : Fin 7) (r : Fin 544) (d : Fin 256), r.val < 536 → View.canon L (ix3 s r d) = f (s.val + 1 + r.val) (c0 + d.val)

/-- A load of rows from a shifted copy. -/
theorem cov_shift {κ : Kind} {sp : Space} {L : List (View.Piece (Elt Ideal) S7x544x256 .f32)} {f : Nat → Nat → EReal} {c0 : Nat} (H : Shifted L f c0)
    (v : View sig κ sp S7x544x256 .f32) (s lo : Nat) (inb : ∀ a, (![s, lo, 0] : Fin 3 → Nat) a + (![1, 64, 256] : Fin 3 → Nat) a ≤ S7x544x256.size a)
    (hlo : lo ≤ 472) :
    v.readCov L (Rect.unit (s := S7x544x256) ![s, lo, 0] ![1, 64, 256] inb).toLoadRect = rows f (s + 1 + lo) c0 := by
  rw [View.readCov_eq_canon']
  funext y
  have h0 : s + 1 ≤ 7 := inb 0
  have y0 : (y 0).val < 1 := (y 0).isLt
  have y1 : (y 1).val < 64 := (y 1).isLt
  have y2 : (y 2).val < 256 := (y 2).isLt
  have e : (Rect.unit (s := S7x544x256) ![s, lo, 0] ![1, 64, 256] inb).toLoadRect.idx y
      = ix3 (⟨s, by omega⟩ : Fin 7) (⟨lo + (y 1).val, by omega⟩ : Fin 544) (⟨(y 2).val, y2⟩ : Fin 256) := by
    funext a
    apply Fin.ext
    match a with
    | ⟨0, _⟩ => show s + 1 * (y 0).val = s; omega
    | ⟨1, _⟩ => show lo + 1 * (y 1).val = lo + (y 1).val; omega
    | ⟨2, _⟩ => show 0 + 1 * (y 2).val = (y 2).val; omega
  show View.canon L _ = _
  rw [e, H _ _ _ (by show lo + (y 1).val < 536; omega)]
  show f (s + 1 + (lo + (y 1).val)) (c0 + (y 2).val) = f (s + 1 + lo + (y 1).val) (c0 + (y 2).val)
  rw [Nat.add_assoc (s + 1)]

/-- One store into the shifted copies: its slab holds its payload, the others what they held. -/
theorem canon_slab (L : List (View.Piece (Elt Ideal) S7x544x256 .f32)) (k : Nat)
    (inb : ∀ a, (![k, 0, 0] : Fin 3 → Nat) a + (![1, 536, 256] : Fin 3 → Nat) a ≤ S7x544x256.size a) (p : Vec Ideal S1x536x256 .f32)
    (s : Fin 7) (r : Fin 544) (d : Fin 256) (hr : r.val < 536) :
    View.canon ((⟨Rect.unit (s := S7x544x256) ![k, 0, 0] ![1, 536, 256] inb, p⟩ : View.Piece (Elt Ideal) S7x544x256 .f32) :: L) (ix3 s r d)
      = if s.val = k then p (ix3 0 ⟨r.val, hr⟩ d) else View.canon L (ix3 s r d) := by
  have h0 : k + 1 ≤ 7 := inb 0
  by_cases h : s.val = k
  · rw [if_pos h]
    have e : (ix3 s r d : S7x544x256.Idx) = (Rect.unit (s := S7x544x256) ![k, 0, 0] ![1, 536, 256] inb).emb (ix3 (0 : Fin 1) (⟨r.val, hr⟩ : Fin 536) d) := by
      funext a
      apply Fin.ext
      match a with
      | ⟨0, _⟩ => show s.val = k + 1 * 0; omega
      | ⟨1, _⟩ => show r.val = 0 + 1 * r.val; omega
      | ⟨2, _⟩ => show d.val = 0 + 1 * d.val; omega
    rw [e]
    exact View.canon_cons_emb _ _ _ _
  · rw [if_neg h]
    refine View.canon_cons_of_not_mem _ _ fun hm => h ?_
    obtain ⟨x, hx⟩ := (Rect.unit (s := S7x544x256) ![k, 0, 0] ![1, 536, 256] inb).exists_idx_of_mem hm
    have hx0 := congrArg (fun i : S7x544x256.Idx => (i 0).val) hx
    have x0 : (x 0).val < 1 := (x 0).isLt
    have hx1 : k + 1 * (x 0).val = s.val := hx0
    omega

/-- A block of the padded rows cast to a matrix and back is itself. -/
theorem cast_tall (X : Vec Ideal S1x536x256 .f32) (h₁ h₂) : shapeCast S1x536x256 (shapeCast S536x256 X h₁) h₂ = X := by
  rw [shapeCast_shapeCast]

/-- The taps at one place of the convolved rows. -/
def tile (w f : Nat → Nat → EReal) (r d : Nat) : EReal :=
  taps (fun j => w j.val d) (fun j => f (r + 2 + j.val) d)

/-- The convolved rows as one array. -/
def convolved (w f : Nat → Nat → EReal) : Vec Ideal S512x1024 .f32 := fun y => tile w f (y 0).val (y 1).val

/-- A store of a 64 × 256 block holds the convolved rows where it lies. -/
theorem piece (w f : Nat → Nat → EReal) (r0 c0 : Nat)
    {inb : ∀ a, (![r0, c0] : Fin 2 → Nat) a + S64x256.size a ≤ S512x1024.size a} {p : Vec Ideal S64x256 .f32}
    (hp : ∀ (i : Fin 64) (e : Fin 256), p (ix2 i e) = taps (fun j => w j.val (c0 + e.val)) (fun j => f (r0 + 2 + j.val + i.val) (c0 + e.val)))
    (x : S64x256.Idx) :
    p x = convolved w f ((Rect.unit (s := S512x1024) ![r0, c0] ![64, 256] inb).emb x) := by
  obtain ⟨i, e, rfl⟩ : ∃ (i : Fin 64) (e : Fin 256), x = ix2 i e :=
    ⟨x 0, x 1, funext fun a => match a with | ⟨0, _⟩ => rfl | ⟨1, _⟩ => rfl⟩
  rw [hp]
  show _ = taps (fun j => w j.val (c0 + 1 * e.val)) (fun j => f (r0 + 1 * i.val + 2 + j.val) (c0 + 1 * e.val))
  have hr : ∀ j : Fin 31, r0 + i.val + 2 + j.val = r0 + 2 + j.val + i.val := fun j => by omega
  simp only [Nat.one_mul, hr]

end Cert.ConvIdeal.Block

end
-- ==== Proof.Conv.ShiftA.lean ====
module

public import proofs.«01_k».proof.Proof.Conv.Loads
public import Idealize.ShloMosaic.Lib.Pointwise
public import Idealize.ShloMosaic.Lib.Tactic.RunNames
public meta import Idealize.ShloMosaic.Lib.Tactic.RunNames

@[expose] public section

set_option maxRecDepth 16384

noncomputable section

/-! The convolution branch: the shifted copies in the first tile of a batch. -/

namespace Cert.ConvIdeal.Block

open Cert.ConvIdeal Cert.ConvIdeal.Gen Idealize.ShloMosaic Cert.Conv.Math

variable (c : Dev nD) (a2 : Memref sig .tc .vmem S1x512x1024 .bf16) (h2 : a2.IsWhole) (a3 : Memref sig .tc .vmem S1x30x1024 .f32) (h3 : a3.IsWhole)
  (a4 : Memref sig .tc .vmem S1024x1024 .bf16) (h4 : a4.IsWhole) (a5 : Memref sig .tc .vmem S1024x1024 .bf16) (h5 : a5.IsWhole)
  (a6 : Memref sig .tc .vmem S31x1024 .f32) (h6 : a6.IsWhole) (a13 : Memref sig .tc .vmem S1x544x1024 .f32) (h13 : a13.IsWhole)
  (a15 : Memref sig .tc .vmem S7x544x256 .f32) (x0 : Vec Ideal S1x512x1024 .bf16) (x1 : Vec Ideal S1x30x1024 .f32)
  (x2 x3 : Vec Ideal S1024x1024 .bf16) (x4 : Vec Ideal S31x1024 .f32) (xs : Vec Ideal S1x544x1024 .f32)

/-- The padded rows in the first tile of a batch: zeros, the history and the tile's gated rows. -/
def padA : Nat → Nat → EReal :=
  ap (View.canon (kernelRun0_A.sl.HS0_3 c a2 h2 a3 h3 a4 h4 a5 h5 x0 x1 x2 x3))

set_option maxHeartbeats 400000 in
theorem shiftedA7 : Shifted (kernelRun0_A.sl.HS2_7 c a2 h2 a3 h3 a4 h4 a5 h5 a13 x0 x1 x2 x3) (padA c a2 h2 a3 h3 a4 h4 a5 h5 x0 x1 x2 x3) 0 := by
  unfold kernelRun0_A.sl.HS2_7
  sl_unfold_run_values
  intro s r d hr
  simp only [cov_tall, canon_slab _ _ _ _ s r d hr, padA]
  have hs := s.isLt
  generalize ap _ = f
  split_ifs with h6 h5 h4 h3 h2 h1 h0
  · rw [h6]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h5]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h4]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h3]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h2]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h1]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h0]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · omega

set_option maxHeartbeats 400000 in
theorem shiftedA14 : Shifted (kernelRun0_A.sl.HS2_14 c a2 h2 a3 h3 a4 h4 a5 h5 a13 x0 x1 x2 x3) (padA c a2 h2 a3 h3 a4 h4 a5 h5 x0 x1 x2 x3) 256 := by
  unfold kernelRun0_A.sl.HS2_14 kernelRun0_A.sl.HS2_13 kernelRun0_A.sl.HS2_12 kernelRun0_A.sl.HS2_11 kernelRun0_A.sl.HS2_10
  sl_unfold_run_values
  intro s r d hr
  simp only [cov_tall, canon_slab _ _ _ _ s r d hr, padA]
  have hs := s.isLt
  generalize ap _ = f
  split_ifs with h6 h5 h4 h3 h2 h1 h0
  · rw [h6]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h5]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h4]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h3]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h2]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h1]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h0]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · omega

set_option maxHeartbeats 400000 in
theorem shiftedA21 : Shifted (kernelRun0_A.sl.HS2_21 c a2 h2 a3 h3 a4 h4 a5 h5 a13 x0 x1 x2 x3) (padA c a2 h2 a3 h3 a4 h4 a5 h5 x0 x1 x2 x3) 512 := by
  unfold kernelRun0_A.sl.HS2_21 kernelRun0_A.sl.HS2_20 kernelRun0_A.sl.HS2_19 kernelRun0_A.sl.HS2_18 kernelRun0_A.sl.HS2_17 kernelRun0_A.sl.HS2_16 kernelRun0_A.sl.HS2_15
  sl_unfold_run_values
  intro s r d hr
  simp only [cov_tall, canon_slab _ _ _ _ s r d hr, padA]
  have hs := s.isLt
  generalize ap _ = f
  split_ifs with h6 h5 h4 h3 h2 h1 h0
  · rw [h6]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h5]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h4]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h3]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h2]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h1]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h0]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · omega

set_option maxHeartbeats 400000 in
theorem shiftedA28 : Shifted (kernelRun0_A.sl.HS2_28 c a2 h2 a3 h3 a4 h4 a5 h5 a13 x0 x1 x2 x3) (padA c a2 h2 a3 h3 a4 h4 a5 h5 x0 x1 x2 x3) 768 := by
  unfold kernelRun0_A.sl.HS2_28 kernelRun0_A.sl.HS2_27 kernelRun0_A.sl.HS2_26 kernelRun0_A.sl.HS2_25 kernelRun0_A.sl.HS2_24
  sl_unfold_run_values
  intro s r d hr
  simp only [cov_tall, canon_slab _ _ _ _ s r d hr, padA]
  have hs := s.isLt
  generalize ap _ = f
  split_ifs with h6 h5 h4 h3 h2 h1 h0
  · rw [h6]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h5]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h4]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h3]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h2]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h1]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h0]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · omega

end Cert.ConvIdeal.Block

end
-- ==== Proof.Conv.RowsA.lean ====
module

public import proofs.«01_k».proof.Proof.Conv.ShiftA
public import Idealize.ShloMosaic.Lib.Pointwise
public import Idealize.ShloMosaic.Lib.Tactic.RunNames
public meta import Idealize.ShloMosaic.Lib.Tactic.RunNames

@[expose] public section

set_option maxRecDepth 16384

noncomputable section

/-! The convolution branch: the convolved rows in the first tile of a batch, thirty-two blocks stored one by one. -/

namespace Cert.ConvIdeal.Block

open Cert.ConvIdeal Cert.ConvIdeal.Gen Idealize.ShloMosaic Cert.Conv.Math

variable (c : Dev nD) (a2 : Memref sig .tc .vmem S1x512x1024 .bf16) (h2 : a2.IsWhole) (a3 : Memref sig .tc .vmem S1x30x1024 .f32) (h3 : a3.IsWhole)
  (a4 : Memref sig .tc .vmem S1024x1024 .bf16) (h4 : a4.IsWhole) (a5 : Memref sig .tc .vmem S1024x1024 .bf16) (h5 : a5.IsWhole)
  (a6 : Memref sig .tc .vmem S31x1024 .f32) (h6 : a6.IsWhole) (a13 : Memref sig .tc .vmem S1x544x1024 .f32) (h13 : a13.IsWhole)
  (a15 : Memref sig .tc .vmem S7x544x256 .f32) (x0 : Vec Ideal S1x512x1024 .bf16) (x1 : Vec Ideal S1x30x1024 .f32)
  (x2 x3 : Vec Ideal S1024x1024 .bf16) (x4 : Vec Ideal S31x1024 .f32) (xs : Vec Ideal S1x544x1024 .f32)

set_option maxHeartbeats 8000000 in
/-- The stored blocks make the convolved rows. -/
theorem convolvedA (y : S512x1024.Idx) :
    View.canon (kernelRun0_A.sl.HS1_32 c a2 h2 a3 h3 a4 h4 a5 h5 a6 h6 a13 a15 x0 x1 x2 x3 x4) y = convolved (wt x4) (padA c a2 h2 a3 h3 a4 h4 a5 h5 x0 x1 x2 x3) y := by
  refine View.canon_apply_of_pieces (Val := Elt Ideal) (convolved (wt x4) (padA c a2 h2 a3 h3 a4 h4 a5 h5 x0 x1 x2 x3)) _ ?_ y
    (View.cover_of_tiledL _ ![64, 256] (by sl_kernel_rfl) y)
  have s1 := shiftedA7 c a2 h2 a3 h3 a4 h4 a5 h5 a13 x0 x1 x2 x3
  have s2 := shiftedA14 c a2 h2 a3 h3 a4 h4 a5 h5 a13 x0 x1 x2 x3
  have s3 := shiftedA21 c a2 h2 a3 h3 a4 h4 a5 h5 a13 x0 x1 x2 x3
  have s4 := shiftedA28 c a2 h2 a3 h3 a4 h4 a5 h5 a13 x0 x1 x2 x3
  unfold kernelRun0_A.sl.HS1_32
  sl_unfold_run_values
  simp (disch := decide) only [at_wrow, cov_rows, cov_shift s1, cov_shift s2, cov_shift s3, cov_shift s4]
  rw [← padA]
  clear s1 s2 s3 s4
  generalize padA c a2 h2 a3 h3 a4 h4 a5 h5 x0 x1 x2 x3 = f
  generalize wt x4 = w
  simp only [
    k0_pay12, k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62, k0_pay63,
    k0_pay64, k0_pay65, k0_pay66, k0_pay67, k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112, k0_pay113, k0_pay114,
    k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay137, k0_pay141, k0_pay142, k0_pay143, k0_pay144, k0_pay145,
    k0_pay146, k0_pay147, k0_pay148, k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179, k0_pay180, k0_pay181,
    k0_pay182, k0_pay183, k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203, k0_pay204, k0_pay205,
    k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240, k0_pay241,
    k0_pay242, k0_pay243, k0_pay244, k0_pay245, k0_pay246, k0_pay247, k0_pay248, k0_pay249, k0_pay250, k0_pay251, k0_pay252, k0_pay253,
    k0_pay254, k0_pay255, k0_pay256, k0_pay257, k0_pay258, k0_pay259, k0_pay260, k0_pay261, k0_pay262, k0_pay263, k0_pay264, k0_pay272,
    k0_pay273, k0_pay274, k0_pay275, k0_pay276, k0_pay277, k0_pay278, k0_pay279, k0_pay280, k0_pay281, k0_pay282, k0_pay283, k0_pay284,
    k0_pay285, k0_pay286, k0_pay287, k0_pay288, k0_pay289, k0_pay290, k0_pay291, k0_pay292, k0_pay293, k0_pay294, k0_pay295, k0_pay296,
    k0_pay297, k0_pay298, k0_pay299, k0_pay300, k0_pay301, k0_pay302, k0_pay303, k0_pay304, k0_pay305, k0_pay306, k0_pay307, k0_pay308,
    k0_pay309, k0_pay310, k0_pay311, k0_pay312, k0_pay313, k0_pay314, k0_pay315, k0_pay316, k0_pay317, k0_pay318, k0_pay319, k0_pay320,
    k0_pay321, k0_pay322, k0_pay323, k0_pay324, k0_pay325, k0_pay326, k0_pay327, k0_pay328, k0_pay329, k0_pay330, k0_pay331, k0_pay332,
    k0_pay333, k0_pay334, k0_pay335, k0_pay336, k0_pay337, k0_pay338, k0_pay339, k0_pay340, k0_pay341, k0_pay342, k0_pay343, k0_pay344,
    k0_pay345, k0_pay346, k0_pay347, k0_pay348, k0_pay349, k0_pay350, k0_pay351, k0_pay352, k0_pay353, k0_pay354, k0_pay355, k0_pay356,
    k0_pay357, k0_pay358, k0_pay359, k0_pay360, k0_pay361, k0_pay362, k0_pay363, k0_pay364, k0_pay365, k0_pay366, k0_pay367, k0_pay368,
    k0_pay369, k0_pay370, k0_pay371, k0_pay372, k0_pay373, k0_pay374, k0_pay375, k0_pay376, k0_pay377, k0_pay378, k0_pay379, k0_pay380,
    k0_pay381, k0_pay382, k0_pay383, k0_pay384, k0_pay385, k0_pay386, k0_pay387, k0_pay388, k0_pay389, k0_pay390, k0_pay391, k0_pay392,
    k0_pay397, k0_pay401, k0_pay402, k0_pay403, k0_pay404, k0_pay405, k0_pay406, k0_pay407, k0_pay408, k0_pay409, k0_pay410, k0_pay411,
    k0_pay412, k0_pay413, k0_pay414, k0_pay415, k0_pay416, k0_pay417, k0_pay418, k0_pay419, k0_pay420, k0_pay421, k0_pay422, k0_pay423,
    k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447,
    k0_pay448, k0_pay449, k0_pay450, k0_pay451, k0_pay452, k0_pay453, k0_pay454, k0_pay455, k0_pay456, k0_pay457, k0_pay458, k0_pay459,
    k0_pay460, k0_pay461, k0_pay462, k0_pay463, k0_pay464, k0_pay465, k0_pay466, k0_pay467, k0_pay468, k0_pay469, k0_pay470, k0_pay471,
    k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495,
    k0_pay496, k0_pay497, k0_pay498, k0_pay499, k0_pay500, k0_pay501, k0_pay502, k0_pay503, k0_pay504, k0_pay505, k0_pay506, k0_pay507,
    k0_pay508, k0_pay509, k0_pay510, k0_pay511, k0_pay512, k0_pay513, k0_pay514, k0_pay515, k0_pay516, k0_pay517, k0_pay518, k0_pay519,
    k0_pay520, k0_pay521, k0_pay522, k0_pay523, k0_pay524, k0_pay525, k0_pay526, k0_pay527]
  intro p hp x
  rcases List.mem_cons.1 hp with rfl | hp
  · refine piece w f 448 768 (inb := by decide) (fun i e => ?_) x
    pointwise [rows, wrow, taps]
  rcases List.mem_cons.1 hp with rfl | hp
  · refine piece w f 384 768 (inb := by decide) (fun i e => ?_) x
    pointwise [rows, wrow, taps]
  rcases List.mem_cons.1 hp with rfl | hp
  · refine piece w f 320 768 (inb := by decide) (fun i e => ?_) x
    pointwise [rows, wrow, taps]
  rcases List.mem_cons.1 hp with rfl | hp
  · refine piece w f 256 768 (inb := by decide) (fun i e => ?_) x
    pointwise [rows, wrow, taps]
  rcases List.mem_cons.1 hp with rfl | hp
  · refine piece w f 192 768 (inb := by decide) (fun i e => ?_) x
    pointwise [rows, wrow, taps]
  rcases List.mem_cons.1 hp with rfl | hp
  · refine piece w f 128 768 (inb := by decide) (fun i e => ?_) x
    pointwise [rows, wrow, taps]
  rcases List.mem_cons.1 hp with rfl | hp
  · refine piece w f 64 768 (inb := by decide) (fun i e => ?_) x
    pointwise [rows, wrow, taps]
  rcases List.mem_cons.1 hp with rfl | hp
  · refine piece w f 0 768 (inb := by decide) (fun i e => ?_) x
    pointwise [rows, wrow, taps]
  rcases List.mem_cons.1 hp with rfl | hp
  · refine piece w f 448 512 (inb := by decide) (fun i e => ?_) x
    pointwise [rows, wrow, taps]
  rcases List.mem_cons.1 hp with rfl | hp
  · refine piece w f 384 512 (inb := by decide) (fun i e => ?_) x
    pointwise [rows, wrow, taps]
  rcases List.mem_cons.1 hp with rfl | hp
  · refine piece w f 320 512 (inb := by decide) (fun i e => ?_) x
    pointwise [rows, wrow, taps]
  rcases List.mem_cons.1 hp with rfl | hp
  · refine piece w f 256 512 (inb := by decide) (fun i e => ?_) x
    pointwise [rows, wrow, taps]
  rcases List.mem_cons.1 hp with rfl | hp
  · refine piece w f 192 512 (inb := by decide) (fun i e => ?_) x
    pointwise [rows, wrow, taps]
  rcases List.mem_cons.1 hp with rfl | hp
  · refine piece w f 128 512 (inb := by decide) (fun i e => ?_) x
    pointwise [rows, wrow, taps]
  rcases List.mem_cons.1 hp with rfl | hp
  · refine piece w f 64 512 (inb := by decide) (fun i e => ?_) x
    pointwise [rows, wrow, taps]
  rcases List.mem_cons.1 hp with rfl | hp
  · refine piece w f 0 512 (inb := by decide) (fun i e => ?_) x
    pointwise [rows, wrow, taps]
  rcases List.mem_cons.1 hp with rfl | hp
  · refine piece w f 448 256 (inb := by decide) (fun i e => ?_) x
    pointwise [rows, wrow, taps]
  rcases List.mem_cons.1 hp with rfl | hp
  · refine piece w f 384 256 (inb := by decide) (fun i e => ?_) x
    pointwise [rows, wrow, taps]
  rcases List.mem_cons.1 hp with rfl | hp
  · refine piece w f 320 256 (inb := by decide) (fun i e => ?_) x
    pointwise [rows, wrow, taps]
  rcases List.mem_cons.1 hp with rfl | hp
  · refine piece w f 256 256 (inb := by decide) (fun i e => ?_) x
    pointwise [rows, wrow, taps]
  rcases List.mem_cons.1 hp with rfl | hp
  · refine piece w f 192 256 (inb := by decide) (fun i e => ?_) x
    pointwise [rows, wrow, taps]
  rcases List.mem_cons.1 hp with rfl | hp
  · refine piece w f 128 256 (inb := by decide) (fun i e => ?_) x
    pointwise [rows, wrow, taps]
  rcases List.mem_cons.1 hp with rfl | hp
  · refine piece w f 64 256 (inb := by decide) (fun i e => ?_) x
    pointwise [rows, wrow, taps]
  rcases List.mem_cons.1 hp with rfl | hp
  · refine piece w f 0 256 (inb := by decide) (fun i e => ?_) x
    pointwise [rows, wrow, taps]
  rcases List.mem_cons.1 hp with rfl | hp
  · refine piece w f 448 0 (inb := by decide) (fun i e => ?_) x
    pointwise [rows, wrow, taps]
  rcases List.mem_cons.1 hp with rfl | hp
  · refine piece w f 384 0 (inb := by decide) (fun i e => ?_) x
    pointwise [rows, wrow, taps]
  rcases List.mem_cons.1 hp with rfl | hp
  · refine piece w f 320 0 (inb := by decide) (fun i e => ?_) x
    pointwise [rows, wrow, taps]
  rcases List.mem_cons.1 hp with rfl | hp
  · refine piece w f 256 0 (inb := by decide) (fun i e => ?_) x
    pointwise [rows, wrow, taps]
  rcases List.mem_cons.1 hp with rfl | hp
  · refine piece w f 192 0 (inb := by decide) (fun i e => ?_) x
    pointwise [rows, wrow, taps]
  rcases List.mem_cons.1 hp with rfl | hp
  · refine piece w f 128 0 (inb := by decide) (fun i e => ?_) x
    pointwise [rows, wrow, taps]
  rcases List.mem_cons.1 hp with rfl | hp
  · refine piece w f 64 0 (inb := by decide) (fun i e => ?_) x
    pointwise [rows, wrow, taps]
  rcases List.mem_cons.1 hp with rfl | hp
  · refine piece w f 0 0 (inb := by decide) (fun i e => ?_) x
    pointwise [rows, wrow, taps]
  exact absurd hp List.not_mem_nil

end Cert.ConvIdeal.Block

end
-- ==== Proof.Conv.ShiftB.lean ====
module

public import proofs.«01_k».proof.Proof.Conv.Loads
public import Idealize.ShloMosaic.Lib.Pointwise
public import Idealize.ShloMosaic.Lib.Tactic.RunNames
public meta import Idealize.ShloMosaic.Lib.Tactic.RunNames

@[expose] public section

set_option maxRecDepth 16384

noncomputable section

/-! The convolution branch: the shifted copies in a later tile. -/

namespace Cert.ConvIdeal.Block

open Cert.ConvIdeal Cert.ConvIdeal.Gen Idealize.ShloMosaic Cert.Conv.Math

variable (c : Dev nD) (a2 : Memref sig .tc .vmem S1x512x1024 .bf16) (h2 : a2.IsWhole) (a3 : Memref sig .tc .vmem S1x30x1024 .f32) (h3 : a3.IsWhole)
  (a4 : Memref sig .tc .vmem S1024x1024 .bf16) (h4 : a4.IsWhole) (a5 : Memref sig .tc .vmem S1024x1024 .bf16) (h5 : a5.IsWhole)
  (a6 : Memref sig .tc .vmem S31x1024 .f32) (h6 : a6.IsWhole) (a13 : Memref sig .tc .vmem S1x544x1024 .f32) (h13 : a13.IsWhole)
  (a15 : Memref sig .tc .vmem S7x544x256 .f32) (x0 : Vec Ideal S1x512x1024 .bf16) (x1 : Vec Ideal S1x30x1024 .f32)
  (x2 x3 : Vec Ideal S1024x1024 .bf16) (x4 : Vec Ideal S31x1024 .f32) (xs : Vec Ideal S1x544x1024 .f32)

/-- The padded rows in a later tile: the rows kept from the tile before and the tile's gated rows. -/
def padB : Nat → Nat → EReal :=
  ap (a13.view.read (Elt Ideal) (a13.view.writes (Elt Ideal) (h13.unread xs) (kernelRun0_B.sl.HS0_1 c a2 h2 a4 h4 a5 h5 x0 x2 x3)))

set_option maxHeartbeats 400000 in
theorem shiftedB7 : Shifted (kernelRun0_B.sl.HS2_7 c a2 h2 a4 h4 a5 h5 a13 h13 x0 x2 x3 xs) (padB c a2 h2 a4 h4 a5 h5 a13 h13 x0 x2 x3 xs) 0 := by
  unfold kernelRun0_B.sl.HS2_7
  sl_unfold_run_values
  intro s r d hr
  simp only [at_tall, canon_slab _ _ _ _ s r d hr, padB]
  have hs := s.isLt
  generalize ap _ = f
  split_ifs with h6 h5 h4 h3 h2 h1 h0
  · rw [h6]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h5]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h4]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h3]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h2]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h1]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h0]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · omega

set_option maxHeartbeats 400000 in
theorem shiftedB14 : Shifted (kernelRun0_B.sl.HS2_14 c a2 h2 a4 h4 a5 h5 a13 h13 x0 x2 x3 xs) (padB c a2 h2 a4 h4 a5 h5 a13 h13 x0 x2 x3 xs) 256 := by
  unfold kernelRun0_B.sl.HS2_14 kernelRun0_B.sl.HS2_13 kernelRun0_B.sl.HS2_12 kernelRun0_B.sl.HS2_11 kernelRun0_B.sl.HS2_10
  sl_unfold_run_values
  intro s r d hr
  simp only [at_tall, canon_slab _ _ _ _ s r d hr, padB]
  have hs := s.isLt
  generalize ap _ = f
  split_ifs with h6 h5 h4 h3 h2 h1 h0
  · rw [h6]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h5]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h4]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h3]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h2]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h1]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h0]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · omega

set_option maxHeartbeats 400000 in
theorem shiftedB21 : Shifted (kernelRun0_B.sl.HS2_21 c a2 h2 a4 h4 a5 h5 a13 h13 x0 x2 x3 xs) (padB c a2 h2 a4 h4 a5 h5 a13 h13 x0 x2 x3 xs) 512 := by
  unfold kernelRun0_B.sl.HS2_21 kernelRun0_B.sl.HS2_20 kernelRun0_B.sl.HS2_19 kernelRun0_B.sl.HS2_18 kernelRun0_B.sl.HS2_17 kernelRun0_B.sl.HS2_16 kernelRun0_B.sl.HS2_15
  sl_unfold_run_values
  intro s r d hr
  simp only [at_tall, canon_slab _ _ _ _ s r d hr, padB]
  have hs := s.isLt
  generalize ap _ = f
  split_ifs with h6 h5 h4 h3 h2 h1 h0
  · rw [h6]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h5]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h4]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h3]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h2]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h1]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h0]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · omega

set_option maxHeartbeats 400000 in
theorem shiftedB28 : Shifted (kernelRun0_B.sl.HS2_28 c a2 h2 a4 h4 a5 h5 a13 h13 x0 x2 x3 xs) (padB c a2 h2 a4 h4 a5 h5 a13 h13 x0 x2 x3 xs) 768 := by
  unfold kernelRun0_B.sl.HS2_28 kernelRun0_B.sl.HS2_27 kernelRun0_B.sl.HS2_26 kernelRun0_B.sl.HS2_25 kernelRun0_B.sl.HS2_24
  sl_unfold_run_values
  intro s r d hr
  simp only [at_tall, canon_slab _ _ _ _ s r d hr, padB]
  have hs := s.isLt
  generalize ap _ = f
  split_ifs with h6 h5 h4 h3 h2 h1 h0
  · rw [h6]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h5]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h4]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h3]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h2]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h1]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · rw [h0]; pointwise [tall, k0_pay5, k0_pay6, k0_pay7, k0_pay8, k0_pay9, k0_pay10, k0_pay11, k0_pay133, k0_pay134, k0_pay135, k0_pay136, k0_pay138, k0_pay139, k0_pay140, k0_pay265, k0_pay266, k0_pay267, k0_pay268, k0_pay269, k0_pay270, k0_pay271, k0_pay393, k0_pay394, k0_pay395, k0_pay396, k0_pay398, k0_pay399, k0_pay400]
  · omega
/-- A load of rows that the tile's own store covers: the padded rows too. -/
theorem own_rows (v : View sig .tc .vmem S1x544x1024 .f32) (lo c0 : Nat)
    (inb : ∀ a, (![0, lo, c0] : Fin 3 → Nat) a + (![1, 64, 256] : Fin 3 → Nat) a ≤ S1x544x1024.size a) (hlo : 32 ≤ lo) :
    v.readCov (kernelRun0_B.sl.HS0_1 c a2 h2 a4 h4 a5 h5 x0 x2 x3)
        (Rect.unit (s := S1x544x1024) ![0, lo, c0] ![1, 64, 256] inb).toLoadRect
      = rows (padB c a2 h2 a4 h4 a5 h5 a13 h13 x0 x2 x3 xs) lo c0 := by
  rw [View.readCov_eq_canon', padB, ← idx_rows _ lo c0 inb]
  funext y
  refine (View.read_writes_apply_eq_canon _ _ _ _ ?_).symm
  unfold kernelRun0_B.sl.HS0_1
  refine ⟨_, List.mem_cons_self, ?_⟩
  have h1 : lo + 64 ≤ 544 := inb 1
  have h2 : c0 + 256 ≤ 1024 := inb 2
  have y0 : (y 0).val < 1 := (y 0).isLt
  have y1 : (y 1).val < 64 := (y 1).isLt
  have y2 : (y 2).val < 256 := (y 2).isLt
  show _ ∈ (Rect.unit (s := S1x544x1024) ![0, 32, 0] S1x512x1024.size inb_S1x544x1024_S1x512x1024_0_32_0).toLoadRect.set
  refine Rect.mem_set_unit.2 fun a => ?_
  match a with
  | ⟨0, _⟩ => show 0 ≤ 0 + 1 * (y 0).val ∧ 0 + 1 * (y 0).val < 0 + 1; omega
  | ⟨1, _⟩ => show 32 ≤ lo + 1 * (y 1).val ∧ lo + 1 * (y 1).val < 32 + 512; omega
  | ⟨2, _⟩ => show 0 ≤ c0 + 1 * (y 2).val ∧ c0 + 1 * (y 2).val < 0 + 1024; omega

end Cert.ConvIdeal.Block

end
-- ==== Proof.Conv.RowsB.lean ====
module

public import proofs.«01_k».proof.Proof.Conv.ShiftB
public import Idealize.ShloMosaic.Lib.Pointwise
public import Idealize.ShloMosaic.Lib.Tactic.RunNames
public meta import Idealize.ShloMosaic.Lib.Tactic.RunNames

@[expose] public section

set_option maxRecDepth 16384

noncomputable section

/-! The convolution branch: the convolved rows in a later tile, thirty-two blocks stored one by one. -/

namespace Cert.ConvIdeal.Block

open Cert.ConvIdeal Cert.ConvIdeal.Gen Idealize.ShloMosaic Cert.Conv.Math

variable (c : Dev nD) (a2 : Memref sig .tc .vmem S1x512x1024 .bf16) (h2 : a2.IsWhole) (a3 : Memref sig .tc .vmem S1x30x1024 .f32) (h3 : a3.IsWhole)
  (a4 : Memref sig .tc .vmem S1024x1024 .bf16) (h4 : a4.IsWhole) (a5 : Memref sig .tc .vmem S1024x1024 .bf16) (h5 : a5.IsWhole)
  (a6 : Memref sig .tc .vmem S31x1024 .f32) (h6 : a6.IsWhole) (a13 : Memref sig .tc .vmem S1x544x1024 .f32) (h13 : a13.IsWhole)
  (a15 : Memref sig .tc .vmem S7x544x256 .f32) (x0 : Vec Ideal S1x512x1024 .bf16) (x1 : Vec Ideal S1x30x1024 .f32)
  (x2 x3 : Vec Ideal S1024x1024 .bf16) (x4 : Vec Ideal S31x1024 .f32) (xs : Vec Ideal S1x544x1024 .f32)

set_option maxHeartbeats 8000000 in
/-- The stored blocks make the convolved rows. -/
theorem convolvedB (y : S512x1024.Idx) :
    View.canon (kernelRun0_B.sl.HS1_32 c a2 h2 a4 h4 a5 h5 a6 h6 a13 h13 a15 x0 x2 x3 x4 xs) y = convolved (wt x4) (padB c a2 h2 a4 h4 a5 h5 a13 h13 x0 x2 x3 xs) y := by
  refine View.canon_apply_of_pieces (Val := Elt Ideal) (convolved (wt x4) (padB c a2 h2 a4 h4 a5 h5 a13 h13 x0 x2 x3 xs)) _ ?_ y
    (View.cover_of_tiledL _ ![64, 256] (by sl_kernel_rfl) y)
  have s1 := shiftedB7 c a2 h2 a4 h4 a5 h5 a13 h13 x0 x2 x3 xs
  have s2 := shiftedB14 c a2 h2 a4 h4 a5 h5 a13 h13 x0 x2 x3 xs
  have s3 := shiftedB21 c a2 h2 a4 h4 a5 h5 a13 h13 x0 x2 x3 xs
  have s4 := shiftedB28 c a2 h2 a4 h4 a5 h5 a13 h13 x0 x2 x3 xs
  unfold kernelRun0_B.sl.HS1_32
  sl_unfold_run_values
  simp (disch := decide) only [at_wrow, at_rows, own_rows c a2 h2 a4 h4 a5 h5 a13 h13 x0 x2 x3 xs, cov_shift s1, cov_shift s2, cov_shift s3, cov_shift s4]
  rw [← padB]
  clear s1 s2 s3 s4
  generalize padB c a2 h2 a4 h4 a5 h5 a13 h13 x0 x2 x3 xs = f
  generalize wt x4 = w
  simp only [
    k0_pay12, k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62, k0_pay63,
    k0_pay64, k0_pay65, k0_pay66, k0_pay67, k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112, k0_pay113, k0_pay114,
    k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay137, k0_pay141, k0_pay142, k0_pay143, k0_pay144, k0_pay145,
    k0_pay146, k0_pay147, k0_pay148, k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179, k0_pay180, k0_pay181,
    k0_pay182, k0_pay183, k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203, k0_pay204, k0_pay205,
    k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240, k0_pay241,
    k0_pay242, k0_pay243, k0_pay244, k0_pay245, k0_pay246, k0_pay247, k0_pay248, k0_pay249, k0_pay250, k0_pay251, k0_pay252, k0_pay253,
    k0_pay254, k0_pay255, k0_pay256, k0_pay257, k0_pay258, k0_pay259, k0_pay260, k0_pay261, k0_pay262, k0_pay263, k0_pay264, k0_pay272,
    k0_pay273, k0_pay274, k0_pay275, k0_pay276, k0_pay277, k0_pay278, k0_pay279, k0_pay280, k0_pay281, k0_pay282, k0_pay283, k0_pay284,
    k0_pay285, k0_pay286, k0_pay287, k0_pay288, k0_pay289, k0_pay290, k0_pay291, k0_pay292, k0_pay293, k0_pay294, k0_pay295, k0_pay296,
    k0_pay297, k0_pay298, k0_pay299, k0_pay300, k0_pay301, k0_pay302, k0_pay303, k0_pay304, k0_pay305, k0_pay306, k0_pay307, k0_pay308,
    k0_pay309, k0_pay310, k0_pay311, k0_pay312, k0_pay313, k0_pay314, k0_pay315, k0_pay316, k0_pay317, k0_pay318, k0_pay319, k0_pay320,
    k0_pay321, k0_pay322, k0_pay323, k0_pay324, k0_pay325, k0_pay326, k0_pay327, k0_pay328, k0_pay329, k0_pay330, k0_pay331, k0_pay332,
    k0_pay333, k0_pay334, k0_pay335, k0_pay336, k0_pay337, k0_pay338, k0_pay339, k0_pay340, k0_pay341, k0_pay342, k0_pay343, k0_pay344,
    k0_pay345, k0_pay346, k0_pay347, k0_pay348, k0_pay349, k0_pay350, k0_pay351, k0_pay352, k0_pay353, k0_pay354, k0_pay355, k0_pay356,
    k0_pay357, k0_pay358, k0_pay359, k0_pay360, k0_pay361, k0_pay362, k0_pay363, k0_pay364, k0_pay365, k0_pay366, k0_pay367, k0_pay368,
    k0_pay369, k0_pay370, k0_pay371, k0_pay372, k0_pay373, k0_pay374, k0_pay375, k0_pay376, k0_pay377, k0_pay378, k0_pay379, k0_pay380,
    k0_pay381, k0_pay382, k0_pay383, k0_pay384, k0_pay385, k0_pay386, k0_pay387, k0_pay388, k0_pay389, k0_pay390, k0_pay391, k0_pay392,
    k0_pay397, k0_pay401, k0_pay402, k0_pay403, k0_pay404, k0_pay405, k0_pay406, k0_pay407, k0_pay408, k0_pay409, k0_pay410, k0_pay411,
    k0_pay412, k0_pay413, k0_pay414, k0_pay415, k0_pay416, k0_pay417, k0_pay418, k0_pay419, k0_pay420, k0_pay421, k0_pay422, k0_pay423,
    k0_pay424, k0_pay425, k0_pay426, k0_pay427, k0_pay428, k0_pay429, k0_pay430, k0_pay431, k0_pay432, k0_pay433, k0_pay434, k0_pay435,
    k0_pay436, k0_pay437, k0_pay438, k0_pay439, k0_pay440, k0_pay441, k0_pay442, k0_pay443, k0_pay444, k0_pay445, k0_pay446, k0_pay447,
    k0_pay448, k0_pay449, k0_pay450, k0_pay451, k0_pay452, k0_pay453, k0_pay454, k0_pay455, k0_pay456, k0_pay457, k0_pay458, k0_pay459,
    k0_pay460, k0_pay461, k0_pay462, k0_pay463, k0_pay464, k0_pay465, k0_pay466, k0_pay467, k0_pay468, k0_pay469, k0_pay470, k0_pay471,
    k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495,
    k0_pay496, k0_pay497, k0_pay498, k0_pay499, k0_pay500, k0_pay501, k0_pay502, k0_pay503, k0_pay504, k0_pay505, k0_pay506, k0_pay507,
    k0_pay508, k0_pay509, k0_pay510, k0_pay511, k0_pay512, k0_pay513, k0_pay514, k0_pay515, k0_pay516, k0_pay517, k0_pay518, k0_pay519,
    k0_pay520, k0_pay521, k0_pay522, k0_pay523, k0_pay524, k0_pay525, k0_pay526, k0_pay527]
  intro p hp x
  rcases List.mem_cons.1 hp with rfl | hp
  · refine piece w f 448 768 (inb := by decide) (fun i e => ?_) x
    pointwise [rows, wrow, taps]
  rcases List.mem_cons.1 hp with rfl | hp
  · refine piece w f 384 768 (inb := by decide) (fun i e => ?_) x
    pointwise [rows, wrow, taps]
  rcases List.mem_cons.1 hp with rfl | hp
  · refine piece w f 320 768 (inb := by decide) (fun i e => ?_) x
    pointwise [rows, wrow, taps]
  rcases List.mem_cons.1 hp with rfl | hp
  · refine piece w f 256 768 (inb := by decide) (fun i e => ?_) x
    pointwise [rows, wrow, taps]
  rcases List.mem_cons.1 hp with rfl | hp
  · refine piece w f 192 768 (inb := by decide) (fun i e => ?_) x
    pointwise [rows, wrow, taps]
  rcases List.mem_cons.1 hp with rfl | hp
  · refine piece w f 128 768 (inb := by decide) (fun i e => ?_) x
    pointwise [rows, wrow, taps]
  rcases List.mem_cons.1 hp with rfl | hp
  · refine piece w f 64 768 (inb := by decide) (fun i e => ?_) x
    pointwise [rows, wrow, taps]
  rcases List.mem_cons.1 hp with rfl | hp
  · refine piece w f 0 768 (inb := by decide) (fun i e => ?_) x
    pointwise [rows, wrow, taps]
  rcases List.mem_cons.1 hp with rfl | hp
  · refine piece w f 448 512 (inb := by decide) (fun i e => ?_) x
    pointwise [rows, wrow, taps]
  rcases List.mem_cons.1 hp with rfl | hp
  · refine piece w f 384 512 (inb := by decide) (fun i e => ?_) x
    pointwise [rows, wrow, taps]
  rcases List.mem_cons.1 hp with rfl | hp
  · refine piece w f 320 512 (inb := by decide) (fun i e => ?_) x
    pointwise [rows, wrow, taps]
  rcases List.mem_cons.1 hp with rfl | hp
  · refine piece w f 256 512 (inb := by decide) (fun i e => ?_) x
    pointwise [rows, wrow, taps]
  rcases List.mem_cons.1 hp with rfl | hp
  · refine piece w f 192 512 (inb := by decide) (fun i e => ?_) x
    pointwise [rows, wrow, taps]
  rcases List.mem_cons.1 hp with rfl | hp
  · refine piece w f 128 512 (inb := by decide) (fun i e => ?_) x
    pointwise [rows, wrow, taps]
  rcases List.mem_cons.1 hp with rfl | hp
  · refine piece w f 64 512 (inb := by decide) (fun i e => ?_) x
    pointwise [rows, wrow, taps]
  rcases List.mem_cons.1 hp with rfl | hp
  · refine piece w f 0 512 (inb := by decide) (fun i e => ?_) x
    pointwise [rows, wrow, taps]
  rcases List.mem_cons.1 hp with rfl | hp
  · refine piece w f 448 256 (inb := by decide) (fun i e => ?_) x
    pointwise [rows, wrow, taps]
  rcases List.mem_cons.1 hp with rfl | hp
  · refine piece w f 384 256 (inb := by decide) (fun i e => ?_) x
    pointwise [rows, wrow, taps]
  rcases List.mem_cons.1 hp with rfl | hp
  · refine piece w f 320 256 (inb := by decide) (fun i e => ?_) x
    pointwise [rows, wrow, taps]
  rcases List.mem_cons.1 hp with rfl | hp
  · refine piece w f 256 256 (inb := by decide) (fun i e => ?_) x
    pointwise [rows, wrow, taps]
  rcases List.mem_cons.1 hp with rfl | hp
  · refine piece w f 192 256 (inb := by decide) (fun i e => ?_) x
    pointwise [rows, wrow, taps]
  rcases List.mem_cons.1 hp with rfl | hp
  · refine piece w f 128 256 (inb := by decide) (fun i e => ?_) x
    pointwise [rows, wrow, taps]
  rcases List.mem_cons.1 hp with rfl | hp
  · refine piece w f 64 256 (inb := by decide) (fun i e => ?_) x
    pointwise [rows, wrow, taps]
  rcases List.mem_cons.1 hp with rfl | hp
  · refine piece w f 0 256 (inb := by decide) (fun i e => ?_) x
    pointwise [rows, wrow, taps]
  rcases List.mem_cons.1 hp with rfl | hp
  · refine piece w f 448 0 (inb := by decide) (fun i e => ?_) x
    pointwise [rows, wrow, taps]
  rcases List.mem_cons.1 hp with rfl | hp
  · refine piece w f 384 0 (inb := by decide) (fun i e => ?_) x
    pointwise [rows, wrow, taps]
  rcases List.mem_cons.1 hp with rfl | hp
  · refine piece w f 320 0 (inb := by decide) (fun i e => ?_) x
    pointwise [rows, wrow, taps]
  rcases List.mem_cons.1 hp with rfl | hp
  · refine piece w f 256 0 (inb := by decide) (fun i e => ?_) x
    pointwise [rows, wrow, taps]
  rcases List.mem_cons.1 hp with rfl | hp
  · refine piece w f 192 0 (inb := by decide) (fun i e => ?_) x
    pointwise [rows, wrow, taps]
  rcases List.mem_cons.1 hp with rfl | hp
  · refine piece w f 128 0 (inb := by decide) (fun i e => ?_) x
    pointwise [rows, wrow, taps]
  rcases List.mem_cons.1 hp with rfl | hp
  · refine piece w f 64 0 (inb := by decide) (fun i e => ?_) x
    pointwise [rows, wrow, taps]
  rcases List.mem_cons.1 hp with rfl | hp
  · refine piece w f 0 0 (inb := by decide) (fun i e => ?_) x
    pointwise [rows, wrow, taps]
  exact absurd hp List.not_mem_nil

end Cert.ConvIdeal.Block

end
-- ==== Proof.Conv.Block.lean ====
module

public import proofs.«01_k».proof.Proof.Conv.RowsA
public import proofs.«01_k».proof.Proof.Conv.RowsB
public import Idealize.ShloMosaic.Lib.Pointwise
public import Idealize.ShloMosaic.Lib.WritesUnit
public import Idealize.ShloMosaic.Lib.Tactic.RunNames
public meta import Idealize.ShloMosaic.Lib.Tactic.RunNames

@[expose] public section

set_option maxRecDepth 16384

noncomputable section

/-! The convolution branch, one element at a time: what a grid point leaves in its two results' blocks and in the rows
it keeps for the next point. -/

namespace Cert.ConvIdeal.Block

open Cert.ConvIdeal Cert.ConvIdeal.Gen Idealize.ShloMosaic Cert.Conv.Math

/-! ## Loads of whole blocks -/

theorem ldH (X : Vec Ideal S1x512x1024 .bf16) (inb) :
    View.ld X (Rect.unit (s := S1x512x1024) ![0, 0, 0] ![1, 512, 1024] inb) = X := View.ld_unit_zero hz3 inb X
theorem ldP (X : Vec Ideal S1x30x1024 .f32) (inb) :
    View.ld X (Rect.unit (s := S1x30x1024) ![0, 0, 0] ![1, 30, 1024] inb) = X := View.ld_unit_zero hz3 inb X
theorem ldW (X : Vec Ideal S1024x1024 .bf16) (inb) :
    View.ld X (Rect.unit (s := S1024x1024) ![0, 0] ![1024, 1024] inb) = X := View.ld_unit_zero hz2 inb X
theorem ldR (X : Vec Ideal S1x1024 .f32) (inb) :
    View.ld X (Rect.unit (s := S1x1024) ![0, 0] ![1, 1024] inb) = X := View.ld_unit_zero hz2 inb X
theorem ldS (X : Vec Ideal S512x1024 .f32) (inb) :
    (fun j => X ((Rect.unit (s := S512x1024) ![0, 0] ![512, 1024] inb).toLoadRect.idx j)) = X := View.ld_unit_zero hz2 inb X

/-! ## The elements of the payloads -/

/-- A tile's gated row, one element. -/
def gated (x0 : Vec Ideal S1x512x1024 .bf16) (x2 x3 : Vec Ideal S1024x1024 .bf16) (i : Fin 512) (d : Fin 1024) : EReal :=
  glu (fun j => x0 (ix3 0 i j)) (fun j => x2 (ix2 j d)) (fun j => x3 (ix2 j d))

set_option maxHeartbeats 1600000 in
theorem pay4_apply (x0 : Vec Ideal S1x512x1024 .bf16) (x2 x3 : Vec Ideal S1024x1024 .bf16) (i : Fin 512) (d : Fin 1024) :
    (k0_pay4 x0 x2 x3 (ix3 0 i d) : EReal) = gated x0 x2 x3 i d := by
  pointwise [k0_pay4, gated, glu, dot, squash]
  simp only [zero_sub]

set_option maxHeartbeats 1600000 in
theorem pay1_apply (v : Vec Ideal S512x1024 .f32) (x5 x6 x7 : Vec Ideal S1x1024 .f32) (x8 : Vec Ideal S1024x1024 .bf16)
    (r : Fin 512) (d : Fin 1024) :
    (k0_pay1 (k0_pay528 v x5 x6 x7) x8 (ix3 0 r d) : EReal)
      = branch (fun k => v (ix2 r k) + x5 (ix2 0 k)) (fun k => x6 (ix2 0 k)) (fun k => x7 (ix2 0 k)) (fun k => x8 (ix2 k d)) := by
  pointwise [k0_pay1, k0_pay528, branch, silu, squash, lnorm, mean]
  simp only [zero_sub]

/-! ## The tile's own rows in the padded rows -/

theorem emb_own (inb : ∀ a, (![0, 32, 0] : Fin 3 → Nat) a + (![1, 512, 1024] : Fin 3 → Nat) a ≤ S1x544x1024.size a) (i : Fin 512) (d : Fin 1024) :
    (ix3 (0 : Fin 1) (⟨32 + i.val, by omega⟩ : Fin 544) d : S1x544x1024.Idx)
      = (Rect.unit (s := S1x544x1024) ![0, 32, 0] ![1, 512, 1024] inb).emb (ix3 (0 : Fin 1) i d) := by
  funext a
  apply Fin.ext
  match a with
  | ⟨0, _⟩ => show 0 = 0 + 1 * 0; omega
  | ⟨1, _⟩ => show 32 + i.val = 32 + 1 * i.val; omega
  | ⟨2, _⟩ => show d.val = 0 + 1 * d.val; omega

theorem emb_kept (inb : ∀ a, (![0, 2, 0] : Fin 3 → Nat) a + (![1, 30, 1024] : Fin 3 → Nat) a ≤ S1x544x1024.size a) (i : Fin 30) (d : Fin 1024) :
    (ix3 (0 : Fin 1) (⟨2 + i.val, by omega⟩ : Fin 544) d : S1x544x1024.Idx)
      = (Rect.unit (s := S1x544x1024) ![0, 2, 0] ![1, 30, 1024] inb).emb (ix3 (0 : Fin 1) i d) := by
  funext a
  apply Fin.ext
  match a with
  | ⟨0, _⟩ => show 0 = 0 + 1 * 0; omega
  | ⟨1, _⟩ => show 2 + i.val = 2 + 1 * i.val; omega
  | ⟨2, _⟩ => show d.val = 0 + 1 * d.val; omega

/-- A row before the tile's own lies outside the tile's store. -/
theorem not_own (inb : ∀ a, (![0, 32, 0] : Fin 3 → Nat) a + (![1, 512, 1024] : Fin 3 → Nat) a ≤ S1x544x1024.size a) (r : Fin 544) (d : Fin 1024)
    (hr : r.val < 32) :
    (ix3 (0 : Fin 1) r d : S1x544x1024.Idx) ∉ (Rect.unit (s := S1x544x1024) ![0, 32, 0] ![1, 512, 1024] inb).toLoadRect.set := by
  intro hm
  have h1 : 32 ≤ r.val := ((Rect.mem_set_unit.1 hm) 1).1
  omega

theorem canon_before (L : List (View.Piece (Elt Ideal) S1x544x1024 .f32)) (P : Vec Ideal S1x512x1024 .f32) (inb) (r : Fin 544) (d : Fin 1024)
    (hr : r.val < 32) :
    View.canon ((⟨Rect.unit (s := S1x544x1024) ![0, 32, 0] ![1, 512, 1024] inb, P⟩ : View.Piece (Elt Ideal) S1x544x1024 .f32) :: L)
      (ix3 (0 : Fin 1) r d) = View.canon L (ix3 (0 : Fin 1) r d) :=
  View.canon_cons_of_not_mem _ _ (not_own inb r d hr)

theorem canon_own (L : List (View.Piece (Elt Ideal) S1x544x1024 .f32)) (P : Vec Ideal S1x512x1024 .f32) (inb) (i : Fin 512) (d : Fin 1024) :
    View.canon ((⟨Rect.unit (s := S1x544x1024) ![0, 32, 0] ![1, 512, 1024] inb, P⟩ : View.Piece (Elt Ideal) S1x544x1024 .f32) :: L)
      (ix3 (0 : Fin 1) (⟨32 + i.val, by omega⟩ : Fin 544) d) = P (ix3 0 i d) := by
  rw [emb_own inb]
  exact View.canon_cons_emb _ _ _ _

/-- The last thirty rows, read after the tile's store: its rows from 482 on. -/
theorem tail_own {κ : Kind} {sp : Space} (v : View sig κ sp S1x544x1024 .f32) (L : List (View.Piece (Elt Ideal) S1x544x1024 .f32))
    (P : Vec Ideal S1x512x1024 .f32) (inb inb') (i : Fin 30) (d : Fin 1024) :
    v.readCov ((⟨Rect.unit (s := S1x544x1024) ![0, 32, 0] ![1, 512, 1024] inb, P⟩ : View.Piece (Elt Ideal) S1x544x1024 .f32) :: L)
      (Rect.unit (s := S1x544x1024) ![0, 514, 0] ![1, 30, 1024] inb').toLoadRect (ix3 0 i d) = P (ix3 0 ⟨482 + i.val, by omega⟩ d) := by
  rw [View.readCov_eq_canon', ← canon_own L P inb]
  refine congrArg (View.canon _) (funext fun a => Fin.ext ?_)
  match a with
  | ⟨0, _⟩ => show 0 + 1 * 0 = 0; omega
  | ⟨1, _⟩ => show 514 + 1 * i.val = 32 + (482 + i.val); omega
  | ⟨2, _⟩ => show 0 + 1 * d.val = d.val; omega

theorem pay3 (x : Vec Ideal S1x30x1024 .f32) : k0_pay3 x = x := shapeCast_self _ _
theorem pay527 (x : Vec Ideal S1x30x1024 .f32) : k0_pay527 x = x := shapeCast_self _ _

variable (c : Dev nD) (t : Fin cfg0.N) (x0 : Vec Ideal S1x512x1024 .bf16) (x1 : Vec Ideal S1x30x1024 .f32)
  (x2 x3 : Vec Ideal S1024x1024 .bf16) (x4 : Vec Ideal S31x1024 .f32) (x5 x6 x7 : Vec Ideal S1x1024 .f32)
  (x8 : Vec Ideal S1024x1024 .bf16) (xs : Vec Ideal S1x544x1024 .f32)

/-- The padded rows without their first two: thirty rows `pre`, then the tile's gated rows. -/
def line (pre : Fin 30 → Fin 1024 → EReal) (own : Fin 512 → Fin 1024 → EReal) (p : Nat) (d : Fin 1024) : EReal :=
  if h : p < 30 then pre ⟨p, h⟩ d else if h : p - 30 < 512 then own ⟨p - 30, h⟩ d else 0

/-! ## Case A: in the first tile of a batch -/

theorem padA_own (a2 : Memref sig .tc .vmem S1x512x1024 .bf16) (h2 : a2.IsWhole) (a3 : Memref sig .tc .vmem S1x30x1024 .f32) (h3 : a3.IsWhole) (a4 : Memref sig .tc .vmem S1024x1024 .bf16) (h4 : a4.IsWhole)
    (a5 : Memref sig .tc .vmem S1024x1024 .bf16) (h5 : a5.IsWhole) (i : Fin 512) (d : Fin 1024) :
    padA c a2 h2 a3 h3 a4 h4 a5 h5 x0 x1 x2 x3 (32 + i.val) d.val = gated x0 x2 x3 i d := by
  unfold padA kernelRun0_A.sl.HS0_3
  sl_unfold_run_values
  simp only [View.readAt_eq_ld, Memref.IsWhole.read_unread, ldH, ldW, ldP]
  refine (ap_fin _ (⟨32 + i.val, by omega⟩ : Fin 544) d).trans ?_
  rw [emb_own (by decide) i d]
  exact (View.canon_cons_emb _ _ _ _).trans (pay4_apply x0 x2 x3 i d)

theorem padA_pre (a2 : Memref sig .tc .vmem S1x512x1024 .bf16) (h2 : a2.IsWhole) (a3 : Memref sig .tc .vmem S1x30x1024 .f32) (h3 : a3.IsWhole) (a4 : Memref sig .tc .vmem S1024x1024 .bf16) (h4 : a4.IsWhole)
    (a5 : Memref sig .tc .vmem S1024x1024 .bf16) (h5 : a5.IsWhole) (i : Fin 30) (d : Fin 1024) :
    padA c a2 h2 a3 h3 a4 h4 a5 h5 x0 x1 x2 x3 (2 + i.val) d.val = x1 (ix3 0 i d) := by
  unfold padA kernelRun0_A.sl.HS0_3
  sl_unfold_run_values
  simp only [View.readAt_eq_ld, Memref.IsWhole.read_unread, ldH, ldW, ldP, pay3]
  refine (ap_fin _ (⟨2 + i.val, by omega⟩ : Fin 544) d).trans ?_
  refine (canon_before _ _ _ (⟨2 + i.val, by omega⟩ : Fin 544) d (by show 2 + i.val < 32; omega)).trans ?_
  rw [emb_kept (by decide) i d]
  exact View.canon_cons_emb _ _ _ _

theorem padA_line (a2 : Memref sig .tc .vmem S1x512x1024 .bf16) (h2 : a2.IsWhole) (a3 : Memref sig .tc .vmem S1x30x1024 .f32) (h3 : a3.IsWhole) (a4 : Memref sig .tc .vmem S1024x1024 .bf16) (h4 : a4.IsWhole)
    (a5 : Memref sig .tc .vmem S1024x1024 .bf16) (h5 : a5.IsWhole) (p : Nat) (hp : p < 542) (d : Fin 1024) :
    padA c a2 h2 a3 h3 a4 h4 a5 h5 x0 x1 x2 x3 (2 + p) d.val = line (fun i d => x1 (ix3 0 i d)) (gated x0 x2 x3) p d := by
  unfold line
  by_cases h : p < 30
  · rw [dif_pos h]
    exact padA_pre c x0 x1 x2 x3 a2 h2 a3 h3 a4 h4 a5 h5 ⟨p, h⟩ d
  · rw [dif_neg h, dif_pos (show p - 30 < 512 by omega), ← padA_own c x0 x1 x2 x3 a2 h2 a3 h3 a4 h4 a5 h5]
    congr 1
    show 2 + p = 32 + (p - 30)
    omega

set_option maxHeartbeats 1600000 in
/-- The first result's block, one element. -/
theorem outA_apply (h : cond0_0 (grid0.coords t)) (r : Fin 512) (d : Fin 1024) :
    (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) scM0_2 (Memref.isWhole_whole _) h x0 x1 x2 x3 x4 x5 x6 x7 x8
        (ix3 0 r d) : EReal)
      = branch (fun k => taps (fun j => x4 (ix2 j k)) (fun j => line (fun i d => x1 (ix3 0 i d)) (gated x0 x2 x3) (r.val + j.val) k) + x5 (ix2 0 k))
        (fun k => x6 (ix2 0 k)) (fun k => x7 (ix2 0 k)) (fun k => x8 (ix2 k d)) := by
  unfold out0_A_9
  rw [View.read_writes_eq_canon _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) scM0_2 (Memref.isWhole_whole _) h x0 x1 x2 x3 x4 x5 x6 x7 x8)]
  unfold kernelRun0_A
  dsimp only
  sl_unfold_run_values
  rw [View.canon_unit_zero hz3]
  simp only [View.readAt_eq_ld, Memref.IsWhole.read_unread, ldW, ldR, View.readCov_eq_canon', ldS]
  rw [pay1_apply]
  simp only [convolvedA]
  have e : ∀ (k : Fin 1024) (j : Fin 31), r.val + 2 + j.val = 2 + (r.val + j.val) := fun _ j => by omega
  have hp : ∀ j : Fin 31, r.val + j.val < 542 := fun j => by omega
  show branch (fun k => taps (fun j => wt x4 j.val k.val) (fun j => padA c (ms0_0 t) (hs0_0 t) (ms0_1 t) (hs0_1 t) (ms0_2 t) (hs0_2 t) (ms0_3 t) (hs0_3 t) x0 x1 x2 x3 (r.val + 2 + j.val) k.val) + x5 (ix2 0 k)) _ _ _ = _
  simp only [wt_fin, e 0]
  exact congrArg (fun f => branch f (fun k => x6 (ix2 0 k)) (fun k => x7 (ix2 0 k)) (fun k => x8 (ix2 k d))) (funext fun k => congrArg (fun z => taps (fun j => x4 (ix2 j k)) z + x5 (ix2 0 k))
    (funext fun j => padA_line c x0 x1 x2 x3 _ _ _ _ _ _ _ _ (r.val + j.val) (hp j) k))

set_option maxHeartbeats 1600000 in
/-- The second result's block, one element: the tile's rows from 482 on. -/
theorem lastA_apply (h : cond0_0 (grid0.coords t)) (i : Fin 30) (d : Fin 1024) :
    (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) scM0_2 (Memref.isWhole_whole _) h x0 x1 x2 x3 x4 x5 x6 x7 x8
        (ix3 0 i d) : EReal) = gated x0 x2 x3 ⟨482 + i.val, by omega⟩ d := by
  unfold out0_A_10
  rw [View.read_writes_eq_canon _ _ _ (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) scM0_2 (Memref.isWhole_whole _) h x0 x1 x2 x3 x4 x5 x6 x7 x8)]
  unfold kernelRun0_A
  dsimp only
  sl_unfold_run_values
  rw [View.canon_unit_zero hz3]
  unfold kernelRun0_A.sl.HS0_3
  sl_unfold_run_values
  simp only [View.readAt_eq_ld, Memref.IsWhole.read_unread, ldH, ldW, ldP]
  exact (tail_own _ _ _ _ _ i d).trans (pay4_apply x0 x2 x3 _ d)

set_option maxHeartbeats 1600000 in
/-- The rows kept for the next point: the same. -/
theorem keptA_apply (h : cond0_0 (grid0.coords t)) (i : Fin 30) (d : Fin 1024) :
    (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) scM0_2 (Memref.isWhole_whole _) h x0 x1 x2 x3 x4 x5 x6 x7 x8
        (ix3 0 ⟨2 + i.val, by omega⟩ d) : EReal) = gated x0 x2 x3 ⟨482 + i.val, by omega⟩ d := by
  unfold sout0_A_0
  unfold kernelRun0_A
  dsimp only
  sl_unfold_run_values
  rw [emb_kept (by decide) i d]
  refine (View.read_writes_cons_emb _ _ _ _ _ _).trans ?_
  rw [pay527]
  unfold kernelRun0_A.sl.HS0_3
  sl_unfold_run_values
  simp only [View.readAt_eq_ld, Memref.IsWhole.read_unread, ldH, ldW, ldP]
  exact (tail_own _ _ _ _ _ i d).trans (pay4_apply x0 x2 x3 _ d)

/-! ## Case B: in a later tile -/

theorem padB_own (a2 : Memref sig .tc .vmem S1x512x1024 .bf16) (h2 : a2.IsWhole) (a4 : Memref sig .tc .vmem S1024x1024 .bf16) (h4 : a4.IsWhole)
    (a5 : Memref sig .tc .vmem S1024x1024 .bf16) (h5 : a5.IsWhole) (a13 : Memref sig .tc .vmem S1x544x1024 .f32) (h13 : a13.IsWhole) (i : Fin 512) (d : Fin 1024) :
    padB c a2 h2 a4 h4 a5 h5 a13 h13 x0 x2 x3 xs (32 + i.val) d.val = gated x0 x2 x3 i d := by
  unfold padB kernelRun0_B.sl.HS0_1
  sl_unfold_run_values
  simp only [View.readAt_eq_ld, Memref.IsWhole.read_unread, ldH, ldW, ldP]
  refine (ap_fin _ (⟨32 + i.val, by omega⟩ : Fin 544) d).trans ?_
  rw [emb_own (by decide) i d]
  exact (View.read_writes_cons_emb _ _ _ _ _ _).trans (pay4_apply x0 x2 x3 i d)

theorem padB_pre (a2 : Memref sig .tc .vmem S1x512x1024 .bf16) (h2 : a2.IsWhole) (a4 : Memref sig .tc .vmem S1024x1024 .bf16) (h4 : a4.IsWhole)
    (a5 : Memref sig .tc .vmem S1024x1024 .bf16) (h5 : a5.IsWhole) (a13 : Memref sig .tc .vmem S1x544x1024 .f32) (h13 : a13.IsWhole) (i : Fin 30) (d : Fin 1024) :
    padB c a2 h2 a4 h4 a5 h5 a13 h13 x0 x2 x3 xs (2 + i.val) d.val = xs (ix3 0 ⟨2 + i.val, by omega⟩ d) := by
  unfold padB kernelRun0_B.sl.HS0_1
  sl_unfold_run_values
  refine (ap_fin _ (⟨2 + i.val, by omega⟩ : Fin 544) d).trans ?_
  refine (View.read_writes_cons_unit_of_not_mem _ _ _ _ _ _ rfl 1 (Or.inl (by show 2 + i.val < 32; omega))).trans ?_
  exact congrFun (Memref.IsWhole.read_unread h13 xs) _

theorem padB_line (a2 : Memref sig .tc .vmem S1x512x1024 .bf16) (h2 : a2.IsWhole) (a4 : Memref sig .tc .vmem S1024x1024 .bf16) (h4 : a4.IsWhole)
    (a5 : Memref sig .tc .vmem S1024x1024 .bf16) (h5 : a5.IsWhole) (a13 : Memref sig .tc .vmem S1x544x1024 .f32) (h13 : a13.IsWhole) (p : Nat) (hp : p < 542) (d : Fin 1024) :
    padB c a2 h2 a4 h4 a5 h5 a13 h13 x0 x2 x3 xs (2 + p) d.val = line (fun i d => xs (ix3 0 ⟨2 + i.val, by omega⟩ d)) (gated x0 x2 x3) p d := by
  unfold line
  by_cases h : p < 30
  · rw [dif_pos h]
    exact padB_pre c x0 x2 x3 xs a2 h2 a4 h4 a5 h5 a13 h13 ⟨p, h⟩ d
  · rw [dif_neg h, dif_pos (show p - 30 < 512 by omega), ← padB_own c x0 x2 x3 xs a2 h2 a4 h4 a5 h5 a13 h13]
    congr 1
    show 2 + p = 32 + (p - 30)
    omega

set_option maxHeartbeats 1600000 in
/-- The first result's block, one element. -/
theorem outB_apply (h : ¬cond0_0 (grid0.coords t)) (r : Fin 512) (d : Fin 1024) :
    (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) scM0_2 (Memref.isWhole_whole _) h x0 x1 x2 x3 x4 x5 x6 x7 x8 xs
        (ix3 0 r d) : EReal)
      = branch (fun k => taps (fun j => x4 (ix2 j k)) (fun j => line (fun i d => xs (ix3 0 ⟨2 + i.val, by omega⟩ d)) (gated x0 x2 x3) (r.val + j.val) k) + x5 (ix2 0 k))
        (fun k => x6 (ix2 0 k)) (fun k => x7 (ix2 0 k)) (fun k => x8 (ix2 k d)) := by
  unfold out0_B_9
  rw [View.read_writes_eq_canon _ _ _ (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) scM0_2 (Memref.isWhole_whole _) h x0 x1 x2 x3 x4 x5 x6 x7 x8 xs)]
  unfold kernelRun0_B
  dsimp only
  sl_unfold_run_values
  rw [View.canon_unit_zero hz3]
  simp only [View.readAt_eq_ld, Memref.IsWhole.read_unread, ldW, ldR, View.readCov_eq_canon', ldS]
  rw [pay1_apply]
  simp only [convolvedB]
  have e : ∀ (k : Fin 1024) (j : Fin 31), r.val + 2 + j.val = 2 + (r.val + j.val) := fun _ j => by omega
  have hp : ∀ j : Fin 31, r.val + j.val < 542 := fun j => by omega
  show branch (fun k => taps (fun j => wt x4 j.val k.val) (fun j => padB c (ms0_0 t) (hs0_0 t) (ms0_2 t) (hs0_2 t) (ms0_3 t) (hs0_3 t) scM0_0 (Memref.isWhole_whole _) x0 x2 x3 xs (r.val + 2 + j.val) k.val) + x5 (ix2 0 k)) _ _ _ = _
  simp only [wt_fin, e 0]
  exact congrArg (fun f => branch f (fun k => x6 (ix2 0 k)) (fun k => x7 (ix2 0 k)) (fun k => x8 (ix2 k d))) (funext fun k => congrArg (fun z => taps (fun j => x4 (ix2 j k)) z + x5 (ix2 0 k))
    (funext fun j => padB_line c x0 x2 x3 xs _ _ _ _ _ _ _ _ (r.val + j.val) (hp j) k))

set_option maxHeartbeats 1600000 in
/-- The second result's block, one element: the tile's rows from 482 on. -/
theorem lastB_apply (h : ¬cond0_0 (grid0.coords t)) (i : Fin 30) (d : Fin 1024) :
    (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) scM0_2 (Memref.isWhole_whole _) h x0 x1 x2 x3 x4 x5 x6 x7 x8 xs
        (ix3 0 i d) : EReal) = gated x0 x2 x3 ⟨482 + i.val, by omega⟩ d := by
  unfold out0_B_10
  rw [View.read_writes_eq_canon _ _ _ (cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) scM0_2 (Memref.isWhole_whole _) h x0 x1 x2 x3 x4 x5 x6 x7 x8 xs)]
  unfold kernelRun0_B
  dsimp only
  sl_unfold_run_values
  rw [View.canon_unit_zero hz3]
  unfold kernelRun0_B.sl.HS0_1
  sl_unfold_run_values
  simp only [View.readAt_eq_ld, Memref.IsWhole.read_unread, ldH, ldW, ldP]
  exact (tail_own _ _ _ _ _ i d).trans (pay4_apply x0 x2 x3 _ d)

set_option maxHeartbeats 1600000 in
/-- The rows kept for the next point: the same. -/
theorem keptB_apply (h : ¬cond0_0 (grid0.coords t)) (i : Fin 30) (d : Fin 1024) :
    (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) scM0_1 (Memref.isWhole_whole _) scM0_2 (Memref.isWhole_whole _) h x0 x1 x2 x3 x4 x5 x6 x7 x8 xs
        (ix3 0 ⟨2 + i.val, by omega⟩ d) : EReal) = gated x0 x2 x3 ⟨482 + i.val, by omega⟩ d := by
  unfold sout0_B_0
  unfold kernelRun0_B
  dsimp only
  sl_unfold_run_values
  rw [emb_kept (by decide) i d]
  refine (View.read_writes_cons_emb _ _ _ _ _ _).trans ?_
  rw [pay527]
  unfold kernelRun0_B.sl.HS0_1
  sl_unfold_run_values
  simp only [View.readAt_eq_ld, Memref.IsWhole.read_unread, ldH, ldW, ldP]
  exact (tail_own _ _ _ _ _ i d).trans (pay4_apply x0 x2 x3 _ d)

end Cert.ConvIdeal.Block

end
-- ==== Proof.Conv.Ref.lean ====
module

public import proofs.«01_k».proof.Proof.Conv.Math
public import proofs.«01_k».proof.Proof.Gen.ConvRefIdeal.Read

@[expose] public section

set_option maxRecDepth 16384

noncomputable section

/-! The causal convolution branch, one element at a time: what the reference holds. -/

namespace Cert.ConvRefIdeal.Elem

open Cert.ConvRefIdeal Cert.ConvRefIdeal.Gen Cert.ConvRefIdeal.Read Idealize.ShloMosaic Cert.Conv.Math

set_option maxHeartbeats 1600000 in
/-- The gated rows. -/
theorem a_apply (x0 : FVec Ideal S4x8192x1024 .bf16) (x2 : FVec Ideal S1024x9288 .f32) (b : Fin 4) (t : Fin 8192) (d : Fin 1024) :
    (val_main_v11 (F := Ideal) x0 x2 (ix3 b t d) : EReal)
      = glu (fun j => x0 (ix3 b t j)) (fun j => x2 (ix2 j ⟨d.val, by omega⟩)) (fun j => x2 (ix2 j ⟨1024 + d.val, by omega⟩)) := by
  pointwise [val_main_v0, val_main_v1, val_main_v2, val_main_v3, val_main_v4, val_main_v5, val_main_v6, val_main_cst,
    val_main_v7, val_main_v8, val_main_cst_0, val_main_v9, val_main_v10, val_main_v11, glu, dot, squash]

/-- Row `p` of the rows with their history in front: the history's first, then the gated rows. -/
def padded (x0 : FVec Ideal S4x8192x1024 .bf16) (x1 : FVec Ideal S4x30x1024 .f32) (x2 : FVec Ideal S1024x9288 .f32) (b : Fin 4) (p : Nat) (d : Fin 1024) : EReal :=
  if h : p < 30 then x1 (ix3 b ⟨p, h⟩ d)
  else if h : p - 30 < 8192 then val_main_v11 (F := Ideal) x0 x2 (ix3 b ⟨p - 30, h⟩ d) else 0

set_option maxHeartbeats 1600000 in
theorem pad_apply (x0 : FVec Ideal S4x8192x1024 .bf16) (x1 : FVec Ideal S4x30x1024 .f32) (x2 : FVec Ideal S1024x9288 .f32) (b : Fin 4) (p : Fin 8222) (d : Fin 1024) :
    (val_main_v12 (F := Ideal) x0 x1 x2 (ix3 b p d) : EReal) = padded x0 x1 x2 b p.val d := by
  unfold val_main_v12 padded
  generalize val_main_v11 (F := Ideal) x0 x2 = a
  pointwise []
  split
  · rfl
  · rw [dif_pos]

set_option maxHeartbeats 1600000 in
/-- The kept rows: the last thirty. -/
theorem last_apply (x0 : FVec Ideal S4x8192x1024 .bf16) (x1 : FVec Ideal S4x30x1024 .f32) (x2 : FVec Ideal S1024x9288 .f32) (b : Fin 4) (i : Fin 30) (d : Fin 1024) :
    (val_main_v13 (F := Ideal) x0 x1 x2 (ix3 b i d) : EReal) = padded x0 x1 x2 b (8192 + i.val) d := by
  unfold val_main_v13
  have h := fun p => pad_apply x0 x1 x2 b p d
  generalize val_main_v12 (F := Ideal) x0 x1 x2 = v at h ⊢
  pointwise []
  exact h _

set_option maxHeartbeats 6400000 in
/-- The convolved rows. -/
theorem y_apply (x0 : FVec Ideal S4x8192x1024 .bf16) (x1 : FVec Ideal S4x30x1024 .f32) (x2 : FVec Ideal S1024x9288 .f32) (x3 : FVec Ideal S31x1024 .f32) (b : Fin 4) (t : Fin 8192) (d : Fin 1024) :
    (val_main_v229 (F := Ideal) x0 x1 x2 x3 (ix3 b t d) : EReal)
      = taps (fun j => x3 (ix2 j d)) (fun j => padded x0 x1 x2 b (j.val + t.val) d) := by
  have h := fun p => pad_apply x0 x1 x2 b p d
  simp only [val_main_v14, val_main_v15, val_main_v16, val_main_v17, val_main_v18, val_main_v19, val_main_v20, val_main_v21,
    val_main_v22, val_main_v23, val_main_v24, val_main_v25, val_main_v26, val_main_v27, val_main_v28, val_main_v29,
    val_main_v30, val_main_v31, val_main_v32, val_main_v33, val_main_v34, val_main_v35, val_main_v36, val_main_v37,
    val_main_v38, val_main_v39, val_main_v40, val_main_v41, val_main_v42, val_main_v43, val_main_v44, val_main_v45,
    val_main_v46, val_main_v47, val_main_v48, val_main_v49, val_main_v50, val_main_v51, val_main_v52, val_main_v53,
    val_main_v54, val_main_v55, val_main_v56, val_main_v57, val_main_v58, val_main_v59, val_main_v60, val_main_v61,
    val_main_v62, val_main_v63, val_main_v64, val_main_v65, val_main_v66, val_main_v67, val_main_v68, val_main_v69,
    val_main_v70, val_main_v71, val_main_v72, val_main_v73, val_main_v74, val_main_v75, val_main_v76, val_main_v77,
    val_main_v78, val_main_v79, val_main_v80, val_main_v81, val_main_v82, val_main_v83, val_main_v84, val_main_v85,
    val_main_v86, val_main_v87, val_main_v88, val_main_v89, val_main_v90, val_main_v91, val_main_v92, val_main_v93,
    val_main_v94, val_main_v95, val_main_v96, val_main_v97, val_main_v98, val_main_v99, val_main_v100,
    val_main_v101, val_main_v102, val_main_v103, val_main_v104, val_main_v105, val_main_v106, val_main_v107,
    val_main_v108, val_main_v109, val_main_v110, val_main_v111, val_main_v112, val_main_v113, val_main_v114,
    val_main_v115, val_main_v116, val_main_v117, val_main_v118, val_main_v119, val_main_v120, val_main_v121,
    val_main_v122, val_main_v123, val_main_v124, val_main_v125, val_main_v126, val_main_v127, val_main_v128,
    val_main_v129, val_main_v130, val_main_v131, val_main_v132, val_main_v133, val_main_v134, val_main_v135,
    val_main_v136, val_main_v137, val_main_v138, val_main_v139, val_main_v140, val_main_v141, val_main_v142,
    val_main_v143, val_main_v144, val_main_v145, val_main_v146, val_main_v147, val_main_v148, val_main_v149,
    val_main_v150, val_main_v151, val_main_v152, val_main_v153, val_main_v154, val_main_v155, val_main_v156,
    val_main_v157, val_main_v158, val_main_v159, val_main_v160, val_main_v161, val_main_v162, val_main_v163,
    val_main_v164, val_main_v165, val_main_v166, val_main_v167, val_main_v168, val_main_v169, val_main_v170,
    val_main_v171, val_main_v172, val_main_v173, val_main_v174, val_main_v175, val_main_v176, val_main_v177,
    val_main_v178, val_main_v179, val_main_v180, val_main_v181, val_main_v182, val_main_v183, val_main_v184,
    val_main_v185, val_main_v186, val_main_v187, val_main_v188, val_main_v189, val_main_v190, val_main_v191,
    val_main_v192, val_main_v193, val_main_v194, val_main_v195, val_main_v196, val_main_v197, val_main_v198,
    val_main_v199, val_main_v200, val_main_v201, val_main_v202, val_main_v203, val_main_v204, val_main_v205,
    val_main_v206, val_main_v207, val_main_v208, val_main_v209, val_main_v210, val_main_v211, val_main_v212,
    val_main_v213, val_main_v214, val_main_v215, val_main_v216, val_main_v217, val_main_v218, val_main_v219,
    val_main_v220, val_main_v221, val_main_v222, val_main_v223, val_main_v224, val_main_v225, val_main_v226,
    val_main_v227, val_main_v228, val_main_v229]
  generalize val_main_v12 (F := Ideal) x0 x1 x2 = v at h ⊢
  pointwise [taps]
  simp only [h]

set_option maxHeartbeats 1600000 in
/-- The reference's first result at one element. -/
theorem ref_apply (x0 : FVec Ideal S4x8192x1024 .bf16) (x1 : FVec Ideal S4x30x1024 .f32) (x2 : FVec Ideal S1024x9288 .f32) (x3 : FVec Ideal S31x1024 .f32) (x4 x5 x6 : FVec Ideal S1024 .f32) (x7 : FVec Ideal S1024x1024 .f32)
    (b : Fin 4) (t : Fin 8192) (d : Fin 1024) :
    (val_main_v259 (F := Ideal) x0 x1 x2 x3 x4 x5 x6 x7 (ix3 b t d) : EReal)
      = branch (fun k => taps (fun j => x3 (ix2 j k)) (fun j => padded x0 x1 x2 b (j.val + t.val) k) + x4 (ix1 k))
        (fun k => x5 (ix1 k)) (fun k => x6 (ix1 k)) (fun k => x7 (ix2 k d)) := by
  simp only [← y_apply]
  simp only [val_main_v230, val_main_v231, val_main_v232, val_main_cst_1, val_main_v233, val_main_v234, val_main_cst_2,
    val_main_v235, val_main_v236, val_main_v237, val_main_v238, val_main_v239, val_main_cst_3, val_main_v240,
    val_main_v241, val_main_cst_4, val_main_v242, val_main_v243, val_main_v244, val_main_v245, val_main_cst_5,
    val_main_v246, val_main_v247, val_main_v248, val_main_v249, val_main_v250, val_main_v251, val_main_v252,
    val_main_v253, val_main_v254, val_main_v255, val_main_v256, val_main_call0_v0, val_main_call0_v1,
    val_main_call0_cst, val_main_call0_v2, val_main_call0_v3, val_main_call0_cst_0, val_main_call0_v4,
    val_main_call0_v5, val_main_v257, val_main_v258, val_main_v259]
  generalize val_main_v229 (F := Ideal) x0 x1 x2 x3 = v
  pointwise [branch, silu, squash, lnorm, mean]

end Cert.ConvRefIdeal.Elem

end
-- ==== Proof.Conv.Array.lean ====
module

public import proofs.«01_k».proof.Proof.Conv.Block
public import proofs.«01_k».proof.Proof.Conv.Ref
public import Idealize.ShloMosaic.Lib.Pipeline.Value
public import Idealize.ShloMosaic.Lib.StableHlo.Run

@[expose] public section

set_option maxRecDepth 16384

noncomputable section

/-! The causal convolution branch: what the kernel's run leaves.

The grid is four batches by sixteen tiles of 512 tokens: point `t` is tile `t % 16` of batch `t / 16`.
A point reads the thirty gated rows before its tile from what the point before it kept; the first tile of
a batch reads them from the given history. -/

namespace Cert.ConvIdeal.Array

open Cert.ConvIdeal Cert.ConvIdeal.Gen Idealize.ShloMosaic Idealize.ShloMosaic.TcCoe Idealize.SL.Sem Cert.Conv.Math
open Idealize.ShloMosaic.Pipeline (Dat)
open Cert.ConvIdeal.Block (gated line)

variable (m : (ℓ : Loc nD τ sig) → Buf (Elt Ideal) ℓ) (ρ : Dev nD → PrngReg)

/-! ## Where a point's blocks lie -/

theorem batch_lt (t : Fin cfg0.N) : t.val / 16 < 4 := by
  have h : t.val < cfg0.N := t.isLt
  have hN : cfg0.N = 64 := N_0
  omega

theorem row_lt (t : Fin cfg0.N) (r : Fin 512) : t.val % 16 * 512 + r.val < 8192 := by
  have := r.isLt
  omega

/-- The batch of point `t`. -/
abbrev batch (t : Fin cfg0.N) : Fin 4 := ⟨t.val / 16, batch_lt t⟩
/-- The token at row `r` of point `t`'s tile. -/
abbrev token (t : Fin cfg0.N) (r : Fin 512) : Fin 8192 := ⟨t.val % 16 * 512 + r.val, row_lt t r⟩

theorem index0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem index1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = t.val / 16 ∧ win0_9.index t 1 = t.val % 16 ∧ win0_9.index t 2 = 0 :=
  (by decide +kernel : ∀ t : Fin grid0.N, win0_9.index t 0 = t.val / 16 ∧ win0_9.index t 1 = t.val % 16 ∧ win0_9.index t 2 = 0)
theorem index10 : ∀ t : Fin cfg0.N, win0_10.index t 0 = t.val / 16 ∧ win0_10.index t 1 = 0 ∧ win0_10.index t 2 = 0 :=
  (by decide +kernel : ∀ t : Fin grid0.N, win0_10.index t 0 = t.val / 16 ∧ win0_10.index t 1 = 0 ∧ win0_10.index t 2 = 0)

/-! ## The arrays the host prepares -/

theorem wa_apply (c : Dev nD) (j k : Fin 1024) :
    (V m c main_v3 (ix2 j k) : EReal) = m ((c : Thread nD τ).loc main_arg2) (ix2 j ⟨k.val, by omega⟩) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem wg_apply (c : Dev nD) (j k : Fin 1024) :
    (V m c main_v4 (ix2 j k) : EReal) = m ((c : Thread nD τ).loc main_arg2) (ix2 j ⟨1024 + k.val, by omega⟩) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem wp_apply (c : Dev nD) (j k : Fin 1024) :
    (V m c main_v8 (ix2 j k) : EReal) = m ((c : Thread nD τ).loc main_arg7) (ix2 j k) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem s_apply (c : Dev nD) (k : Fin 1024) :
    (V m c main_v9 (ix2 0 k) : EReal) = m ((c : Thread nD τ).loc main_arg4) (ix1 k) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem g_apply (c : Dev nD) (k : Fin 1024) :
    (V m c main_v10 (ix2 0 k) : EReal) = m ((c : Thread nD τ).loc main_arg5) (ix1 k) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem b_apply (c : Dev nD) (k : Fin 1024) :
    (V m c main_v11 (ix2 0 k) : EReal) = m ((c : Thread nD τ).loc main_arg6) (ix1 k) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

/-! ## The blocks a point reads -/

/-- The normalised rows' block. -/
theorem h_block (c : Dev nD) (t : Fin cfg0.N) (r : Fin 512) (d : Fin 1024) :
    (iblk m c 0 t (ix3 0 r d) : EReal) = m ((c : Thread nD τ).loc main_arg0) (ix3 (batch t) (token t r) d) := by
  have h : (iblk m c 0 t (ix3 0 r d) : EReal) = V m c main_arg0 (ix3 (batch t) (token t r) d) := by
    show V m c main_arg0 (((cfg0.win 0).blk t).view.emb (ix3 0 r d)) = _
    congr 1
    funext a
    apply Fin.ext
    match a with
    | ⟨0, _⟩ =>
      have e := (index0 t).1
      show win0_0.index t 0 * 1 + 1 * 0 = t.val / 16
      omega
    | ⟨1, _⟩ =>
      have e := (index0 t).2.1
      show win0_0.index t 1 * 512 + 1 * r.val = t.val % 16 * 512 + r.val
      omega
    | ⟨2, _⟩ =>
      have e := (index0 t).2.2
      show win0_0.index t 2 * 1024 + 1 * d.val = d.val
      omega
  exact h.trans (congrFun (V_main_arg0 m c) _)

/-- The history's block: the batch's thirty rows. -/
theorem hist_block (c : Dev nD) (t : Fin cfg0.N) (i : Fin 30) (d : Fin 1024) :
    (iblk m c 1 t (ix3 0 i d) : EReal) = m ((c : Thread nD τ).loc main_arg1) (ix3 (batch t) i d) := by
  have h : (iblk m c 1 t (ix3 0 i d) : EReal) = V m c main_arg1 (ix3 (batch t) i d) := by
    show V m c main_arg1 (((cfg0.win 1).blk t).view.emb (ix3 0 i d)) = _
    congr 1
    funext a
    apply Fin.ext
    match a with
    | ⟨0, _⟩ =>
      have e := (index1 t).1
      show win0_1.index t 0 * 1 + 1 * 0 = t.val / 16
      omega
    | ⟨1, _⟩ =>
      have e := (index1 t).2.1
      show win0_1.index t 1 * 30 + 1 * i.val = i.val
      omega
    | ⟨2, _⟩ =>
      have e := (index1 t).2.2
      show win0_1.index t 2 * 1024 + 1 * d.val = d.val
      omega
  exact h.trans (congrFun (V_main_arg1 m c) _)

/-- The gated half's weights, whole. -/
theorem wa_block (c : Dev nD) (t : Fin cfg0.N) (j k : Fin 1024) :
    (iblk m c 2 t (ix2 j k) : EReal) = m ((c : Thread nD τ).loc main_arg2) (ix2 j ⟨k.val, by omega⟩) := by
  have h : (iblk m c 2 t (ix2 j k) : EReal) = V m c main_v3 (ix2 j k) := by
    show V m c main_v3 (((cfg0.win 2).blk t).view.emb (ix2 j k)) = _
    congr 1
    funext a
    apply Fin.ext
    match a with
    | ⟨0, _⟩ =>
      have e := (index2 t).1
      show win0_2.index t 0 * 1024 + 1 * j.val = j.val
      omega
    | ⟨1, _⟩ =>
      have e := (index2 t).2
      show win0_2.index t 1 * 1024 + 1 * k.val = k.val
      omega
  exact h.trans (wa_apply m c j k)

/-- The gate's weights, whole. -/
theorem wg_block (c : Dev nD) (t : Fin cfg0.N) (j k : Fin 1024) :
    (iblk m c 3 t (ix2 j k) : EReal) = m ((c : Thread nD τ).loc main_arg2) (ix2 j ⟨1024 + k.val, by omega⟩) := by
  have h : (iblk m c 3 t (ix2 j k) : EReal) = V m c main_v4 (ix2 j k) := by
    show V m c main_v4 (((cfg0.win 3).blk t).view.emb (ix2 j k)) = _
    congr 1
    funext a
    apply Fin.ext
    match a with
    | ⟨0, _⟩ =>
      have e := (index3 t).1
      show win0_3.index t 0 * 1024 + 1 * j.val = j.val
      omega
    | ⟨1, _⟩ =>
      have e := (index3 t).2
      show win0_3.index t 1 * 1024 + 1 * k.val = k.val
      omega
  exact h.trans (wg_apply m c j k)

/-- The taps, whole. -/
theorem wd_block (c : Dev nD) (t : Fin cfg0.N) (j : Fin 31) (k : Fin 1024) :
    (iblk m c 4 t (ix2 j k) : EReal) = m ((c : Thread nD τ).loc main_arg3) (ix2 j k) := by
  have h : (iblk m c 4 t (ix2 j k) : EReal) = V m c main_arg3 (ix2 j k) := by
    show V m c main_arg3 (((cfg0.win 4).blk t).view.emb (ix2 j k)) = _
    congr 1
    funext a
    apply Fin.ext
    match a with
    | ⟨0, _⟩ =>
      have e := (index4 t).1
      show win0_4.index t 0 * 31 + 1 * j.val = j.val
      omega
    | ⟨1, _⟩ =>
      have e := (index4 t).2
      show win0_4.index t 1 * 1024 + 1 * k.val = k.val
      omega
  exact h.trans (congrFun (V_main_arg3 m c) _)

/-- The convolution's offset. -/
theorem s_block (c : Dev nD) (t : Fin cfg0.N) (k : Fin 1024) :
    (iblk m c 5 t (ix2 0 k) : EReal) = m ((c : Thread nD τ).loc main_arg4) (ix1 k) := by
  have h : (iblk m c 5 t (ix2 0 k) : EReal) = V m c main_v9 (ix2 0 k) := by
    show V m c main_v9 (((cfg0.win 5).blk t).view.emb (ix2 0 k)) = _
    congr 1
    funext a
    apply Fin.ext
    match a with
    | ⟨0, _⟩ =>
      have e := (index5 t).1
      show win0_5.index t 0 * 1 + 1 * 0 = 0
      omega
    | ⟨1, _⟩ =>
      have e := (index5 t).2
      show win0_5.index t 1 * 1024 + 1 * k.val = k.val
      omega
  exact h.trans (s_apply m c k)

/-- The normalisation's scale. -/
theorem g_block (c : Dev nD) (t : Fin cfg0.N) (k : Fin 1024) :
    (iblk m c 6 t (ix2 0 k) : EReal) = m ((c : Thread nD τ).loc main_arg5) (ix1 k) := by
  have h : (iblk m c 6 t (ix2 0 k) : EReal) = V m c main_v10 (ix2 0 k) := by
    show V m c main_v10 (((cfg0.win 6).blk t).view.emb (ix2 0 k)) = _
    congr 1
    funext a
    apply Fin.ext
    match a with
    | ⟨0, _⟩ =>
      have e := (index6 t).1
      show win0_6.index t 0 * 1 + 1 * 0 = 0
      omega
    | ⟨1, _⟩ =>
      have e := (index6 t).2
      show win0_6.index t 1 * 1024 + 1 * k.val = k.val
      omega
  exact h.trans (g_apply m c k)

/-- The normalisation's shift. -/
theorem b_block (c : Dev nD) (t : Fin cfg0.N) (k : Fin 1024) :
    (iblk m c 7 t (ix2 0 k) : EReal) = m ((c : Thread nD τ).loc main_arg6) (ix1 k) := by
  have h : (iblk m c 7 t (ix2 0 k) : EReal) = V m c main_v11 (ix2 0 k) := by
    show V m c main_v11 (((cfg0.win 7).blk t).view.emb (ix2 0 k)) = _
    congr 1
    funext a
    apply Fin.ext
    match a with
    | ⟨0, _⟩ =>
      have e := (index7 t).1
      show win0_7.index t 0 * 1 + 1 * 0 = 0
      omega
    | ⟨1, _⟩ =>
      have e := (index7 t).2
      show win0_7.index t 1 * 1024 + 1 * k.val = k.val
      omega
  exact h.trans (b_apply m c k)

/-- The branch's projection, whole. -/
theorem wp_block (c : Dev nD) (t : Fin cfg0.N) (j k : Fin 1024) :
    (iblk m c 8 t (ix2 j k) : EReal) = m ((c : Thread nD τ).loc main_arg7) (ix2 j k) := by
  have h : (iblk m c 8 t (ix2 j k) : EReal) = V m c main_v8 (ix2 j k) := by
    show V m c main_v8 (((cfg0.win 8).blk t).view.emb (ix2 j k)) = _
    congr 1
    funext a
    apply Fin.ext
    match a with
    | ⟨0, _⟩ =>
      have e := (index8 t).1
      show win0_8.index t 0 * 1024 + 1 * j.val = j.val
      omega
    | ⟨1, _⟩ =>
      have e := (index8 t).2
      show win0_8.index t 1 * 1024 + 1 * k.val = k.val
      omega
  exact h.trans (wp_apply m c j k)

/-! ## The gated rows, and the rows with their history in front -/

/-- The gated row of a token, one element. -/
def row (c : Dev nD) (b : Fin 4) (u : Fin 8192) (d : Fin 1024) : EReal :=
  glu (fun j => m ((c : Thread nD τ).loc main_arg0) (ix3 b u j)) (fun j => m ((c : Thread nD τ).loc main_arg2) (ix2 j ⟨d.val, by omega⟩))
    (fun j => m ((c : Thread nD τ).loc main_arg2) (ix2 j ⟨1024 + d.val, by omega⟩))

/-- Row `p` of a batch's gated rows with its history in front. -/
def past (c : Dev nD) (b : Fin 4) (p : Nat) (d : Fin 1024) : EReal :=
  if h : p < 30 then m ((c : Thread nD τ).loc main_arg1) (ix3 b ⟨p, h⟩ d) else if h : p - 30 < 8192 then row m c b ⟨p - 30, h⟩ d else 0

theorem past_row (c : Dev nD) (b : Fin 4) (p : Nat) (d : Fin 1024) (u : Fin 8192) (e : p = 30 + u.val) : past m c b p d = row m c b u d := by
  subst e
  have h : ¬30 + u.val < 30 := by omega
  have h2 : 30 + u.val - 30 < 8192 := by omega
  unfold past
  rw [dif_neg h, dif_pos h2]
  congr 1
  exact Fin.ext (by show 30 + u.val - 30 = u.val; omega)

/-- A tile's gated rows are its tokens'. -/
theorem own (c : Dev nD) (t : Fin cfg0.N) (i : Fin 512) (d : Fin 1024) :
    gated (iblk m c 0 t) (iblk m c 2 t) (iblk m c 3 t) i d = row m c (batch t) (token t i) d := by
  unfold gated row
  simp only [h_block, wa_block, wg_block]

/-- What a point keeps for the next: its tile's last thirty gated rows. -/
theorem kept (c : Dev nD) (t : Fin cfg0.N) (i : Fin 30) (d : Fin 1024) :
    ((outsAt0 m c t.val t.isLt).2.2 (ix3 0 ⟨2 + i.val, by omega⟩ d) : EReal) = row m c (batch t) (token t ⟨482 + i.val, by omega⟩) d := by
  by_cases h0 : t.val % 16 = 0
  · rw [outsAt0_A m c t h0]
    dsimp only
    exact (Block.keptA_apply c t _ _ _ _ _ _ _ _ _ _ i d).trans (own m c t _ d)
  · rw [outsAt0_B m c t h0]
    dsimp only
    exact (Block.keptB_apply c t _ _ _ _ _ _ _ _ _ _ _ i d).trans (own m c t _ d)

/-- The rows behind the history, in a tile's numbering. -/
theorem line_own (c : Dev nD) (t : Fin cfg0.N) (pre : Fin 30 → Fin 1024 → EReal) (p : Nat) (hp : p < 542) (h : ¬p < 30) (d : Fin 1024) :
    line pre (gated (iblk m c 0 t) (iblk m c 2 t) (iblk m c 3 t)) p d = past m c (batch t) (t.val % 16 * 512 + p) d := by
  unfold line
  rw [dif_neg h, dif_pos (show p - 30 < 512 by omega), own]
  exact (past_row m c _ _ d _ (by show t.val % 16 * 512 + p = 30 + (t.val % 16 * 512 + (p - 30)); omega)).symm

/-- In the first tile of a batch the rows before it are the history. -/
theorem line_first (c : Dev nD) (t : Fin cfg0.N) (h0 : t.val % 16 = 0) (p : Nat) (hp : p < 542) (d : Fin 1024) :
    line (fun i d => iblk m c 1 t (ix3 0 i d)) (gated (iblk m c 0 t) (iblk m c 2 t) (iblk m c 3 t)) p d
      = past m c (batch t) (t.val % 16 * 512 + p) d := by
  by_cases h : p < 30
  · have e : t.val % 16 * 512 + p = p := by omega
    unfold line past
    rw [e, dif_pos h, dif_pos h]
    exact hist_block m c t ⟨p, h⟩ d
  · exact line_own m c t _ p hp h d

/-- In a later tile they are the rows the point before kept. -/
theorem line_later (c : Dev nD) (t : Fin cfg0.N) (h0 : ¬t.val % 16 = 0) (hb : t.val - 1 < cfg0.N) (p : Nat) (hp : p < 542) (d : Fin 1024) :
    line (fun i d => (outsAt0 m c (t.val - 1) hb).2.2 (ix3 0 ⟨2 + i.val, by omega⟩ d)) (gated (iblk m c 0 t) (iblk m c 2 t) (iblk m c 3 t)) p d
      = past m c (batch t) (t.val % 16 * 512 + p) d := by
  by_cases h : p < 30
  · have k := kept m c ⟨t.val - 1, hb⟩ ⟨p, h⟩ d
    have eb : batch ⟨t.val - 1, hb⟩ = batch t := Fin.ext (by show (t.val - 1) / 16 = t.val / 16; omega)
    rw [eb] at k
    unfold line
    rw [dif_pos h]
    refine k.trans (past_row m c _ _ d _ ?_).symm
    show t.val % 16 * 512 + p = 30 + ((t.val - 1) % 16 * 512 + (482 + p))
    omega
  · exact line_own m c t _ p hp h d

/-! ## The result arrays -/

/-- What the first result array holds after the run. -/
def result1 (c : Dev nD) : Vec Ideal S4x8192x1024 .bf16 := fun i =>
  branch (fun k => taps (fun j => m ((c : Thread nD τ).loc main_arg3) (ix2 j k)) (fun j => past m c (i 0) (j.val + (i 1).val) k) + m ((c : Thread nD τ).loc main_arg4) (ix1 k))
    (fun k => m ((c : Thread nD τ).loc main_arg5) (ix1 k)) (fun k => m ((c : Thread nD τ).loc main_arg6) (ix1 k)) (fun k => m ((c : Thread nD τ).loc main_arg7) (ix2 k (i 2)))

/-- What the second result array holds after the run: the last thirty rows. -/
def result2 (c : Dev nD) : Vec Ideal S4x30x1024 .f32 := fun i => past m c (i 0) (8192 + (i 1).val) (i 2)

theorem shift (t : Fin cfg0.N) (r : Fin 512) (j : Fin 31) : t.val % 16 * 512 + (r.val + j.val) = j.val + (token t r).val := by
  show t.val % 16 * 512 + (r.val + j.val) = j.val + (t.val % 16 * 512 + r.val)
  omega

theorem point1 (c : Dev nD) (t : Fin cfg0.N) (r : Fin 512) (d : Fin 1024) :
    ((outsAt0 m c t.val t.isLt).1 (ix3 0 r d) : EReal)
      = branch (fun k => taps (fun j => m ((c : Thread nD τ).loc main_arg3) (ix2 j k)) (fun j => past m c (batch t) (j.val + (token t r).val) k) + m ((c : Thread nD τ).loc main_arg4) (ix1 k))
    (fun k => m ((c : Thread nD τ).loc main_arg5) (ix1 k)) (fun k => m ((c : Thread nD τ).loc main_arg6) (ix1 k)) (fun k => m ((c : Thread nD τ).loc main_arg7) (ix2 k d)) := by
  have hp : ∀ j : Fin 31, r.val + j.val < 542 := fun j => by omega
  by_cases h0 : t.val % 16 = 0
  · rw [outsAt0_A m c t h0]
    dsimp only
    refine (Block.outA_apply c t _ _ _ _ _ _ _ _ _ _ r d).trans ?_
    have e : ∀ (j : Fin 31) (k : Fin 1024), _ = _ := fun j k => line_first m c t h0 (r.val + j.val) (hp j) k
    simp only [e, shift, wd_block, s_block, g_block, b_block, wp_block]
  · rw [outsAt0_B m c t h0]
    dsimp only
    refine (Block.outB_apply c t _ _ _ _ _ _ _ _ _ _ _ r d).trans ?_
    have e : ∀ (j : Fin 31) (k : Fin 1024), _ = _ := fun j k => line_later m c t h0 (by omega) (r.val + j.val) (hp j) k
    simp only [e, shift, wd_block, s_block, g_block, b_block, wp_block]

theorem point2 (c : Dev nD) (t : Fin cfg0.N) (ht : t.val % 16 = 15) (i : Fin 30) (d : Fin 1024) :
    ((outsAt0 m c t.val t.isLt).2.1 (ix3 0 i d) : EReal) = past m c (batch t) (8192 + i.val) d := by
  have h0 : ¬t.val % 16 = 0 := by omega
  rw [outsAt0_B m c t h0]
  dsimp only
  refine ((Block.lastB_apply c t _ _ _ _ _ _ _ _ _ _ _ i d).trans (own m c t _ d)).trans (past_row m c _ _ d _ ?_).symm
  show 8192 + i.val = 30 + (t.val % 16 * 512 + (482 + i.val))
  omega

theorem emb1 (t : Fin cfg0.N) (r : Fin 512) (d : Fin 1024) :
    ((cfg0.win 9).blk t).view.emb (ix3 0 r d) = ix3 (batch t) (token t r) d := by
  funext a
  apply Fin.ext
  match a with
  | ⟨0, _⟩ =>
    have e := (index9 t).1
    show win0_9.index t 0 * 1 + 1 * 0 = t.val / 16
    omega
  | ⟨1, _⟩ =>
    have e := (index9 t).2.1
    show win0_9.index t 1 * 512 + 1 * r.val = t.val % 16 * 512 + r.val
    omega
  | ⟨2, _⟩ =>
    have e := (index9 t).2.2
    show win0_9.index t 2 * 1024 + 1 * d.val = d.val
    omega

theorem emb2 (t : Fin cfg0.N) (i : Fin 30) (d : Fin 1024) :
    ((cfg0.win 10).blk t).view.emb (ix3 0 i d) = ix3 (batch t) i d := by
  funext a
  apply Fin.ext
  match a with
  | ⟨0, _⟩ =>
    have e := (index10 t).1
    show win0_10.index t 0 * 1 + 1 * 0 = t.val / 16
    omega
  | ⟨1, _⟩ =>
    have e := (index10 t).2.1
    show win0_10.index t 1 * 30 + 1 * i.val = i.val
    omega
  | ⟨2, _⟩ =>
    have e := (index10 t).2.2
    show win0_10.index t 2 * 1024 + 1 * d.val = d.val
    omega

theorem mem1 (t : Fin cfg0.N) (r : Fin 512) (d : Fin 1024) :
    (ix3 (batch t) (token t r) d : S4x8192x1024.Idx) ∈ ((cfg0.win 9).blk t).view.set := by
  rw [← emb1]
  exact View.emb_mem_set _ _

theorem mem2 (t : Fin cfg0.N) (i : Fin 30) (d : Fin 1024) :
    (ix3 (batch t) i d : S4x30x1024.Idx) ∈ ((cfg0.win 10).blk t).view.set := by
  rw [← emb2]
  exact View.emb_mem_set _ _

/-- What a point writes back is its block of the first result. -/
theorem flushed1 (c : Dev nD) (t : Fin cfg0.N) :
    (dats m 0 c).flushed 9 t = ((cfg0.win 9).blk t).view.read (Elt Ideal) (result1 m c) := by
  rw [Value.flushed9]
  funext y
  obtain ⟨b, r, d, rfl⟩ : ∃ (b : Fin 1) (r : Fin 512) (d : Fin 1024), y = ix3 b r d :=
    ⟨y 0, y 1, y 2, funext fun a => match a with | ⟨0, _⟩ => rfl | ⟨1, _⟩ => rfl | ⟨2, _⟩ => rfl⟩
  obtain rfl : b = 0 := Subsingleton.elim _ _
  show (outsAt0 m c t.val t.isLt).1 (ix3 0 r d) = result1 m c (((cfg0.win 9).blk t).view.emb (ix3 0 r d))
  rw [emb1]
  exact point1 m c t r d

/-- What a batch's last point writes back is its block of the second result. -/
theorem flushed2 (c : Dev nD) (t : Fin cfg0.N) (ht : t.val % 16 = 15) :
    (dats m 0 c).flushed 10 t = ((cfg0.win 10).blk t).view.read (Elt Ideal) (result2 m c) := by
  rw [Value.flushed10]
  funext y
  obtain ⟨b, r, d, rfl⟩ : ∃ (b : Fin 1) (r : Fin 30) (d : Fin 1024), y = ix3 b r d :=
    ⟨y 0, y 1, y 2, funext fun a => match a with | ⟨0, _⟩ => rfl | ⟨1, _⟩ => rfl | ⟨2, _⟩ => rfl⟩
  obtain rfl : b = 0 := Subsingleton.elim _ _
  show (outsAt0 m c t.val t.isLt).2.1 (ix3 0 r d) = result2 m c (((cfg0.win 10).blk t).view.emb (ix3 0 r d))
  rw [emb2]
  exact point2 m c t ht r d

/-- Every element of the first result lies in some point's block. -/
theorem cover1 (i : S4x8192x1024.Idx) :
    ∃ t : Fin cfg0.N, (cfg0.win 9).flush t = true ∧ i ∈ ((cfg0.win 9).blk t).view.set := by
  obtain ⟨b, u, d, rfl⟩ : ∃ (b : Fin 4) (u : Fin 8192) (d : Fin 1024), i = ix3 b u d :=
    ⟨i 0, i 1, i 2, funext fun a => match a with | ⟨0, _⟩ => rfl | ⟨1, _⟩ => rfl | ⟨2, _⟩ => rfl⟩
  have hb := b.isLt
  have hu := u.isLt
  have hN : cfg0.N = 64 := N_0
  have ht : b.val * 16 + u.val / 512 < cfg0.N := by omega
  have e0 : batch ⟨b.val * 16 + u.val / 512, ht⟩ = b := Fin.ext (by show (b.val * 16 + u.val / 512) / 16 = b.val; omega)
  have e1 : token ⟨b.val * 16 + u.val / 512, ht⟩ ⟨u.val % 512, Nat.mod_lt _ (by decide)⟩ = u :=
    Fin.ext (by show (b.val * 16 + u.val / 512) % 16 * 512 + u.val % 512 = u.val; omega)
  have h := mem1 ⟨b.val * 16 + u.val / 512, ht⟩ ⟨u.val % 512, Nat.mod_lt _ (by decide)⟩ d
  rw [e0, e1] at h
  exact ⟨_, flush0_9 _, h⟩

/-- Every element of the second result lies in the block of its batch's last point. -/
theorem cover2 (i : S4x30x1024.Idx) :
    ∃ t : Fin cfg0.N, (cfg0.win 10).flush t = true ∧ i ∈ ((cfg0.win 10).blk t).view.set := by
  obtain ⟨b, u, d, rfl⟩ : ∃ (b : Fin 4) (u : Fin 30) (d : Fin 1024), i = ix3 b u d :=
    ⟨i 0, i 1, i 2, funext fun a => match a with | ⟨0, _⟩ => rfl | ⟨1, _⟩ => rfl | ⟨2, _⟩ => rfl⟩
  have hb := b.isLt
  have hN : cfg0.N = 64 := N_0
  have ht : b.val * 16 + 15 < cfg0.N := by omega
  have e0 : batch ⟨b.val * 16 + 15, ht⟩ = b := Fin.ext (by show (b.val * 16 + 15) / 16 = b.val; omega)
  have h := mem2 ⟨b.val * 16 + 15, ht⟩ u d
  rw [e0] at h
  exact ⟨_, (flush0_10 _).2 (by show (b.val * 16 + 15) % 16 = 15; omega), h⟩

/-- The first result array after the run. -/
theorem final1 (c : Dev nD) : (dats m 0 c).arrAt 9 cfg0.N = result1 m c :=
  (dats m 0 c).arrAt_eq_of_cover 9 (result1 m c) (fun t _ => flushed1 m c t) cover1

/-- The second result array after the run. -/
theorem final2 (c : Dev nD) : (dats m 0 c).arrAt 10 cfg0.N = result2 m c :=
  (dats m 0 c).arrAt_eq_of_cover 10 (result2 m c) (fun t h => flushed2 m c t ((flush0_10 t).1 h)) cover2

end Cert.ConvIdeal.Array

end
-- ==== Proof.Conv.Claims.lean ====
module

public import proofs.«01_k».proof.Defs
public import proofs.«01_k».proof.Proof.Conv.Array
public import proofs.«01_k».proof.Proof.Gen.Conv.Frame
public import proofs.«01_k».proof.Proof.Gen.ConvRefIdeal.Run
public import Idealize.ShloMosaic.Lib.Quiescent

@[expose] public section

set_option maxRecDepth 16384

noncomputable section

/-! The causal convolution branch: the claims. -/

open Idealize.ShloMosaic Idealize.ShloMosaic.TcCoe Idealize.SL.Sem

namespace Cert.Conv.Claims

theorem frame : Cert.quiescent_Conv := fun m ρ _ => Cert.Conv.Gen.frame m ρ
theorem frame_ideal : Cert.quiescent_ConvIdeal := fun m ρ _ => Cert.ConvIdeal.Gen.frame m ρ
theorem frame_ref : Cert.quiescent_ConvRefIdeal := fun m ρ _ =>
  (θ_run Cert.ConvRefIdeal.defs _ _).mono (fun r h => ⟨fun c => (h c).2.2,
      Idealize.ShloMosaic.sem_eq_zero_of_no_sems (by decide) r.2⟩)
    (Cert.ConvRefIdeal.Value.run (F := Ideal) m ρ)

theorem preserves : Cert.preserves_Conv_ConvIdeal := trivial

/-- The reference's rows with their history in front are the kernel's. -/
theorem padded_eq (m : (ℓ : Loc Cert.ConvIdeal.nD Cert.ConvIdeal.τ Cert.ConvIdeal.sig) → Buf (Elt Ideal) ℓ) (c : Dev Cert.ConvIdeal.nD)
    (b : Fin 4) (p : Nat) (d : Fin 1024) :
    Cert.ConvRefIdeal.Elem.padded (m ((c : Thread Cert.ConvIdeal.nD Cert.ConvIdeal.τ).loc Cert.ConvIdeal.main_arg0))
        (m ((c : Thread Cert.ConvIdeal.nD Cert.ConvIdeal.τ).loc Cert.ConvIdeal.main_arg1))
        (m ((c : Thread Cert.ConvIdeal.nD Cert.ConvIdeal.τ).loc Cert.ConvIdeal.main_arg2)) b p d
      = Cert.ConvIdeal.Array.past m c b p d := by
  unfold Cert.ConvRefIdeal.Elem.padded Cert.ConvIdeal.Array.past
  by_cases h : p < 30
  · rw [dif_pos h, dif_pos h]
  · rw [dif_neg h, dif_neg h]
    by_cases h2 : p - 30 < 8192
    · rw [dif_pos h2, dif_pos h2]
      exact Cert.ConvRefIdeal.Elem.a_apply _ _ b _ d
    · rw [dif_neg h2, dif_neg h2]

/-- Kernel and reference end at the same two arrays, `Cert.ConvIdeal.Array.result1` and `result2`. -/
theorem algebraic : Cert.algebraic_ConvIdeal_ConvRefIdeal := by
  intro m ρ m' ρ' _ hag
  refine ⟨fun c => Cert.ConvIdeal.Array.result1 m c, fun c => Cert.ConvIdeal.Array.result2 m c, ?_, ?_⟩
  · exact (θ_run Cert.ConvIdeal.defs _ _).mono
      (fun _ h c => ⟨(h c).1.trans (Cert.ConvIdeal.Array.final1 m c), (h c).2.1.trans (Cert.ConvIdeal.Array.final2 m c), (h c).2.2⟩)
      (Cert.ConvIdeal.Value.run_blocks (F := Ideal) m ρ)
  · refine (θ_run Cert.ConvRefIdeal.defs _ _).mono
      (fun _ h c => ⟨(h c).1.trans ?_, (h c).2.1.trans ?_, (h c).2.2⟩)
      (Cert.ConvRefIdeal.Value.run (F := Ideal) m' ρ')
    · obtain ⟨e0, e1, e2, e3, e4, e5, e6, e7⟩ := hag c
      refine (Cert.ConvRefIdeal.Read.val_main_v259_eq _).trans ?_
      show Cert.ConvRefIdeal.Read.val_main_v259 (F := Ideal) (m' ((c : Thread Cert.ConvRefIdeal.nD Cert.ConvRefIdeal.τ).loc Cert.ConvRefIdeal.main_arg0)) (m' ((c : Thread Cert.ConvRefIdeal.nD Cert.ConvRefIdeal.τ).loc Cert.ConvRefIdeal.main_arg1)) (m' ((c : Thread Cert.ConvRefIdeal.nD Cert.ConvRefIdeal.τ).loc Cert.ConvRefIdeal.main_arg2)) (m' ((c : Thread Cert.ConvRefIdeal.nD Cert.ConvRefIdeal.τ).loc Cert.ConvRefIdeal.main_arg3)) (m' ((c : Thread Cert.ConvRefIdeal.nD Cert.ConvRefIdeal.τ).loc Cert.ConvRefIdeal.main_arg4)) (m' ((c : Thread Cert.ConvRefIdeal.nD Cert.ConvRefIdeal.τ).loc Cert.ConvRefIdeal.main_arg5)) (m' ((c : Thread Cert.ConvRefIdeal.nD Cert.ConvRefIdeal.τ).loc Cert.ConvRefIdeal.main_arg6)) (m' ((c : Thread Cert.ConvRefIdeal.nD Cert.ConvRefIdeal.τ).loc Cert.ConvRefIdeal.main_arg7)) = _
      rw [e0, e1, e2, e3, e4, e5, e6, e7]
      funext i
      obtain ⟨b, t, d, rfl⟩ : ∃ (b : Fin 4) (t : Fin 8192) (d : Fin 1024), i = ix3 b t d :=
        ⟨i 0, i 1, i 2, funext fun a => match a with | ⟨0, _⟩ => rfl | ⟨1, _⟩ => rfl | ⟨2, _⟩ => rfl⟩
      refine (Cert.ConvRefIdeal.Elem.ref_apply _ _ _ _ _ _ _ _ b t d).trans ?_
      simp only [padded_eq]
      rfl
    · obtain ⟨e0, e1, e2, e3, e4, e5, e6, e7⟩ := hag c
      refine (Cert.ConvRefIdeal.Read.val_main_v13_eq _).trans ?_
      show Cert.ConvRefIdeal.Read.val_main_v13 (F := Ideal) (m' ((c : Thread Cert.ConvRefIdeal.nD Cert.ConvRefIdeal.τ).loc Cert.ConvRefIdeal.main_arg0)) (m' ((c : Thread Cert.ConvRefIdeal.nD Cert.ConvRefIdeal.τ).loc Cert.ConvRefIdeal.main_arg1)) (m' ((c : Thread Cert.ConvRefIdeal.nD Cert.ConvRefIdeal.τ).loc Cert.ConvRefIdeal.main_arg2)) = _
      rw [e0, e1, e2]
      funext i
      obtain ⟨b, t, d, rfl⟩ : ∃ (b : Fin 4) (t : Fin 30) (d : Fin 1024), i = ix3 b t d :=
        ⟨i 0, i 1, i 2, funext fun a => match a with | ⟨0, _⟩ => rfl | ⟨1, _⟩ => rfl | ⟨2, _⟩ => rfl⟩
      exact (Cert.ConvRefIdeal.Elem.last_apply _ _ _ b t d).trans (padded_eq m c b _ d)

end Cert.Conv.Claims

end
-- ==== Proof.Gmlp.Math.lean ====
module

public import Idealize.ShloMosaic.Lib.Pointwise

@[expose] public section

set_option maxRecDepth 16384

noncomputable section

/-! The gated branch: the functions of one row. -/

namespace Cert.Gmlp.Math

open Idealize.ShloMosaic

/-- The smooth gate `x/2 · (1 + tanh(0.79788 · (x + 0.044715 x³)))`. -/
def gelu (x : EReal) : EReal :=
  Ideal.ofBits FTy.f32 1056964608#32 * x *
    (1 + Ideal.tanh (Ideal.ofBits FTy.f32 1061962282#32 * (x + Ideal.ofBits FTy.f32 1027024659#32 * (x * x * x))))

/-- A product of two rows. -/
def dot (f g : Fin 1024 → EReal) : EReal := ∑ j : Fin 1024, f j * g j

/-- The mean of a row. -/
def mean (f : Fin 1024 → EReal) : EReal := Ideal.div (∑ k : Fin 1024, f k) (Ideal.ofBits FTy.f32 1149239296#32)

/-- A row centred, divided by its deviation, scaled and shifted. -/
def lnorm (f : Fin 1024 → EReal) (g b : EReal) (d : Fin 1024) : EReal :=
  (f d - mean f) * Ideal.rsqrt (mean (fun k => (f k - mean f) * (f k - mean f)) + Ideal.ofBits FTy.f32 897988541#32) * g + b

/-- The weights' lower triangle. -/
def low (w : EReal) (i j : Fin 128) : EReal := if j ≤ i then w else 0

/-- The branch at one column: the gated half times the mixed half, projected. -/
def branch (u : Fin 1024 → EReal) (s : Fin 1024 → EReal) (w : Fin 1024 → EReal) : EReal :=
  ∑ k : Fin 1024, u k * s k * w k

end Cert.Gmlp.Math

end
-- ==== Proof.Gmlp.Tiles.lean ====
module

public import proofs.«01_k».proof.Proof.Gen.GmlpIdeal.Value
public import Idealize.ShloMosaic.Lib.Pointwise

@[expose] public section

set_option maxRecDepth 16384

noncomputable section

/-! The mixed rows: thirty-two tiles stored one by one, read back as one array. -/

namespace Cert.GmlpIdeal.Block

open Cert.GmlpIdeal Cert.GmlpIdeal.Gen Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- The row of a block that a chunk's row is. -/
abbrev rowOf (c : Fin 4) (i : Fin 128) : Fin 512 := ⟨c.val * 128 + i.val, by omega⟩
/-- The column that a group's column is. -/
abbrev colOf (g : Fin 8) (e : Fin 128) : Fin 1024 := ⟨g.val * 128 + e.val, by omega⟩

/-- One tile of the mixed rows: chunk `c`'s rows of group `g`'s columns, mixed along the rows, plus the offset. -/
def tile (v : FVec Ideal S512x1024 .bf16) (w : Vec Ideal S8x128x128 .bf16) (s : Vec Ideal S128x1024 .f32)
    (c : Fin 4) (g : Fin 8) (i e : Fin 128) : EReal :=
  (∑ j : Fin 128, w (ix3 g i j) * v (ix2 (rowOf c j) (colOf g e))) + s (ix2 i (colOf g e))

/-- The mixed rows as one array. -/
def mixed (v : FVec Ideal S512x1024 .bf16) (w : Vec Ideal S8x128x128 .bf16) (s : Vec Ideal S128x1024 .f32) :
    Vec Ideal S512x1024 .f32 := fun y =>
  tile v w s ⟨(y 0).val / 128, by have h : (y 0).val < 512 := (y 0).isLt; omega⟩
    ⟨(y 1).val / 128, by have h : (y 1).val < 1024 := (y 1).isLt; omega⟩
    ⟨(y 0).val % 128, Nat.mod_lt _ (by decide)⟩ ⟨(y 1).val % 128, Nat.mod_lt _ (by decide)⟩

theorem mixed_tile (v : FVec Ideal S512x1024 .bf16) (w : Vec Ideal S8x128x128 .bf16) (s : Vec Ideal S128x1024 .f32)
    (c : Fin 4) (g : Fin 8) (i e : Fin 128) : mixed v w s (ix2 (rowOf c i) (colOf g e)) = tile v w s c g i e := by
  show tile v w s ⟨(c.val * 128 + i.val) / 128, _⟩ ⟨(g.val * 128 + e.val) / 128, _⟩ ⟨(c.val * 128 + i.val) % 128, _⟩
    ⟨(g.val * 128 + e.val) % 128, _⟩ = _
  congr 1 <;> apply Fin.ext <;> simp only [] <;> omega

/-- Where a tile of the mixed rows lies in the array. -/
theorem emb_tile (c : Fin 4) (g : Fin 8) (i e : Fin 128) {o : Fin 2 → Nat} (h0 : o 0 = c.val * 128) (h1 : o 1 = g.val * 128)
    (inb : ∀ a, o a + S128x128.size a ≤ S512x1024.size a) :
    (Rect.unit (s := S512x1024) o S128x128.size inb).emb (ix2 i e) = ix2 (rowOf c i) (colOf g e) := by
  funext a
  apply Fin.ext
  match a with
  | ⟨0, _⟩ => show o 0 + 1 * i.val = c.val * 128 + i.val; omega
  | ⟨1, _⟩ => show o 1 + 1 * e.val = g.val * 128 + e.val; omega

/-- A store of a tile holds the mixed rows where it lies. -/
theorem piece (v : FVec Ideal S512x1024 .bf16) (w : Vec Ideal S8x128x128 .bf16) (s : Vec Ideal S128x1024 .f32)
    (c : Fin 4) (g : Fin 8) {o : Fin 2 → Nat} (h0 : o 0 = c.val * 128) (h1 : o 1 = g.val * 128)
    {inb : ∀ a, o a + S128x128.size a ≤ S512x1024.size a} {p : Vec Ideal S128x128 .f32}
    (hp : ∀ i e : Fin 128, p (ix2 i e) = tile v w s c g i e) (x : S128x128.Idx) :
    p x = mixed v w s ((Rect.unit (s := S512x1024) o S128x128.size inb).emb x) := by
  obtain ⟨i, e, rfl⟩ : ∃ (i e : Fin 128), x = ix2 i e :=
    ⟨x 0, x 1, funext fun a => match a with | ⟨0, _⟩ => rfl | ⟨1, _⟩ => rfl⟩
  rw [emb_tile c g i e h0 h1, mixed_tile, hp]

/-- A load of a whole block is the block. -/
theorem ldH (X : Vec Ideal S1x512x1024 .bf16) (inb) :
    View.ld X (Rect.unit (s := S1x512x1024) ![0, 0, 0] ![1, 512, 1024] inb) = X := View.ld_unit_zero hz3 inb X
theorem ldW (X : Vec Ideal S1024x1024 .bf16) (inb) :
    View.ld X (Rect.unit (s := S1024x1024) ![0, 0] ![1024, 1024] inb) = X := View.ld_unit_zero hz2 inb X
theorem ldR (X : Vec Ideal S1x1024 .f32) (inb) :
    View.ld X (Rect.unit (s := S1x1024) ![0, 0] ![1, 1024] inb) = X := View.ld_unit_zero hz2 inb X
theorem ldS (X : Vec Ideal S512x1024 .f32) (inb) :
    (fun j => X ((Rect.unit (s := S512x1024) ![0, 0] ![512, 1024] inb).toLoadRect.idx j)) = X := View.ld_unit_zero hz2 inb X

theorem row0 (j : Fin 128) : rowOf 0 j = ⟨j.val, by omega⟩ := Fin.ext (by show 0 * 128 + j.val = j.val; omega)
theorem row1 (j : Fin 128) : rowOf 1 j = ⟨128 + j.val, by omega⟩ := Fin.ext (by show 1 * 128 + j.val = 128 + j.val; omega)
theorem row2 (j : Fin 128) : rowOf 2 j = ⟨256 + j.val, by omega⟩ := Fin.ext (by show 2 * 128 + j.val = 256 + j.val; omega)
theorem row3 (j : Fin 128) : rowOf 3 j = ⟨384 + j.val, by omega⟩ := Fin.ext (by show 3 * 128 + j.val = 384 + j.val; omega)
theorem col0 (e : Fin 128) : colOf 0 e = ⟨e.val, by omega⟩ := Fin.ext (by show 0 * 128 + e.val = e.val; omega)
theorem col1 (e : Fin 128) : colOf 1 e = ⟨128 + e.val, by omega⟩ := Fin.ext (by show 1 * 128 + e.val = 128 + e.val; omega)
theorem col2 (e : Fin 128) : colOf 2 e = ⟨256 + e.val, by omega⟩ := Fin.ext (by show 2 * 128 + e.val = 256 + e.val; omega)
theorem col3 (e : Fin 128) : colOf 3 e = ⟨384 + e.val, by omega⟩ := Fin.ext (by show 3 * 128 + e.val = 384 + e.val; omega)
theorem col4 (e : Fin 128) : colOf 4 e = ⟨512 + e.val, by omega⟩ := Fin.ext (by show 4 * 128 + e.val = 512 + e.val; omega)
theorem col5 (e : Fin 128) : colOf 5 e = ⟨640 + e.val, by omega⟩ := Fin.ext (by show 5 * 128 + e.val = 640 + e.val; omega)
theorem col6 (e : Fin 128) : colOf 6 e = ⟨768 + e.val, by omega⟩ := Fin.ext (by show 6 * 128 + e.val = 768 + e.val; omega)
theorem col7 (e : Fin 128) : colOf 7 e = ⟨896 + e.val, by omega⟩ := Fin.ext (by show 7 * 128 + e.val = 896 + e.val; omega)

theorem pay4 (x : Vec Ideal S1x1024 .f32) : k0_pay4 x = x := shapeCast_self _ _

set_option maxHeartbeats 4000000 in
/-- What a point leaves in the result's block: the product of the gated, mixed rows. -/
theorem out_eq (c : Dev nD) (t : Fin cfg0.N) (x0 : Vec Ideal S1x512x1024 .bf16) (x1 x2 : Vec Ideal S1024x1024 .bf16)
    (x3 x4 : Vec Ideal S1x1024 .f32) (x5 : Vec Ideal S8x128x128 .bf16) (x6 : Vec Ideal S128x1024 .f32) (x7 : Vec Ideal S1024x1024 .bf16) :
    out0_A_8 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) scM0_0 (Memref.isWhole_whole _)
        x0 x1 x2 x3 x4 x5 x6 x7
      = k0_pay48 (k0_pay2 x0 x1) (mixed (k0_pay5 (k0_pay3 x0 x2) x3 x4) x5 x6) x7 := by
  unfold out0_A_8
  rw [View.read_writes_eq_canon _ _ _ (cover0_A_8 c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    scM0_0 (Memref.isWhole_whole _) x0 x1 x2 x3 x4 x5 x6 x7)]
  unfold kernelRun0_A
  dsimp only
  sl_unfold_run_names
  rw [View.canon_unit_zero hz3]
  simp only [View.readAt_eq_ld, Memref.IsWhole.read_unread, ldH, ldW, ldR, View.readCov_eq_canon']
  simp only [ldS]
  congr 2
  refine funext fun y => View.canon_apply_of_pieces (Val := Elt Ideal) (mixed (k0_pay5 (k0_pay3 x0 x2) x3 x4) x5 x6) _ ?_ y
    (View.cover_of_tiledL _ ![128, 128] (by sl_kernel_rfl) y)
  rw [pay4]
  intro p hp x
  rcases List.mem_cons.1 hp with rfl | hp
  · refine piece _ _ _ 3 7 (o := ![384, 896]) rfl rfl (inb := by decide) (fun i e => ?_) x
    simp only [tile, row3, col7]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 3 6 (o := ![384, 768]) rfl rfl (inb := by decide) (fun i e => ?_) x
    simp only [tile, row3, col6]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 3 5 (o := ![384, 640]) rfl rfl (inb := by decide) (fun i e => ?_) x
    simp only [tile, row3, col5]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 3 4 (o := ![384, 512]) rfl rfl (inb := by decide) (fun i e => ?_) x
    simp only [tile, row3, col4]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 3 3 (o := ![384, 384]) rfl rfl (inb := by decide) (fun i e => ?_) x
    simp only [tile, row3, col3]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 3 2 (o := ![384, 256]) rfl rfl (inb := by decide) (fun i e => ?_) x
    simp only [tile, row3, col2]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 3 1 (o := ![384, 128]) rfl rfl (inb := by decide) (fun i e => ?_) x
    simp only [tile, row3, col1]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 3 0 (o := ![384, 0]) rfl rfl (inb := by decide) (fun i e => ?_) x
    simp only [tile, row3, col0]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 2 7 (o := ![256, 896]) rfl rfl (inb := by decide) (fun i e => ?_) x
    simp only [tile, row2, col7]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 2 6 (o := ![256, 768]) rfl rfl (inb := by decide) (fun i e => ?_) x
    simp only [tile, row2, col6]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 2 5 (o := ![256, 640]) rfl rfl (inb := by decide) (fun i e => ?_) x
    simp only [tile, row2, col5]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 2 4 (o := ![256, 512]) rfl rfl (inb := by decide) (fun i e => ?_) x
    simp only [tile, row2, col4]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 2 3 (o := ![256, 384]) rfl rfl (inb := by decide) (fun i e => ?_) x
    simp only [tile, row2, col3]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 2 2 (o := ![256, 256]) rfl rfl (inb := by decide) (fun i e => ?_) x
    simp only [tile, row2, col2]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 2 1 (o := ![256, 128]) rfl rfl (inb := by decide) (fun i e => ?_) x
    simp only [tile, row2, col1]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 2 0 (o := ![256, 0]) rfl rfl (inb := by decide) (fun i e => ?_) x
    simp only [tile, row2, col0]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 1 7 (o := ![128, 896]) rfl rfl (inb := by decide) (fun i e => ?_) x
    simp only [tile, row1, col7]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 1 6 (o := ![128, 768]) rfl rfl (inb := by decide) (fun i e => ?_) x
    simp only [tile, row1, col6]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 1 5 (o := ![128, 640]) rfl rfl (inb := by decide) (fun i e => ?_) x
    simp only [tile, row1, col5]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 1 4 (o := ![128, 512]) rfl rfl (inb := by decide) (fun i e => ?_) x
    simp only [tile, row1, col4]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 1 3 (o := ![128, 384]) rfl rfl (inb := by decide) (fun i e => ?_) x
    simp only [tile, row1, col3]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 1 2 (o := ![128, 256]) rfl rfl (inb := by decide) (fun i e => ?_) x
    simp only [tile, row1, col2]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 1 1 (o := ![128, 128]) rfl rfl (inb := by decide) (fun i e => ?_) x
    simp only [tile, row1, col1]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 1 0 (o := ![128, 0]) rfl rfl (inb := by decide) (fun i e => ?_) x
    simp only [tile, row1, col0]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 0 7 (o := ![0, 896]) rfl rfl (inb := by decide) (fun i e => ?_) x
    simp only [tile, row0, col7]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 0 6 (o := ![0, 768]) rfl rfl (inb := by decide) (fun i e => ?_) x
    simp only [tile, row0, col6]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 0 5 (o := ![0, 640]) rfl rfl (inb := by decide) (fun i e => ?_) x
    simp only [tile, row0, col5]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 0 4 (o := ![0, 512]) rfl rfl (inb := by decide) (fun i e => ?_) x
    simp only [tile, row0, col4]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 0 3 (o := ![0, 384]) rfl rfl (inb := by decide) (fun i e => ?_) x
    simp only [tile, row0, col3]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 0 2 (o := ![0, 256]) rfl rfl (inb := by decide) (fun i e => ?_) x
    simp only [tile, row0, col2]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 0 1 (o := ![0, 128]) rfl rfl (inb := by decide) (fun i e => ?_) x
    simp only [tile, row0, col1]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  rcases List.mem_cons.1 hp with rfl | hp
  · refine piece _ _ _ 0 0 (o := ![0, 0]) rfl rfl (inb := by decide) (fun i e => ?_) x
    simp only [tile, row0, col0]
    pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  exact absurd hp List.not_mem_nil

end Cert.GmlpIdeal.Block

end
-- ==== Proof.Gmlp.Block.lean ====
module

public import proofs.«01_k».proof.Proof.Gmlp.Math
public import proofs.«01_k».proof.Proof.Gmlp.Tiles

@[expose] public section

set_option maxRecDepth 16384

noncomputable section

/-! The gated branch, one element at a time: what a block of the kernel holds. -/

namespace Cert.GmlpIdeal.Block

open Cert.GmlpIdeal Cert.GmlpIdeal.Gen Idealize.ShloMosaic Cert.Gmlp.Math

set_option maxHeartbeats 1600000 in
/-- The second half of the gate, one element. -/
theorem pay5_apply (x0 : Vec Ideal S1x512x1024 .bf16) (x2 : Vec Ideal S1024x1024 .bf16) (x3 x4 : Vec Ideal S1x1024 .f32)
    (r : Fin 512) (d : Fin 1024) :
    (k0_pay5 (k0_pay3 x0 x2) x3 x4 (ix2 r d) : EReal)
      = lnorm (fun k => gelu (∑ j : Fin 1024, x0 (ix3 0 r j) * x2 (ix2 j k))) (x3 (ix2 0 d)) (x4 (ix2 0 d)) d := by
  pointwise [k0_pay5, k0_pay3, k0_pay1, lnorm, mean, gelu]

set_option maxHeartbeats 1600000 in
/-- The result's block, one element, from the mixed rows. -/
theorem pay48_apply (x0 : Vec Ideal S1x512x1024 .bf16) (x1 : Vec Ideal S1024x1024 .bf16) (s : Vec Ideal S512x1024 .f32)
    (x7 : Vec Ideal S1024x1024 .bf16) (r : Fin 512) (d : Fin 1024) :
    (k0_pay48 (k0_pay2 x0 x1) s x7 (ix3 0 r d) : EReal)
      = ∑ k : Fin 1024, gelu (∑ j : Fin 1024, x0 (ix3 0 r j) * x1 (ix2 j k)) * s (ix2 r k) * x7 (ix2 k d) := by
  pointwise [k0_pay48, k0_pay2, k0_pay1, gelu]

/-- What a point leaves in the result's block, one element. -/
theorem out_apply (c : Dev nD) (t : Fin cfg0.N) (x0 : Vec Ideal S1x512x1024 .bf16) (x1 x2 : Vec Ideal S1024x1024 .bf16)
    (x3 x4 : Vec Ideal S1x1024 .f32) (x5 : Vec Ideal S8x128x128 .bf16) (x6 : Vec Ideal S128x1024 .f32)
    (x7 : Vec Ideal S1024x1024 .bf16) (r : Fin 512) (d : Fin 1024) :
    (out0_A_8 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) scM0_0 (Memref.isWhole_whole _)
        x0 x1 x2 x3 x4 x5 x6 x7 (ix3 0 r d) : EReal)
      = branch (fun k => gelu (∑ j : Fin 1024, x0 (ix3 0 r j) * x1 (ix2 j k)))
        (fun k => (∑ j : Fin 128, x5 (ix3 ⟨k.val / 128, by omega⟩ ⟨r.val % 128, by omega⟩ j) *
          lnorm (fun k => gelu (∑ l : Fin 1024, x0 (ix3 0 ⟨r.val / 128 * 128 + j.val, by omega⟩ l) * x2 (ix2 l k)))
            (x3 (ix2 0 k)) (x4 (ix2 0 k)) k) + x6 (ix2 ⟨r.val % 128, by omega⟩ k))
        (fun k => x7 (ix2 k d)) := by
  rw [out_eq, pay48_apply, branch]
  refine Finset.sum_congr rfl fun k _ => ?_
  have e : mixed (k0_pay5 (k0_pay3 x0 x2) x3 x4) x5 x6 (ix2 r k)
      = tile (k0_pay5 (k0_pay3 x0 x2) x3 x4) x5 x6 ⟨r.val / 128, by omega⟩ ⟨k.val / 128, by omega⟩ ⟨r.val % 128, by omega⟩
        ⟨k.val % 128, by omega⟩ := rfl
  have ek : colOf ⟨k.val / 128, by omega⟩ ⟨k.val % 128, by omega⟩ = k :=
    Fin.ext (by show k.val / 128 * 128 + k.val % 128 = k.val; omega)
  rw [e, tile, ek]
  simp only [pay5_apply]

end Cert.GmlpIdeal.Block

end
-- ==== Proof.Gmlp.Ref.lean ====
module

public import proofs.«01_k».proof.Proof.Gmlp.Math
public import proofs.«01_k».proof.Proof.Gen.GmlpRefIdeal.Read

@[expose] public section

set_option maxRecDepth 16384

noncomputable section

/-! The gated branch, one element at a time: what the reference holds. -/

namespace Cert.GmlpRefIdeal.Elem

open Cert.GmlpRefIdeal Cert.GmlpRefIdeal.Gen Cert.GmlpRefIdeal.Read Idealize.ShloMosaic Cert.Gmlp.Math

set_option maxHeartbeats 1600000 in
/-- The smooth gate's rows. -/
theorem z_apply (x0 : FVec Ideal S4x8192x1024 .bf16) (x1 : FVec Ideal S1024x9288 .f32) (b : Fin 4) (t : Fin 8192) (k : Fin 2048) :
    (val_main_v15 (F := Ideal) x0 x1 (ix3 b t k) : EReal)
      = gelu (∑ j : Fin 1024, x0 (ix3 b t j) * x1 (ix2 j ⟨2048 + k.val, by omega⟩)) := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_c, val_main_c_8, val_main_call0_v0, val_main_call0_v1, val_main_call0_v2, val_main_call0_v3, val_main_call0_v4, val_main_call0_v5, val_main_call0_c, val_main_call0_c_0, val_main_call1_v0, val_main_call1_v1, val_main_call1_v2, gelu]
  rw [mul_left_comm]
  exact (mul_assoc _ _ _).symm

/-- The gate's two halves. -/
theorem u_apply (x0 : FVec Ideal S4x8192x1024 .bf16) (x1 : FVec Ideal S1024x9288 .f32) (b : Fin 4) (t : Fin 8192) (k : Fin 1024) :
    (val_main_v16 (F := Ideal) x0 x1 (ix3 b t k) : EReal)
      = gelu (∑ j : Fin 1024, x0 (ix3 b t j) * x1 (ix2 j ⟨2048 + k.val, by omega⟩)) := by
  unfold val_main_v16
  have h := z_apply x0 x1 b t ⟨k.val, by omega⟩
  generalize val_main_v15 (F := Ideal) x0 x1 = z at h ⊢
  pointwise []
  exact h

theorem v_apply (x0 : FVec Ideal S4x8192x1024 .bf16) (x1 : FVec Ideal S1024x9288 .f32) (b : Fin 4) (t : Fin 8192) (k : Fin 1024) :
    (val_main_v17 (F := Ideal) x0 x1 (ix3 b t k) : EReal)
      = gelu (∑ j : Fin 1024, x0 (ix3 b t j) * x1 (ix2 j ⟨3072 + k.val, by omega⟩)) := by
  unfold val_main_v17
  have h := z_apply x0 x1 b t ⟨1024 + k.val, by omega⟩
  have e : ∀ p, (⟨2048 + (1024 + k.val), p⟩ : Fin 9288) = ⟨3072 + k.val, by omega⟩ := fun p =>
    Fin.ext (by show 2048 + (1024 + k.val) = 3072 + k.val; omega)
  simp only [e] at h
  generalize val_main_v15 (F := Ideal) x0 x1 = z at h ⊢
  pointwise []
  exact h

set_option maxHeartbeats 1600000 in
/-- The second half, normalised. -/
theorem n_apply (x0 : FVec Ideal S4x8192x1024 .bf16) (x1 : FVec Ideal S1024x9288 .f32) (x2 x3 : FVec Ideal S1024 .f32)
    (b : Fin 4) (t : Fin 8192) (k : Fin 1024) :
    (val_main_v41 (F := Ideal) x0 x1 x2 x3 (ix3 b t k) : EReal)
      = lnorm (fun k => gelu (∑ j : Fin 1024, x0 (ix3 b t j) * x1 (ix2 j ⟨3072 + k.val, by omega⟩))) (x2 (ix1 k)) (x3 (ix1 k)) k := by
  simp only [← v_apply]
  simp only [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18]
  generalize val_main_v17 (F := Ideal) x0 x1 = v
  pointwise [val_main_cst_3, val_main_cst_4, val_main_cst_5, val_main_cst_6, val_main_cst_7, lnorm, mean]

/-- The comparison of a row's number with a column's, as a bit. -/
theorem mask_word (i j : Fin 128) :
    Scalar.select (IntOp.cmpi CmpIPredicate.sge (IntOp.addi (BitVec.ofNat 32 i.val) 0#32) (BitVec.ofNat 32 j.val)) 1#1 0#1
      = if j ≤ i then 1#1 else 0#1 := by
  revert i j
  decide +kernel

theorem zero_word : (FloatOps.sitofp (F := Ideal) FTy.f32 0#32 : EReal) = 0 := by
  simp [FloatOps.sitofp]

set_option maxHeartbeats 1600000 in
/-- The weights' lower triangle. -/
theorem w_apply (x4 : FVec Ideal S8x128x128 .f32) (g : Fin 8) (i j : Fin 128) :
    (val_main_v46 (F := Ideal) x4 (ix3 g i j) : EReal) = low (x4 (ix3 g i j)) i j := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_c, val_main_c_8, val_main_call0_v0, val_main_call0_v1, val_main_call0_v2, val_main_call0_v3, val_main_call0_v4, val_main_call0_v5, val_main_call0_c, val_main_call0_c_0, val_main_call1_v0, val_main_call1_v1, val_main_call1_v2, low]
  rw [mask_word, zero_word]
  split <;> rfl

set_option maxHeartbeats 1600000 in
/-- The mixed rows. -/
theorem s_apply (x0 : FVec Ideal S4x8192x1024 .bf16) (x1 : FVec Ideal S1024x9288 .f32) (x2 x3 : FVec Ideal S1024 .f32)
    (x4 : FVec Ideal S8x128x128 .f32) (x5 : FVec Ideal S8x128 .f32)
    (b : Fin 4) (t : Fin 8192) (k : Fin 1024) :
    (val_main_v53 (F := Ideal) x0 x1 x2 x3 x4 x5 (ix3 b t k) : EReal)
      = (∑ j : Fin 128, low (x4 (ix3 ⟨k.val / 128, by omega⟩ ⟨t.val % 128, by omega⟩ j)) ⟨t.val % 128, by omega⟩ j *
          lnorm (fun k => gelu (∑ l : Fin 1024, x0 (ix3 b ⟨t.val / 128 * 128 + j.val, by omega⟩ l) * x1 (ix2 l ⟨3072 + k.val, by omega⟩)))
            (x2 (ix1 k)) (x3 (ix1 k)) k) + x5 (ix2 ⟨k.val / 128, by omega⟩ ⟨t.val % 128, by omega⟩) := by
  simp only [← n_apply, ← w_apply]
  simp only [val_main_v53, val_main_v52, val_main_v51, val_main_v50, val_main_v49, val_main_v48, val_main_v47, val_main_v42]
  generalize val_main_v41 (F := Ideal) x0 x1 x2 x3 = v
  generalize val_main_v46 (F := Ideal) x4 = w
  pointwise []
  congr 1
  exact Finset.sum_congr rfl fun j _ => mul_comm _ _

set_option maxHeartbeats 1600000 in
/-- The reference's result at one element. -/
theorem ref_apply (x0 : FVec Ideal S4x8192x1024 .bf16) (x1 : FVec Ideal S1024x9288 .f32) (x2 x3 : FVec Ideal S1024 .f32)
    (x4 : FVec Ideal S8x128x128 .f32) (x5 : FVec Ideal S8x128 .f32) (x6 : FVec Ideal S1024x1024 .f32)
    (b : Fin 4) (t : Fin 8192) (d : Fin 1024) :
    (val_main_v56 (F := Ideal) x0 x1 x2 x3 x4 x5 x6 (ix3 b t d) : EReal)
      = branch (fun k => gelu (∑ j : Fin 1024, x0 (ix3 b t j) * x1 (ix2 j ⟨2048 + k.val, by omega⟩)))
        (fun k => (∑ j : Fin 128, low (x4 (ix3 ⟨k.val / 128, by omega⟩ ⟨t.val % 128, by omega⟩ j)) ⟨t.val % 128, by omega⟩ j *
          lnorm (fun k => gelu (∑ l : Fin 1024, x0 (ix3 b ⟨t.val / 128 * 128 + j.val, by omega⟩ l) * x1 (ix2 l ⟨3072 + k.val, by omega⟩)))
            (x2 (ix1 k)) (x3 (ix1 k)) k) + x5 (ix2 ⟨k.val / 128, by omega⟩ ⟨t.val % 128, by omega⟩))
        (fun k => x6 (ix2 k d)) := by
  simp only [← u_apply, ← s_apply, val_main_v56, val_main_v55, val_main_v54]
  generalize val_main_v16 (F := Ideal) x0 x1 = u
  generalize val_main_v53 (F := Ideal) x0 x1 x2 x3 x4 x5 = s
  pointwise [branch]

end Cert.GmlpRefIdeal.Elem

end
-- ==== Proof.Gmlp.Array.lean ====
module

public import proofs.«01_k».proof.Proof.Gmlp.Block
public import proofs.«01_k».proof.Proof.Gmlp.Ref
public import Idealize.ShloMosaic.Lib.Pipeline.Value
public import Idealize.ShloMosaic.Lib.StableHlo.Run

@[expose] public section

set_option maxRecDepth 16384

noncomputable section

/-! The gated branch: what the kernel's run leaves.

The grid is four batches by sixteen tiles of 512 tokens: point `t` is tile `t % 16` of batch `t / 16`. -/

namespace Cert.GmlpIdeal.Array

open Cert.GmlpIdeal Cert.GmlpIdeal.Gen Idealize.ShloMosaic Idealize.ShloMosaic.TcCoe Idealize.SL.Sem Cert.Gmlp.Math
open Idealize.ShloMosaic.Pipeline (Dat)

variable (m : (ℓ : Loc nD τ sig) → Buf (Elt Ideal) ℓ) (ρ : Dev nD → PrngReg)

/-! ## Where a point's blocks lie -/

theorem batch_lt (t : Fin cfg0.N) : t.val / 16 < 4 := by
  have h : t.val < cfg0.N := t.isLt
  have hN : cfg0.N = 64 := N_0
  omega

theorem row_lt (t : Fin cfg0.N) (r : Fin 512) : t.val % 16 * 512 + r.val < 8192 := by
  have := r.isLt
  omega

/-- The batch of point `t`. -/
abbrev batch (t : Fin cfg0.N) : Fin 4 := ⟨t.val / 16, batch_lt t⟩
/-- The token at row `r` of point `t`'s tile. -/
abbrev token (t : Fin cfg0.N) (r : Fin 512) : Fin 8192 := ⟨t.val % 16 * 512 + r.val, row_lt t r⟩

theorem index0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = t.val / 16 ∧ win0_8.index t 1 = t.val % 16 ∧ win0_8.index t 2 = 0 :=
  (by decide +kernel : ∀ t : Fin grid0.N, win0_8.index t 0 = t.val / 16 ∧ win0_8.index t 1 = t.val % 16 ∧ win0_8.index t 2 = 0)

/-! ## The arrays the host prepares -/

theorem wu_apply (c : Dev nD) (j k : Fin 1024) :
    (V m c main_v5 (ix2 j k) : EReal) = m ((c : Thread nD τ).loc main_arg1) (ix2 j ⟨2048 + k.val, by omega⟩) := by
  simp only [V, hostOps0, hostOps0_1, hostOps0_2, hostOps0_3, hostOps0_4, hostOps0_5, hostOps0_6, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem wv_apply (c : Dev nD) (j k : Fin 1024) :
    (V m c main_v6 (ix2 j k) : EReal) = m ((c : Thread nD τ).loc main_arg1) (ix2 j ⟨3072 + k.val, by omega⟩) := by
  simp only [V, hostOps0, hostOps0_1, hostOps0_2, hostOps0_3, hostOps0_4, hostOps0_5, hostOps0_6, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem wb_apply (c : Dev nD) (j k : Fin 1024) :
    (V m c main_v8 (ix2 j k) : EReal) = m ((c : Thread nD τ).loc main_arg6) (ix2 j k) := by
  simp only [V, hostOps0, hostOps0_1, hostOps0_2, hostOps0_3, hostOps0_4, hostOps0_5, hostOps0_6, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem g_apply (c : Dev nD) (k : Fin 1024) :
    (V m c main_v17 (ix2 0 k) : EReal) = m ((c : Thread nD τ).loc main_arg2) (ix1 k) := by
  simp only [V, hostOps0, hostOps0_1, hostOps0_2, hostOps0_3, hostOps0_4, hostOps0_5, hostOps0_6, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem b_apply (c : Dev nD) (k : Fin 1024) :
    (V m c main_v18 (ix2 0 k) : EReal) = m ((c : Thread nD τ).loc main_arg3) (ix1 k) := by
  simp only [V, hostOps0, hostOps0_1, hostOps0_2, hostOps0_3, hostOps0_4, hostOps0_5, hostOps0_6, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem m_apply (c : Dev nD) (g : Fin 8) (i j : Fin 128) :
    (V m c main_v13 (ix3 g i j) : EReal) = low (m ((c : Thread nD τ).loc main_arg4) (ix3 g i j)) i j := by
  simp only [V, hostOps0, hostOps0_1, hostOps0_2, hostOps0_3, hostOps0_4, hostOps0_5, hostOps0_6, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []
  rw [Cert.GmlpRefIdeal.Elem.mask_word, Cert.GmlpRefIdeal.Elem.zero_word, low]
  split <;> rfl

theorem s_apply (c : Dev nD) (i : Fin 128) (k : Fin 1024) :
    (V m c main_v16 (ix2 i k) : EReal) = m ((c : Thread nD τ).loc main_arg5) (ix2 ⟨k.val / 128, by omega⟩ i) := by
  simp only [V, hostOps0, hostOps0_1, hostOps0_2, hostOps0_3, hostOps0_4, hostOps0_5, hostOps0_6, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

/-! ## The blocks a point reads -/

/-- The normalised rows' block. -/
theorem h_block (c : Dev nD) (t : Fin cfg0.N) (r : Fin 512) (d : Fin 1024) :
    (iblk m c 0 t (ix3 0 r d) : EReal) = m ((c : Thread nD τ).loc main_arg0) (ix3 (batch t) (token t r) d) := by
  have h : (iblk m c 0 t (ix3 0 r d) : EReal) = V m c main_arg0 (ix3 (batch t) (token t r) d) := by
    show V m c main_arg0 (((cfg0.win 0).blk t).view.emb (ix3 0 r d)) = _
    congr 1
    funext a
    apply Fin.ext
    match a with
    | ⟨0, _⟩ =>
      have e := (index0 t).1
      show win0_0.index t 0 * 1 + 1 * 0 = t.val / 16
      omega
    | ⟨1, _⟩ =>
      have e := (index0 t).2.1
      show win0_0.index t 1 * 512 + 1 * r.val = t.val % 16 * 512 + r.val
      omega
    | ⟨2, _⟩ =>
      have e := (index0 t).2.2
      show win0_0.index t 2 * 1024 + 1 * d.val = d.val
      omega
  exact h.trans (congrFun (V_main_arg0 m c) _)

/-- The gate's weights, whole. -/
theorem wu_block (c : Dev nD) (t : Fin cfg0.N) (j k : Fin 1024) :
    (iblk m c 1 t (ix2 j k) : EReal) = m ((c : Thread nD τ).loc main_arg1) (ix2 j ⟨2048 + k.val, by omega⟩) := by
  have h : (iblk m c 1 t (ix2 j k) : EReal) = V m c main_v5 (ix2 j k) := by
    show V m c main_v5 (((cfg0.win 1).blk t).view.emb (ix2 j k)) = _
    congr 1
    funext a
    apply Fin.ext
    match a with
    | ⟨0, _⟩ =>
      have e := (index1 t).1
      show win0_1.index t 0 * 1024 + 1 * j.val = j.val
      omega
    | ⟨1, _⟩ =>
      have e := (index1 t).2
      show win0_1.index t 1 * 1024 + 1 * k.val = k.val
      omega
  exact h.trans (wu_apply m c j k)

/-- The mixed half's weights, whole. -/
theorem wv_block (c : Dev nD) (t : Fin cfg0.N) (j k : Fin 1024) :
    (iblk m c 2 t (ix2 j k) : EReal) = m ((c : Thread nD τ).loc main_arg1) (ix2 j ⟨3072 + k.val, by omega⟩) := by
  have h : (iblk m c 2 t (ix2 j k) : EReal) = V m c main_v6 (ix2 j k) := by
    show V m c main_v6 (((cfg0.win 2).blk t).view.emb (ix2 j k)) = _
    congr 1
    funext a
    apply Fin.ext
    match a with
    | ⟨0, _⟩ =>
      have e := (index2 t).1
      show win0_2.index t 0 * 1024 + 1 * j.val = j.val
      omega
    | ⟨1, _⟩ =>
      have e := (index2 t).2
      show win0_2.index t 1 * 1024 + 1 * k.val = k.val
      omega
  exact h.trans (wv_apply m c j k)

/-- The normalisation's scale. -/
theorem g_block (c : Dev nD) (t : Fin cfg0.N) (k : Fin 1024) :
    (iblk m c 3 t (ix2 0 k) : EReal) = m ((c : Thread nD τ).loc main_arg2) (ix1 k) := by
  have h : (iblk m c 3 t (ix2 0 k) : EReal) = V m c main_v17 (ix2 0 k) := by
    show V m c main_v17 (((cfg0.win 3).blk t).view.emb (ix2 0 k)) = _
    congr 1
    funext a
    apply Fin.ext
    match a with
    | ⟨0, _⟩ =>
      have e := (index3 t).1
      show win0_3.index t 0 * 1 + 1 * 0 = 0
      omega
    | ⟨1, _⟩ =>
      have e := (index3 t).2
      show win0_3.index t 1 * 1024 + 1 * k.val = k.val
      omega
  exact h.trans (g_apply m c k)

/-- The normalisation's shift. -/
theorem b_block (c : Dev nD) (t : Fin cfg0.N) (k : Fin 1024) :
    (iblk m c 4 t (ix2 0 k) : EReal) = m ((c : Thread nD τ).loc main_arg3) (ix1 k) := by
  have h : (iblk m c 4 t (ix2 0 k) : EReal) = V m c main_v18 (ix2 0 k) := by
    show V m c main_v18 (((cfg0.win 4).blk t).view.emb (ix2 0 k)) = _
    congr 1
    funext a
    apply Fin.ext
    match a with
    | ⟨0, _⟩ =>
      have e := (index4 t).1
      show win0_4.index t 0 * 1 + 1 * 0 = 0
      omega
    | ⟨1, _⟩ =>
      have e := (index4 t).2
      show win0_4.index t 1 * 1024 + 1 * k.val = k.val
      omega
  exact h.trans (b_apply m c k)

/-- The mixing weights, their lower triangle. -/
theorem m_block (c : Dev nD) (t : Fin cfg0.N) (g : Fin 8) (i j : Fin 128) :
    (iblk m c 5 t (ix3 g i j) : EReal) = low (m ((c : Thread nD τ).loc main_arg4) (ix3 g i j)) i j := by
  have h : (iblk m c 5 t (ix3 g i j) : EReal) = V m c main_v13 (ix3 g i j) := by
    show V m c main_v13 (((cfg0.win 5).blk t).view.emb (ix3 g i j)) = _
    congr 1
    funext a
    apply Fin.ext
    match a with
    | ⟨0, _⟩ =>
      have e := (index5 t).1
      show win0_5.index t 0 * 8 + 1 * g.val = g.val
      omega
    | ⟨1, _⟩ =>
      have e := (index5 t).2.1
      show win0_5.index t 1 * 128 + 1 * i.val = i.val
      omega
    | ⟨2, _⟩ =>
      have e := (index5 t).2.2
      show win0_5.index t 2 * 128 + 1 * j.val = j.val
      omega
  exact h.trans (m_apply m c g i j)

/-- The mixing's offsets, one per row and group. -/
theorem s_block (c : Dev nD) (t : Fin cfg0.N) (i : Fin 128) (k : Fin 1024) :
    (iblk m c 6 t (ix2 i k) : EReal) = m ((c : Thread nD τ).loc main_arg5) (ix2 ⟨k.val / 128, by omega⟩ i) := by
  have h : (iblk m c 6 t (ix2 i k) : EReal) = V m c main_v16 (ix2 i k) := by
    show V m c main_v16 (((cfg0.win 6).blk t).view.emb (ix2 i k)) = _
    congr 1
    funext a
    apply Fin.ext
    match a with
    | ⟨0, _⟩ =>
      have e := (index6 t).1
      show win0_6.index t 0 * 128 + 1 * i.val = i.val
      omega
    | ⟨1, _⟩ =>
      have e := (index6 t).2
      show win0_6.index t 1 * 1024 + 1 * k.val = k.val
      omega
  exact h.trans (s_apply m c i k)

/-- The branch's projection, whole. -/
theorem wb_block (c : Dev nD) (t : Fin cfg0.N) (j k : Fin 1024) :
    (iblk m c 7 t (ix2 j k) : EReal) = m ((c : Thread nD τ).loc main_arg6) (ix2 j k) := by
  have h : (iblk m c 7 t (ix2 j k) : EReal) = V m c main_v8 (ix2 j k) := by
    show V m c main_v8 (((cfg0.win 7).blk t).view.emb (ix2 j k)) = _
    congr 1
    funext a
    apply Fin.ext
    match a with
    | ⟨0, _⟩ =>
      have e := (index7 t).1
      show win0_7.index t 0 * 1024 + 1 * j.val = j.val
      omega
    | ⟨1, _⟩ =>
      have e := (index7 t).2
      show win0_7.index t 1 * 1024 + 1 * k.val = k.val
      omega
  exact h.trans (wb_apply m c j k)

/-- A token's place in its group of 128. -/
abbrev inside (t : Fin 8192) : Fin 128 := ⟨t.val % 128, Nat.mod_lt _ (by decide)⟩
/-- The `j`-th token of a token's group. -/
abbrev member (t : Fin 8192) (j : Fin 128) : Fin 8192 := ⟨t.val / 128 * 128 + j.val, by omega⟩

theorem inside_token (t : Fin cfg0.N) (r : Fin 512) (p : r.val % 128 < 128) : (⟨r.val % 128, p⟩ : Fin 128) = inside (token t r) :=
  Fin.ext (by show r.val % 128 = (t.val % 16 * 512 + r.val) % 128; omega)

theorem member_token (t : Fin cfg0.N) (r : Fin 512) (j : Fin 128) (p : r.val / 128 * 128 + j.val < 512) :
    token t ⟨r.val / 128 * 128 + j.val, p⟩ = member (token t r) j :=
  Fin.ext (by show t.val % 16 * 512 + (r.val / 128 * 128 + j.val) = (t.val % 16 * 512 + r.val) / 128 * 128 + j.val; omega)

/-! ## The result array -/

/-- What the result array holds after the run. -/
def result (c : Dev nD) : Vec Ideal S4x8192x1024 .bf16 := fun i =>
  branch (fun k => gelu (dot (fun j => m ((c : Thread nD τ).loc main_arg0) (ix3 (i 0) (i 1) j)) (fun j => m ((c : Thread nD τ).loc main_arg1) (ix2 j ⟨2048 + k.val, by omega⟩))))
    (fun k => (∑ j : Fin 128, low (m ((c : Thread nD τ).loc main_arg4) (ix3 ⟨k.val / 128, by omega⟩ (inside (i 1)) j)) (inside (i 1)) j *
      lnorm (fun k => gelu (dot (fun l => m ((c : Thread nD τ).loc main_arg0) (ix3 (i 0) (member (i 1) j) l)) (fun l => m ((c : Thread nD τ).loc main_arg1) (ix2 l ⟨3072 + k.val, by omega⟩))))
        (m ((c : Thread nD τ).loc main_arg2) (ix1 k)) (m ((c : Thread nD τ).loc main_arg3) (ix1 k)) k) + m ((c : Thread nD τ).loc main_arg5) (ix2 ⟨k.val / 128, by omega⟩ (inside (i 1))))
    (fun k => m ((c : Thread nD τ).loc main_arg6) (ix2 k (i 2)))

theorem point (c : Dev nD) (t : Fin cfg0.N) (r : Fin 512) (d : Fin 1024) :
    (outsAt0 m c t (ix3 0 r d) : EReal)
      = branch (fun k => gelu (dot (fun j => m ((c : Thread nD τ).loc main_arg0) (ix3 (batch t) (token t r) j)) (fun j => m ((c : Thread nD τ).loc main_arg1) (ix2 j ⟨2048 + k.val, by omega⟩))))
    (fun k => (∑ j : Fin 128, low (m ((c : Thread nD τ).loc main_arg4) (ix3 ⟨k.val / 128, by omega⟩ (inside (token t r)) j)) (inside (token t r)) j *
      lnorm (fun k => gelu (dot (fun l => m ((c : Thread nD τ).loc main_arg0) (ix3 (batch t) (member (token t r) j) l)) (fun l => m ((c : Thread nD τ).loc main_arg1) (ix2 l ⟨3072 + k.val, by omega⟩))))
        (m ((c : Thread nD τ).loc main_arg2) (ix1 k)) (m ((c : Thread nD τ).loc main_arg3) (ix1 k)) k) + m ((c : Thread nD τ).loc main_arg5) (ix2 ⟨k.val / 128, by omega⟩ (inside (token t r))))
    (fun k => m ((c : Thread nD τ).loc main_arg6) (ix2 k d)) := by
  unfold outsAt0
  rw [Block.out_apply]
  simp only [h_block, wu_block, wv_block, g_block, b_block, m_block, s_block, wb_block, inside_token t, member_token, dot]

theorem emb (t : Fin cfg0.N) (r : Fin 512) (d : Fin 1024) :
    ((cfg0.win 8).blk t).view.emb (ix3 0 r d) = ix3 (batch t) (token t r) d := by
  funext a
  apply Fin.ext
  match a with
  | ⟨0, _⟩ =>
    have e := (index8 t).1
    show win0_8.index t 0 * 1 + 1 * 0 = t.val / 16
    omega
  | ⟨1, _⟩ =>
    have e := (index8 t).2.1
    show win0_8.index t 1 * 512 + 1 * r.val = t.val % 16 * 512 + r.val
    omega
  | ⟨2, _⟩ =>
    have e := (index8 t).2.2
    show win0_8.index t 2 * 1024 + 1 * d.val = d.val
    omega

theorem mem (t : Fin cfg0.N) (r : Fin 512) (d : Fin 1024) :
    (ix3 (batch t) (token t r) d : S4x8192x1024.Idx) ∈ ((cfg0.win 8).blk t).view.set := by
  rw [← emb]
  exact View.emb_mem_set _ _

/-- What a point writes back is its block of the result. -/
theorem flushed (c : Dev nD) (t : Fin cfg0.N) :
    (dats m 0 c).flushed 8 t = ((cfg0.win 8).blk t).view.read (Elt Ideal) (result m c) := by
  rw [Value.flushed8]
  funext y
  obtain ⟨b, r, d, rfl⟩ : ∃ (b : Fin 1) (r : Fin 512) (d : Fin 1024), y = ix3 b r d :=
    ⟨y 0, y 1, y 2, funext fun a => match a with | ⟨0, _⟩ => rfl | ⟨1, _⟩ => rfl | ⟨2, _⟩ => rfl⟩
  obtain rfl : b = 0 := Subsingleton.elim _ _
  show outsAt0 m c t (ix3 0 r d)
    = result m c (((cfg0.win 8).blk t).view.emb (ix3 0 r d))
  rw [emb]
  exact point m c t r d

/-- Every element of the result lies in some point's block. -/
theorem cover (i : S4x8192x1024.Idx) :
    ∃ t : Fin cfg0.N, (cfg0.win 8).flush t = true ∧ i ∈ ((cfg0.win 8).blk t).view.set := by
  obtain ⟨b, u, d, rfl⟩ : ∃ (b : Fin 4) (u : Fin 8192) (d : Fin 1024), i = ix3 b u d :=
    ⟨i 0, i 1, i 2, funext fun a => match a with | ⟨0, _⟩ => rfl | ⟨1, _⟩ => rfl | ⟨2, _⟩ => rfl⟩
  have hb := b.isLt
  have hu := u.isLt
  have hN : cfg0.N = 64 := N_0
  have ht : b.val * 16 + u.val / 512 < cfg0.N := by omega
  have e0 : batch ⟨b.val * 16 + u.val / 512, ht⟩ = b := Fin.ext (by show (b.val * 16 + u.val / 512) / 16 = b.val; omega)
  have e1 : token ⟨b.val * 16 + u.val / 512, ht⟩ ⟨u.val % 512, Nat.mod_lt _ (by decide)⟩ = u :=
    Fin.ext (by show (b.val * 16 + u.val / 512) % 16 * 512 + u.val % 512 = u.val; omega)
  have h := mem ⟨b.val * 16 + u.val / 512, ht⟩ ⟨u.val % 512, Nat.mod_lt _ (by decide)⟩ d
  rw [e0, e1] at h
  exact ⟨_, flush0_8 _, h⟩

/-- The result array after the run. -/
theorem final (c : Dev nD) : (dats m 0 c).arrAt 8 cfg0.N = result m c :=
  (dats m 0 c).arrAt_eq_of_cover 8 (result m c) (fun t _ => flushed m c t) cover

end Cert.GmlpIdeal.Array

end
-- ==== Proof.Gmlp.Claims.lean ====
module

public import proofs.«01_k».proof.Defs
public import proofs.«01_k».proof.Proof.Gmlp.Array
public import proofs.«01_k».proof.Proof.Gen.Gmlp.Frame
public import proofs.«01_k».proof.Proof.Gen.GmlpRefIdeal.Run
public import Idealize.ShloMosaic.Lib.Quiescent

@[expose] public section

set_option maxRecDepth 16384

noncomputable section

/-! The gated branch: the claims. -/

open Idealize.ShloMosaic Idealize.ShloMosaic.TcCoe Idealize.SL.Sem

namespace Cert.Gmlp.Claims

theorem frame : Cert.quiescent_Gmlp := fun m ρ _ => Cert.Gmlp.Gen.frame m ρ
theorem frame_ideal : Cert.quiescent_GmlpIdeal := fun m ρ _ => Cert.GmlpIdeal.Gen.frame m ρ
theorem frame_ref : Cert.quiescent_GmlpRefIdeal := fun m ρ _ =>
  (θ_run Cert.GmlpRefIdeal.defs _ _).mono (fun r h => ⟨fun c => (h c).2,
      Idealize.ShloMosaic.sem_eq_zero_of_no_sems (by decide) r.2⟩)
    (Cert.GmlpRefIdeal.Value.run (F := Ideal) m ρ)

theorem preserves : Cert.preserves_Gmlp_GmlpIdeal := trivial

/-- Kernel and reference end at the same array, `Cert.GmlpIdeal.Array.result`. -/
theorem algebraic : Cert.algebraic_GmlpIdeal_GmlpRefIdeal := by
  intro m ρ m' ρ' _ hag
  refine ⟨fun c => Cert.GmlpIdeal.Array.result m c, ?_, ?_⟩
  · exact (θ_run Cert.GmlpIdeal.defs _ _).mono
      (fun _ h c => ⟨(h c).1.trans (Cert.GmlpIdeal.Array.final m c), (h c).2⟩)
      (Cert.GmlpIdeal.Value.run_blocks (F := Ideal) m ρ)
  · refine (θ_run Cert.GmlpRefIdeal.defs _ _).mono
      (fun _ h c => ⟨(h c).1.trans ?_, (h c).2⟩)
      (Cert.GmlpRefIdeal.Value.run (F := Ideal) m' ρ')
    obtain ⟨e0, e1, e2, e3, e4, e5, e6⟩ := hag c
    rw [Cert.GmlpRefIdeal.Read.val_main_v56_eq, e0, e1, e2, e3, e4, e5, e6]
    funext i
    obtain ⟨b, t, d, rfl⟩ : ∃ (b : Fin 4) (t : Fin 8192) (d : Fin 1024), i = ix3 b t d :=
      ⟨i 0, i 1, i 2, funext fun a => match a with | ⟨0, _⟩ => rfl | ⟨1, _⟩ => rfl | ⟨2, _⟩ => rfl⟩
    exact Cert.GmlpRefIdeal.Elem.ref_apply _ _ _ _ _ _ _ b t d

end Cert.Gmlp.Claims

end
-- ==== Proof.Proj.Math.lean ====
module

public import Idealize.ShloMosaic.Lib.Pointwise

@[expose] public section

set_option maxRecDepth 16384

noncomputable section

/-! The attention's projections: the functions of one row. -/

namespace Cert.Proj.Math

open Idealize.ShloMosaic

/-- A product of two rows. -/
def dot (f g : Fin 1024 → EReal) : EReal := ∑ j : Fin 1024, f j * g j

/-- A head's row divided by the root of its mean square, scaled. -/
def rms (f g : Fin 128 → EReal) (i : Fin 128) : EReal :=
  f i * Ideal.rsqrt (Ideal.div (∑ j : Fin 128, f j * f j) (Ideal.ofBits FTy.f32 1124073472#32) + Ideal.ofBits FTy.f32 897988541#32) * g i

/-- The factor on the queries: the softmax scale times the base-two logarithm of `e`, as one constant. -/
abbrev qScale : EReal := Ideal.ofBits FTy.f32 0x3E0293EE#32
/-- The factor on the index weights: both of their scales, as one constant. -/
abbrev wScale : EReal := Ideal.ofBits FTy.f32 0x3D3504F3#32

/-- The place in its head of a column. -/
abbrev lane (d : Nat) : Fin 128 := ⟨d % 128, Nat.mod_lt _ (by decide)⟩

/-- A token's projected row at column `n` of the attention's columns. -/
def proj (x0 : FVec Ideal ⟨3, ![4, 8192, 1024]⟩ .bf16) (x1 : FVec Ideal ⟨2, ![1024, 9288]⟩ .f32) (b : Fin 4) (t : Fin 8192) (n : Nat)
    (h : n < 2120) : EReal :=
  dot (fun j => x0 (ix3 b t j)) (fun j => x1 (ix2 j ⟨4096 + n, by omega⟩))

/-- A token's query at column `d` of its eight heads. -/
def query (x0 : FVec Ideal ⟨3, ![4, 8192, 1024]⟩ .bf16) (x1 : FVec Ideal ⟨2, ![1024, 9288]⟩ .f32) (g : FVec Ideal ⟨1, ![128]⟩ .f32)
    (b : Fin 4) (t : Fin 8192) (d : Fin 1024) : EReal :=
  rms (fun j => proj x0 x1 b t (d.val / 128 * 128 + j.val) (by omega)) (fun j => g (ix1 j)) (lane d.val) * qScale

/-- A token's key at column `d` of its two heads. -/
def key (x0 : FVec Ideal ⟨3, ![4, 8192, 1024]⟩ .bf16) (x1 : FVec Ideal ⟨2, ![1024, 9288]⟩ .f32) (g : FVec Ideal ⟨1, ![128]⟩ .f32)
    (b : Fin 4) (t : Fin 8192) (d : Fin 256) : EReal :=
  rms (fun j => proj x0 x1 b t (1024 + (d.val / 128 * 128 + j.val)) (by omega)) (fun j => g (ix1 j)) (lane d.val)

end Cert.Proj.Math

end
-- ==== Proof.Proj.Stores.lean ====
module

public import proofs.«01_k».proof.Proof.Proj.Math
public import proofs.«01_k».proof.Proof.Gen.ProjIdeal.Value
public import Idealize.ShloMosaic.Lib.Pointwise

@[expose] public section

set_option maxRecDepth 16384

noncomputable section

/-! The attention's projections, one element at a time: what each store of a grid point holds. -/

namespace Cert.ProjIdeal.Block

open Cert.ProjIdeal Cert.ProjIdeal.Gen Idealize.ShloMosaic Cert.Proj.Math

/-- The projected rows of a tile, all columns. -/
theorem p_apply (x0 : Vec Ideal S1x512x1024 .bf16) (x1 : Vec Ideal S1024x2176 .bf16) (r : Fin 512) (n : Fin 2176) :
    (k0_pay3 x0 x1 (ix2 r n) : EReal) = dot (fun j => x0 (ix3 0 r j)) (fun j => x1 (ix2 j n)) := by
  pointwise [k0_pay3, dot]

/-! ## The queries' heads -/

set_option maxHeartbeats 1600000 in
theorem q0_apply (x0 : Vec Ideal S1x512x1024 .bf16) (x1 : Vec Ideal S1024x2176 .bf16) (x2 : Vec Ideal S1x128 .f32) (i : Fin 128) (r : Fin 512) :
    (k0_pay4 x0 x1 x2 (ix3 0 i r) : EReal) = rms (fun j => (k0_pay3 x0 x1) (ix2 r ⟨0 + j.val, by omega⟩)) (fun j => x2 (ix2 0 j)) i * qScale := by
  unfold k0_pay4
  generalize k0_pay3 x0 x1 = v
  pointwise [rms]

set_option maxHeartbeats 1600000 in
theorem q1_apply (x0 : Vec Ideal S1x512x1024 .bf16) (x1 : Vec Ideal S1024x2176 .bf16) (x2 : Vec Ideal S1x128 .f32) (i : Fin 128) (r : Fin 512) :
    (k0_pay8 (k0_pay5 x0 x1) (k0_pay6 x2) (k0_pay7 x0 x1) (ix3 0 i r) : EReal) = rms (fun j => (k0_pay3 x0 x1) (ix2 r ⟨128 + j.val, by omega⟩)) (fun j => x2 (ix2 0 j)) i * qScale := by
  unfold k0_pay7 k0_pay5
  generalize k0_pay3 x0 x1 = v
  pointwise [k0_pay8, k0_pay6, rms]

set_option maxHeartbeats 1600000 in
theorem q2_apply (v : FVec Ideal S512x2176 .f32) (x2 : Vec Ideal S1x128 .f32) (i : Fin 128) (r : Fin 512) :
    (k0_pay9 v x2 (ix3 0 i r) : EReal) = rms (fun j => v (ix2 r ⟨256 + j.val, by omega⟩)) (fun j => x2 (ix2 0 j)) i * qScale := by
  pointwise [k0_pay9, rms]

set_option maxHeartbeats 1600000 in
theorem q3_apply (v : FVec Ideal S512x2176 .f32) (x2 : Vec Ideal S1x128 .f32) (i : Fin 128) (r : Fin 512) :
    (k0_pay14 (k0_pay10 v) (k0_pay11 x2) (k0_pay12 v) (k0_pay13 (F := Ideal)) (ix3 0 i r) : EReal) = rms (fun j => v (ix2 r ⟨384 + j.val, by omega⟩)) (fun j => x2 (ix2 0 j)) i * qScale := by
  pointwise [k0_pay14, k0_pay10, k0_pay11, k0_pay12, k0_pay13, rms]

set_option maxHeartbeats 1600000 in
theorem q4_apply (v : FVec Ideal S512x2176 .f32) (x2 : Vec Ideal S1x128 .f32) (i : Fin 128) (r : Fin 512) :
    (k0_pay15 v x2 (ix3 0 i r) : EReal) = rms (fun j => v (ix2 r ⟨512 + j.val, by omega⟩)) (fun j => x2 (ix2 0 j)) i * qScale := by
  pointwise [k0_pay15, rms]

set_option maxHeartbeats 1600000 in
theorem q5_apply (v : FVec Ideal S512x2176 .f32) (x2 : Vec Ideal S1x128 .f32) (i : Fin 128) (r : Fin 512) :
    (k0_pay19 (k0_pay16 v) (k0_pay17 x2) (k0_pay18 v) (ix3 0 i r) : EReal) = rms (fun j => v (ix2 r ⟨640 + j.val, by omega⟩)) (fun j => x2 (ix2 0 j)) i * qScale := by
  pointwise [k0_pay19, k0_pay16, k0_pay17, k0_pay18, rms]

set_option maxHeartbeats 1600000 in
theorem q6_apply (v : FVec Ideal S512x2176 .f32) (x2 : Vec Ideal S1x128 .f32) (i : Fin 128) (r : Fin 512) :
    (k0_pay20 v x2 (ix3 0 i r) : EReal) = rms (fun j => v (ix2 r ⟨768 + j.val, by omega⟩)) (fun j => x2 (ix2 0 j)) i * qScale := by
  pointwise [k0_pay20, rms]

set_option maxHeartbeats 1600000 in
theorem q7_apply (v : FVec Ideal S512x2176 .f32) (x2 : Vec Ideal S1x128 .f32) (i : Fin 128) (r : Fin 512) :
    (k0_pay22 (k0_pay21 v) x2 (ix3 0 i r) : EReal) = rms (fun j => v (ix2 r ⟨896 + j.val, by omega⟩)) (fun j => x2 (ix2 0 j)) i * qScale := by
  pointwise [k0_pay22, k0_pay21, rms]

/-! ## The keys' heads -/

set_option maxHeartbeats 1600000 in
theorem k0_apply (v : FVec Ideal S512x2176 .f32) (x3 : Vec Ideal S1x128 .f32) (r : Fin 512) (i : Fin 128) :
    (k0_pay24 v x3 (ix3 0 r i) : EReal) = rms (fun j => v (ix2 r ⟨1024 + j.val, by omega⟩)) (fun j => x3 (ix2 0 j)) i := by
  pointwise [k0_pay24, k0_pay23, rms]

set_option maxHeartbeats 1600000 in
theorem k1_apply (v : FVec Ideal S512x2176 .f32) (x3 : Vec Ideal S1x128 .f32) (r : Fin 512) (i : Fin 128) :
    (k0_pay28 v x3 (ix3 0 r i) : EReal) = rms (fun j => v (ix2 r ⟨1152 + j.val, by omega⟩)) (fun j => x3 (ix2 0 j)) i := by
  pointwise [k0_pay28, k0_pay27, rms]

set_option maxHeartbeats 1600000 in
theorem kb0_apply (v : FVec Ideal S512x2176 .f32) (x3 : Vec Ideal S1x128 .f32) (r : Fin 512) (i : Fin 128) :
    (k0_pay26 (k0_pay25 v x3) (ix3 0 r i) : EReal) = rms (fun j => v (ix2 r ⟨1024 + j.val, by omega⟩)) (fun j => x3 (ix2 0 j)) i := by
  pointwise [k0_pay26, k0_pay25, k0_pay23, rms]

set_option maxHeartbeats 1600000 in
theorem kb1_apply (v : FVec Ideal S512x2176 .f32) (x3 : Vec Ideal S1x128 .f32) (r : Fin 512) (i : Fin 128) :
    (k0_pay29 v x3 (ix3 0 r i) : EReal) = rms (fun j => v (ix2 r ⟨1152 + j.val, by omega⟩)) (fun j => x3 (ix2 0 j)) i := by
  pointwise [k0_pay29, k0_pay27, rms]

/-! ## The columns without normalisation -/

theorem v_apply (v : FVec Ideal S512x2176 .f32) (r : Fin 512) (d : Fin 256) :
    (k0_pay30 v (ix3 0 r d) : EReal) = v (ix2 r ⟨1280 + d.val, by omega⟩) := by
  pointwise [k0_pay30]

theorem qi0_apply (v : FVec Ideal S512x2176 .f32) (i : Fin 128) (r : Fin 512) :
    (k0_pay34 v (ix3 0 i r) : EReal) = v (ix2 r ⟨1536 + i.val, by omega⟩) := by
  pointwise [k0_pay34]

theorem qi1_apply (v : FVec Ideal S512x2176 .f32) (i : Fin 128) (r : Fin 512) :
    (k0_pay35 v (ix3 0 i r) : EReal) = v (ix2 r ⟨1664 + i.val, by omega⟩) := by
  pointwise [k0_pay35]

theorem qi2_apply (v : FVec Ideal S512x2176 .f32) (i : Fin 128) (r : Fin 512) :
    (k0_pay36 v (ix3 0 i r) : EReal) = v (ix2 r ⟨1792 + i.val, by omega⟩) := by
  pointwise [k0_pay36]

theorem qi3_apply (v : FVec Ideal S512x2176 .f32) (i : Fin 128) (r : Fin 512) :
    (k0_pay37 v (ix3 0 i r) : EReal) = v (ix2 r ⟨1920 + i.val, by omega⟩) := by
  pointwise [k0_pay37]

theorem ki_apply (v : FVec Ideal S512x2176 .f32) (r : Fin 512) (d : Fin 64) :
    (k0_pay38 v (ix3 0 r d) : EReal) = v (ix2 r ⟨2048 + d.val, by omega⟩) := by
  pointwise [k0_pay38]

theorem kib_apply (v : FVec Ideal S512x2176 .f32) (r : Fin 512) (d : Fin 64) :
    (k0_pay1 (k0_pay39 v) (ix3 0 r d) : EReal) = v (ix2 r ⟨2048 + d.val, by omega⟩) := by
  pointwise [k0_pay1, k0_pay39]

theorem wi_apply (v : FVec Ideal S512x2176 .f32) (n : Fin 8) (r : Fin 512) :
    (k0_pay2 v (ix3 0 n r) : EReal) = v (ix2 r ⟨2112 + n.val, by omega⟩) * wScale := by
  pointwise [k0_pay2]
  refine congrArg (fun k => v (ix2 r k) * wScale) (Fin.ext ?_)
  show 2048 + (64 + n.val) = 2112 + n.val
  omega

theorem vt0_apply (v : FVec Ideal S512x2176 .f32) (i : Fin 128) (r : Fin 512) :
    (k0_pay31 v (ix5 0 0 0 i r) : EReal) = v (ix2 r ⟨1280 + i.val, by omega⟩) := by
  pointwise [k0_pay31]

theorem vt1_apply (v : FVec Ideal S512x2176 .f32) (i : Fin 128) (r : Fin 512) :
    (k0_pay33 (k0_pay32 v) (ix5 0 0 0 i r) : EReal) = v (ix2 r ⟨1408 + i.val, by omega⟩) := by
  pointwise [k0_pay33, k0_pay32]

end Cert.ProjIdeal.Block

end
-- ==== Proof.Proj.Block.lean ====
module

public import proofs.«01_k».proof.Proof.Proj.Stores

@[expose] public section

set_option maxRecDepth 16384

noncomputable section

/-! The attention's projections, one element at a time: what a grid point leaves in its results' blocks. -/

namespace Cert.ProjIdeal.Block

open Cert.ProjIdeal Cert.ProjIdeal.Gen Idealize.ShloMosaic Cert.Proj.Math

theorem hz2 : (![0, 0] : Fin 2 → Nat) = fun _ => 0 := funext fun a => by fin_cases a <;> rfl
theorem hz3 : (![0, 0, 0] : Fin 3 → Nat) = fun _ => 0 := funext fun a => by fin_cases a <;> rfl

/-! ## Loads of whole blocks -/

theorem ldH (X : Vec Ideal S1x512x1024 .bf16) (inb) :
    View.ld X (Rect.unit (s := S1x512x1024) ![0, 0, 0] ![1, 512, 1024] inb) = X := View.ld_unit_zero hz3 inb X
theorem ldW (X : Vec Ideal S1024x2176 .bf16) (inb) :
    View.ld X (Rect.unit (s := S1024x2176) ![0, 0] ![1024, 2176] inb) = X := View.ld_unit_zero hz2 inb X
theorem ldR (X : Vec Ideal S1x128 .f32) (inb) :
    View.ld X (Rect.unit (s := S1x128) ![0, 0] ![1, 128] inb) = X := View.ld_unit_zero hz2 inb X

/-- A tile's projected row at column `n`. -/
def tproj (x0 : Vec Ideal S1x512x1024 .bf16) (x1 : Vec Ideal S1024x2176 .bf16) (r : Fin 512) (n : Nat) (h : n < 2120) : EReal :=
  dot (fun j => x0 (ix3 0 r j)) (fun j => x1 (ix2 j ⟨n, by omega⟩))

/-- A head of 128 columns of the projected rows, normalised. -/
def thead (v : FVec Ideal S512x2176 .f32) (g : Vec Ideal S1x128 .f32) (r : Fin 512) (n : Nat) (h : n + 128 ≤ 2176) (i : Fin 128) : EReal :=
  rms (fun j => v (ix2 r ⟨n + j.val, by omega⟩)) (fun j => g (ix2 0 j)) i

theorem thead_congr (v : FVec Ideal S512x2176 .f32) (g : Vec Ideal S1x128 .f32) (r : Fin 512) {n n' : Nat} (e : n = n') (h h') {i i' : Fin 128} (ei : i = i') :
    thead v g r n h i = thead v g r n' h' i' := by
  subst e ei
  rfl

/-- The queries' block as one array. -/
def queries (v : FVec Ideal S512x2176 .f32) (g : Vec Ideal S1x128 .f32) : Vec Ideal S1x1024x512 .bf16 := fun y =>
  thead v g (y 2) ((y 1).val / 128 * 128) (by have h : (y 1).val < 1024 := (y 1).isLt; omega) (lane (y 1).val) * qScale

/-- The keys' block as one array. -/
def keys (v : FVec Ideal S512x2176 .f32) (g : Vec Ideal S1x128 .f32) : Vec Ideal S1x512x256 .f32 := fun y =>
  thead v g (y 1) (1024 + (y 2).val / 128 * 128) (by have h : (y 2).val < 256 := (y 2).isLt; omega) (lane (y 2).val)

/-- The same block as the attention reads it. -/
def keysB (v : FVec Ideal S512x2176 .f32) (g : Vec Ideal S1x128 .f32) : Vec Ideal S1x512x256 .bf16 := fun y => keys v g y

/-- The index queries' block as one array. -/
def indexQueries (v : FVec Ideal S512x2176 .f32) : Vec Ideal S1x512x512 .bf16 := fun y =>
  v (ix2 (y 2) ⟨1536 + (y 1).val, by have h : (y 1).val < 512 := (y 1).isLt; omega⟩)

/-- The turned values' block as one array. -/
def turned (v : FVec Ideal S512x2176 .f32) : Vec Ideal S1x1x2x128x512 .bf16 := fun y =>
  v (ix2 (y 4) ⟨1280 + ((y 2).val * 128 + (y 3).val),
    by have h : (y 2).val < 2 := (y 2).isLt; have h' : (y 3).val < 128 := (y 3).isLt; omega⟩)

/-! ## A store holds its part of the array -/

theorem embCols {N : Nat} {o : Nat} (i : Fin 128) (r : Fin 512) (h : o + i.val < N) (inb) :
    (Rect.unit (s := ⟨3, ![1, N, 512]⟩) ![0, o, 0] ![1, 128, 512] inb).emb (ix3 0 i r) = ix3 0 ⟨o + i.val, h⟩ r := by
  funext a
  apply Fin.ext
  match a with
  | ⟨0, _⟩ => show 0 + 1 * 0 = 0; omega
  | ⟨1, _⟩ => show o + 1 * i.val = o + i.val; omega
  | ⟨2, _⟩ => show 0 + 1 * r.val = r.val; omega

theorem embRows {o : Nat} (r : Fin 512) (i : Fin 128) (h : o + i.val < 256) (inb) :
    (Rect.unit (s := S1x512x256) ![0, 0, o] ![1, 512, 128] inb).emb (ix3 0 r i) = ix3 0 r ⟨o + i.val, h⟩ := by
  funext a
  apply Fin.ext
  match a with
  | ⟨0, _⟩ => show 0 + 1 * 0 = 0; omega
  | ⟨1, _⟩ => show 0 + 1 * r.val = r.val; omega
  | ⟨2, _⟩ => show o + 1 * i.val = o + i.val; omega

theorem embTurned {o : Nat} (i : Fin 128) (r : Fin 512) (h : o < 2) (inb) :
    (Rect.unit (s := S1x1x2x128x512) ![0, 0, o, 0, 0] ![1, 1, 1, 128, 512] inb).emb (ix5 0 0 0 i r) = ix5 0 0 ⟨o, h⟩ i r := by
  funext a
  apply Fin.ext
  match a with
  | ⟨0, _⟩ => show 0 + 1 * 0 = 0; omega
  | ⟨1, _⟩ => show 0 + 1 * 0 = 0; omega
  | ⟨2, _⟩ => show o + 1 * 0 = o; omega
  | ⟨3, _⟩ => show 0 + 1 * i.val = i.val; omega
  | ⟨4, _⟩ => show 0 + 1 * r.val = r.val; omega

theorem idxCols (x : S1x128x512.Idx) : ∃ (i : Fin 128) (r : Fin 512), x = ix3 0 i r :=
  ⟨x 1, x 2, funext fun a => match a with | ⟨0, _⟩ => Subsingleton.elim (α := Fin 1) _ _ | ⟨1, _⟩ => rfl | ⟨2, _⟩ => rfl⟩

theorem idxRows (x : S1x512x128.Idx) : ∃ (r : Fin 512) (i : Fin 128), x = ix3 0 r i :=
  ⟨x 1, x 2, funext fun a => match a with | ⟨0, _⟩ => Subsingleton.elim (α := Fin 1) _ _ | ⟨1, _⟩ => rfl | ⟨2, _⟩ => rfl⟩

theorem idxTurned (x : S1x1x1x128x512.Idx) : ∃ (i : Fin 128) (r : Fin 512), x = ix5 0 0 0 i r :=
  ⟨x 3, x 4, funext fun a => match a with
    | ⟨0, _⟩ => Subsingleton.elim (α := Fin 1) _ _ | ⟨1, _⟩ => Subsingleton.elim (α := Fin 1) _ _
    | ⟨2, _⟩ => Subsingleton.elim (α := Fin 1) _ _ | ⟨3, _⟩ => rfl | ⟨4, _⟩ => rfl⟩

theorem pieceQ (v : FVec Ideal S512x2176 .f32) (g : Vec Ideal S1x128 .f32) (o : Nat) (hm : o % 128 = 0) (ho : o + 128 ≤ 1024)
    {inb} {p : Vec Ideal S1x128x512 .bf16}
    (hp : ∀ (i : Fin 128) (r : Fin 512), p (ix3 0 i r) = rms (fun j => v (ix2 r ⟨o + j.val, by omega⟩)) (fun j => g (ix2 0 j)) i * qScale)
    (x : S1x128x512.Idx) :
    p x = queries v g ((Rect.unit (s := S1x1024x512) ![0, o, 0] ![1, 128, 512] inb).emb x) := by
  obtain ⟨i, r, rfl⟩ := idxCols x
  have e := embCols (N := 1024) (o := o) i r (by omega) inb
  refine (hp i r).trans ((congrArg (queries v g) e).trans ?_).symm
  refine congrArg (· * qScale) (thead_congr v g r ?_ _ (by omega) ?_)
  · show (o + i.val) / 128 * 128 = o
    omega
  · refine Fin.ext ?_
    show (o + i.val) % 128 = i.val
    omega

theorem pieceI (v : FVec Ideal S512x2176 .f32) (o n : Nat) (hn : n = 1536 + o) (ho : o + 128 ≤ 512)
    {inb} {p : Vec Ideal S1x128x512 .bf16}
    (hp : ∀ (i : Fin 128) (r : Fin 512), p (ix3 0 i r) = v (ix2 r ⟨n + i.val, by omega⟩)) (x : S1x128x512.Idx) :
    p x = indexQueries v ((Rect.unit (s := S1x512x512) ![0, o, 0] ![1, 128, 512] inb).emb x) := by
  obtain ⟨i, r, rfl⟩ := idxCols x
  have e := embCols (N := 512) (o := o) i r (by omega) inb
  refine (hp i r).trans ((congrArg (indexQueries v) e).trans ?_).symm
  refine congrArg (fun k => v (ix2 r k)) (Fin.ext ?_)
  show 1536 + (o + i.val) = n + i.val
  omega

theorem pieceK (v : FVec Ideal S512x2176 .f32) (g : Vec Ideal S1x128 .f32) (o n : Nat) (hm : o % 128 = 0) (hn : n = 1024 + o) (ho : o + 128 ≤ 256)
    {inb} {p : Vec Ideal S1x512x128 .f32}
    (hp : ∀ (r : Fin 512) (i : Fin 128), p (ix3 0 r i) = rms (fun j => v (ix2 r ⟨n + j.val, by omega⟩)) (fun j => g (ix2 0 j)) i)
    (x : S1x512x128.Idx) :
    p x = keys v g ((Rect.unit (s := S1x512x256) ![0, 0, o] ![1, 512, 128] inb).emb x) := by
  obtain ⟨r, i, rfl⟩ := idxRows x
  have e := embRows (o := o) r i (by omega) inb
  refine (hp r i).trans ((congrArg (keys v g) e).trans ?_).symm
  refine thead_congr v g r ?_ _ (by omega) ?_
  · show 1024 + (o + i.val) / 128 * 128 = n
    omega
  · refine Fin.ext ?_
    show (o + i.val) % 128 = i.val
    omega

theorem pieceKB (v : FVec Ideal S512x2176 .f32) (g : Vec Ideal S1x128 .f32) (o n : Nat) (hm : o % 128 = 0) (hn : n = 1024 + o) (ho : o + 128 ≤ 256)
    {inb} {p : Vec Ideal S1x512x128 .bf16}
    (hp : ∀ (r : Fin 512) (i : Fin 128), p (ix3 0 r i) = rms (fun j => v (ix2 r ⟨n + j.val, by omega⟩)) (fun j => g (ix2 0 j)) i)
    (x : S1x512x128.Idx) :
    p x = keysB v g ((Rect.unit (s := S1x512x256) ![0, 0, o] ![1, 512, 128] inb).emb x) :=
  pieceK v g o n hm hn ho (p := fun x => p x) hp x

theorem pieceT (v : FVec Ideal S512x2176 .f32) (o n : Nat) (hn : n = 1280 + o * 128) (ho : o < 2)
    {inb} {p : Vec Ideal S1x1x1x128x512 .bf16}
    (hp : ∀ (i : Fin 128) (r : Fin 512), p (ix5 0 0 0 i r) = v (ix2 r ⟨n + i.val, by omega⟩)) (x : S1x1x1x128x512.Idx) :
    p x = turned v ((Rect.unit (s := S1x1x2x128x512) ![0, 0, o, 0, 0] ![1, 1, 1, 128, 512] inb).emb x) := by
  obtain ⟨i, r, rfl⟩ := idxTurned x
  have e := embTurned (o := o) i r ho inb
  refine (hp i r).trans ((congrArg (turned v) e).trans ?_).symm
  refine congrArg (fun k => v (ix2 r k)) (Fin.ext ?_)
  show 1280 + (o * 128 + i.val) = n + i.val
  omega

/-! ## The blocks -/

theorem out4 (x0 : Vec Ideal S1x512x1024 .bf16) (x1 : Vec Ideal S1024x2176 .bf16) (x2 x3 : Vec Ideal S1x128 .f32) : out0_4 x0 x1 x2 x3 = queries (k0_pay3 x0 x1) x2 := by
  unfold out0_4 k0_pay40
  rw [ldH, ldW, ldR]
  refine funext fun y => View.canon_apply_of_pieces (Val := Elt Ideal) (queries (k0_pay3 x0 x1) x2) _ ?_ y (cover0_4 _ _ _ _ _ _ _ _ y)
  intro p hp x
  rcases List.mem_cons.1 hp with rfl | hp
  · exact pieceQ (inb := inb_S1x1024x512_S1x128x512_0_896_0) (k0_pay3 x0 x1) x2 896 (by decide) (by decide) (q7_apply (k0_pay3 x0 x1) x2) x
  rcases List.mem_cons.1 hp with rfl | hp
  · exact pieceQ (inb := inb_S1x1024x512_S1x128x512_0_768_0) (k0_pay3 x0 x1) x2 768 (by decide) (by decide) (q6_apply (k0_pay3 x0 x1) x2) x
  rcases List.mem_cons.1 hp with rfl | hp
  · exact pieceQ (inb := inb_S1x1024x512_S1x128x512_0_640_0) (k0_pay3 x0 x1) x2 640 (by decide) (by decide) (q5_apply (k0_pay3 x0 x1) x2) x
  rcases List.mem_cons.1 hp with rfl | hp
  · exact pieceQ (inb := inb_S1x1024x512_S1x128x512_0_512_0) (k0_pay3 x0 x1) x2 512 (by decide) (by decide) (q4_apply (k0_pay3 x0 x1) x2) x
  rcases List.mem_cons.1 hp with rfl | hp
  · exact pieceQ (inb := inb_S1x1024x512_S1x128x512_0_384_0) (k0_pay3 x0 x1) x2 384 (by decide) (by decide) (q3_apply (k0_pay3 x0 x1) x2) x
  rcases List.mem_cons.1 hp with rfl | hp
  · exact pieceQ (inb := inb_S1x1024x512_S1x128x512_0_256_0) (k0_pay3 x0 x1) x2 256 (by decide) (by decide) (q2_apply (k0_pay3 x0 x1) x2) x
  rcases List.mem_cons.1 hp with rfl | hp
  · exact pieceQ (inb := inb_S1x1024x512_S1x128x512_0_128_0) (k0_pay3 x0 x1) x2 128 (by decide) (by decide) (q1_apply x0 x1 x2) x
  rcases List.mem_cons.1 hp with rfl | hp
  · exact pieceQ (inb := inb_S1x1024x512_S1x128x512_0_0_0) (k0_pay3 x0 x1) x2 0 (by decide) (by decide) (q0_apply x0 x1 x2) x
  simp at hp

theorem out5 (x0 : Vec Ideal S1x512x1024 .bf16) (x1 : Vec Ideal S1024x2176 .bf16) (x2 x3 : Vec Ideal S1x128 .f32) : out0_5 x0 x1 x2 x3 = keys (k0_pay3 x0 x1) x3 := by
  unfold out0_5 k0_pay40
  rw [ldH, ldW, ldR]
  refine funext fun y => View.canon_apply_of_pieces (Val := Elt Ideal) (keys (k0_pay3 x0 x1) x3) _ ?_ y (cover0_5 _ _ y)
  intro p hp x
  rcases List.mem_cons.1 hp with rfl | hp
  · exact pieceK (inb := inb_S1x512x256_S1x512x128_0_0_128) (k0_pay3 x0 x1) x3 128 1152 (by decide) rfl (by decide) (k1_apply (k0_pay3 x0 x1) x3) x
  rcases List.mem_cons.1 hp with rfl | hp
  · exact pieceK (inb := inb_S1x512x256_S1x512x128_0_0_0) (k0_pay3 x0 x1) x3 0 1024 (by decide) rfl (by decide) (k0_apply (k0_pay3 x0 x1) x3) x
  simp at hp

theorem out10 (x0 : Vec Ideal S1x512x1024 .bf16) (x1 : Vec Ideal S1024x2176 .bf16) (x2 x3 : Vec Ideal S1x128 .f32) : out0_10 x0 x1 x2 x3 = keysB (k0_pay3 x0 x1) x3 := by
  unfold out0_10 k0_pay40
  rw [ldH, ldW, ldR]
  refine funext fun y => View.canon_apply_of_pieces (Val := Elt Ideal) (keysB (k0_pay3 x0 x1) x3) _ ?_ y (cover0_10 _ _ y)
  intro p hp x
  rcases List.mem_cons.1 hp with rfl | hp
  · exact pieceKB (inb := inb_S1x512x256_S1x512x128_0_0_128) (k0_pay3 x0 x1) x3 128 1152 (by decide) rfl (by decide) (kb1_apply (k0_pay3 x0 x1) x3) x
  rcases List.mem_cons.1 hp with rfl | hp
  · exact pieceKB (inb := inb_S1x512x256_S1x512x128_0_0_0) (k0_pay3 x0 x1) x3 0 1024 (by decide) rfl (by decide) (kb0_apply (k0_pay3 x0 x1) x3) x
  simp at hp

theorem out7 (x0 : Vec Ideal S1x512x1024 .bf16) (x1 : Vec Ideal S1024x2176 .bf16) (x2 x3 : Vec Ideal S1x128 .f32) : out0_7 x0 x1 x2 x3 = indexQueries (k0_pay3 x0 x1) := by
  unfold out0_7 k0_pay40
  rw [ldH, ldW]
  refine funext fun y => View.canon_apply_of_pieces (Val := Elt Ideal) (indexQueries (k0_pay3 x0 x1)) _ ?_ y (cover0_7 _ _ _ _ y)
  intro p hp x
  rcases List.mem_cons.1 hp with rfl | hp
  · exact pieceI (inb := inb_S1x512x512_S1x128x512_0_384_0) (k0_pay3 x0 x1) 384 1920 rfl (by decide) (qi3_apply (k0_pay3 x0 x1)) x
  rcases List.mem_cons.1 hp with rfl | hp
  · exact pieceI (inb := inb_S1x512x512_S1x128x512_0_256_0) (k0_pay3 x0 x1) 256 1792 rfl (by decide) (qi2_apply (k0_pay3 x0 x1)) x
  rcases List.mem_cons.1 hp with rfl | hp
  · exact pieceI (inb := inb_S1x512x512_S1x128x512_0_128_0) (k0_pay3 x0 x1) 128 1664 rfl (by decide) (qi1_apply (k0_pay3 x0 x1)) x
  rcases List.mem_cons.1 hp with rfl | hp
  · exact pieceI (inb := inb_S1x512x512_S1x128x512_0_0_0) (k0_pay3 x0 x1) 0 1536 rfl (by decide) (qi0_apply (k0_pay3 x0 x1)) x
  simp at hp

theorem out11 (x0 : Vec Ideal S1x512x1024 .bf16) (x1 : Vec Ideal S1024x2176 .bf16) (x2 x3 : Vec Ideal S1x128 .f32) : out0_11 x0 x1 x2 x3 = turned (k0_pay3 x0 x1) := by
  unfold out0_11 k0_pay40
  rw [ldH, ldW]
  refine funext fun y => View.canon_apply_of_pieces (Val := Elt Ideal) (turned (k0_pay3 x0 x1)) _ ?_ y (cover0_11 _ _ y)
  intro p hp x
  rcases List.mem_cons.1 hp with rfl | hp
  · exact pieceT (inb := inb_S1x1x2x128x512_S1x1x1x128x512_0_0_1_0_0) (k0_pay3 x0 x1) 1 1408 rfl (by decide) (vt1_apply (k0_pay3 x0 x1)) x
  rcases List.mem_cons.1 hp with rfl | hp
  · exact pieceT (inb := inb_S1x1x2x128x512_S1x1x1x128x512_0_0_0_0_0) (k0_pay3 x0 x1) 0 1280 rfl (by decide) (vt0_apply (k0_pay3 x0 x1)) x
  simp at hp

theorem out6 (x0 : Vec Ideal S1x512x1024 .bf16) (x1 : Vec Ideal S1024x2176 .bf16) (x2 x3 : Vec Ideal S1x128 .f32) : out0_6 x0 x1 x2 x3 = k0_pay30 (k0_pay3 x0 x1) := by
  unfold out0_6 k0_pay40
  rw [View.canon_unit_zero hz3, ldH, ldW]

theorem out8 (x0 : Vec Ideal S1x512x1024 .bf16) (x1 : Vec Ideal S1024x2176 .bf16) (x2 x3 : Vec Ideal S1x128 .f32) : out0_8 x0 x1 x2 x3 = k0_pay38 (k0_pay3 x0 x1) := by
  unfold out0_8 k0_pay40
  rw [View.canon_unit_zero hz3, ldH, ldW]

theorem out9 (x0 : Vec Ideal S1x512x1024 .bf16) (x1 : Vec Ideal S1024x2176 .bf16) (x2 x3 : Vec Ideal S1x128 .f32) : out0_9 x0 x1 x2 x3 = k0_pay2 (k0_pay3 x0 x1) := by
  unfold out0_9 k0_pay40
  rw [View.canon_unit_zero hz3, ldH, ldW]

theorem out12 (x0 : Vec Ideal S1x512x1024 .bf16) (x1 : Vec Ideal S1024x2176 .bf16) (x2 x3 : Vec Ideal S1x128 .f32) : out0_12 x0 x1 x2 x3 = k0_pay1 (k0_pay39 (k0_pay3 x0 x1)) := by
  unfold out0_12 k0_pay40
  rw [View.canon_unit_zero hz3, ldH, ldW]

/-! ## The blocks, one element at a time -/

theorem out4_apply (x0 : Vec Ideal S1x512x1024 .bf16) (x1 : Vec Ideal S1024x2176 .bf16) (x2 x3 : Vec Ideal S1x128 .f32) (d : Fin 1024) (r : Fin 512) :
    (out0_4 x0 x1 x2 x3 (ix3 0 d r) : EReal) = rms (fun j => tproj x0 x1 r (d.val / 128 * 128 + j.val) (by omega)) (fun j => x2 (ix2 0 j)) (lane d.val) * qScale := by
  rw [out4]
  refine congrArg (· * qScale) ?_
  show rms (fun j => (k0_pay3 x0 x1) (ix2 r ⟨d.val / 128 * 128 + j.val, by omega⟩)) (fun j => x2 (ix2 0 j)) (lane d.val) = _
  simp only [p_apply, tproj]

theorem out5_apply (x0 : Vec Ideal S1x512x1024 .bf16) (x1 : Vec Ideal S1024x2176 .bf16) (x2 x3 : Vec Ideal S1x128 .f32) (r : Fin 512) (d : Fin 256) :
    (out0_5 x0 x1 x2 x3 (ix3 0 r d) : EReal) = rms (fun j => tproj x0 x1 r (1024 + (d.val / 128 * 128 + j.val)) (by omega)) (fun j => x3 (ix2 0 j)) (lane d.val) := by
  rw [out5]
  show rms (fun j => (k0_pay3 x0 x1) (ix2 r ⟨1024 + d.val / 128 * 128 + j.val, by omega⟩)) (fun j => x3 (ix2 0 j)) (lane d.val) = _
  simp only [p_apply, tproj, Nat.add_assoc]

theorem out10_apply (x0 : Vec Ideal S1x512x1024 .bf16) (x1 : Vec Ideal S1024x2176 .bf16) (x2 x3 : Vec Ideal S1x128 .f32) (r : Fin 512) (d : Fin 256) :
    (out0_10 x0 x1 x2 x3 (ix3 0 r d) : EReal) = rms (fun j => tproj x0 x1 r (1024 + (d.val / 128 * 128 + j.val)) (by omega)) (fun j => x3 (ix2 0 j)) (lane d.val) := by
  rw [out10]
  show rms (fun j => (k0_pay3 x0 x1) (ix2 r ⟨1024 + d.val / 128 * 128 + j.val, by omega⟩)) (fun j => x3 (ix2 0 j)) (lane d.val) = _
  simp only [p_apply, tproj, Nat.add_assoc]

theorem out6_apply (x0 : Vec Ideal S1x512x1024 .bf16) (x1 : Vec Ideal S1024x2176 .bf16) (x2 x3 : Vec Ideal S1x128 .f32) (r : Fin 512) (d : Fin 256) :
    (out0_6 x0 x1 x2 x3 (ix3 0 r d) : EReal) = tproj x0 x1 r (1280 + d.val) (by omega) := by
  rw [out6]
  rw [v_apply, p_apply]
  rfl

theorem out7_apply (x0 : Vec Ideal S1x512x1024 .bf16) (x1 : Vec Ideal S1024x2176 .bf16) (x2 x3 : Vec Ideal S1x128 .f32) (d : Fin 512) (r : Fin 512) :
    (out0_7 x0 x1 x2 x3 (ix3 0 d r) : EReal) = tproj x0 x1 r (1536 + d.val) (by omega) := by
  rw [out7]
  exact p_apply x0 x1 r _

theorem out8_apply (x0 : Vec Ideal S1x512x1024 .bf16) (x1 : Vec Ideal S1024x2176 .bf16) (x2 x3 : Vec Ideal S1x128 .f32) (r : Fin 512) (d : Fin 64) :
    (out0_8 x0 x1 x2 x3 (ix3 0 r d) : EReal) = tproj x0 x1 r (2048 + d.val) (by omega) := by
  rw [out8]
  rw [ki_apply, p_apply]
  rfl

theorem out12_apply (x0 : Vec Ideal S1x512x1024 .bf16) (x1 : Vec Ideal S1024x2176 .bf16) (x2 x3 : Vec Ideal S1x128 .f32) (r : Fin 512) (d : Fin 64) :
    (out0_12 x0 x1 x2 x3 (ix3 0 r d) : EReal) = tproj x0 x1 r (2048 + d.val) (by omega) := by
  rw [out12]
  rw [kib_apply, p_apply]
  rfl

theorem out9_apply (x0 : Vec Ideal S1x512x1024 .bf16) (x1 : Vec Ideal S1024x2176 .bf16) (x2 x3 : Vec Ideal S1x128 .f32) (n : Fin 8) (r : Fin 512) :
    (out0_9 x0 x1 x2 x3 (ix3 0 n r) : EReal) = tproj x0 x1 r (2112 + n.val) (by omega) * wScale := by
  rw [out9]
  rw [wi_apply, p_apply]
  rfl

theorem out11_apply (x0 : Vec Ideal S1x512x1024 .bf16) (x1 : Vec Ideal S1024x2176 .bf16) (x2 x3 : Vec Ideal S1x128 .f32) (e : Fin 2) (i : Fin 128) (r : Fin 512) :
    (out0_11 x0 x1 x2 x3 (ix5 0 0 e i r) : EReal) = tproj x0 x1 r (1280 + (e.val * 128 + i.val)) (by omega) := by
  rw [out11]
  exact p_apply x0 x1 r _

end Cert.ProjIdeal.Block

end
-- ==== Proof.Proj.Array.lean ====
module

public import proofs.«01_k».proof.Proof.Proj.Block
public import Idealize.ShloMosaic.Lib.Pipeline.Value
public import Idealize.ShloMosaic.Lib.StableHlo.Run

@[expose] public section

set_option maxRecDepth 16384

noncomputable section

/-! The attention's projections: what the kernel's run leaves.

The grid is four batches by sixteen tiles of 512 tokens: point `t` is tile `t % 16` of batch `t / 16`. -/

namespace Cert.ProjIdeal.Array

open Cert.ProjIdeal Cert.ProjIdeal.Gen Idealize.ShloMosaic Idealize.ShloMosaic.TcCoe Idealize.SL.Sem Cert.Proj.Math
open Idealize.ShloMosaic.Pipeline (Dat)
open Cert.ProjIdeal.Block (tproj)

variable (m : (ℓ : Loc nD τ sig) → Buf (Elt Ideal) ℓ) (ρ : Dev nD → PrngReg)

/-! ## Where a point's blocks lie -/

theorem batch_lt (t : Fin cfg0.N) : t.val / 16 < 4 := by
  have h : t.val < cfg0.N := t.isLt
  have hN : cfg0.N = 64 := N_0
  omega

theorem row_lt (t : Fin cfg0.N) (r : Fin 512) : t.val % 16 * 512 + r.val < 8192 := by
  have := r.isLt
  omega

/-- The batch of point `t`. -/
abbrev batch (t : Fin cfg0.N) : Fin 4 := ⟨t.val / 16, batch_lt t⟩
/-- The tile of point `t`. -/
abbrev tile (t : Fin cfg0.N) : Fin 16 := ⟨t.val % 16, Nat.mod_lt _ (by decide)⟩
/-- The token at row `r` of point `t`'s tile. -/
abbrev token (t : Fin cfg0.N) (r : Fin 512) : Fin 8192 := ⟨t.val % 16 * 512 + r.val, row_lt t r⟩

theorem point_lt (b : Fin 4) (s : Fin 16) : b.val * 16 + s.val < cfg0.N := by
  have hN : cfg0.N = 64 := N_0
  omega

/-- The point of a batch's tile. -/
abbrev point (b : Fin 4) (s : Fin 16) : Fin cfg0.N := ⟨b.val * 16 + s.val, point_lt b s⟩

theorem batch_point (b : Fin 4) (s : Fin 16) : batch (point b s) = b :=
  Fin.ext (by show (b.val * 16 + s.val) / 16 = b.val; omega)
theorem tile_point (b : Fin 4) (s : Fin 16) : tile (point b s) = s :=
  Fin.ext (by show (b.val * 16 + s.val) % 16 = s.val; omega)

/-- The tile a token lies in. -/
abbrev tileOf (u : Fin 8192) : Fin 16 := ⟨u.val / 512, by omega⟩
/-- The row of its tile a token is. -/
abbrev rowOf (u : Fin 8192) : Fin 512 := ⟨u.val % 512, Nat.mod_lt _ (by decide)⟩

theorem token_point (b : Fin 4) (u : Fin 8192) : token (point b (tileOf u)) (rowOf u) = u :=
  Fin.ext (by show (b.val * 16 + u.val / 512) % 16 * 512 + u.val % 512 = u.val; omega)

theorem index0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val / 16 ∧ win0_4.index t 1 = 0 ∧ win0_4.index t 2 = t.val % 16 :=
  (by decide +kernel : ∀ t : Fin grid0.N, win0_4.index t 0 = t.val / 16 ∧ win0_4.index t 1 = 0 ∧ win0_4.index t 2 = t.val % 16)
theorem index5 : ∀ t : Fin cfg0.N, win0_5.index t 0 = t.val / 16 ∧ win0_5.index t 1 = t.val % 16 ∧ win0_5.index t 2 = 0 :=
  (by decide +kernel : ∀ t : Fin grid0.N, win0_5.index t 0 = t.val / 16 ∧ win0_5.index t 1 = t.val % 16 ∧ win0_5.index t 2 = 0)
theorem index6 : ∀ t : Fin cfg0.N, win0_6.index t 0 = t.val / 16 ∧ win0_6.index t 1 = t.val % 16 ∧ win0_6.index t 2 = 0 :=
  (by decide +kernel : ∀ t : Fin grid0.N, win0_6.index t 0 = t.val / 16 ∧ win0_6.index t 1 = t.val % 16 ∧ win0_6.index t 2 = 0)
theorem index7 : ∀ t : Fin cfg0.N, win0_7.index t 0 = t.val / 16 ∧ win0_7.index t 1 = 0 ∧ win0_7.index t 2 = t.val % 16 :=
  (by decide +kernel : ∀ t : Fin grid0.N, win0_7.index t 0 = t.val / 16 ∧ win0_7.index t 1 = 0 ∧ win0_7.index t 2 = t.val % 16)
theorem index8 : ∀ t : Fin cfg0.N, win0_8.index t 0 = t.val / 16 ∧ win0_8.index t 1 = t.val % 16 ∧ win0_8.index t 2 = 0 :=
  (by decide +kernel : ∀ t : Fin grid0.N, win0_8.index t 0 = t.val / 16 ∧ win0_8.index t 1 = t.val % 16 ∧ win0_8.index t 2 = 0)
theorem index9 : ∀ t : Fin cfg0.N, win0_9.index t 0 = t.val / 16 ∧ win0_9.index t 1 = 0 ∧ win0_9.index t 2 = t.val % 16 :=
  (by decide +kernel : ∀ t : Fin grid0.N, win0_9.index t 0 = t.val / 16 ∧ win0_9.index t 1 = 0 ∧ win0_9.index t 2 = t.val % 16)
theorem index10 : ∀ t : Fin cfg0.N, win0_10.index t 0 = t.val / 16 ∧ win0_10.index t 1 = t.val % 16 ∧ win0_10.index t 2 = 0 :=
  (by decide +kernel : ∀ t : Fin grid0.N, win0_10.index t 0 = t.val / 16 ∧ win0_10.index t 1 = t.val % 16 ∧ win0_10.index t 2 = 0)
theorem index11 : ∀ t : Fin cfg0.N, win0_11.index t 0 = t.val / 16 ∧ win0_11.index t 1 = t.val % 16 ∧ win0_11.index t 2 = 0 ∧ win0_11.index t 3 = 0 ∧ win0_11.index t 4 = 0 :=
  (by decide +kernel : ∀ t : Fin grid0.N, win0_11.index t 0 = t.val / 16 ∧ win0_11.index t 1 = t.val % 16 ∧ win0_11.index t 2 = 0 ∧ win0_11.index t 3 = 0 ∧ win0_11.index t 4 = 0)
theorem index12 : ∀ t : Fin cfg0.N, win0_12.index t 0 = t.val / 16 ∧ win0_12.index t 1 = t.val % 16 ∧ win0_12.index t 2 = 0 :=
  (by decide +kernel : ∀ t : Fin grid0.N, win0_12.index t 0 = t.val / 16 ∧ win0_12.index t 1 = t.val % 16 ∧ win0_12.index t 2 = 0)

/-! ## The arrays the host prepares -/

theorem w_apply (c : Dev nD) (j : Fin 1024) (n : Nat) (h : n < 2120) :
    (V m c main_v2 (ix2 j ⟨n, by omega⟩) : EReal) = m ((c : Thread nD τ).loc main_arg1) (ix2 j ⟨4096 + n, by omega⟩) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []
  exact dif_pos h

theorem gq_apply (c : Dev nD) (k : Fin 128) :
    (V m c main_v8 (ix2 0 k) : EReal) = m ((c : Thread nD τ).loc main_arg2) (ix1 k) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem gk_apply (c : Dev nD) (k : Fin 128) :
    (V m c main_v9 (ix2 0 k) : EReal) = m ((c : Thread nD τ).loc main_arg3) (ix1 k) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

/-! ## The blocks a point reads -/

/-- The normalised rows' block. -/
theorem h_block (c : Dev nD) (t : Fin cfg0.N) (r : Fin 512) (d : Fin 1024) :
    (iblk m c 0 t (ix3 0 r d) : EReal) = m ((c : Thread nD τ).loc main_arg0) (ix3 (batch t) (token t r) d) := by
  have h : (iblk m c 0 t (ix3 0 r d) : EReal) = V m c main_arg0 (ix3 (batch t) (token t r) d) := by
    show V m c main_arg0 (((cfg0.win 0).blk t).view.emb (ix3 0 r d)) = _
    congr 1
    funext a
    apply Fin.ext
    match a with
    | ⟨0, _⟩ =>
      have eq := (index0 t).1
      show win0_0.index t 0 * 1 + 1 * 0 = t.val / 16
      omega
    | ⟨1, _⟩ =>
      have eq := (index0 t).2.1
      show win0_0.index t 1 * 512 + 1 * r.val = t.val % 16 * 512 + r.val
      omega
    | ⟨2, _⟩ =>
      have eq := (index0 t).2.2
      show win0_0.index t 2 * 1024 + 1 * d.val = d.val
      omega
  exact h.trans (congrFun (V_main_arg0 m c) _)

/-- The weights, whole. -/
theorem w_block (c : Dev nD) (t : Fin cfg0.N) (j : Fin 1024) (n : Nat) (hn : n < 2120) :
    (iblk m c 1 t (ix2 j ⟨n, by omega⟩) : EReal) = m ((c : Thread nD τ).loc main_arg1) (ix2 j ⟨4096 + n, by omega⟩) := by
  have h : (iblk m c 1 t (ix2 j ⟨n, by omega⟩) : EReal) = V m c main_v2 (ix2 j ⟨n, by omega⟩) := by
    show V m c main_v2 (((cfg0.win 1).blk t).view.emb (ix2 j ⟨n, by omega⟩)) = _
    congr 1
    funext a
    apply Fin.ext
    match a with
    | ⟨0, _⟩ =>
      have eq := (index1 t).1
      show win0_1.index t 0 * 1024 + 1 * j.val = j.val
      omega
    | ⟨1, _⟩ =>
      have eq := (index1 t).2
      show win0_1.index t 1 * 2176 + 1 * n = n
      omega
  exact h.trans (w_apply m c j n hn)

/-- The queries' scale. -/
theorem gq_block (c : Dev nD) (t : Fin cfg0.N) (k : Fin 128) :
    (iblk m c 2 t (ix2 0 k) : EReal) = m ((c : Thread nD τ).loc main_arg2) (ix1 k) := by
  have h : (iblk m c 2 t (ix2 0 k) : EReal) = V m c main_v8 (ix2 0 k) := by
    show V m c main_v8 (((cfg0.win 2).blk t).view.emb (ix2 0 k)) = _
    congr 1
    funext a
    apply Fin.ext
    match a with
    | ⟨0, _⟩ =>
      have eq := (index2 t).1
      show win0_2.index t 0 * 1 + 1 * 0 = 0
      omega
    | ⟨1, _⟩ =>
      have eq := (index2 t).2
      show win0_2.index t 1 * 128 + 1 * k.val = k.val
      omega
  exact h.trans (gq_apply m c k)

/-- The keys' scale. -/
theorem gk_block (c : Dev nD) (t : Fin cfg0.N) (k : Fin 128) :
    (iblk m c 3 t (ix2 0 k) : EReal) = m ((c : Thread nD τ).loc main_arg3) (ix1 k) := by
  have h : (iblk m c 3 t (ix2 0 k) : EReal) = V m c main_v9 (ix2 0 k) := by
    show V m c main_v9 (((cfg0.win 3).blk t).view.emb (ix2 0 k)) = _
    congr 1
    funext a
    apply Fin.ext
    match a with
    | ⟨0, _⟩ =>
      have eq := (index3 t).1
      show win0_3.index t 0 * 1 + 1 * 0 = 0
      omega
    | ⟨1, _⟩ =>
      have eq := (index3 t).2
      show win0_3.index t 1 * 128 + 1 * k.val = k.val
      omega
  exact h.trans (gk_apply m c k)

/-- A tile's projected rows are its tokens'. -/
theorem own (c : Dev nD) (t : Fin cfg0.N) (r : Fin 512) (n : Nat) (h : n < 2120) :
    tproj (iblk m c 0 t) (iblk m c 1 t) r n h = proj (m ((c : Thread nD τ).loc main_arg0)) (m ((c : Thread nD τ).loc main_arg1)) (batch t) (token t r) n h := by
  unfold tproj proj
  simp only [h_block]
  congr 1
  funext j
  exact w_block m c t j n h

/-! ## The queries, columns by tokens. -/

/-- What this result array holds after the run. -/
def result4 (c : Dev nD) : Vec Ideal S4x1024x8192 .bf16 :=
  fun i => query (m ((c : Thread nD τ).loc main_arg0)) (m ((c : Thread nD τ).loc main_arg1)) (m ((c : Thread nD τ).loc main_arg2)) (i 0) (i 2) (i 1)

theorem point4 (c : Dev nD) (t : Fin cfg0.N) (d : Fin 1024) (r : Fin 512) :
    (out0_4 (iblk m c 0 t) (iblk m c 1 t) (iblk m c 2 t) (iblk m c 3 t) (ix3 0 d r) : EReal)
      = query (m ((c : Thread nD τ).loc main_arg0)) (m ((c : Thread nD τ).loc main_arg1)) (m ((c : Thread nD τ).loc main_arg2)) (batch t) (token t r) d := by
  refine (Block.out4_apply _ _ _ _ d r).trans ?_
  unfold query
  simp only [own, gq_block]

theorem emb4 (t : Fin cfg0.N) (d : Fin 1024) (r : Fin 512) :
    ((cfg0.win 4).blk t).view.emb (ix3 0 d r) = ix3 (batch t) d (token t r) := by
  funext a
  apply Fin.ext
  match a with
  | ⟨0, _⟩ =>
    have eq := (index4 t).1
    show win0_4.index t 0 * 1 + 1 * 0 = t.val / 16
    omega
  | ⟨1, _⟩ =>
    have eq := (index4 t).2.1
    show win0_4.index t 1 * 1024 + 1 * d.val = d.val
    omega
  | ⟨2, _⟩ =>
    have eq := (index4 t).2.2
    show win0_4.index t 2 * 512 + 1 * r.val = t.val % 16 * 512 + r.val
    omega

theorem mem4 (t : Fin cfg0.N) (d : Fin 1024) (r : Fin 512) :
    (ix3 (batch t) d (token t r) : S4x1024x8192.Idx) ∈ ((cfg0.win 4).blk t).view.set := by
  rw [← emb4]
  exact View.emb_mem_set _ _

theorem flushed4 (c : Dev nD) (t : Fin cfg0.N) :
    (dats m 0 c).flushed 4 t = ((cfg0.win 4).blk t).view.read (Elt Ideal) (result4 m c) := by
  rw [Value.flushed4]
  funext y
  obtain ⟨b, d, r, rfl⟩ : ∃ (b : Fin 1) (d : Fin 1024) (r : Fin 512), y = ix3 b d r :=
    ⟨y 0, y 1, y 2, funext fun a => match a with | ⟨0, _⟩ => rfl | ⟨1, _⟩ => rfl | ⟨2, _⟩ => rfl⟩
  obtain rfl : b = 0 := Subsingleton.elim _ _
  show out0_4 (iblk m c 0 t) (iblk m c 1 t) (iblk m c 2 t) (iblk m c 3 t) (ix3 0 d r)
    = result4 m c (((cfg0.win 4).blk t).view.emb (ix3 0 d r))
  rw [emb4]
  exact point4 m c t d r

theorem cover4 (x : S4x1024x8192.Idx) :
    ∃ t : Fin cfg0.N, (cfg0.win 4).flush t = true ∧ x ∈ ((cfg0.win 4).blk t).view.set := by
  obtain ⟨b, d, u, rfl⟩ : ∃ (b : Fin 4) (d : Fin 1024) (u : Fin 8192), x = ix3 b d u :=
    ⟨x 0, x 1, x 2, funext fun a => match a with | ⟨0, _⟩ => rfl | ⟨1, _⟩ => rfl | ⟨2, _⟩ => rfl⟩
  have h := mem4 (point b (tileOf u)) d (rowOf u)
  rw [batch_point, token_point] at h
  exact ⟨_, flush0_4 _, h⟩

theorem final4 (c : Dev nD) : (dats m 0 c).arrAt 4 cfg0.N = result4 m c :=
  (dats m 0 c).arrAt_eq_of_cover 4 (result4 m c) (fun t _ => flushed4 m c t) cover4

/-! ## The keys. -/

/-- What this result array holds after the run. -/
def result5 (c : Dev nD) : Vec Ideal S4x8192x256 .f32 :=
  fun i => key (m ((c : Thread nD τ).loc main_arg0)) (m ((c : Thread nD τ).loc main_arg1)) (m ((c : Thread nD τ).loc main_arg3)) (i 0) (i 1) (i 2)

theorem point5 (c : Dev nD) (t : Fin cfg0.N) (r : Fin 512) (d : Fin 256) :
    (out0_5 (iblk m c 0 t) (iblk m c 1 t) (iblk m c 2 t) (iblk m c 3 t) (ix3 0 r d) : EReal)
      = key (m ((c : Thread nD τ).loc main_arg0)) (m ((c : Thread nD τ).loc main_arg1)) (m ((c : Thread nD τ).loc main_arg3)) (batch t) (token t r) d := by
  refine (Block.out5_apply _ _ _ _ r d).trans ?_
  unfold key
  simp only [own, gk_block]

theorem emb5 (t : Fin cfg0.N) (r : Fin 512) (d : Fin 256) :
    ((cfg0.win 5).blk t).view.emb (ix3 0 r d) = ix3 (batch t) (token t r) d := by
  funext a
  apply Fin.ext
  match a with
  | ⟨0, _⟩ =>
    have eq := (index5 t).1
    show win0_5.index t 0 * 1 + 1 * 0 = t.val / 16
    omega
  | ⟨1, _⟩ =>
    have eq := (index5 t).2.1
    show win0_5.index t 1 * 512 + 1 * r.val = t.val % 16 * 512 + r.val
    omega
  | ⟨2, _⟩ =>
    have eq := (index5 t).2.2
    show win0_5.index t 2 * 256 + 1 * d.val = d.val
    omega

theorem mem5 (t : Fin cfg0.N) (r : Fin 512) (d : Fin 256) :
    (ix3 (batch t) (token t r) d : S4x8192x256.Idx) ∈ ((cfg0.win 5).blk t).view.set := by
  rw [← emb5]
  exact View.emb_mem_set _ _

theorem flushed5 (c : Dev nD) (t : Fin cfg0.N) :
    (dats m 0 c).flushed 5 t = ((cfg0.win 5).blk t).view.read (Elt Ideal) (result5 m c) := by
  rw [Value.flushed5]
  funext y
  obtain ⟨b, r, d, rfl⟩ : ∃ (b : Fin 1) (r : Fin 512) (d : Fin 256), y = ix3 b r d :=
    ⟨y 0, y 1, y 2, funext fun a => match a with | ⟨0, _⟩ => rfl | ⟨1, _⟩ => rfl | ⟨2, _⟩ => rfl⟩
  obtain rfl : b = 0 := Subsingleton.elim _ _
  show out0_5 (iblk m c 0 t) (iblk m c 1 t) (iblk m c 2 t) (iblk m c 3 t) (ix3 0 r d)
    = result5 m c (((cfg0.win 5).blk t).view.emb (ix3 0 r d))
  rw [emb5]
  exact point5 m c t r d

theorem cover5 (x : S4x8192x256.Idx) :
    ∃ t : Fin cfg0.N, (cfg0.win 5).flush t = true ∧ x ∈ ((cfg0.win 5).blk t).view.set := by
  obtain ⟨b, u, d, rfl⟩ : ∃ (b : Fin 4) (u : Fin 8192) (d : Fin 256), x = ix3 b u d :=
    ⟨x 0, x 1, x 2, funext fun a => match a with | ⟨0, _⟩ => rfl | ⟨1, _⟩ => rfl | ⟨2, _⟩ => rfl⟩
  have h := mem5 (point b (tileOf u)) (rowOf u) d
  rw [batch_point, token_point] at h
  exact ⟨_, flush0_5 _, h⟩

theorem final5 (c : Dev nD) : (dats m 0 c).arrAt 5 cfg0.N = result5 m c :=
  (dats m 0 c).arrAt_eq_of_cover 5 (result5 m c) (fun t _ => flushed5 m c t) cover5

/-! ## The values. -/

/-- What this result array holds after the run. -/
def result6 (c : Dev nD) : Vec Ideal S4x8192x256 .f32 :=
  fun i => proj (m ((c : Thread nD τ).loc main_arg0)) (m ((c : Thread nD τ).loc main_arg1)) (i 0) (i 1) (1280 + ((i 2)).val) (by have h : (i 2).val < 256 := (i 2).isLt; omega)

theorem point6 (c : Dev nD) (t : Fin cfg0.N) (r : Fin 512) (d : Fin 256) :
    (out0_6 (iblk m c 0 t) (iblk m c 1 t) (iblk m c 2 t) (iblk m c 3 t) (ix3 0 r d) : EReal)
      = proj (m ((c : Thread nD τ).loc main_arg0)) (m ((c : Thread nD τ).loc main_arg1)) (batch t) (token t r) (1280 + (d).val) (by omega) := by
  refine (Block.out6_apply _ _ _ _ r d).trans ?_
  rw [own]

theorem emb6 (t : Fin cfg0.N) (r : Fin 512) (d : Fin 256) :
    ((cfg0.win 6).blk t).view.emb (ix3 0 r d) = ix3 (batch t) (token t r) d := by
  funext a
  apply Fin.ext
  match a with
  | ⟨0, _⟩ =>
    have eq := (index6 t).1
    show win0_6.index t 0 * 1 + 1 * 0 = t.val / 16
    omega
  | ⟨1, _⟩ =>
    have eq := (index6 t).2.1
    show win0_6.index t 1 * 512 + 1 * r.val = t.val % 16 * 512 + r.val
    omega
  | ⟨2, _⟩ =>
    have eq := (index6 t).2.2
    show win0_6.index t 2 * 256 + 1 * d.val = d.val
    omega

theorem mem6 (t : Fin cfg0.N) (r : Fin 512) (d : Fin 256) :
    (ix3 (batch t) (token t r) d : S4x8192x256.Idx) ∈ ((cfg0.win 6).blk t).view.set := by
  rw [← emb6]
  exact View.emb_mem_set _ _

theorem flushed6 (c : Dev nD) (t : Fin cfg0.N) :
    (dats m 0 c).flushed 6 t = ((cfg0.win 6).blk t).view.read (Elt Ideal) (result6 m c) := by
  rw [Value.flushed6]
  funext y
  obtain ⟨b, r, d, rfl⟩ : ∃ (b : Fin 1) (r : Fin 512) (d : Fin 256), y = ix3 b r d :=
    ⟨y 0, y 1, y 2, funext fun a => match a with | ⟨0, _⟩ => rfl | ⟨1, _⟩ => rfl | ⟨2, _⟩ => rfl⟩
  obtain rfl : b = 0 := Subsingleton.elim _ _
  show out0_6 (iblk m c 0 t) (iblk m c 1 t) (iblk m c 2 t) (iblk m c 3 t) (ix3 0 r d)
    = result6 m c (((cfg0.win 6).blk t).view.emb (ix3 0 r d))
  rw [emb6]
  exact point6 m c t r d

theorem cover6 (x : S4x8192x256.Idx) :
    ∃ t : Fin cfg0.N, (cfg0.win 6).flush t = true ∧ x ∈ ((cfg0.win 6).blk t).view.set := by
  obtain ⟨b, u, d, rfl⟩ : ∃ (b : Fin 4) (u : Fin 8192) (d : Fin 256), x = ix3 b u d :=
    ⟨x 0, x 1, x 2, funext fun a => match a with | ⟨0, _⟩ => rfl | ⟨1, _⟩ => rfl | ⟨2, _⟩ => rfl⟩
  have h := mem6 (point b (tileOf u)) (rowOf u) d
  rw [batch_point, token_point] at h
  exact ⟨_, flush0_6 _, h⟩

theorem final6 (c : Dev nD) : (dats m 0 c).arrAt 6 cfg0.N = result6 m c :=
  (dats m 0 c).arrAt_eq_of_cover 6 (result6 m c) (fun t _ => flushed6 m c t) cover6

/-! ## The index queries, columns by tokens. -/

/-- What this result array holds after the run. -/
def result7 (c : Dev nD) : Vec Ideal S4x512x8192 .bf16 :=
  fun i => proj (m ((c : Thread nD τ).loc main_arg0)) (m ((c : Thread nD τ).loc main_arg1)) (i 0) (i 2) (1536 + ((i 1)).val) (by have h : (i 1).val < 512 := (i 1).isLt; omega)

theorem point7 (c : Dev nD) (t : Fin cfg0.N) (d : Fin 512) (r : Fin 512) :
    (out0_7 (iblk m c 0 t) (iblk m c 1 t) (iblk m c 2 t) (iblk m c 3 t) (ix3 0 d r) : EReal)
      = proj (m ((c : Thread nD τ).loc main_arg0)) (m ((c : Thread nD τ).loc main_arg1)) (batch t) (token t r) (1536 + (d).val) (by omega) := by
  refine (Block.out7_apply _ _ _ _ d r).trans ?_
  rw [own]

theorem emb7 (t : Fin cfg0.N) (d : Fin 512) (r : Fin 512) :
    ((cfg0.win 7).blk t).view.emb (ix3 0 d r) = ix3 (batch t) d (token t r) := by
  funext a
  apply Fin.ext
  match a with
  | ⟨0, _⟩ =>
    have eq := (index7 t).1
    show win0_7.index t 0 * 1 + 1 * 0 = t.val / 16
    omega
  | ⟨1, _⟩ =>
    have eq := (index7 t).2.1
    show win0_7.index t 1 * 512 + 1 * d.val = d.val
    omega
  | ⟨2, _⟩ =>
    have eq := (index7 t).2.2
    show win0_7.index t 2 * 512 + 1 * r.val = t.val % 16 * 512 + r.val
    omega

theorem mem7 (t : Fin cfg0.N) (d : Fin 512) (r : Fin 512) :
    (ix3 (batch t) d (token t r) : S4x512x8192.Idx) ∈ ((cfg0.win 7).blk t).view.set := by
  rw [← emb7]
  exact View.emb_mem_set _ _

theorem flushed7 (c : Dev nD) (t : Fin cfg0.N) :
    (dats m 0 c).flushed 7 t = ((cfg0.win 7).blk t).view.read (Elt Ideal) (result7 m c) := by
  rw [Value.flushed7]
  funext y
  obtain ⟨b, d, r, rfl⟩ : ∃ (b : Fin 1) (d : Fin 512) (r : Fin 512), y = ix3 b d r :=
    ⟨y 0, y 1, y 2, funext fun a => match a with | ⟨0, _⟩ => rfl | ⟨1, _⟩ => rfl | ⟨2, _⟩ => rfl⟩
  obtain rfl : b = 0 := Subsingleton.elim _ _
  show out0_7 (iblk m c 0 t) (iblk m c 1 t) (iblk m c 2 t) (iblk m c 3 t) (ix3 0 d r)
    = result7 m c (((cfg0.win 7).blk t).view.emb (ix3 0 d r))
  rw [emb7]
  exact point7 m c t d r

theorem cover7 (x : S4x512x8192.Idx) :
    ∃ t : Fin cfg0.N, (cfg0.win 7).flush t = true ∧ x ∈ ((cfg0.win 7).blk t).view.set := by
  obtain ⟨b, d, u, rfl⟩ : ∃ (b : Fin 4) (d : Fin 512) (u : Fin 8192), x = ix3 b d u :=
    ⟨x 0, x 1, x 2, funext fun a => match a with | ⟨0, _⟩ => rfl | ⟨1, _⟩ => rfl | ⟨2, _⟩ => rfl⟩
  have h := mem7 (point b (tileOf u)) d (rowOf u)
  rw [batch_point, token_point] at h
  exact ⟨_, flush0_7 _, h⟩

theorem final7 (c : Dev nD) : (dats m 0 c).arrAt 7 cfg0.N = result7 m c :=
  (dats m 0 c).arrAt_eq_of_cover 7 (result7 m c) (fun t _ => flushed7 m c t) cover7

/-! ## The index keys. -/

/-- What this result array holds after the run. -/
def result8 (c : Dev nD) : Vec Ideal S4x8192x64 .f32 :=
  fun i => proj (m ((c : Thread nD τ).loc main_arg0)) (m ((c : Thread nD τ).loc main_arg1)) (i 0) (i 1) (2048 + ((i 2)).val) (by have h : (i 2).val < 64 := (i 2).isLt; omega)

theorem point8 (c : Dev nD) (t : Fin cfg0.N) (r : Fin 512) (d : Fin 64) :
    (out0_8 (iblk m c 0 t) (iblk m c 1 t) (iblk m c 2 t) (iblk m c 3 t) (ix3 0 r d) : EReal)
      = proj (m ((c : Thread nD τ).loc main_arg0)) (m ((c : Thread nD τ).loc main_arg1)) (batch t) (token t r) (2048 + (d).val) (by omega) := by
  refine (Block.out8_apply _ _ _ _ r d).trans ?_
  rw [own]

theorem emb8 (t : Fin cfg0.N) (r : Fin 512) (d : Fin 64) :
    ((cfg0.win 8).blk t).view.emb (ix3 0 r d) = ix3 (batch t) (token t r) d := by
  funext a
  apply Fin.ext
  match a with
  | ⟨0, _⟩ =>
    have eq := (index8 t).1
    show win0_8.index t 0 * 1 + 1 * 0 = t.val / 16
    omega
  | ⟨1, _⟩ =>
    have eq := (index8 t).2.1
    show win0_8.index t 1 * 512 + 1 * r.val = t.val % 16 * 512 + r.val
    omega
  | ⟨2, _⟩ =>
    have eq := (index8 t).2.2
    show win0_8.index t 2 * 64 + 1 * d.val = d.val
    omega

theorem mem8 (t : Fin cfg0.N) (r : Fin 512) (d : Fin 64) :
    (ix3 (batch t) (token t r) d : S4x8192x64.Idx) ∈ ((cfg0.win 8).blk t).view.set := by
  rw [← emb8]
  exact View.emb_mem_set _ _

theorem flushed8 (c : Dev nD) (t : Fin cfg0.N) :
    (dats m 0 c).flushed 8 t = ((cfg0.win 8).blk t).view.read (Elt Ideal) (result8 m c) := by
  rw [Value.flushed8]
  funext y
  obtain ⟨b, r, d, rfl⟩ : ∃ (b : Fin 1) (r : Fin 512) (d : Fin 64), y = ix3 b r d :=
    ⟨y 0, y 1, y 2, funext fun a => match a with | ⟨0, _⟩ => rfl | ⟨1, _⟩ => rfl | ⟨2, _⟩ => rfl⟩
  obtain rfl : b = 0 := Subsingleton.elim _ _
  show out0_8 (iblk m c 0 t) (iblk m c 1 t) (iblk m c 2 t) (iblk m c 3 t) (ix3 0 r d)
    = result8 m c (((cfg0.win 8).blk t).view.emb (ix3 0 r d))
  rw [emb8]
  exact point8 m c t r d

theorem cover8 (x : S4x8192x64.Idx) :
    ∃ t : Fin cfg0.N, (cfg0.win 8).flush t = true ∧ x ∈ ((cfg0.win 8).blk t).view.set := by
  obtain ⟨b, u, d, rfl⟩ : ∃ (b : Fin 4) (u : Fin 8192) (d : Fin 64), x = ix3 b u d :=
    ⟨x 0, x 1, x 2, funext fun a => match a with | ⟨0, _⟩ => rfl | ⟨1, _⟩ => rfl | ⟨2, _⟩ => rfl⟩
  have h := mem8 (point b (tileOf u)) (rowOf u) d
  rw [batch_point, token_point] at h
  exact ⟨_, flush0_8 _, h⟩

theorem final8 (c : Dev nD) : (dats m 0 c).arrAt 8 cfg0.N = result8 m c :=
  (dats m 0 c).arrAt_eq_of_cover 8 (result8 m c) (fun t _ => flushed8 m c t) cover8

/-! ## The index weights, heads by tokens. -/

/-- What this result array holds after the run. -/
def result9 (c : Dev nD) : Vec Ideal S4x8x8192 .f32 :=
  fun i => proj (m ((c : Thread nD τ).loc main_arg0)) (m ((c : Thread nD τ).loc main_arg1)) (i 0) (i 2) (2112 + ((i 1)).val) (by have h : (i 1).val < 8 := (i 1).isLt; omega) * wScale

theorem point9 (c : Dev nD) (t : Fin cfg0.N) (d : Fin 8) (r : Fin 512) :
    (out0_9 (iblk m c 0 t) (iblk m c 1 t) (iblk m c 2 t) (iblk m c 3 t) (ix3 0 d r) : EReal)
      = proj (m ((c : Thread nD τ).loc main_arg0)) (m ((c : Thread nD τ).loc main_arg1)) (batch t) (token t r) (2112 + (d).val) (by omega) * wScale := by
  refine (Block.out9_apply _ _ _ _ d r).trans ?_
  rw [own]

theorem emb9 (t : Fin cfg0.N) (d : Fin 8) (r : Fin 512) :
    ((cfg0.win 9).blk t).view.emb (ix3 0 d r) = ix3 (batch t) d (token t r) := by
  funext a
  apply Fin.ext
  match a with
  | ⟨0, _⟩ =>
    have eq := (index9 t).1
    show win0_9.index t 0 * 1 + 1 * 0 = t.val / 16
    omega
  | ⟨1, _⟩ =>
    have eq := (index9 t).2.1
    show win0_9.index t 1 * 8 + 1 * d.val = d.val
    omega
  | ⟨2, _⟩ =>
    have eq := (index9 t).2.2
    show win0_9.index t 2 * 512 + 1 * r.val = t.val % 16 * 512 + r.val
    omega

theorem mem9 (t : Fin cfg0.N) (d : Fin 8) (r : Fin 512) :
    (ix3 (batch t) d (token t r) : S4x8x8192.Idx) ∈ ((cfg0.win 9).blk t).view.set := by
  rw [← emb9]
  exact View.emb_mem_set _ _

theorem flushed9 (c : Dev nD) (t : Fin cfg0.N) :
    (dats m 0 c).flushed 9 t = ((cfg0.win 9).blk t).view.read (Elt Ideal) (result9 m c) := by
  rw [Value.flushed9]
  funext y
  obtain ⟨b, d, r, rfl⟩ : ∃ (b : Fin 1) (d : Fin 8) (r : Fin 512), y = ix3 b d r :=
    ⟨y 0, y 1, y 2, funext fun a => match a with | ⟨0, _⟩ => rfl | ⟨1, _⟩ => rfl | ⟨2, _⟩ => rfl⟩
  obtain rfl : b = 0 := Subsingleton.elim _ _
  show out0_9 (iblk m c 0 t) (iblk m c 1 t) (iblk m c 2 t) (iblk m c 3 t) (ix3 0 d r)
    = result9 m c (((cfg0.win 9).blk t).view.emb (ix3 0 d r))
  rw [emb9]
  exact point9 m c t d r

theorem cover9 (x : S4x8x8192.Idx) :
    ∃ t : Fin cfg0.N, (cfg0.win 9).flush t = true ∧ x ∈ ((cfg0.win 9).blk t).view.set := by
  obtain ⟨b, d, u, rfl⟩ : ∃ (b : Fin 4) (d : Fin 8) (u : Fin 8192), x = ix3 b d u :=
    ⟨x 0, x 1, x 2, funext fun a => match a with | ⟨0, _⟩ => rfl | ⟨1, _⟩ => rfl | ⟨2, _⟩ => rfl⟩
  have h := mem9 (point b (tileOf u)) d (rowOf u)
  rw [batch_point, token_point] at h
  exact ⟨_, flush0_9 _, h⟩

theorem final9 (c : Dev nD) : (dats m 0 c).arrAt 9 cfg0.N = result9 m c :=
  (dats m 0 c).arrAt_eq_of_cover 9 (result9 m c) (fun t _ => flushed9 m c t) cover9

/-! ## The keys, as the attention reads them. -/

/-- What this result array holds after the run. -/
def result10 (c : Dev nD) : Vec Ideal S4x8192x256 .bf16 :=
  fun i => key (m ((c : Thread nD τ).loc main_arg0)) (m ((c : Thread nD τ).loc main_arg1)) (m ((c : Thread nD τ).loc main_arg3)) (i 0) (i 1) (i 2)

theorem point10 (c : Dev nD) (t : Fin cfg0.N) (r : Fin 512) (d : Fin 256) :
    (out0_10 (iblk m c 0 t) (iblk m c 1 t) (iblk m c 2 t) (iblk m c 3 t) (ix3 0 r d) : EReal)
      = key (m ((c : Thread nD τ).loc main_arg0)) (m ((c : Thread nD τ).loc main_arg1)) (m ((c : Thread nD τ).loc main_arg3)) (batch t) (token t r) d := by
  refine (Block.out10_apply _ _ _ _ r d).trans ?_
  unfold key
  simp only [own, gk_block]

theorem emb10 (t : Fin cfg0.N) (r : Fin 512) (d : Fin 256) :
    ((cfg0.win 10).blk t).view.emb (ix3 0 r d) = ix3 (batch t) (token t r) d := by
  funext a
  apply Fin.ext
  match a with
  | ⟨0, _⟩ =>
    have eq := (index10 t).1
    show win0_10.index t 0 * 1 + 1 * 0 = t.val / 16
    omega
  | ⟨1, _⟩ =>
    have eq := (index10 t).2.1
    show win0_10.index t 1 * 512 + 1 * r.val = t.val % 16 * 512 + r.val
    omega
  | ⟨2, _⟩ =>
    have eq := (index10 t).2.2
    show win0_10.index t 2 * 256 + 1 * d.val = d.val
    omega

theorem mem10 (t : Fin cfg0.N) (r : Fin 512) (d : Fin 256) :
    (ix3 (batch t) (token t r) d : S4x8192x256.Idx) ∈ ((cfg0.win 10).blk t).view.set := by
  rw [← emb10]
  exact View.emb_mem_set _ _

theorem flushed10 (c : Dev nD) (t : Fin cfg0.N) :
    (dats m 0 c).flushed 10 t = ((cfg0.win 10).blk t).view.read (Elt Ideal) (result10 m c) := by
  rw [Value.flushed10]
  funext y
  obtain ⟨b, r, d, rfl⟩ : ∃ (b : Fin 1) (r : Fin 512) (d : Fin 256), y = ix3 b r d :=
    ⟨y 0, y 1, y 2, funext fun a => match a with | ⟨0, _⟩ => rfl | ⟨1, _⟩ => rfl | ⟨2, _⟩ => rfl⟩
  obtain rfl : b = 0 := Subsingleton.elim _ _
  show out0_10 (iblk m c 0 t) (iblk m c 1 t) (iblk m c 2 t) (iblk m c 3 t) (ix3 0 r d)
    = result10 m c (((cfg0.win 10).blk t).view.emb (ix3 0 r d))
  rw [emb10]
  exact point10 m c t r d

theorem cover10 (x : S4x8192x256.Idx) :
    ∃ t : Fin cfg0.N, (cfg0.win 10).flush t = true ∧ x ∈ ((cfg0.win 10).blk t).view.set := by
  obtain ⟨b, u, d, rfl⟩ : ∃ (b : Fin 4) (u : Fin 8192) (d : Fin 256), x = ix3 b u d :=
    ⟨x 0, x 1, x 2, funext fun a => match a with | ⟨0, _⟩ => rfl | ⟨1, _⟩ => rfl | ⟨2, _⟩ => rfl⟩
  have h := mem10 (point b (tileOf u)) (rowOf u) d
  rw [batch_point, token_point] at h
  exact ⟨_, flush0_10 _, h⟩

theorem final10 (c : Dev nD) : (dats m 0 c).arrAt 10 cfg0.N = result10 m c :=
  (dats m 0 c).arrAt_eq_of_cover 10 (result10 m c) (fun t _ => flushed10 m c t) cover10

/-! ## The values turned, tile by tile. -/

/-- What this result array holds after the run. -/
def result11 (c : Dev nD) : Vec Ideal S4x16x2x128x512 .bf16 :=
  fun i => proj (m ((c : Thread nD τ).loc main_arg0)) (m ((c : Thread nD τ).loc main_arg1)) (i 0) ⟨(i 1).val * 512 + (i 4).val, by have h : (i 1).val < 16 := (i 1).isLt; have h' : (i 4).val < 512 := (i 4).isLt; omega⟩
    (1280 + ((i 2).val * 128 + (i 3).val)) (by have h : (i 2).val < 2 := (i 2).isLt; have h' : (i 3).val < 128 := (i 3).isLt; omega)

theorem point11 (c : Dev nD) (t : Fin cfg0.N) (e : Fin 2) (i : Fin 128) (r : Fin 512) :
    (out0_11 (iblk m c 0 t) (iblk m c 1 t) (iblk m c 2 t) (iblk m c 3 t) (ix5 0 0 e i r) : EReal)
      = proj (m ((c : Thread nD τ).loc main_arg0)) (m ((c : Thread nD τ).loc main_arg1)) (batch t) (token t r) (1280 + (e.val * 128 + i.val)) (by omega) := by
  refine (Block.out11_apply _ _ _ _ e i r).trans ?_
  rw [own]

theorem emb11 (t : Fin cfg0.N) (e : Fin 2) (i : Fin 128) (r : Fin 512) :
    ((cfg0.win 11).blk t).view.emb (ix5 0 0 e i r) = ix5 (batch t) (tile t) e i r := by
  funext a
  apply Fin.ext
  match a with
  | ⟨0, _⟩ =>
    have eq := (index11 t).1
    show win0_11.index t 0 * 1 + 1 * 0 = t.val / 16
    omega
  | ⟨1, _⟩ =>
    have eq := (index11 t).2.1
    show win0_11.index t 1 * 1 + 1 * 0 = t.val % 16
    omega
  | ⟨2, _⟩ =>
    have eq := (index11 t).2.2.1
    show win0_11.index t 2 * 2 + 1 * e.val = e.val
    omega
  | ⟨3, _⟩ =>
    have eq := (index11 t).2.2.2.1
    show win0_11.index t 3 * 128 + 1 * i.val = i.val
    omega
  | ⟨4, _⟩ =>
    have eq := (index11 t).2.2.2.2
    show win0_11.index t 4 * 512 + 1 * r.val = r.val
    omega

theorem mem11 (t : Fin cfg0.N) (e : Fin 2) (i : Fin 128) (r : Fin 512) :
    (ix5 (batch t) (tile t) e i r : S4x16x2x128x512.Idx) ∈ ((cfg0.win 11).blk t).view.set := by
  rw [← emb11]
  exact View.emb_mem_set _ _

theorem flushed11 (c : Dev nD) (t : Fin cfg0.N) :
    (dats m 0 c).flushed 11 t = ((cfg0.win 11).blk t).view.read (Elt Ideal) (result11 m c) := by
  rw [Value.flushed11]
  funext y
  obtain ⟨b, s, e, i, r, rfl⟩ : ∃ (b : Fin 1) (s : Fin 1) (e : Fin 2) (i : Fin 128) (r : Fin 512), y = ix5 b s e i r :=
    ⟨y 0, y 1, y 2, y 3, y 4, funext fun a => match a with | ⟨0, _⟩ => rfl | ⟨1, _⟩ => rfl | ⟨2, _⟩ => rfl | ⟨3, _⟩ => rfl | ⟨4, _⟩ => rfl⟩
  obtain rfl : b = 0 := Subsingleton.elim _ _
  obtain rfl : s = 0 := Subsingleton.elim _ _
  show out0_11 (iblk m c 0 t) (iblk m c 1 t) (iblk m c 2 t) (iblk m c 3 t) (ix5 0 0 e i r)
    = result11 m c (((cfg0.win 11).blk t).view.emb (ix5 0 0 e i r))
  rw [emb11]
  exact point11 m c t e i r

theorem cover11 (x : S4x16x2x128x512.Idx) :
    ∃ t : Fin cfg0.N, (cfg0.win 11).flush t = true ∧ x ∈ ((cfg0.win 11).blk t).view.set := by
  obtain ⟨b, s, e, i, r, rfl⟩ : ∃ (b : Fin 4) (s : Fin 16) (e : Fin 2) (i : Fin 128) (r : Fin 512), x = ix5 b s e i r :=
    ⟨x 0, x 1, x 2, x 3, x 4, funext fun a => match a with | ⟨0, _⟩ => rfl | ⟨1, _⟩ => rfl | ⟨2, _⟩ => rfl | ⟨3, _⟩ => rfl | ⟨4, _⟩ => rfl⟩
  have h := mem11 (point b s) e i r
  rw [batch_point, tile_point] at h
  exact ⟨_, flush0_11 _, h⟩

theorem final11 (c : Dev nD) : (dats m 0 c).arrAt 11 cfg0.N = result11 m c :=
  (dats m 0 c).arrAt_eq_of_cover 11 (result11 m c) (fun t _ => flushed11 m c t) cover11

/-! ## The index keys, as the attention reads them. -/

/-- What this result array holds after the run. -/
def result12 (c : Dev nD) : Vec Ideal S4x8192x64 .bf16 :=
  fun i => proj (m ((c : Thread nD τ).loc main_arg0)) (m ((c : Thread nD τ).loc main_arg1)) (i 0) (i 1) (2048 + ((i 2)).val) (by have h : (i 2).val < 64 := (i 2).isLt; omega)

theorem point12 (c : Dev nD) (t : Fin cfg0.N) (r : Fin 512) (d : Fin 64) :
    (out0_12 (iblk m c 0 t) (iblk m c 1 t) (iblk m c 2 t) (iblk m c 3 t) (ix3 0 r d) : EReal)
      = proj (m ((c : Thread nD τ).loc main_arg0)) (m ((c : Thread nD τ).loc main_arg1)) (batch t) (token t r) (2048 + (d).val) (by omega) := by
  refine (Block.out12_apply _ _ _ _ r d).trans ?_
  rw [own]

theorem emb12 (t : Fin cfg0.N) (r : Fin 512) (d : Fin 64) :
    ((cfg0.win 12).blk t).view.emb (ix3 0 r d) = ix3 (batch t) (token t r) d := by
  funext a
  apply Fin.ext
  match a with
  | ⟨0, _⟩ =>
    have eq := (index12 t).1
    show win0_12.index t 0 * 1 + 1 * 0 = t.val / 16
    omega
  | ⟨1, _⟩ =>
    have eq := (index12 t).2.1
    show win0_12.index t 1 * 512 + 1 * r.val = t.val % 16 * 512 + r.val
    omega
  | ⟨2, _⟩ =>
    have eq := (index12 t).2.2
    show win0_12.index t 2 * 64 + 1 * d.val = d.val
    omega

theorem mem12 (t : Fin cfg0.N) (r : Fin 512) (d : Fin 64) :
    (ix3 (batch t) (token t r) d : S4x8192x64.Idx) ∈ ((cfg0.win 12).blk t).view.set := by
  rw [← emb12]
  exact View.emb_mem_set _ _

theorem flushed12 (c : Dev nD) (t : Fin cfg0.N) :
    (dats m 0 c).flushed 12 t = ((cfg0.win 12).blk t).view.read (Elt Ideal) (result12 m c) := by
  rw [Value.flushed12]
  funext y
  obtain ⟨b, r, d, rfl⟩ : ∃ (b : Fin 1) (r : Fin 512) (d : Fin 64), y = ix3 b r d :=
    ⟨y 0, y 1, y 2, funext fun a => match a with | ⟨0, _⟩ => rfl | ⟨1, _⟩ => rfl | ⟨2, _⟩ => rfl⟩
  obtain rfl : b = 0 := Subsingleton.elim _ _
  show out0_12 (iblk m c 0 t) (iblk m c 1 t) (iblk m c 2 t) (iblk m c 3 t) (ix3 0 r d)
    = result12 m c (((cfg0.win 12).blk t).view.emb (ix3 0 r d))
  rw [emb12]
  exact point12 m c t r d

theorem cover12 (x : S4x8192x64.Idx) :
    ∃ t : Fin cfg0.N, (cfg0.win 12).flush t = true ∧ x ∈ ((cfg0.win 12).blk t).view.set := by
  obtain ⟨b, u, d, rfl⟩ : ∃ (b : Fin 4) (u : Fin 8192) (d : Fin 64), x = ix3 b u d :=
    ⟨x 0, x 1, x 2, funext fun a => match a with | ⟨0, _⟩ => rfl | ⟨1, _⟩ => rfl | ⟨2, _⟩ => rfl⟩
  have h := mem12 (point b (tileOf u)) (rowOf u) d
  rw [batch_point, token_point] at h
  exact ⟨_, flush0_12 _, h⟩

theorem final12 (c : Dev nD) : (dats m 0 c).arrAt 12 cfg0.N = result12 m c :=
  (dats m 0 c).arrAt_eq_of_cover 12 (result12 m c) (fun t _ => flushed12 m c t) cover12

end Cert.ProjIdeal.Array

end
-- ==== Proof.Proj.Ref.lean ====
module

public import proofs.«01_k».proof.Proof.Proj.Math
public import proofs.«01_k».proof.Proof.Gen.ProjRefIdeal.Read

@[expose] public section

set_option maxRecDepth 16384

noncomputable section

/-! The attention's projections, one element at a time: what the reference holds. -/

namespace Cert.ProjRefIdeal.Elem

open Cert.ProjRefIdeal Cert.ProjRefIdeal.Gen Cert.ProjRefIdeal.Read Idealize.ShloMosaic Cert.Proj.Math

theorem p_apply (x0 : FVec Ideal S4x8192x1024 .bf16) (x1 : FVec Ideal S1024x9288 .f32) (b : Fin 4) (t : Fin 8192) (n : Fin 2120) :
    (val_main_v2 (F := Ideal) x0 x1 (ix3 b t n) : EReal) = proj x0 x1 b t n.val n.isLt := by
  pointwise [val_main_v2, val_main_v1, val_main_v0, proj, dot]

/-- The queries' rows, head by head. -/
theorem qhead_apply (x0 : FVec Ideal S4x8192x1024 .bf16) (x1 : FVec Ideal S1024x9288 .f32) (x2 : FVec Ideal S128 .f32) (b : Fin 4) (t : Fin 8192) (e : Fin 8) (i : Fin 128) :
    (val_main_v19 (F := Ideal) x0 x1 x2 (ix4 b t e i) : EReal)
      = rms (fun j => proj x0 x1 b t (e.val * 128 + j.val) (by omega)) (fun j => x2 (ix1 j)) i * qScale := by
  have h := p_apply x0 x1 b t
  have h4 : ∀ j : Fin 128, (val_main_v4 (F := Ideal) x0 x1 (ix4 b t e j) : EReal) = proj x0 x1 b t (e.val * 128 + j.val) (by omega) := by
    intro j
    unfold val_main_v4 val_main_v3
    generalize val_main_v2 (F := Ideal) x0 x1 = v at h ⊢
    pointwise []
    refine Eq.trans ?_ (h ⟨e.val * 128 + j.val, by omega⟩)
    congr 1
  unfold val_main_v19 val_main_v17 val_main_v14 val_main_v13 val_main_v12 val_main_v11 val_main_v9 val_main_v7 val_main_v6 val_main_v5
  generalize val_main_v4 (F := Ideal) x0 x1 = v at h4 ⊢
  pointwise [val_main_v18, val_main_v16, val_main_v15, val_main_v10, val_main_v8, val_main_cst, val_main_cst_0, val_main_cst_1, val_main_cst_2, rms]
  simp only [h4]

/-- The first result: the queries, columns by tokens. -/
theorem q_apply (x0 : FVec Ideal S4x8192x1024 .bf16) (x1 : FVec Ideal S1024x9288 .f32) (x2 : FVec Ideal S128 .f32) (b : Fin 4) (d : Fin 1024) (t : Fin 8192) :
    (val_main_v46 (F := Ideal) x0 x1 x2 (ix3 b d t) : EReal) = query x0 x1 x2 b t d := by
  have h := qhead_apply x0 x1 x2 b t
  unfold val_main_v46 val_main_v45 val_main_v44
  generalize val_main_v19 (F := Ideal) x0 x1 x2 = v at h ⊢
  pointwise []
  refine Eq.trans ?_ (h ⟨d.val / 128, by omega⟩ (lane d.val))
  congr 1

/-- The keys' rows, head by head. -/
theorem khead_apply (x0 : FVec Ideal S4x8192x1024 .bf16) (x1 : FVec Ideal S1024x9288 .f32) (x3 : FVec Ideal S128 .f32) (b : Fin 4) (t : Fin 8192) (e : Fin 2) (i : Fin 128) :
    (val_main_v34 (F := Ideal) x0 x1 x3 (ix4 b t e i) : EReal)
      = rms (fun j => proj x0 x1 b t (1024 + (e.val * 128 + j.val)) (by omega)) (fun j => x3 (ix1 j)) i := by
  have h := p_apply x0 x1 b t
  have h4 : ∀ j : Fin 128, (val_main_v21 (F := Ideal) x0 x1 (ix4 b t e j) : EReal) = proj x0 x1 b t (1024 + (e.val * 128 + j.val)) (by omega) := by
    intro j
    unfold val_main_v21 val_main_v20
    generalize val_main_v2 (F := Ideal) x0 x1 = v at h ⊢
    pointwise []
    refine Eq.trans ?_ (h ⟨1024 + (e.val * 128 + j.val), by omega⟩)
    congr 1
  unfold val_main_v34 val_main_v31 val_main_v30 val_main_v29 val_main_v28 val_main_v26 val_main_v24 val_main_v23 val_main_v22
  generalize val_main_v21 (F := Ideal) x0 x1 = v at h4 ⊢
  pointwise [val_main_v33, val_main_v32, val_main_v27, val_main_v25, val_main_cst_3, val_main_cst_4, val_main_cst_5, rms]
  simp only [h4]

/-- The second result: the keys. -/
theorem k_apply (x0 : FVec Ideal S4x8192x1024 .bf16) (x1 : FVec Ideal S1024x9288 .f32) (x3 : FVec Ideal S128 .f32) (b : Fin 4) (t : Fin 8192) (d : Fin 256) :
    (val_main_v35 (F := Ideal) x0 x1 x3 (ix3 b t d) : EReal) = key x0 x1 x3 b t d := by
  have h := khead_apply x0 x1 x3 b t
  unfold val_main_v35
  generalize val_main_v34 (F := Ideal) x0 x1 x3 = v at h ⊢
  pointwise []
  refine Eq.trans ?_ (h ⟨d.val / 128, by omega⟩ (lane d.val))
  congr 1

/-- The seventh result: the keys again, as the attention reads them. -/
theorem kb_apply (x0 : FVec Ideal S4x8192x1024 .bf16) (x1 : FVec Ideal S1024x9288 .f32) (x3 : FVec Ideal S128 .f32) (b : Fin 4) (t : Fin 8192) (d : Fin 256) :
    (val_main_v50 (F := Ideal) x0 x1 x3 (ix3 b t d) : EReal) = key x0 x1 x3 b t d := by
  have h := k_apply x0 x1 x3 b t d
  unfold val_main_v50
  generalize val_main_v35 (F := Ideal) x0 x1 x3 = v at h ⊢
  pointwise []
  exact h

/-- The third result: the values. -/
theorem v_apply (x0 : FVec Ideal S4x8192x1024 .bf16) (x1 : FVec Ideal S1024x9288 .f32) (b : Fin 4) (t : Fin 8192) (d : Fin 256) :
    (val_main_v36 (F := Ideal) x0 x1 (ix3 b t d) : EReal) = proj x0 x1 b t (1280 + d.val) (by omega) := by
  have h := p_apply x0 x1 b t
  unfold val_main_v36
  generalize val_main_v2 (F := Ideal) x0 x1 = v at h ⊢
  pointwise []
  exact h ⟨1280 + d.val, by omega⟩

/-- The fourth result: the index queries, columns by tokens. -/
theorem qi_apply (x0 : FVec Ideal S4x8192x1024 .bf16) (x1 : FVec Ideal S1024x9288 .f32) (b : Fin 4) (d : Fin 512) (t : Fin 8192) :
    (val_main_v48 (F := Ideal) x0 x1 (ix3 b d t) : EReal) = proj x0 x1 b t (1536 + d.val) (by omega) := by
  have h := p_apply x0 x1 b t
  unfold val_main_v48 val_main_v47 val_main_v37
  generalize val_main_v2 (F := Ideal) x0 x1 = v at h ⊢
  pointwise []
  exact h ⟨1536 + d.val, by omega⟩

/-- The fifth result: the index keys. -/
theorem ki_apply (x0 : FVec Ideal S4x8192x1024 .bf16) (x1 : FVec Ideal S1024x9288 .f32) (b : Fin 4) (t : Fin 8192) (d : Fin 64) :
    (val_main_v38 (F := Ideal) x0 x1 (ix3 b t d) : EReal) = proj x0 x1 b t (2048 + d.val) (by omega) := by
  have h := p_apply x0 x1 b t
  unfold val_main_v38
  generalize val_main_v2 (F := Ideal) x0 x1 = v at h ⊢
  pointwise []
  exact h ⟨2048 + d.val, by omega⟩

/-- The ninth result: the index keys again, as the attention reads them. -/
theorem kib_apply (x0 : FVec Ideal S4x8192x1024 .bf16) (x1 : FVec Ideal S1024x9288 .f32) (b : Fin 4) (t : Fin 8192) (d : Fin 64) :
    (val_main_v52 (F := Ideal) x0 x1 (ix3 b t d) : EReal) = proj x0 x1 b t (2048 + d.val) (by omega) := by
  have h := ki_apply x0 x1 b t d
  unfold val_main_v52
  generalize val_main_v38 (F := Ideal) x0 x1 = v at h ⊢
  pointwise []
  exact h

/-- The sixth result: the index weights, heads by tokens. -/
theorem wi_apply (x0 : FVec Ideal S4x8192x1024 .bf16) (x1 : FVec Ideal S1024x9288 .f32) (b : Fin 4) (n : Fin 8) (t : Fin 8192) :
    (val_main_v49 (F := Ideal) x0 x1 (ix3 b n t) : EReal) = proj x0 x1 b t (2112 + n.val) (by omega) * wScale := by
  have h := p_apply x0 x1 b t
  unfold val_main_v49 val_main_v41 val_main_v39
  generalize val_main_v2 (F := Ideal) x0 x1 = v at h ⊢
  pointwise [val_main_v40, val_main_cst_6]
  exact congrArg (· * wScale) (h ⟨2112 + n.val, by omega⟩)

/-- The eighth result: the values, tile by tile, head by head, columns by tokens. -/
theorem vt_apply (x0 : FVec Ideal S4x8192x1024 .bf16) (x1 : FVec Ideal S1024x9288 .f32) (b : Fin 4) (s : Fin 16) (e : Fin 2) (i : Fin 128) (r : Fin 512) :
    (val_main_v51 (F := Ideal) x0 x1 (ix5 b s e i r) : EReal)
      = proj x0 x1 b ⟨s.val * 512 + r.val, by omega⟩ (1280 + (e.val * 128 + i.val)) (by omega) := by
  have h := v_apply x0 x1 b ⟨s.val * 512 + r.val, by omega⟩ ⟨e.val * 128 + i.val, by omega⟩
  unfold val_main_v51 val_main_v43 val_main_v42
  generalize val_main_v36 (F := Ideal) x0 x1 = v at h ⊢
  pointwise []
  refine Eq.trans ?_ h
  congr 1

end Cert.ProjRefIdeal.Elem

end
-- ==== Proof.Proj.Claims.lean ====
module

public import proofs.«01_k».proof.Defs
public import proofs.«01_k».proof.Proof.Proj.Array
public import proofs.«01_k».proof.Proof.Proj.Ref
public import proofs.«01_k».proof.Proof.Gen.Proj.Frame
public import proofs.«01_k».proof.Proof.Gen.ProjRefIdeal.Run
public import Idealize.ShloMosaic.Lib.Quiescent

@[expose] public section

set_option maxRecDepth 16384

noncomputable section

/-! The attention's projections: the claims. -/

open Idealize.ShloMosaic Idealize.ShloMosaic.TcCoe Idealize.SL.Sem

namespace Cert.Proj.Claims

theorem frame : Cert.quiescent_Proj := fun m ρ _ => Cert.Proj.Gen.frame m ρ
theorem frame_ideal : Cert.quiescent_ProjIdeal := fun m ρ _ => Cert.ProjIdeal.Gen.frame m ρ
theorem frame_ref : Cert.quiescent_ProjRefIdeal := fun m ρ _ =>
  (θ_run Cert.ProjRefIdeal.defs _ _).mono (fun r h => ⟨fun c => (h c).2.2.2.2.2.2.2.2.2,
      Idealize.ShloMosaic.sem_eq_zero_of_no_sems (by decide) r.2⟩)
    (Cert.ProjRefIdeal.Value.run (F := Ideal) m ρ)

theorem preserves : Cert.preserves_Proj_ProjIdeal := trivial

/-- Kernel and reference end at the same nine arrays, `Cert.ProjIdeal.Array.result4` to `result12`. -/
theorem algebraic : Cert.algebraic_ProjIdeal_ProjRefIdeal := by
  intro m ρ m' ρ' _ hag
  refine ⟨fun c => Cert.ProjIdeal.Array.result4 m c, fun c => Cert.ProjIdeal.Array.result5 m c, fun c => Cert.ProjIdeal.Array.result6 m c, fun c => Cert.ProjIdeal.Array.result7 m c, fun c => Cert.ProjIdeal.Array.result8 m c, fun c => Cert.ProjIdeal.Array.result9 m c, fun c => Cert.ProjIdeal.Array.result10 m c, fun c => Cert.ProjIdeal.Array.result11 m c, fun c => Cert.ProjIdeal.Array.result12 m c, ?_, ?_⟩
  · exact (θ_run Cert.ProjIdeal.defs _ _).mono
      (fun _ h c => ⟨(h c).1.trans (Cert.ProjIdeal.Array.final4 m c), (h c).2.1.trans (Cert.ProjIdeal.Array.final5 m c), (h c).2.2.1.trans (Cert.ProjIdeal.Array.final6 m c), (h c).2.2.2.1.trans (Cert.ProjIdeal.Array.final7 m c), (h c).2.2.2.2.1.trans (Cert.ProjIdeal.Array.final8 m c), (h c).2.2.2.2.2.1.trans (Cert.ProjIdeal.Array.final9 m c), (h c).2.2.2.2.2.2.1.trans (Cert.ProjIdeal.Array.final10 m c), (h c).2.2.2.2.2.2.2.1.trans (Cert.ProjIdeal.Array.final11 m c), (h c).2.2.2.2.2.2.2.2.1.trans (Cert.ProjIdeal.Array.final12 m c), (h c).2.2.2.2.2.2.2.2.2⟩)
      (Cert.ProjIdeal.Value.run_blocks (F := Ideal) m ρ)
  · refine (θ_run Cert.ProjRefIdeal.defs _ _).mono
      (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.ProjRefIdeal.Value.run (F := Ideal) m' ρ')
    · obtain ⟨e0, e1, e2, e3⟩ := hag c
      refine (Cert.ProjRefIdeal.Read.val_main_v46_eq _ _ _ ).trans ?_
      show Cert.ProjRefIdeal.Read.val_main_v46 (F := Ideal) (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) (m' ((c : Thread Cert.ProjRefIdeal.nD Cert.ProjRefIdeal.τ).loc Cert.ProjRefIdeal.main_arg2)) = _
      rw [e0, e1, e2]
      funext x
      obtain ⟨b, d, t, rfl⟩ : ∃ (b : Fin 4) (d : Fin 1024) (t : Fin 8192), x = ix3 b d t :=
        ⟨x 0, x 1, x 2, funext fun a => match a with | ⟨0, _⟩ => rfl | ⟨1, _⟩ => rfl | ⟨2, _⟩ => rfl⟩
      exact Cert.ProjRefIdeal.Elem.q_apply _ _ _ b d t
    · obtain ⟨e0, e1, e2, e3⟩ := hag c
      refine (Cert.ProjRefIdeal.Read.val_main_v35_eq _ _ _ ).trans ?_
      show Cert.ProjRefIdeal.Read.val_main_v35 (F := Ideal) (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) (m' ((c : Thread Cert.ProjRefIdeal.nD Cert.ProjRefIdeal.τ).loc Cert.ProjRefIdeal.main_arg3)) = _
      rw [e0, e1, e3]
      funext x
      obtain ⟨b, t, d, rfl⟩ : ∃ (b : Fin 4) (t : Fin 8192) (d : Fin 256), x = ix3 b t d :=
        ⟨x 0, x 1, x 2, funext fun a => match a with | ⟨0, _⟩ => rfl | ⟨1, _⟩ => rfl | ⟨2, _⟩ => rfl⟩
      exact Cert.ProjRefIdeal.Elem.k_apply _ _ _ b t d
    · obtain ⟨e0, e1, e2, e3⟩ := hag c
      refine (Cert.ProjRefIdeal.Read.val_main_v36_eq _ _ ).trans ?_
      show Cert.ProjRefIdeal.Read.val_main_v36 (F := Ideal) (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) = _
      rw [e0, e1]
      funext x
      obtain ⟨b, t, d, rfl⟩ : ∃ (b : Fin 4) (t : Fin 8192) (d : Fin 256), x = ix3 b t d :=
        ⟨x 0, x 1, x 2, funext fun a => match a with | ⟨0, _⟩ => rfl | ⟨1, _⟩ => rfl | ⟨2, _⟩ => rfl⟩
      exact Cert.ProjRefIdeal.Elem.v_apply _ _ b t d
    · obtain ⟨e0, e1, e2, e3⟩ := hag c
      refine (Cert.ProjRefIdeal.Read.val_main_v48_eq _ _ ).trans ?_
      show Cert.ProjRefIdeal.Read.val_main_v48 (F := Ideal) (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) = _
      rw [e0, e1]
      funext x
      obtain ⟨b, d, t, rfl⟩ : ∃ (b : Fin 4) (d : Fin 512) (t : Fin 8192), x = ix3 b d t :=
        ⟨x 0, x 1, x 2, funext fun a => match a with | ⟨0, _⟩ => rfl | ⟨1, _⟩ => rfl | ⟨2, _⟩ => rfl⟩
      exact Cert.ProjRefIdeal.Elem.qi_apply _ _ b d t
    · obtain ⟨e0, e1, e2, e3⟩ := hag c
      refine (Cert.ProjRefIdeal.Read.val_main_v38_eq _ _ ).trans ?_
      show Cert.ProjRefIdeal.Read.val_main_v38 (F := Ideal) (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) = _
      rw [e0, e1]
      funext x
      obtain ⟨b, t, d, rfl⟩ : ∃ (b : Fin 4) (t : Fin 8192) (d : Fin 64), x = ix3 b t d :=
        ⟨x 0, x 1, x 2, funext fun a => match a with | ⟨0, _⟩ => rfl | ⟨1, _⟩ => rfl | ⟨2, _⟩ => rfl⟩
      exact Cert.ProjRefIdeal.Elem.ki_apply _ _ b t d
    · obtain ⟨e0, e1, e2, e3⟩ := hag c
      refine (Cert.ProjRefIdeal.Read.val_main_v49_eq _ _ ).trans ?_
      show Cert.ProjRefIdeal.Read.val_main_v49 (F := Ideal) (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) = _
      rw [e0, e1]
      funext x
      obtain ⟨b, d, t, rfl⟩ : ∃ (b : Fin 4) (d : Fin 8) (t : Fin 8192), x = ix3 b d t :=
        ⟨x 0, x 1, x 2, funext fun a => match a with | ⟨0, _⟩ => rfl | ⟨1, _⟩ => rfl | ⟨2, _⟩ => rfl⟩
      exact Cert.ProjRefIdeal.Elem.wi_apply _ _ b d t
    · obtain ⟨e0, e1, e2, e3⟩ := hag c
      refine (Cert.ProjRefIdeal.Read.val_main_v50_eq _ _ _ ).trans ?_
      show Cert.ProjRefIdeal.Read.val_main_v50 (F := Ideal) (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) (m' ((c : Thread Cert.ProjRefIdeal.nD Cert.ProjRefIdeal.τ).loc Cert.ProjRefIdeal.main_arg3)) = _
      rw [e0, e1, e3]
      funext x
      obtain ⟨b, t, d, rfl⟩ : ∃ (b : Fin 4) (t : Fin 8192) (d : Fin 256), x = ix3 b t d :=
        ⟨x 0, x 1, x 2, funext fun a => match a with | ⟨0, _⟩ => rfl | ⟨1, _⟩ => rfl | ⟨2, _⟩ => rfl⟩
      exact Cert.ProjRefIdeal.Elem.kb_apply _ _ _ b t d
    · obtain ⟨e0, e1, e2, e3⟩ := hag c
      refine (Cert.ProjRefIdeal.Read.val_main_v51_eq _ _ ).trans ?_
      show Cert.ProjRefIdeal.Read.val_main_v51 (F := Ideal) (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) = _
      rw [e0, e1]
      funext x
      obtain ⟨b, s, e, i, r, rfl⟩ : ∃ (b : Fin 4) (s : Fin 16) (e : Fin 2) (i : Fin 128) (r : Fin 512), x = ix5 b s e i r :=
        ⟨x 0, x 1, x 2, x 3, x 4, funext fun a => match a with | ⟨0, _⟩ => rfl | ⟨1, _⟩ => rfl | ⟨2, _⟩ => rfl | ⟨3, _⟩ => rfl | ⟨4, _⟩ => rfl⟩
      exact Cert.ProjRefIdeal.Elem.vt_apply _ _ b s e i r
    · obtain ⟨e0, e1, e2, e3⟩ := hag c
      refine (Cert.ProjRefIdeal.Read.val_main_v52_eq _ _ ).trans ?_
      show Cert.ProjRefIdeal.Read.val_main_v52 (F := Ideal) (m' ((c : Thread Cert.ProjRefIdeal.nD Cert.ProjRefIdeal.τ).loc Cert.ProjRefIdeal.main_arg0)) (m' ((c : Thread Cert.ProjRefIdeal.nD Cert.ProjRefIdeal.τ).loc Cert.ProjRefIdeal.main_arg1)) = _
      rw [e0, e1]
      funext x
      obtain ⟨b, t, d, rfl⟩ : ∃ (b : Fin 4) (t : Fin 8192) (d : Fin 64), x = ix3 b t d :=
        ⟨x 0, x 1, x 2, funext fun a => match a with | ⟨0, _⟩ => rfl | ⟨1, _⟩ => rfl | ⟨2, _⟩ => rfl⟩
      exact Cert.ProjRefIdeal.Elem.kib_apply _ _ b t d

end Cert.Proj.Claims

end
-- ==== Proof.Merge.Block.lean ====
module

public import proofs.«01_k».proof.Proof.Gen.MergeIdeal.Value
public import proofs.«01_k».proof.Proof.Gen.MergeRefIdeal.Read
public import Idealize.ShloMosaic.Lib.Pointwise

@[expose] public section

set_option maxRecDepth 16384

noncomputable section

/-! The gated mix of the three branches and the second normalisation, one row at a time: what a block of the kernel holds
and what the reference holds. -/

namespace Cert.Merge.Math

open Idealize.ShloMosaic

/-- The gate's squashing function, one over one plus the exponential of the opposite. -/
def squash (s : EReal) : EReal := Ideal.div 1 (1 + Ideal.exp (-s))

/-- A gate: the row `h` times column `k` of `w`, squashed. -/
def gate (h : Fin 1024 → EReal) (w : Fin 1024 → Fin 1024 → EReal) (k : Fin 1024) : EReal :=
  squash (∑ j : Fin 1024, h j * w j k)

/-- A row of the first result: `x` plus `g` times the projected mix of the three branches, the third projected first. -/
def x1row (x h ya yb oc g : Fin 1024 → EReal) (wa wb wc wpc wo : Fin 1024 → Fin 1024 → EReal) (d : Fin 1024) : EReal :=
  x d + g d * ∑ k : Fin 1024,
    (gate h wa k * ya k + gate h wb k * yb k + gate h wc k * ∑ j : Fin 1024, oc j * wpc j k) * wo k d

/-- A row normalised by its root mean square, scaled by `n` and `1 + s`, shifted by `u`. -/
def normrow (x n s u : Fin 1024 → EReal) (d : Fin 1024) : EReal :=
  x d * Ideal.rsqrt (Ideal.div (∑ k : Fin 1024, x k * x k) (Ideal.ofBits .f32 1149239296#32) + Ideal.ofBits .f32 897988541#32)
    * n d * (1 + s d) + u d

end Cert.Merge.Math

namespace Cert.MergeRefIdeal.Elem

open Cert.MergeRefIdeal Cert.MergeRefIdeal.Gen Cert.MergeRefIdeal.Read Idealize.ShloMosaic Cert.Merge.Math

set_option maxHeartbeats 1600000 in
/-- The reference's first result. -/
theorem x1_apply (x0 : FVec Ideal S4x8192x1024 .f32) (x1 x2 x3 : FVec Ideal S4x8192x1024 .bf16) (x4 : FVec Ideal S4x1024x8192 .bf16)
    (x5 : FVec Ideal S4x1x1024 .f32) (x6 : FVec Ideal S1024x9288 .f32) (x7 x8 : FVec Ideal S1024x1024 .f32)
    (b : Fin 4) (t : Fin 8192) (d : Fin 1024) :
    (val_main_v29 (F := Ideal) x0 x1 x2 x3 x4 x5 x6 x7 x8 (ix3 b t d) : EReal)
      = x1row (fun k => x0 (ix3 b t k)) (fun j => x1 (ix3 b t j)) (fun k => x2 (ix3 b t k)) (fun k => x3 (ix3 b t k))
          (fun j => x4 (ix3 b j t)) (fun k => x5 (ix3 b 0 k)) (fun j k => x6 (ix2 j ⟨6216 + k.val, by omega⟩))
          (fun j k => x6 (ix2 j ⟨6216 + (1024 + k.val), by omega⟩)) (fun j k => x6 (ix2 j ⟨6216 + (2048 + k.val), by omega⟩))
          (fun j k => x7 (ix2 j k)) (fun k d => x8 (ix2 k d)) d := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, x1row, gate, squash]

/-- The reference's second result. -/
theorem h2_apply (x0 : FVec Ideal S4x8192x1024 .f32) (x1 x2 x3 : FVec Ideal S4x8192x1024 .bf16) (x4 : FVec Ideal S4x1024x8192 .bf16)
    (x5 : FVec Ideal S4x1x1024 .f32) (x6 : FVec Ideal S1024x9288 .f32) (x7 x8 : FVec Ideal S1024x1024 .f32)
    (x9 : FVec Ideal S1024 .f32) (x10 x11 : FVec Ideal S4x1x1024 .f32)
    (b : Fin 4) (t : Fin 8192) (d : Fin 1024) :
    (val_main_v49 (F := Ideal) x0 x1 x2 x3 x4 x5 x6 x7 x8 x9 x10 x11 (ix3 b t d) : EReal)
      = normrow (x1row (fun k => x0 (ix3 b t k)) (fun j => x1 (ix3 b t j)) (fun k => x2 (ix3 b t k)) (fun k => x3 (ix3 b t k))
          (fun j => x4 (ix3 b j t)) (fun k => x5 (ix3 b 0 k)) (fun j k => x6 (ix2 j ⟨6216 + k.val, by omega⟩))
          (fun j k => x6 (ix2 j ⟨6216 + (1024 + k.val), by omega⟩)) (fun j k => x6 (ix2 j ⟨6216 + (2048 + k.val), by omega⟩))
          (fun j k => x7 (ix2 j k)) (fun k d => x8 (ix2 k d)))
          (fun k => x9 (ix1 k)) (fun k => x10 (ix3 b 0 k)) (fun k => x11 (ix3 b 0 k)) d := by
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst_1, val_main_cst_2, val_main_cst_3, val_main_cst_4]
  simp only [x1_apply]
  rfl

end Cert.MergeRefIdeal.Elem

namespace Cert.MergeIdeal.Block

open Cert.MergeIdeal Cert.MergeIdeal.Gen Idealize.ShloMosaic Cert.Merge.Math

theorem hz : (![0, 0, 0] : Fin 3 → Nat) = fun _ => 0 := funext fun a => by fin_cases a <;> rfl

set_option maxHeartbeats 1600000 in
/-- The value the kernel stores in its first result and normalises for its second. -/
theorem pay_apply (x0 : Vec Ideal S1x512x1024 .f32) (x1 x2 x3 : Vec Ideal S1x512x1024 .bf16) (x4 : Vec Ideal S1x1024x512 .bf16)
    (x5 : Vec Ideal S1x1x1024 .f32) (x6 : Vec Ideal S1024x3072 .bf16) (x7 x8 : Vec Ideal S1024x1024 .bf16)
    (x9 x10 x11 : Vec Ideal S1x1x1024 .f32) (r : Fin 512) (d : Fin 1024) :
    (k0_pay6 (k0_pay9 x0 x1 x2 x3 x4 x5 x6 x7 x8 x9 x10 x11) (k0_pay10 x0 x1 x2 x3 x4 x5 x6 x7 x8 x9 x10 x11)
        (k0_pay11 x0 x1 x2 x3 x4 x5 x6 x7 x8 x9 x10 x11) (k0_pay12 x0 x1 x2 x3 x4 x5 x6 x7 x8 x9 x10 x11)
        (View.ld x3 r0_0) (View.ld x6 r0_5) (View.ld x0 r0_0) (View.ld x5 r0_6) (View.ld x8 r0_2) (ix3 0 r d) : EReal)
      = x1row (fun k => x0 (ix3 0 r k)) (fun j => x1 (ix3 0 r j)) (fun k => x2 (ix3 0 r k)) (fun k => x3 (ix3 0 r k))
          (fun j => x4 (ix3 0 j r)) (fun k => x5 (ix3 0 0 k)) (fun j k => x6 (ix2 j ⟨k.val, by omega⟩))
          (fun j k => x6 (ix2 j ⟨1024 + k.val, by omega⟩)) (fun j k => x6 (ix2 j ⟨2048 + k.val, by omega⟩))
          (fun j k => x7 (ix2 j k)) (fun k d => x8 (ix2 k d)) d := by
  pointwise [k0_pay12, k0_pay11, k0_pay10, k0_pay9, k0_pay6, k0_pay5, k0_pay4, k0_pay3, k0_pay2, x1row, gate, squash]
  simp only [zero_sub]

/-- A row of a block of the first result. -/
theorem x1_apply (x0 : Vec Ideal S1x512x1024 .f32) (x1 x2 x3 : Vec Ideal S1x512x1024 .bf16) (x4 : Vec Ideal S1x1024x512 .bf16)
    (x5 : Vec Ideal S1x1x1024 .f32) (x6 : Vec Ideal S1024x3072 .bf16) (x7 x8 : Vec Ideal S1024x1024 .bf16)
    (x9 x10 x11 : Vec Ideal S1x1x1024 .f32) (r : Fin 512) (d : Fin 1024) :
    (out0_12 x0 x1 x2 x3 x4 x5 x6 x7 x8 x9 x10 x11 (ix3 0 r d) : EReal)
      = x1row (fun k => x0 (ix3 0 r k)) (fun j => x1 (ix3 0 r j)) (fun k => x2 (ix3 0 r k)) (fun k => x3 (ix3 0 r k))
          (fun j => x4 (ix3 0 j r)) (fun k => x5 (ix3 0 0 k)) (fun j k => x6 (ix2 j ⟨k.val, by omega⟩))
          (fun j k => x6 (ix2 j ⟨1024 + k.val, by omega⟩)) (fun j k => x6 (ix2 j ⟨2048 + k.val, by omega⟩))
          (fun j k => x7 (ix2 j k)) (fun k d => x8 (ix2 k d)) d := by
  unfold out0_12
  rw [View.canon_unit_zero hz]
  exact pay_apply x0 x1 x2 x3 x4 x5 x6 x7 x8 x9 x10 x11 r d

/-- A row of a block of the second result. -/
theorem h2_apply (x0 : Vec Ideal S1x512x1024 .f32) (x1 x2 x3 : Vec Ideal S1x512x1024 .bf16) (x4 : Vec Ideal S1x1024x512 .bf16)
    (x5 : Vec Ideal S1x1x1024 .f32) (x6 : Vec Ideal S1024x3072 .bf16) (x7 x8 : Vec Ideal S1024x1024 .bf16)
    (x9 x10 x11 : Vec Ideal S1x1x1024 .f32) (r : Fin 512) (d : Fin 1024) :
    (out0_13 x0 x1 x2 x3 x4 x5 x6 x7 x8 x9 x10 x11 (ix3 0 r d) : EReal)
      = normrow (x1row (fun k => x0 (ix3 0 r k)) (fun j => x1 (ix3 0 r j)) (fun k => x2 (ix3 0 r k)) (fun k => x3 (ix3 0 r k))
          (fun j => x4 (ix3 0 j r)) (fun k => x5 (ix3 0 0 k)) (fun j k => x6 (ix2 j ⟨k.val, by omega⟩))
          (fun j k => x6 (ix2 j ⟨1024 + k.val, by omega⟩)) (fun j k => x6 (ix2 j ⟨2048 + k.val, by omega⟩))
          (fun j k => x7 (ix2 j k)) (fun k d => x8 (ix2 k d)))
          (fun k => x9 (ix3 0 0 k)) (fun k => x10 (ix3 0 0 k)) (fun k => x11 (ix3 0 0 k)) d := by
  unfold out0_13
  rw [View.canon_unit_zero hz]
  pointwise [k0_pay1, k0_pay7, k0_pay8]
  simp only [pay_apply]
  rfl

end Cert.MergeIdeal.Block

end
-- ==== Proof.Merge.Array.lean ====
module

public import proofs.«01_k».proof.Proof.Merge.Block
public import Idealize.ShloMosaic.Lib.Pipeline.Value
public import Idealize.ShloMosaic.Lib.StableHlo.Run

@[expose] public section

set_option maxRecDepth 16384

noncomputable section

/-! The gated mix and the second normalisation: what the kernel's run leaves.

The grid is four batches by sixteen tiles of 512 tokens: point `t` is tile `t % 16` of batch `t / 16`. -/

namespace Cert.MergeIdeal.Array

open Cert.MergeIdeal Cert.MergeIdeal.Gen Idealize.ShloMosaic Idealize.ShloMosaic.TcCoe Idealize.SL.Sem Cert.Merge.Math
open Idealize.ShloMosaic.Pipeline (Dat)

variable (m : (ℓ : Loc nD τ sig) → Buf (Elt Ideal) ℓ) (ρ : Dev nD → PrngReg)

/-! ## Where a point's blocks lie -/

theorem batch_lt (t : Fin cfg0.N) : t.val / 16 < 4 := by
  have h : t.val < cfg0.N := t.isLt
  have hN : cfg0.N = 64 := N_0
  omega

theorem row_lt (t : Fin cfg0.N) (r : Fin 512) : t.val % 16 * 512 + r.val < 8192 := by
  have := r.isLt
  omega

/-- The batch of point `t`. -/
abbrev batch (t : Fin cfg0.N) : Fin 4 := ⟨t.val / 16, batch_lt t⟩
/-- The token at row `r` of point `t`'s tile. -/
abbrev token (t : Fin cfg0.N) (r : Fin 512) : Fin 8192 := ⟨t.val % 16 * 512 + r.val, row_lt t r⟩

theorem index0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem index1 : ∀ t : Fin cfg0.N, win0_1.index t 0 = t.val / 16 ∧ win0_1.index t 1 = t.val % 16 ∧ win0_1.index t 2 = 0 :=
  (by decide +kernel : ∀ t : Fin grid0.N, win0_1.index t 0 = t.val / 16 ∧ win0_1.index t 1 = t.val % 16 ∧ win0_1.index t 2 = 0)
theorem index2 : ∀ t : Fin cfg0.N, win0_2.index t 0 = t.val / 16 ∧ win0_2.index t 1 = t.val % 16 ∧ win0_2.index t 2 = 0 :=
  (by decide +kernel : ∀ t : Fin grid0.N, win0_2.index t 0 = t.val / 16 ∧ win0_2.index t 1 = t.val % 16 ∧ win0_2.index t 2 = 0)
theorem index3 : ∀ t : Fin cfg0.N, win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0)
theorem index4 : ∀ t : Fin cfg0.N, win0_4.index t 0 = t.val / 16 ∧ win0_4.index t 1 = 0 ∧ win0_4.index t 2 = t.val % 16 :=
  (by decide +kernel : ∀ t : Fin grid0.N, win0_4.index t 0 = t.val / 16 ∧ win0_4.index t 1 = 0 ∧ win0_4.index t 2 = t.val % 16)
theorem index5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)
theorem index10 : ∀ t : Fin cfg0.N, win0_10.index t 0 = t.val / 16 ∧ win0_10.index t 1 = 0 ∧ win0_10.index t 2 = 0 :=
  (by decide +kernel : ∀ t : Fin grid0.N, win0_10.index t 0 = t.val / 16 ∧ win0_10.index t 1 = 0 ∧ win0_10.index t 2 = 0)
theorem index11 : ∀ t : Fin cfg0.N, win0_11.index t 0 = t.val / 16 ∧ win0_11.index t 1 = 0 ∧ win0_11.index t 2 = 0 :=
  (by decide +kernel : ∀ t : Fin grid0.N, win0_11.index t 0 = t.val / 16 ∧ win0_11.index t 1 = 0 ∧ win0_11.index t 2 = 0)
theorem index12 : ∀ t : Fin cfg0.N, win0_12.index t 0 = t.val / 16 ∧ win0_12.index t 1 = t.val % 16 ∧ win0_12.index t 2 = 0 :=
  (by decide +kernel : ∀ t : Fin grid0.N, win0_12.index t 0 = t.val / 16 ∧ win0_12.index t 1 = t.val % 16 ∧ win0_12.index t 2 = 0)
theorem index13 : ∀ t : Fin cfg0.N, win0_13.index t 0 = t.val / 16 ∧ win0_13.index t 1 = t.val % 16 ∧ win0_13.index t 2 = 0 :=
  (by decide +kernel : ∀ t : Fin grid0.N, win0_13.index t 0 = t.val / 16 ∧ win0_13.index t 1 = t.val % 16 ∧ win0_13.index t 2 = 0)

/-! ## The arrays the host prepares -/

theorem wg_apply (c : Dev nD) (j : Fin 1024) (k : Fin 3072) :
    (V m c main_v7 (ix2 j k) : EReal) = m ((c : Thread nD τ).loc main_arg6) (ix2 j ⟨6216 + k.val, by omega⟩) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results
  pointwise []

theorem wpc_apply (c : Dev nD) (j : Fin 1024) (k : Fin 1024) :
    (V m c main_v8 (ix2 j k) : EReal) = m ((c : Thread nD τ).loc main_arg7) (ix2 j k) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results
  pointwise []

theorem wo_apply (c : Dev nD) (j : Fin 1024) (k : Fin 1024) :
    (V m c main_v9 (ix2 j k) : EReal) = m ((c : Thread nD τ).loc main_arg8) (ix2 j k) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results
  pointwise []

theorem n_apply (c : Dev nD) (k : Fin 1024) :
    (V m c main_v10 (ix3 0 0 k) : EReal) = m ((c : Thread nD τ).loc main_arg9) (ix1 k) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results
  pointwise []

/-! ## The blocks a point reads -/

/-- The residual's block. -/
theorem x_block (c : Dev nD) (t : Fin cfg0.N) (r : Fin 512) (d : Fin 1024) :
    (iblk m c 0 t (ix3 0 r d) : EReal) = m ((c : Thread nD τ).loc main_arg0) (ix3 (batch t) (token t r) d) := by
  have h : (iblk m c 0 t (ix3 0 r d) : EReal) = V m c main_arg0 (ix3 (batch t) (token t r) d) := by
    show V m c main_arg0 (((cfg0.win 0).blk t).view.emb (ix3 0 r d)) = _
    congr 1
    funext a
    apply Fin.ext
    match a with
    | ⟨0, _⟩ =>
      have e := (index0 t).1
      show win0_0.index t 0 * 1 + 1 * 0 = t.val / 16
      omega
    | ⟨1, _⟩ =>
      have e := (index0 t).2.1
      show win0_0.index t 1 * 512 + 1 * r.val = t.val % 16 * 512 + r.val
      omega
    | ⟨2, _⟩ =>
      have e := (index0 t).2.2
      show win0_0.index t 2 * 1024 + 1 * d.val = d.val
      omega
  exact h.trans (congrFun (V_main_arg0 m c) _)

/-- The normalised rows' block. -/
theorem h_block (c : Dev nD) (t : Fin cfg0.N) (r : Fin 512) (d : Fin 1024) :
    (iblk m c 1 t (ix3 0 r d) : EReal) = m ((c : Thread nD τ).loc main_arg1) (ix3 (batch t) (token t r) d) := by
  have h : (iblk m c 1 t (ix3 0 r d) : EReal) = V m c main_arg1 (ix3 (batch t) (token t r) d) := by
    show V m c main_arg1 (((cfg0.win 1).blk t).view.emb (ix3 0 r d)) = _
    congr 1
    funext a
    apply Fin.ext
    match a with
    | ⟨0, _⟩ =>
      have e := (index1 t).1
      show win0_1.index t 0 * 1 + 1 * 0 = t.val / 16
      omega
    | ⟨1, _⟩ =>
      have e := (index1 t).2.1
      show win0_1.index t 1 * 512 + 1 * r.val = t.val % 16 * 512 + r.val
      omega
    | ⟨2, _⟩ =>
      have e := (index1 t).2.2
      show win0_1.index t 2 * 1024 + 1 * d.val = d.val
      omega
  exact h.trans (congrFun (V_main_arg1 m c) _)

/-- The first branch's block. -/
theorem ya_block (c : Dev nD) (t : Fin cfg0.N) (r : Fin 512) (d : Fin 1024) :
    (iblk m c 2 t (ix3 0 r d) : EReal) = m ((c : Thread nD τ).loc main_arg2) (ix3 (batch t) (token t r) d) := by
  have h : (iblk m c 2 t (ix3 0 r d) : EReal) = V m c main_arg2 (ix3 (batch t) (token t r) d) := by
    show V m c main_arg2 (((cfg0.win 2).blk t).view.emb (ix3 0 r d)) = _
    congr 1
    funext a
    apply Fin.ext
    match a with
    | ⟨0, _⟩ =>
      have e := (index2 t).1
      show win0_2.index t 0 * 1 + 1 * 0 = t.val / 16
      omega
    | ⟨1, _⟩ =>
      have e := (index2 t).2.1
      show win0_2.index t 1 * 512 + 1 * r.val = t.val % 16 * 512 + r.val
      omega
    | ⟨2, _⟩ =>
      have e := (index2 t).2.2
      show win0_2.index t 2 * 1024 + 1 * d.val = d.val
      omega
  exact h.trans (congrFun (V_main_arg2 m c) _)

/-- The second branch's block. -/
theorem yb_block (c : Dev nD) (t : Fin cfg0.N) (r : Fin 512) (d : Fin 1024) :
    (iblk m c 3 t (ix3 0 r d) : EReal) = m ((c : Thread nD τ).loc main_arg3) (ix3 (batch t) (token t r) d) := by
  have h : (iblk m c 3 t (ix3 0 r d) : EReal) = V m c main_arg3 (ix3 (batch t) (token t r) d) := by
    show V m c main_arg3 (((cfg0.win 3).blk t).view.emb (ix3 0 r d)) = _
    congr 1
    funext a
    apply Fin.ext
    match a with
    | ⟨0, _⟩ =>
      have e := (index3 t).1
      show win0_3.index t 0 * 1 + 1 * 0 = t.val / 16
      omega
    | ⟨1, _⟩ =>
      have e := (index3 t).2.1
      show win0_3.index t 1 * 512 + 1 * r.val = t.val % 16 * 512 + r.val
      omega
    | ⟨2, _⟩ =>
      have e := (index3 t).2.2
      show win0_3.index t 2 * 1024 + 1 * d.val = d.val
      omega
  exact h.trans (congrFun (V_main_arg3 m c) _)

/-- The attention's block, its channels along the rows. -/
theorem o_block (c : Dev nD) (t : Fin cfg0.N) (j : Fin 1024) (r : Fin 512) :
    (iblk m c 4 t (ix3 0 j r) : EReal) = m ((c : Thread nD τ).loc main_arg4) (ix3 (batch t) j (token t r)) := by
  have h : (iblk m c 4 t (ix3 0 j r) : EReal) = V m c main_arg4 (ix3 (batch t) j (token t r)) := by
    show V m c main_arg4 (((cfg0.win 4).blk t).view.emb (ix3 0 j r)) = _
    congr 1
    funext a
    apply Fin.ext
    match a with
    | ⟨0, _⟩ =>
      have e := (index4 t).1
      show win0_4.index t 0 * 1 + 1 * 0 = t.val / 16
      omega
    | ⟨1, _⟩ =>
      have e := (index4 t).2.1
      show win0_4.index t 1 * 1024 + 1 * j.val = j.val
      omega
    | ⟨2, _⟩ =>
      have e := (index4 t).2.2
      show win0_4.index t 2 * 512 + 1 * r.val = t.val % 16 * 512 + r.val
      omega
  exact h.trans (congrFun (V_main_arg4 m c) _)

/-- The gate of the residual. -/
theorem g_block (c : Dev nD) (t : Fin cfg0.N) (d : Fin 1024) :
    (iblk m c 5 t (ix3 0 0 d) : EReal) = m ((c : Thread nD τ).loc main_arg5) (ix3 (batch t) 0 d) := by
  have h : (iblk m c 5 t (ix3 0 0 d) : EReal) = V m c main_arg5 (ix3 (batch t) 0 d) := by
    show V m c main_arg5 (((cfg0.win 5).blk t).view.emb (ix3 0 0 d)) = _
    congr 1
    funext a
    apply Fin.ext
    match a with
    | ⟨0, _⟩ =>
      have e := (index5 t).1
      show win0_5.index t 0 * 1 + 1 * 0 = t.val / 16
      omega
    | ⟨1, _⟩ =>
      have e := (index5 t).2.1
      show win0_5.index t 1 * 1 + 1 * 0 = 0
      omega
    | ⟨2, _⟩ =>
      have e := (index5 t).2.2
      show win0_5.index t 2 * 1024 + 1 * d.val = d.val
      omega
  exact h.trans (congrFun (V_main_arg5 m c) _)

/-- The second normalisation's scale. -/
theorem s_block (c : Dev nD) (t : Fin cfg0.N) (d : Fin 1024) :
    (iblk m c 10 t (ix3 0 0 d) : EReal) = m ((c : Thread nD τ).loc main_arg10) (ix3 (batch t) 0 d) := by
  have h : (iblk m c 10 t (ix3 0 0 d) : EReal) = V m c main_arg10 (ix3 (batch t) 0 d) := by
    show V m c main_arg10 (((cfg0.win 10).blk t).view.emb (ix3 0 0 d)) = _
    congr 1
    funext a
    apply Fin.ext
    match a with
    | ⟨0, _⟩ =>
      have e := (index10 t).1
      show win0_10.index t 0 * 1 + 1 * 0 = t.val / 16
      omega
    | ⟨1, _⟩ =>
      have e := (index10 t).2.1
      show win0_10.index t 1 * 1 + 1 * 0 = 0
      omega
    | ⟨2, _⟩ =>
      have e := (index10 t).2.2
      show win0_10.index t 2 * 1024 + 1 * d.val = d.val
      omega
  exact h.trans (congrFun (V_main_arg10 m c) _)

/-- The second normalisation's shift. -/
theorem u_block (c : Dev nD) (t : Fin cfg0.N) (d : Fin 1024) :
    (iblk m c 11 t (ix3 0 0 d) : EReal) = m ((c : Thread nD τ).loc main_arg11) (ix3 (batch t) 0 d) := by
  have h : (iblk m c 11 t (ix3 0 0 d) : EReal) = V m c main_arg11 (ix3 (batch t) 0 d) := by
    show V m c main_arg11 (((cfg0.win 11).blk t).view.emb (ix3 0 0 d)) = _
    congr 1
    funext a
    apply Fin.ext
    match a with
    | ⟨0, _⟩ =>
      have e := (index11 t).1
      show win0_11.index t 0 * 1 + 1 * 0 = t.val / 16
      omega
    | ⟨1, _⟩ =>
      have e := (index11 t).2.1
      show win0_11.index t 1 * 1 + 1 * 0 = 0
      omega
    | ⟨2, _⟩ =>
      have e := (index11 t).2.2
      show win0_11.index t 2 * 1024 + 1 * d.val = d.val
      omega
  exact h.trans (congrFun (V_main_arg11 m c) _)

/-- The three gates' weights, whole. -/
theorem wg_block (c : Dev nD) (t : Fin cfg0.N) (j : Fin 1024) (k : Fin 3072) :
    (iblk m c 6 t (ix2 j k) : EReal) = m ((c : Thread nD τ).loc main_arg6) (ix2 j ⟨6216 + k.val, by omega⟩) := by
  have h : (iblk m c 6 t (ix2 j k) : EReal) = V m c main_v7 (ix2 j k) := by
    show V m c main_v7 (((cfg0.win 6).blk t).view.emb (ix2 j k)) = _
    congr 1
    funext a
    apply Fin.ext
    match a with
    | ⟨0, _⟩ =>
      have e := (index6 t).1
      show win0_6.index t 0 * 1024 + 1 * j.val = j.val
      omega
    | ⟨1, _⟩ =>
      have e := (index6 t).2
      show win0_6.index t 1 * 3072 + 1 * k.val = k.val
      omega
  exact h.trans (wg_apply m c j k)

/-- The third branch's projection, whole. -/
theorem wpc_block (c : Dev nD) (t : Fin cfg0.N) (j k : Fin 1024) :
    (iblk m c 7 t (ix2 j k) : EReal) = m ((c : Thread nD τ).loc main_arg7) (ix2 j k) := by
  have h : (iblk m c 7 t (ix2 j k) : EReal) = V m c main_v8 (ix2 j k) := by
    show V m c main_v8 (((cfg0.win 7).blk t).view.emb (ix2 j k)) = _
    congr 1
    funext a
    apply Fin.ext
    match a with
    | ⟨0, _⟩ =>
      have e := (index7 t).1
      show win0_7.index t 0 * 1024 + 1 * j.val = j.val
      omega
    | ⟨1, _⟩ =>
      have e := (index7 t).2
      show win0_7.index t 1 * 1024 + 1 * k.val = k.val
      omega
  exact h.trans (wpc_apply m c j k)

/-- The final projection, whole. -/
theorem wo_block (c : Dev nD) (t : Fin cfg0.N) (j k : Fin 1024) :
    (iblk m c 8 t (ix2 j k) : EReal) = m ((c : Thread nD τ).loc main_arg8) (ix2 j k) := by
  have h : (iblk m c 8 t (ix2 j k) : EReal) = V m c main_v9 (ix2 j k) := by
    show V m c main_v9 (((cfg0.win 8).blk t).view.emb (ix2 j k)) = _
    congr 1
    funext a
    apply Fin.ext
    match a with
    | ⟨0, _⟩ =>
      have e := (index8 t).1
      show win0_8.index t 0 * 1024 + 1 * j.val = j.val
      omega
    | ⟨1, _⟩ =>
      have e := (index8 t).2
      show win0_8.index t 1 * 1024 + 1 * k.val = k.val
      omega
  exact h.trans (wo_apply m c j k)

/-- The second normalisation's weights. -/
theorem n_block (c : Dev nD) (t : Fin cfg0.N) (k : Fin 1024) :
    (iblk m c 9 t (ix3 0 0 k) : EReal) = m ((c : Thread nD τ).loc main_arg9) (ix1 k) := by
  have h : (iblk m c 9 t (ix3 0 0 k) : EReal) = V m c main_v10 (ix3 0 0 k) := by
    show V m c main_v10 (((cfg0.win 9).blk t).view.emb (ix3 0 0 k)) = _
    congr 1
    funext a
    apply Fin.ext
    match a with
    | ⟨0, _⟩ =>
      have e := (index9 t).1
      show win0_9.index t 0 * 1 + 1 * 0 = 0
      omega
    | ⟨1, _⟩ =>
      have e := (index9 t).2.1
      show win0_9.index t 1 * 1 + 1 * 0 = 0
      omega
    | ⟨2, _⟩ =>
      have e := (index9 t).2.2
      show win0_9.index t 2 * 1024 + 1 * k.val = k.val
      omega
  exact h.trans (n_apply m c k)

/-! ## The result arrays -/

/-- What the first result array holds after the run. -/
def result1 (c : Dev nD) : Vec Ideal S4x8192x1024 .f32 := fun i =>
  x1row (fun k => m ((c : Thread nD τ).loc main_arg0) (ix3 (i 0) (i 1) k)) (fun j => m ((c : Thread nD τ).loc main_arg1) (ix3 (i 0) (i 1) j))
    (fun k => m ((c : Thread nD τ).loc main_arg2) (ix3 (i 0) (i 1) k)) (fun k => m ((c : Thread nD τ).loc main_arg3) (ix3 (i 0) (i 1) k))
    (fun j => m ((c : Thread nD τ).loc main_arg4) (ix3 (i 0) j (i 1))) (fun k => m ((c : Thread nD τ).loc main_arg5) (ix3 (i 0) 0 k))
    (fun j k => m ((c : Thread nD τ).loc main_arg6) (ix2 j ⟨6216 + k.val, by omega⟩))
    (fun j k => m ((c : Thread nD τ).loc main_arg6) (ix2 j ⟨6216 + (1024 + k.val), by omega⟩))
    (fun j k => m ((c : Thread nD τ).loc main_arg6) (ix2 j ⟨6216 + (2048 + k.val), by omega⟩))
    (fun j k => m ((c : Thread nD τ).loc main_arg7) (ix2 j k)) (fun k d => m ((c : Thread nD τ).loc main_arg8) (ix2 k d)) (i 2)

theorem point1 (c : Dev nD) (t : Fin cfg0.N) (r : Fin 512) (d : Fin 1024) :
    (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r d) : EReal)
      = x1row (fun k => m ((c : Thread nD τ).loc main_arg0) (ix3 (batch t) (token t r) k)) (fun j => m ((c : Thread nD τ).loc main_arg1) (ix3 (batch t) (token t r) j))
    (fun k => m ((c : Thread nD τ).loc main_arg2) (ix3 (batch t) (token t r) k)) (fun k => m ((c : Thread nD τ).loc main_arg3) (ix3 (batch t) (token t r) k))
    (fun j => m ((c : Thread nD τ).loc main_arg4) (ix3 (batch t) j (token t r))) (fun k => m ((c : Thread nD τ).loc main_arg5) (ix3 (batch t) 0 k))
    (fun j k => m ((c : Thread nD τ).loc main_arg6) (ix2 j ⟨6216 + k.val, by omega⟩))
    (fun j k => m ((c : Thread nD τ).loc main_arg6) (ix2 j ⟨6216 + (1024 + k.val), by omega⟩))
    (fun j k => m ((c : Thread nD τ).loc main_arg6) (ix2 j ⟨6216 + (2048 + k.val), by omega⟩))
    (fun j k => m ((c : Thread nD τ).loc main_arg7) (ix2 j k)) (fun k d => m ((c : Thread nD τ).loc main_arg8) (ix2 k d)) d := by
  rw [Block.x1_apply]
  simp only [x_block, h_block, ya_block, yb_block, o_block, g_block, s_block, u_block, wg_block, wpc_block, wo_block, n_block]

theorem emb1 (t : Fin cfg0.N) (r : Fin 512) (d : Fin 1024) :
    ((cfg0.win 12).blk t).view.emb (ix3 0 r d) = ix3 (batch t) (token t r) d := by
  funext a
  apply Fin.ext
  match a with
  | ⟨0, _⟩ =>
    have e := (index12 t).1
    show win0_12.index t 0 * 1 + 1 * 0 = t.val / 16
    omega
  | ⟨1, _⟩ =>
    have e := (index12 t).2.1
    show win0_12.index t 1 * 512 + 1 * r.val = t.val % 16 * 512 + r.val
    omega
  | ⟨2, _⟩ =>
    have e := (index12 t).2.2
    show win0_12.index t 2 * 1024 + 1 * d.val = d.val
    omega

theorem mem1 (t : Fin cfg0.N) (r : Fin 512) (d : Fin 1024) :
    (ix3 (batch t) (token t r) d : S4x8192x1024.Idx) ∈ ((cfg0.win 12).blk t).view.set := by
  rw [← emb1]
  exact View.emb_mem_set _ _

/-- What a point writes back is its block of the result. -/
theorem flushed1 (c : Dev nD) (t : Fin cfg0.N) :
    (dats m 0 c).flushed 12 t = ((cfg0.win 12).blk t).view.read (Elt Ideal) (result1 m c) := by
  rw [Value.flushed12]
  funext y
  obtain ⟨b, r, d, rfl⟩ : ∃ (b : Fin 1) (r : Fin 512) (d : Fin 1024), y = ix3 b r d :=
    ⟨y 0, y 1, y 2, funext fun a => match a with | ⟨0, _⟩ => rfl | ⟨1, _⟩ => rfl | ⟨2, _⟩ => rfl⟩
  obtain rfl : b = 0 := Subsingleton.elim _ _
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r d)
    = result1 m c (((cfg0.win 12).blk t).view.emb (ix3 0 r d))
  rw [emb1]
  exact point1 m c t r d

/-- Every element of the result lies in some point's block. -/
theorem cover1 (i : S4x8192x1024.Idx) :
    ∃ t : Fin cfg0.N, (cfg0.win 12).flush t = true ∧ i ∈ ((cfg0.win 12).blk t).view.set := by
  obtain ⟨b, u, d, rfl⟩ : ∃ (b : Fin 4) (u : Fin 8192) (d : Fin 1024), i = ix3 b u d :=
    ⟨i 0, i 1, i 2, funext fun a => match a with | ⟨0, _⟩ => rfl | ⟨1, _⟩ => rfl | ⟨2, _⟩ => rfl⟩
  have hb := b.isLt
  have hu := u.isLt
  have hN : cfg0.N = 64 := N_0
  have ht : b.val * 16 + u.val / 512 < cfg0.N := by omega
  have e0 : batch ⟨b.val * 16 + u.val / 512, ht⟩ = b := Fin.ext (by show (b.val * 16 + u.val / 512) / 16 = b.val; omega)
  have e1 : token ⟨b.val * 16 + u.val / 512, ht⟩ ⟨u.val % 512, Nat.mod_lt _ (by decide)⟩ = u :=
    Fin.ext (by show (b.val * 16 + u.val / 512) % 16 * 512 + u.val % 512 = u.val; omega)
  have h := mem1 ⟨b.val * 16 + u.val / 512, ht⟩ ⟨u.val % 512, Nat.mod_lt _ (by decide)⟩ d
  rw [e0, e1] at h
  exact ⟨_, flush0_12 _, h⟩

/-- The result array after the run. -/
theorem final1 (c : Dev nD) : (dats m 0 c).arrAt 12 cfg0.N = result1 m c :=
  (dats m 0 c).arrAt_eq_of_cover 12 (result1 m c) (fun t _ => flushed1 m c t) cover1

/-- What the second result array holds after the run. -/
def result2 (c : Dev nD) : Vec Ideal S4x8192x1024 .bf16 := fun i =>
  normrow (x1row (fun k => m ((c : Thread nD τ).loc main_arg0) (ix3 (i 0) (i 1) k)) (fun j => m ((c : Thread nD τ).loc main_arg1) (ix3 (i 0) (i 1) j))
    (fun k => m ((c : Thread nD τ).loc main_arg2) (ix3 (i 0) (i 1) k)) (fun k => m ((c : Thread nD τ).loc main_arg3) (ix3 (i 0) (i 1) k))
    (fun j => m ((c : Thread nD τ).loc main_arg4) (ix3 (i 0) j (i 1))) (fun k => m ((c : Thread nD τ).loc main_arg5) (ix3 (i 0) 0 k))
    (fun j k => m ((c : Thread nD τ).loc main_arg6) (ix2 j ⟨6216 + k.val, by omega⟩))
    (fun j k => m ((c : Thread nD τ).loc main_arg6) (ix2 j ⟨6216 + (1024 + k.val), by omega⟩))
    (fun j k => m ((c : Thread nD τ).loc main_arg6) (ix2 j ⟨6216 + (2048 + k.val), by omega⟩))
    (fun j k => m ((c : Thread nD τ).loc main_arg7) (ix2 j k)) (fun k d => m ((c : Thread nD τ).loc main_arg8) (ix2 k d)))
    (fun k => m ((c : Thread nD τ).loc main_arg9) (ix1 k)) (fun k => m ((c : Thread nD τ).loc main_arg10) (ix3 (i 0) 0 k)) (fun k => m ((c : Thread nD τ).loc main_arg11) (ix3 (i 0) 0 k)) (i 2)

theorem point2 (c : Dev nD) (t : Fin cfg0.N) (r : Fin 512) (d : Fin 1024) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r d) : EReal)
      = normrow (x1row (fun k => m ((c : Thread nD τ).loc main_arg0) (ix3 (batch t) (token t r) k)) (fun j => m ((c : Thread nD τ).loc main_arg1) (ix3 (batch t) (token t r) j))
    (fun k => m ((c : Thread nD τ).loc main_arg2) (ix3 (batch t) (token t r) k)) (fun k => m ((c : Thread nD τ).loc main_arg3) (ix3 (batch t) (token t r) k))
    (fun j => m ((c : Thread nD τ).loc main_arg4) (ix3 (batch t) j (token t r))) (fun k => m ((c : Thread nD τ).loc main_arg5) (ix3 (batch t) 0 k))
    (fun j k => m ((c : Thread nD τ).loc main_arg6) (ix2 j ⟨6216 + k.val, by omega⟩))
    (fun j k => m ((c : Thread nD τ).loc main_arg6) (ix2 j ⟨6216 + (1024 + k.val), by omega⟩))
    (fun j k => m ((c : Thread nD τ).loc main_arg6) (ix2 j ⟨6216 + (2048 + k.val), by omega⟩))
    (fun j k => m ((c : Thread nD τ).loc main_arg7) (ix2 j k)) (fun k d => m ((c : Thread nD τ).loc main_arg8) (ix2 k d)))
    (fun k => m ((c : Thread nD τ).loc main_arg9) (ix1 k)) (fun k => m ((c : Thread nD τ).loc main_arg10) (ix3 (batch t) 0 k)) (fun k => m ((c : Thread nD τ).loc main_arg11) (ix3 (batch t) 0 k)) d := by
  rw [Block.h2_apply]
  simp only [x_block, h_block, ya_block, yb_block, o_block, g_block, s_block, u_block, wg_block, wpc_block, wo_block, n_block]

theorem emb2 (t : Fin cfg0.N) (r : Fin 512) (d : Fin 1024) :
    ((cfg0.win 13).blk t).view.emb (ix3 0 r d) = ix3 (batch t) (token t r) d := by
  funext a
  apply Fin.ext
  match a with
  | ⟨0, _⟩ =>
    have e := (index13 t).1
    show win0_13.index t 0 * 1 + 1 * 0 = t.val / 16
    omega
  | ⟨1, _⟩ =>
    have e := (index13 t).2.1
    show win0_13.index t 1 * 512 + 1 * r.val = t.val % 16 * 512 + r.val
    omega
  | ⟨2, _⟩ =>
    have e := (index13 t).2.2
    show win0_13.index t 2 * 1024 + 1 * d.val = d.val
    omega

theorem mem2 (t : Fin cfg0.N) (r : Fin 512) (d : Fin 1024) :
    (ix3 (batch t) (token t r) d : S4x8192x1024.Idx) ∈ ((cfg0.win 13).blk t).view.set := by
  rw [← emb2]
  exact View.emb_mem_set _ _

/-- What a point writes back is its block of the result. -/
theorem flushed2 (c : Dev nD) (t : Fin cfg0.N) :
    (dats m 0 c).flushed 13 t = ((cfg0.win 13).blk t).view.read (Elt Ideal) (result2 m c) := by
  rw [Value.flushed13]
  funext y
  obtain ⟨b, r, d, rfl⟩ : ∃ (b : Fin 1) (r : Fin 512) (d : Fin 1024), y = ix3 b r d :=
    ⟨y 0, y 1, y 2, funext fun a => match a with | ⟨0, _⟩ => rfl | ⟨1, _⟩ => rfl | ⟨2, _⟩ => rfl⟩
  obtain rfl : b = 0 := Subsingleton.elim _ _
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r d)
    = result2 m c (((cfg0.win 13).blk t).view.emb (ix3 0 r d))
  rw [emb2]
  exact point2 m c t r d

/-- Every element of the result lies in some point's block. -/
theorem cover2 (i : S4x8192x1024.Idx) :
    ∃ t : Fin cfg0.N, (cfg0.win 13).flush t = true ∧ i ∈ ((cfg0.win 13).blk t).view.set := by
  obtain ⟨b, u, d, rfl⟩ : ∃ (b : Fin 4) (u : Fin 8192) (d : Fin 1024), i = ix3 b u d :=
    ⟨i 0, i 1, i 2, funext fun a => match a with | ⟨0, _⟩ => rfl | ⟨1, _⟩ => rfl | ⟨2, _⟩ => rfl⟩
  have hb := b.isLt
  have hu := u.isLt
  have hN : cfg0.N = 64 := N_0
  have ht : b.val * 16 + u.val / 512 < cfg0.N := by omega
  have e0 : batch ⟨b.val * 16 + u.val / 512, ht⟩ = b := Fin.ext (by show (b.val * 16 + u.val / 512) / 16 = b.val; omega)
  have e1 : token ⟨b.val * 16 + u.val / 512, ht⟩ ⟨u.val % 512, Nat.mod_lt _ (by decide)⟩ = u :=
    Fin.ext (by show (b.val * 16 + u.val / 512) % 16 * 512 + u.val % 512 = u.val; omega)
  have h := mem2 ⟨b.val * 16 + u.val / 512, ht⟩ ⟨u.val % 512, Nat.mod_lt _ (by decide)⟩ d
  rw [e0, e1] at h
  exact ⟨_, flush0_13 _, h⟩

/-- The result array after the run. -/
theorem final2 (c : Dev nD) : (dats m 0 c).arrAt 13 cfg0.N = result2 m c :=
  (dats m 0 c).arrAt_eq_of_cover 13 (result2 m c) (fun t _ => flushed2 m c t) cover2

end Cert.MergeIdeal.Array

end
-- ==== Proof.Merge.Claims.lean ====
module

public import proofs.«01_k».proof.Defs
public import proofs.«01_k».proof.Proof.Merge.Array
public import proofs.«01_k».proof.Proof.Gen.Merge.Frame
public import proofs.«01_k».proof.Proof.Gen.MergeRefIdeal.Run
public import Idealize.ShloMosaic.Lib.Quiescent

@[expose] public section

set_option maxRecDepth 16384

noncomputable section

/-! The gated mix and the second normalisation: the claims. -/

open Idealize.ShloMosaic Idealize.ShloMosaic.TcCoe Idealize.SL.Sem

namespace Cert.Merge.Claims

theorem frame : Cert.quiescent_Merge := fun m ρ _ => Cert.Merge.Gen.frame m ρ
theorem frame_ideal : Cert.quiescent_MergeIdeal := fun m ρ _ => Cert.MergeIdeal.Gen.frame m ρ
theorem frame_ref : Cert.quiescent_MergeRefIdeal := fun m ρ _ =>
  (θ_run Cert.MergeRefIdeal.defs _ _).mono (fun r h => ⟨fun c => (h c).2.2,
      Idealize.ShloMosaic.sem_eq_zero_of_no_sems (by decide) r.2⟩)
    (Cert.MergeRefIdeal.Value.run (F := Ideal) m ρ)

theorem preserves : Cert.preserves_Merge_MergeIdeal := trivial

/-- Kernel and reference end at the same two arrays, `Cert.MergeIdeal.Array.result1` and `result2`. -/
theorem algebraic : Cert.algebraic_MergeIdeal_MergeRefIdeal := by
  intro m ρ m' ρ' _ hag
  refine ⟨fun c => Cert.MergeIdeal.Array.result1 m c, fun c => Cert.MergeIdeal.Array.result2 m c, ?_, ?_⟩
  · exact (θ_run Cert.MergeIdeal.defs _ _).mono
      (fun _ h c => ⟨(h c).1.trans (Cert.MergeIdeal.Array.final1 m c), (h c).2.1.trans (Cert.MergeIdeal.Array.final2 m c), (h c).2.2⟩)
      (Cert.MergeIdeal.Value.run_blocks (F := Ideal) m ρ)
  · refine (θ_run Cert.MergeRefIdeal.defs _ _).mono
      (fun _ h c => ⟨(h c).1.trans ?_, (h c).2.1.trans ?_, (h c).2.2⟩)
      (Cert.MergeRefIdeal.Value.run (F := Ideal) m' ρ')
    · obtain ⟨e0, e1, e2, e3, e4, e5, e6, e7, e8, e9, e10, e11⟩ := hag c
      rw [e0, e1, e2, e3, e4, e5, e6, e7, e8]
      funext i
      obtain ⟨b, t, d, rfl⟩ : ∃ (b : Fin 4) (t : Fin 8192) (d : Fin 1024), i = ix3 b t d :=
        ⟨i 0, i 1, i 2, funext fun a => match a with | ⟨0, _⟩ => rfl | ⟨1, _⟩ => rfl | ⟨2, _⟩ => rfl⟩
      exact Cert.MergeRefIdeal.Elem.x1_apply _ _ _ _ _ _ _ _ _ b t d
    · obtain ⟨e0, e1, e2, e3, e4, e5, e6, e7, e8, e9, e10, e11⟩ := hag c
      rw [Cert.MergeRefIdeal.Read.val_main_v49_eq, e0, e1, e2, e3, e4, e5, e6, e7, e8, e9, e10, e11]
      funext i
      obtain ⟨b, t, d, rfl⟩ : ∃ (b : Fin 4) (t : Fin 8192) (d : Fin 1024), i = ix3 b t d :=
        ⟨i 0, i 1, i 2, funext fun a => match a with | ⟨0, _⟩ => rfl | ⟨1, _⟩ => rfl | ⟨2, _⟩ => rfl⟩
      exact Cert.MergeRefIdeal.Elem.h2_apply _ _ _ _ _ _ _ _ _ _ _ _ b t d

end Cert.Merge.Claims

end
-- ==== Proof.Mlp.Block.lean ====
module

public import proofs.«01_k».proof.Proof.Gen.MlpIdeal.Value
public import proofs.«01_k».proof.Proof.Gen.MlpRefIdeal.Read
public import Idealize.ShloMosaic.Lib.Pointwise

@[expose] public section

set_option maxRecDepth 16384

noncomputable section

/-! The feed-forward part, one element at a time: what a block of the kernel holds and what the reference holds. -/

namespace Cert.Mlp.Math

open Idealize.ShloMosaic

/-- One hidden unit: the squared positive part of a biased product. -/
def unit (s b : EReal) : EReal := max (s + b) 0 * max (s + b) 0

/-- The feed-forward part at batch `b`, token `t`, column `d`: the residual plus the gated second product. -/
def ffn (x0 : Cert.MlpIdeal.S4x8192x1024.Idx → EReal) (x1 : Cert.MlpIdeal.S4x8192x1024.Idx → EReal)
    (x2 : Cert.MlpIdeal.S4x1x1024.Idx → EReal) (x3 : Cert.MlpIdeal.S1024x4096.Idx → EReal)
    (x4 : Cert.MlpIdeal.S4096.Idx → EReal) (x5 : Cert.MlpIdeal.S4096x1024.Idx → EReal)
    (x6 : Cert.MlpIdeal.S1024.Idx → EReal) (b : Fin 4) (t : Fin 8192) (d : Fin 1024) : EReal :=
  x0 (ix3 b t d) + x2 (ix3 b 0 d) *
    ((∑ k : Fin 4096, unit (∑ j : Fin 1024, x1 (ix3 b t j) * x3 (ix2 j k)) (x4 (ix1 k)) * x5 (ix2 k d)) + x6 (ix1 d))

end Cert.Mlp.Math

namespace Cert.MlpIdeal.Block

open Cert.MlpIdeal Cert.MlpIdeal.Gen Idealize.ShloMosaic Cert.Mlp.Math

set_option maxHeartbeats 1600000 in
/-- A block of the result at row `r` and column `d`: the four products over a quarter of the hidden units each. -/
theorem E7_apply (P0 : Vec Ideal S1x512x1024 .f32) (P1 : Vec Ideal S1x1x1024 .f32) (P2 : Vec Ideal S1x512x1024 .bf16)
    (A0 : Vec Ideal S1024x1024 .bf16) (b0 : Vec Ideal S1x1024 .f32) (W0 : Vec Ideal S1024x1024 .bf16)
    (A1 : Vec Ideal S1024x1024 .bf16) (b1 : Vec Ideal S1x1024 .f32) (W1 : Vec Ideal S1024x1024 .bf16)
    (A2 : Vec Ideal S1024x1024 .bf16) (b2 : Vec Ideal S1x1024 .f32) (W2 : Vec Ideal S1024x1024 .bf16)
    (A3 : Vec Ideal S1024x1024 .bf16) (b3 : Vec Ideal S1x1024 .f32) (W3 : Vec Ideal S1024x1024 .bf16)
    (P15 : Vec Ideal S1x1024 .f32) (r : Fin 512) (d : Fin 1024) :
    (Value.E7 P0 P1 P2 A0 b0 W0 A1 b1 W1 A2 b2 W2 A3 b3 W3 P15 (ix3 0 r d) : EReal)
      = P0 (ix3 0 r d) + P1 (ix3 0 0 d) *
        (((((∑ k : Fin 1024, unit (∑ j : Fin 1024, P2 (ix3 0 r j) * A0 (ix2 j k)) (b0 (ix2 0 k)) * W0 (ix2 k d))
          + ∑ k : Fin 1024, unit (∑ j : Fin 1024, P2 (ix3 0 r j) * A1 (ix2 j k)) (b1 (ix2 0 k)) * W1 (ix2 k d))
          + ∑ k : Fin 1024, unit (∑ j : Fin 1024, P2 (ix3 0 r j) * A2 (ix2 j k)) (b2 (ix2 0 k)) * W2 (ix2 k d))
          + ∑ k : Fin 1024, unit (∑ j : Fin 1024, P2 (ix3 0 r j) * A3 (ix2 j k)) (b3 (ix2 0 k)) * W3 (ix2 k d))
          + P15 (ix2 0 d)) := by
  have e0 : Value.ix7_0 (ix3 0 r d) = ix3 0 r d :=
    funext fun a => match a with | ⟨0, _⟩ => rfl | ⟨1, _⟩ => rfl | ⟨2, _⟩ => rfl
  have e1 : Value.ix7_1 (ix3 0 r d) = ix3 0 0 d :=
    funext fun a => match a with | ⟨0, _⟩ => rfl | ⟨1, _⟩ => rfl | ⟨2, _⟩ => rfl
  have e2 : Value.ix7_2 (ix3 0 r d) = ix3 0 r d :=
    funext fun a => match a with | ⟨0, _⟩ => rfl | ⟨1, _⟩ => rfl | ⟨2, _⟩ => rfl
  unfold Value.E7
  rw [e0, e1, e2]
  pointwise [k0_pay4, k0_pay3, k0_pay2, unit]

set_option maxHeartbeats 1600000 in
/-- A block of the result at row `r` and column `d`, from the input windows' blocks: one sum over all hidden units. -/
theorem out_apply (x0 : Vec Ideal S1x512x1024 .f32) (x1 : Vec Ideal S1x512x1024 .bf16) (x2 : Vec Ideal S1x1x1024 .f32)
    (x3 : Vec Ideal S1024x4096 .bf16) (x4 : Vec Ideal S1x4096 .f32) (x5 : Vec Ideal S4096x1024 .bf16)
    (x6 : Vec Ideal S1x1024 .f32) (r : Fin 512) (d : Fin 1024) :
    (out0_7 x0 x1 x2 x3 x4 x5 x6 (ix3 0 r d) : EReal)
      = x0 (ix3 0 r d) + x2 (ix3 0 0 d) *
        ((∑ k : Fin 4096, unit (∑ j : Fin 1024, x1 (ix3 0 r j) * x3 (ix2 j k)) (x4 (ix2 0 k)) * x5 (ix2 k d)) + x6 (ix2 0 d)) := by
  unfold out0_7
  rw [Value.canon7_eq, E7_apply, Fin.sum_univ_tiles 4 1024 rfl, Fin.sum_univ_four]
  pointwise []

end Cert.MlpIdeal.Block

namespace Cert.MlpRefIdeal.Elem

open Cert.MlpRefIdeal Cert.MlpRefIdeal.Gen Cert.MlpRefIdeal.Read Idealize.ShloMosaic Cert.Mlp.Math

set_option maxHeartbeats 1600000 in
/-- The reference's result at one element. -/
theorem ref_apply (x0 : FVec Ideal S4x8192x1024 .f32) (x1 : FVec Ideal S4x8192x1024 .bf16) (x2 : FVec Ideal S4x1x1024 .f32)
    (x3 : FVec Ideal S1024x4096 .f32) (x4 : FVec Ideal S4096 .f32) (x5 : FVec Ideal S4096x1024 .f32)
    (x6 : FVec Ideal S1024 .f32) (b : Fin 4) (t : Fin 8192) (d : Fin 1024) :
    (val_main_v13 (F := Ideal) x0 x1 x2 x3 x4 x5 x6 (ix3 b t d) : EReal)
      = ffn x0 x1 x2 x3 x4 x5 x6 b t d := by
  pointwise [val_main_v13, val_main_v12, val_main_v11, val_main_v10, val_main_v9, val_main_v8, val_main_v7, val_main_v6,
    val_main_v5, val_main_v4, val_main_v3, val_main_v2, val_main_v1, val_main_v0, val_main_call0_v0, val_main_call0_cst, ffn, unit]

end Cert.MlpRefIdeal.Elem

end
-- ==== Proof.Mlp.Array.lean ====
module

public import proofs.«01_k».proof.Proof.Mlp.Block
public import Idealize.ShloMosaic.Lib.Pipeline.Value
public import Idealize.ShloMosaic.Lib.StableHlo.Run

@[expose] public section

set_option maxRecDepth 16384

noncomputable section

/-! The feed-forward part: what the result array holds after the kernel's run.

The grid is four batches by sixteen tiles of 512 tokens: point `t` is tile `t % 16` of batch `t / 16`. -/

namespace Cert.MlpIdeal.Array

open Cert.MlpIdeal Cert.MlpIdeal.Gen Idealize.ShloMosaic Idealize.ShloMosaic.TcCoe Idealize.SL.Sem Cert.Mlp.Math
open Idealize.ShloMosaic.Pipeline (Dat)

variable (m : (ℓ : Loc nD τ sig) → Buf (Elt Ideal) ℓ) (ρ : Dev nD → PrngReg)

/-! ## Where a point's blocks lie -/

theorem batch_lt (t : Fin cfg0.N) : t.val / 16 < 4 := by
  have h : t.val < cfg0.N := t.isLt
  have hN : cfg0.N = 64 := N_0
  omega

theorem row_lt (t : Fin cfg0.N) (r : Fin 512) : t.val % 16 * 512 + r.val < 8192 := by
  have := r.isLt
  omega

/-- The batch of point `t`. -/
abbrev batch (t : Fin cfg0.N) : Fin 4 := ⟨t.val / 16, batch_lt t⟩
/-- The token at row `r` of point `t`'s tile. -/
abbrev token (t : Fin cfg0.N) (r : Fin 512) : Fin 8192 := ⟨t.val % 16 * 512 + r.val, row_lt t r⟩

theorem index0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem index1 : ∀ t : Fin cfg0.N, win0_1.index t 0 = t.val / 16 ∧ win0_1.index t 1 = t.val % 16 ∧ win0_1.index t 2 = 0 :=
  (by decide +kernel : ∀ t : Fin grid0.N, win0_1.index t 0 = t.val / 16 ∧ win0_1.index t 1 = t.val % 16 ∧ win0_1.index t 2 = 0)
theorem index2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = t.val / 16 ∧ win0_7.index t 1 = t.val % 16 ∧ win0_7.index t 2 = 0 :=
  (by decide +kernel : ∀ t : Fin grid0.N, win0_7.index t 0 = t.val / 16 ∧ win0_7.index t 1 = t.val % 16 ∧ win0_7.index t 2 = 0)

/-! ## The arrays the host prepares -/

theorem w1_apply (c : Dev nD) (i : S1024x4096.Idx) :
    (V m c main_v0 i : EReal) = m ((c : Thread nD τ).loc main_arg3) i := by
  unfold V hostOps0
  after_results
  rfl

theorem w2_apply (c : Dev nD) (i : S4096x1024.Idx) :
    (V m c main_v1 i : EReal) = m ((c : Thread nD τ).loc main_arg5) i := by
  unfold V hostOps0
  after_results
  rfl

theorem b1_apply (c : Dev nD) (k : Fin 4096) :
    (V m c main_v2 (ix2 0 k) : EReal) = m ((c : Thread nD τ).loc main_arg4) (ix1 k) := by
  unfold V hostOps0
  after_results
  pointwise []

theorem b2_apply (c : Dev nD) (k : Fin 1024) :
    (V m c main_v3 (ix2 0 k) : EReal) = m ((c : Thread nD τ).loc main_arg6) (ix1 k) := by
  unfold V hostOps0
  after_results
  pointwise []

/-! ## The blocks a point reads -/

/-- The residual's block: the batch's rows of this tile. -/
theorem x_block (c : Dev nD) (t : Fin cfg0.N) (r : Fin 512) (d : Fin 1024) :
    (iblk m c 0 t (ix3 0 r d) : EReal) = m ((c : Thread nD τ).loc main_arg0) (ix3 (batch t) (token t r) d) := by
  have h : (iblk m c 0 t (ix3 0 r d) : EReal) = V m c main_arg0 (ix3 (batch t) (token t r) d) := by
    show V m c main_arg0 (((cfg0.win 0).blk t).view.emb (ix3 0 r d)) = _
    congr 1
    funext a
    apply Fin.ext
    match a with
    | ⟨0, _⟩ =>
      have e := (index0 t).1
      show win0_0.index t 0 * 1 + 1 * 0 = t.val / 16
      omega
    | ⟨1, _⟩ =>
      have e := (index0 t).2.1
      show win0_0.index t 1 * 512 + 1 * r.val = t.val % 16 * 512 + r.val
      omega
    | ⟨2, _⟩ =>
      have e := (index0 t).2.2
      show win0_0.index t 2 * 1024 + 1 * d.val = d.val
      omega
  exact h.trans (congrFun (V_main_arg0 m c) _)

/-- The normalised rows' block. -/
theorem h_block (c : Dev nD) (t : Fin cfg0.N) (r : Fin 512) (d : Fin 1024) :
    (iblk m c 1 t (ix3 0 r d) : EReal) = m ((c : Thread nD τ).loc main_arg1) (ix3 (batch t) (token t r) d) := by
  have h : (iblk m c 1 t (ix3 0 r d) : EReal) = V m c main_arg1 (ix3 (batch t) (token t r) d) := by
    show V m c main_arg1 (((cfg0.win 1).blk t).view.emb (ix3 0 r d)) = _
    congr 1
    funext a
    apply Fin.ext
    match a with
    | ⟨0, _⟩ =>
      have e := (index1 t).1
      show win0_1.index t 0 * 1 + 1 * 0 = t.val / 16
      omega
    | ⟨1, _⟩ =>
      have e := (index1 t).2.1
      show win0_1.index t 1 * 512 + 1 * r.val = t.val % 16 * 512 + r.val
      omega
    | ⟨2, _⟩ =>
      have e := (index1 t).2.2
      show win0_1.index t 2 * 1024 + 1 * d.val = d.val
      omega
  exact h.trans (congrFun (V_main_arg1 m c) _)

/-- The gate's block: the batch's one row. -/
theorem g_block (c : Dev nD) (t : Fin cfg0.N) (d : Fin 1024) :
    (iblk m c 2 t (ix3 0 0 d) : EReal) = m ((c : Thread nD τ).loc main_arg2) (ix3 (batch t) 0 d) := by
  have h : (iblk m c 2 t (ix3 0 0 d) : EReal) = V m c main_arg2 (ix3 (batch t) 0 d) := by
    show V m c main_arg2 (((cfg0.win 2).blk t).view.emb (ix3 0 0 d)) = _
    congr 1
    funext a
    apply Fin.ext
    match a with
    | ⟨0, _⟩ =>
      have e := (index2 t).1
      show win0_2.index t 0 * 1 + 1 * 0 = t.val / 16
      omega
    | ⟨1, _⟩ =>
      have e := (index2 t).2.1
      show win0_2.index t 1 * 1 + 1 * 0 = 0
      omega
    | ⟨2, _⟩ =>
      have e := (index2 t).2.2
      show win0_2.index t 2 * 1024 + 1 * d.val = d.val
      omega
  exact h.trans (congrFun (V_main_arg2 m c) _)

/-- The first weights, whole. -/
theorem w1_block (c : Dev nD) (t : Fin cfg0.N) (j : Fin 1024) (k : Fin 4096) :
    (iblk m c 3 t (ix2 j k) : EReal) = m ((c : Thread nD τ).loc main_arg3) (ix2 j k) := by
  have h : (iblk m c 3 t (ix2 j k) : EReal) = V m c main_v0 (ix2 j k) := by
    show V m c main_v0 (((cfg0.win 3).blk t).view.emb (ix2 j k)) = _
    congr 1
    funext a
    apply Fin.ext
    match a with
    | ⟨0, _⟩ =>
      have e := (index3 t).1
      show win0_3.index t 0 * 1024 + 1 * j.val = j.val
      omega
    | ⟨1, _⟩ =>
      have e := (index3 t).2
      show win0_3.index t 1 * 4096 + 1 * k.val = k.val
      omega
  exact h.trans (w1_apply m c _)

/-- The first bias, whole. -/
theorem b1_block (c : Dev nD) (t : Fin cfg0.N) (k : Fin 4096) :
    (iblk m c 4 t (ix2 0 k) : EReal) = m ((c : Thread nD τ).loc main_arg4) (ix1 k) := by
  have h : (iblk m c 4 t (ix2 0 k) : EReal) = V m c main_v2 (ix2 0 k) := by
    show V m c main_v2 (((cfg0.win 4).blk t).view.emb (ix2 0 k)) = _
    congr 1
    funext a
    apply Fin.ext
    match a with
    | ⟨0, _⟩ =>
      have e := (index4 t).1
      show win0_4.index t 0 * 1 + 1 * 0 = 0
      omega
    | ⟨1, _⟩ =>
      have e := (index4 t).2
      show win0_4.index t 1 * 4096 + 1 * k.val = k.val
      omega
  exact h.trans (b1_apply m c k)

/-- The second weights, whole. -/
theorem w2_block (c : Dev nD) (t : Fin cfg0.N) (k : Fin 4096) (d : Fin 1024) :
    (iblk m c 5 t (ix2 k d) : EReal) = m ((c : Thread nD τ).loc main_arg5) (ix2 k d) := by
  have h : (iblk m c 5 t (ix2 k d) : EReal) = V m c main_v1 (ix2 k d) := by
    show V m c main_v1 (((cfg0.win 5).blk t).view.emb (ix2 k d)) = _
    congr 1
    funext a
    apply Fin.ext
    match a with
    | ⟨0, _⟩ =>
      have e := (index5 t).1
      show win0_5.index t 0 * 4096 + 1 * k.val = k.val
      omega
    | ⟨1, _⟩ =>
      have e := (index5 t).2
      show win0_5.index t 1 * 1024 + 1 * d.val = d.val
      omega
  exact h.trans (w2_apply m c _)

/-- The second bias, whole. -/
theorem b2_block (c : Dev nD) (t : Fin cfg0.N) (d : Fin 1024) :
    (iblk m c 6 t (ix2 0 d) : EReal) = m ((c : Thread nD τ).loc main_arg6) (ix1 d) := by
  have h : (iblk m c 6 t (ix2 0 d) : EReal) = V m c main_v3 (ix2 0 d) := by
    show V m c main_v3 (((cfg0.win 6).blk t).view.emb (ix2 0 d)) = _
    congr 1
    funext a
    apply Fin.ext
    match a with
    | ⟨0, _⟩ =>
      have e := (index6 t).1
      show win0_6.index t 0 * 1 + 1 * 0 = 0
      omega
    | ⟨1, _⟩ =>
      have e := (index6 t).2
      show win0_6.index t 1 * 1024 + 1 * d.val = d.val
      omega
  exact h.trans (b2_apply m c d)

/-! ## The result array -/

/-- What the result array holds after the run. -/
def result (c : Dev nD) : Vec Ideal S4x8192x1024 .f32 := fun i =>
  ffn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2)

/-- Row `r`, column `d` of what point `t` leaves is the result at its batch and token. -/
theorem point_apply (c : Dev nD) (t : Fin cfg0.N) (r : Fin 512) (d : Fin 1024) :
    (out0_7 (iblk m c 0 t) (iblk m c 1 t) (iblk m c 2 t) (iblk m c 3 t) (iblk m c 4 t) (iblk m c 5 t) (iblk m c 6 t) (ix3 0 r d) : EReal)
      = ffn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (batch t) (token t r) d := by
  rw [Block.out_apply]
  simp only [x_block, h_block, g_block, w1_block, b1_block, w2_block, b2_block]
  rfl

/-- Where an element of point `t`'s result block lies in the array. -/
theorem emb_apply (t : Fin cfg0.N) (r : Fin 512) (d : Fin 1024) :
    ((cfg0.win 7).blk t).view.emb (ix3 0 r d) = ix3 (batch t) (token t r) d := by
  funext a
  apply Fin.ext
  match a with
  | ⟨0, _⟩ =>
    have e := (index7 t).1
    show win0_7.index t 0 * 1 + 1 * 0 = t.val / 16
    omega
  | ⟨1, _⟩ =>
    have e := (index7 t).2.1
    show win0_7.index t 1 * 512 + 1 * r.val = t.val % 16 * 512 + r.val
    omega
  | ⟨2, _⟩ =>
    have e := (index7 t).2.2
    show win0_7.index t 2 * 1024 + 1 * d.val = d.val
    omega

/-- So these elements lie in point `t`'s block. -/
theorem emb_mem (t : Fin cfg0.N) (r : Fin 512) (d : Fin 1024) :
    (ix3 (batch t) (token t r) d : S4x8192x1024.Idx) ∈ ((cfg0.win 7).blk t).view.set := by
  rw [← emb_apply]
  exact View.emb_mem_set _ _

/-- What a point writes back is its block of the result. -/
theorem flushed_eq (c : Dev nD) (t : Fin cfg0.N) :
    (dats m 0 c).flushed 7 t = ((cfg0.win 7).blk t).view.read (Elt Ideal) (result m c) := by
  rw [Value.flushed7]
  funext y
  obtain ⟨b, r, d, rfl⟩ : ∃ (b : Fin 1) (r : Fin 512) (d : Fin 1024), y = ix3 b r d :=
    ⟨y 0, y 1, y 2, funext fun a => match a with | ⟨0, _⟩ => rfl | ⟨1, _⟩ => rfl | ⟨2, _⟩ => rfl⟩
  obtain rfl : b = 0 := Subsingleton.elim _ _
  show out0_7 (iblk m c 0 t) (iblk m c 1 t) (iblk m c 2 t) (iblk m c 3 t) (iblk m c 4 t) (iblk m c 5 t) (iblk m c 6 t) (ix3 0 r d)
    = result m c (((cfg0.win 7).blk t).view.emb (ix3 0 r d))
  rw [emb_apply]
  exact point_apply m c t r d

/-- Every element of the result lies in some point's block. -/
theorem cover (i : S4x8192x1024.Idx) :
    ∃ t : Fin cfg0.N, (cfg0.win 7).flush t = true ∧ i ∈ ((cfg0.win 7).blk t).view.set := by
  obtain ⟨b, u, d, rfl⟩ : ∃ (b : Fin 4) (u : Fin 8192) (d : Fin 1024), i = ix3 b u d :=
    ⟨i 0, i 1, i 2, funext fun a => match a with | ⟨0, _⟩ => rfl | ⟨1, _⟩ => rfl | ⟨2, _⟩ => rfl⟩
  have hb := b.isLt
  have hu := u.isLt
  have hN : cfg0.N = 64 := N_0
  have ht : b.val * 16 + u.val / 512 < cfg0.N := by omega
  have e0 : batch ⟨b.val * 16 + u.val / 512, ht⟩ = b := Fin.ext (by show (b.val * 16 + u.val / 512) / 16 = b.val; omega)
  have e1 : token ⟨b.val * 16 + u.val / 512, ht⟩ ⟨u.val % 512, Nat.mod_lt _ (by decide)⟩ = u :=
    Fin.ext (by show (b.val * 16 + u.val / 512) % 16 * 512 + u.val % 512 = u.val; omega)
  have h := emb_mem ⟨b.val * 16 + u.val / 512, ht⟩ ⟨u.val % 512, Nat.mod_lt _ (by decide)⟩ d
  rw [e0, e1] at h
  exact ⟨_, flush0_7 _, h⟩

/-- The result array after the run. -/
theorem final (c : Dev nD) : (dats m 0 c).arrAt 7 cfg0.N = result m c :=
  (dats m 0 c).arrAt_eq_of_cover 7 (result m c) (fun t _ => flushed_eq m c t) cover

end Cert.MlpIdeal.Array

end
-- ==== Proof.Mlp.Claims.lean ====
module

public import proofs.«01_k».proof.Defs
public import proofs.«01_k».proof.Proof.Mlp.Array
public import proofs.«01_k».proof.Proof.Gen.Mlp.Frame
public import proofs.«01_k».proof.Proof.Gen.MlpRefIdeal.Run
public import Idealize.ShloMosaic.Lib.Quiescent

@[expose] public section

set_option maxRecDepth 16384

noncomputable section

/-! The feed-forward part: the claims. -/

open Idealize.ShloMosaic Idealize.ShloMosaic.TcCoe Idealize.SL.Sem

namespace Cert.Mlp.Claims

theorem frame : Cert.quiescent_Mlp := fun m ρ _ => Cert.Mlp.Gen.frame m ρ
theorem frame_ideal : Cert.quiescent_MlpIdeal := fun m ρ _ => Cert.MlpIdeal.Gen.frame m ρ
theorem frame_ref : Cert.quiescent_MlpRefIdeal := fun m ρ _ =>
  (θ_run Cert.MlpRefIdeal.defs _ _).mono (fun r h => ⟨fun c => (h c).2,
      Idealize.ShloMosaic.sem_eq_zero_of_no_sems (by decide) r.2⟩)
    (Cert.MlpRefIdeal.Value.run (F := Ideal) m ρ)

theorem preserves : Cert.preserves_Mlp_MlpIdeal := trivial

/-- Kernel and reference end at the same array, `Cert.MlpIdeal.Array.result`. -/
theorem algebraic : Cert.algebraic_MlpIdeal_MlpRefIdeal := by
  intro m ρ m' ρ' _ hag
  refine ⟨fun c => Cert.MlpIdeal.Array.result m c, ?_, ?_⟩
  · exact (θ_run Cert.MlpIdeal.defs _ _).mono
      (fun _ h c => ⟨(h c).1.trans (Cert.MlpIdeal.Array.final m c), (h c).2⟩)
      (Cert.MlpIdeal.Value.run_blocks (F := Ideal) m ρ)
  · refine (θ_run Cert.MlpRefIdeal.defs _ _).mono
      (fun _ h c => ⟨(h c).1.trans ?_, (h c).2⟩)
      (Cert.MlpRefIdeal.Value.run (F := Ideal) m' ρ')
    obtain ⟨e0, e1, e2, e3, e4, e5, e6⟩ := hag c
    rw [e0, e1, e2, e3, e4, e5, e6]
    funext i
    obtain ⟨b, t, d, rfl⟩ : ∃ (b : Fin 4) (t : Fin 8192) (d : Fin 1024), i = ix3 b t d :=
      ⟨i 0, i 1, i 2, funext fun a => match a with | ⟨0, _⟩ => rfl | ⟨1, _⟩ => rfl | ⟨2, _⟩ => rfl⟩
    exact Cert.MlpRefIdeal.Elem.ref_apply _ _ _ _ _ _ _ b t d

end Cert.Mlp.Claims

end
-- ==== Proof.ProjSample.Math.lean ====
module

public import proofs.«01_k».proof.Proof.Proj.Math

@[expose] public section

set_option maxRecDepth 16384

noncomputable section

/-! The attention's projections at the sample's shapes: the functions of one row. -/

namespace Cert.ProjSample.Math

open Idealize.ShloMosaic Cert.Proj.Math

/-- A token's projected row at column `n` of the attention's columns. -/
def proj (x0 : FVec Ideal ⟨3, ![32, 64, 1024]⟩ .bf16) (x1 : FVec Ideal ⟨2, ![1024, 9288]⟩ .f32) (b : Fin 32) (t : Fin 64) (n : Nat)
    (h : n < 2120) : EReal :=
  dot (fun j => x0 (ix3 b t j)) (fun j => x1 (ix2 j ⟨4096 + n, by omega⟩))

/-- A token's query at column `d` of its eight heads. -/
def query (x0 : FVec Ideal ⟨3, ![32, 64, 1024]⟩ .bf16) (x1 : FVec Ideal ⟨2, ![1024, 9288]⟩ .f32) (g : FVec Ideal ⟨1, ![128]⟩ .f32)
    (b : Fin 32) (t : Fin 64) (d : Fin 1024) : EReal :=
  rms (fun j => proj x0 x1 b t (d.val / 128 * 128 + j.val) (by omega)) (fun j => g (ix1 j)) (lane d.val) * qScale

/-- A token's key at column `d` of its two heads. -/
def key (x0 : FVec Ideal ⟨3, ![32, 64, 1024]⟩ .bf16) (x1 : FVec Ideal ⟨2, ![1024, 9288]⟩ .f32) (g : FVec Ideal ⟨1, ![128]⟩ .f32)
    (b : Fin 32) (t : Fin 64) (d : Fin 256) : EReal :=
  rms (fun j => proj x0 x1 b t (1024 + (d.val / 128 * 128 + j.val)) (by omega)) (fun j => g (ix1 j)) (lane d.val)

/-- The row of the matrix that holds token `r` of the block's batch `q`. -/
abbrev row (q : Fin 8) (r : Fin 64) : Fin 512 := ⟨q.val * 64 + r.val, by omega⟩

end Cert.ProjSample.Math

end
-- ==== Proof.ProjSample.Stores.lean ====
module

public import proofs.«01_k».proof.Proof.ProjSample.Math
public import proofs.«01_k».proof.Proof.Gen.ProjSampleIdeal.Frame
public import Idealize.ShloMosaic.Lib.Pointwise

@[expose] public section

set_option maxRecDepth 16384

noncomputable section

/-! The attention's projections at the sample's shapes, one element at a time: what each store of a grid point holds. -/

namespace Cert.ProjSampleIdeal.Block

open Cert.ProjSampleIdeal Cert.ProjSampleIdeal.Gen Idealize.ShloMosaic Cert.Proj.Math Cert.ProjSample.Math

/-- The projected rows of a block, all columns. -/
theorem p_apply (x0 : Vec Ideal S8x64x1024 .bf16) (x1 : Vec Ideal S1024x2176 .bf16) (q : Fin 8) (r : Fin 64) (n : Fin 2176) :
    (k0_pay5 x0 x1 (ix2 (row q r) n) : EReal) = dot (fun j => x0 (ix3 q r j)) (fun j => x1 (ix2 j n)) := by
  pointwise [k0_pay5, dot]
  refine Finset.sum_congr rfl fun j _ => congrArg (fun i => x0 i * x1 (ix2 j n)) ?_
  funext a
  apply Fin.ext
  match a with
  | ⟨0, _⟩ => show (q.val * 64 + r.val) / 64 = q.val; omega
  | ⟨1, _⟩ => show (q.val * 64 + r.val) % 64 = r.val; omega
  | ⟨2, _⟩ => rfl

/-! ## The heads -/

set_option maxHeartbeats 1600000 in
theorem q0_apply (x0 : Vec Ideal S8x64x1024 .bf16) (x1 : Vec Ideal S1024x2176 .bf16) (x2 : Vec Ideal S1x128 .f32) (q : Fin 8) (r : Fin 64) (i : Fin 128) :
    (k0_pay6 x0 x1 x2 (ix3 q r i) : EReal) = rms (fun j => (k0_pay5 x0 x1) (ix2 (row q r) ⟨0 + j.val, by omega⟩)) (fun j => x2 (ix2 0 j)) i * qScale := by
  unfold k0_pay6
  generalize k0_pay5 x0 x1 = v
  pointwise [rms]

set_option maxHeartbeats 1600000 in
theorem q1_apply (x0 : Vec Ideal S8x64x1024 .bf16) (x1 : Vec Ideal S1024x2176 .bf16) (x2 : Vec Ideal S1x128 .f32) (q : Fin 8) (r : Fin 64) (i : Fin 128) :
    (k0_pay10 (k0_pay7 x0 x1) (k0_pay8 x2) (k0_pay9 x0 x1) (ix3 q r i) : EReal) = rms (fun j => (k0_pay5 x0 x1) (ix2 (row q r) ⟨128 + j.val, by omega⟩)) (fun j => x2 (ix2 0 j)) i * qScale := by
  unfold k0_pay9 k0_pay7
  generalize k0_pay5 x0 x1 = v
  pointwise [k0_pay10, k0_pay8, rms]

set_option maxHeartbeats 1600000 in
theorem q2_apply (v : FVec Ideal S512x2176 .f32) (x2 : Vec Ideal S1x128 .f32) (q : Fin 8) (r : Fin 64) (i : Fin 128) :
    (k0_pay11 v x2 (ix3 q r i) : EReal) = rms (fun j => v (ix2 (row q r) ⟨256 + j.val, by omega⟩)) (fun j => x2 (ix2 0 j)) i * qScale := by
  pointwise [k0_pay11, rms]

set_option maxHeartbeats 1600000 in
theorem q3_apply (v : FVec Ideal S512x2176 .f32) (x2 : Vec Ideal S1x128 .f32) (q : Fin 8) (r : Fin 64) (i : Fin 128) :
    (k0_pay15 (k0_pay12 v) (k0_pay13 x2) (k0_pay14 v) (ix3 q r i) : EReal) = rms (fun j => v (ix2 (row q r) ⟨384 + j.val, by omega⟩)) (fun j => x2 (ix2 0 j)) i * qScale := by
  pointwise [k0_pay15, k0_pay12, k0_pay13, k0_pay14, rms]

set_option maxHeartbeats 1600000 in
theorem q5_apply (v : FVec Ideal S512x2176 .f32) (x2 : Vec Ideal S1x128 .f32) (q : Fin 8) (r : Fin 64) (i : Fin 128) :
    (k0_pay20 (k0_pay17 v) (k0_pay18 x2) (k0_pay19 v) (ix3 q r i) : EReal) = rms (fun j => v (ix2 (row q r) ⟨640 + j.val, by omega⟩)) (fun j => x2 (ix2 0 j)) i * qScale := by
  pointwise [k0_pay20, k0_pay17, k0_pay18, k0_pay19, rms]

set_option maxHeartbeats 1600000 in
theorem q7_apply (v : FVec Ideal S512x2176 .f32) (x2 : Vec Ideal S1x128 .f32) (q : Fin 8) (r : Fin 64) (i : Fin 128) :
    (k0_pay25 (k0_pay22 v) (k0_pay23 x2) (k0_pay24 v) (ix3 q r i) : EReal) = rms (fun j => v (ix2 (row q r) ⟨896 + j.val, by omega⟩)) (fun j => x2 (ix2 0 j)) i * qScale := by
  pointwise [k0_pay25, k0_pay22, k0_pay23, k0_pay24, rms]

set_option maxHeartbeats 1600000 in
theorem q4_apply (v : FVec Ideal S512x2176 .f32) (x2 : Vec Ideal S1x128 .f32) (q : Fin 8) (r : Fin 64) (i : Fin 128) :
    (k0_pay16 v x2 (ix3 q r i) : EReal) = rms (fun j => v (ix2 (row q r) ⟨512 + j.val, by omega⟩)) (fun j => x2 (ix2 0 j)) i * qScale := by
  pointwise [k0_pay16, rms]

set_option maxHeartbeats 1600000 in
theorem q6_apply (v : FVec Ideal S512x2176 .f32) (x2 : Vec Ideal S1x128 .f32) (q : Fin 8) (r : Fin 64) (i : Fin 128) :
    (k0_pay21 v x2 (ix3 q r i) : EReal) = rms (fun j => v (ix2 (row q r) ⟨768 + j.val, by omega⟩)) (fun j => x2 (ix2 0 j)) i * qScale := by
  pointwise [k0_pay21, rms]

set_option maxHeartbeats 1600000 in
theorem k0_apply (v : FVec Ideal S512x2176 .f32) (x2 : Vec Ideal S1x128 .f32) (q : Fin 8) (r : Fin 64) (i : Fin 128) :
    (k0_pay26 v x2 (ix3 q r i) : EReal) = rms (fun j => v (ix2 (row q r) ⟨1024 + j.val, by omega⟩)) (fun j => x2 (ix2 0 j)) i := by
  pointwise [k0_pay26, rms]

set_option maxHeartbeats 1600000 in
theorem k1_apply (v : FVec Ideal S512x2176 .f32) (x2 : Vec Ideal S1x128 .f32) (q : Fin 8) (r : Fin 64) (i : Fin 128) :
    (k0_pay27 v x2 (ix3 q r i) : EReal) = rms (fun j => v (ix2 (row q r) ⟨1152 + j.val, by omega⟩)) (fun j => x2 (ix2 0 j)) i := by
  pointwise [k0_pay27, rms]

/-! ## The columns without normalisation -/

theorem v_apply (v : FVec Ideal S512x2176 .f32) (q : Fin 8) (r : Fin 64) (d : Fin 256) :
    (k0_pay1 v (ix3 q r d) : EReal) = v (ix2 (row q r) ⟨1280 + d.val, by omega⟩) := by
  pointwise [k0_pay1]

theorem qi_apply (v : FVec Ideal S512x2176 .f32) (q : Fin 8) (r : Fin 64) (d : Fin 512) :
    (k0_pay2 v (ix3 q r d) : EReal) = v (ix2 (row q r) ⟨1536 + d.val, by omega⟩) := by
  pointwise [k0_pay2]

theorem ki_apply (v : FVec Ideal S512x2176 .f32) (q : Fin 8) (r : Fin 64) (d : Fin 64) :
    (k0_pay3 v (ix3 q r d) : EReal) = v (ix2 (row q r) ⟨2048 + d.val, by omega⟩) := by
  pointwise [k0_pay3]

theorem wi_apply (v : FVec Ideal S512x2176 .f32) (q : Fin 8) (r : Fin 64) (d : Fin 8) :
    (k0_pay4 v (ix3 q r d) : EReal) = v (ix2 (row q r) ⟨2112 + d.val, by omega⟩) * wScale := by
  pointwise [k0_pay4]

end Cert.ProjSampleIdeal.Block

end
-- ==== Proof.ProjSample.Block.lean ====
module

public import proofs.«01_k».proof.Proof.ProjSample.Stores

@[expose] public section

set_option maxRecDepth 16384

noncomputable section

/-! The attention's projections at the sample's shapes, one element at a time: what a grid point leaves in its results'
blocks. -/

namespace Cert.ProjSampleIdeal.Block

open Cert.ProjSampleIdeal Cert.ProjSampleIdeal.Gen Idealize.ShloMosaic Cert.Proj.Math Cert.ProjSample.Math

theorem hz2 : (![0, 0] : Fin 2 → Nat) = fun _ => 0 := funext fun a => by fin_cases a <;> rfl
theorem hz3 : (![0, 0, 0] : Fin 3 → Nat) = fun _ => 0 := funext fun a => by fin_cases a <;> rfl

/-! ## Loads of whole blocks -/

theorem ldH (X : Vec Ideal S8x64x1024 .bf16) (inb) :
    View.ld X (Rect.unit (s := S8x64x1024) ![0, 0, 0] ![8, 64, 1024] inb) = X := View.ld_unit_zero hz3 inb X
theorem ldW (X : Vec Ideal S1024x2176 .bf16) (inb) :
    View.ld X (Rect.unit (s := S1024x2176) ![0, 0] ![1024, 2176] inb) = X := View.ld_unit_zero hz2 inb X
theorem ldR (X : Vec Ideal S1x128 .f32) (inb) :
    View.ld X (Rect.unit (s := S1x128) ![0, 0] ![1, 128] inb) = X := View.ld_unit_zero hz2 inb X

/-- A block's projected row at column `n`. -/
def tproj (x0 : Vec Ideal S8x64x1024 .bf16) (x1 : Vec Ideal S1024x2176 .bf16) (q : Fin 8) (r : Fin 64) (n : Nat) (h : n < 2120) : EReal :=
  dot (fun j => x0 (ix3 q r j)) (fun j => x1 (ix2 j ⟨n, by omega⟩))

/-- A head of 128 columns of the projected rows, normalised. -/
def thead (v : FVec Ideal S512x2176 .f32) (g : Vec Ideal S1x128 .f32) (q : Fin 8) (r : Fin 64) (n : Nat) (h : n + 128 ≤ 2176) (i : Fin 128) : EReal :=
  rms (fun j => v (ix2 (row q r) ⟨n + j.val, by omega⟩)) (fun j => g (ix2 0 j)) i

theorem thead_congr (v : FVec Ideal S512x2176 .f32) (g : Vec Ideal S1x128 .f32) (q : Fin 8) (r : Fin 64) {n n' : Nat} (e : n = n') (h h') {i i' : Fin 128} (ei : i = i') :
    thead v g q r n h i = thead v g q r n' h' i' := by
  subst e ei
  rfl

/-- The queries' block as one array. -/
def queries (v : FVec Ideal S512x2176 .f32) (g : Vec Ideal S1x128 .f32) : Vec Ideal S8x64x1024 .bf16 := fun y =>
  thead v g (y 0) (y 1) ((y 2).val / 128 * 128) (by have h : (y 2).val < 1024 := (y 2).isLt; omega) (lane (y 2).val) * qScale

/-- The keys' block as one array. -/
def keys (v : FVec Ideal S512x2176 .f32) (g : Vec Ideal S1x128 .f32) : Vec Ideal S8x64x256 .f32 := fun y =>
  thead v g (y 0) (y 1) (1024 + (y 2).val / 128 * 128) (by have h : (y 2).val < 256 := (y 2).isLt; omega) (lane (y 2).val)

/-! ## A store holds its part of the array -/

theorem embHead {N : Nat} {o : Nat} (q : Fin 8) (r : Fin 64) (i : Fin 128) (h : o + i.val < N) (inb) :
    (Rect.unit (s := ⟨3, ![8, 64, N]⟩) ![0, 0, o] ![8, 64, 128] inb).emb (ix3 q r i) = ix3 q r ⟨o + i.val, h⟩ := by
  funext a
  apply Fin.ext
  match a with
  | ⟨0, _⟩ => show 0 + 1 * q.val = q.val; omega
  | ⟨1, _⟩ => show 0 + 1 * r.val = r.val; omega
  | ⟨2, _⟩ => show o + 1 * i.val = o + i.val; omega

theorem idxHead (x : S8x64x128.Idx) : ∃ (q : Fin 8) (r : Fin 64) (i : Fin 128), x = ix3 q r i :=
  ⟨x 0, x 1, x 2, funext fun a => match a with | ⟨0, _⟩ => rfl | ⟨1, _⟩ => rfl | ⟨2, _⟩ => rfl⟩

theorem pieceQ (v : FVec Ideal S512x2176 .f32) (g : Vec Ideal S1x128 .f32) (o : Nat) (hm : o % 128 = 0) (ho : o + 128 ≤ 1024)
    {inb} {p : Vec Ideal S8x64x128 .bf16}
    (hp : ∀ (q : Fin 8) (r : Fin 64) (i : Fin 128),
      p (ix3 q r i) = rms (fun j => v (ix2 (row q r) ⟨o + j.val, by omega⟩)) (fun j => g (ix2 0 j)) i * qScale)
    (x : S8x64x128.Idx) :
    p x = queries v g ((Rect.unit (s := S8x64x1024) ![0, 0, o] ![8, 64, 128] inb).emb x) := by
  obtain ⟨q, r, i, rfl⟩ := idxHead x
  have e := embHead (N := 1024) (o := o) q r i (by omega) inb
  refine (hp q r i).trans ((congrArg (queries v g) e).trans ?_).symm
  refine congrArg (· * qScale) (thead_congr v g q r ?_ _ (by omega) ?_)
  · show (o + i.val) / 128 * 128 = o
    omega
  · refine Fin.ext ?_
    show (o + i.val) % 128 = i.val
    omega

theorem pieceK (v : FVec Ideal S512x2176 .f32) (g : Vec Ideal S1x128 .f32) (o n : Nat) (hm : o % 128 = 0) (hn : n = 1024 + o) (ho : o + 128 ≤ 256)
    {inb} {p : Vec Ideal S8x64x128 .f32}
    (hp : ∀ (q : Fin 8) (r : Fin 64) (i : Fin 128),
      p (ix3 q r i) = rms (fun j => v (ix2 (row q r) ⟨n + j.val, by omega⟩)) (fun j => g (ix2 0 j)) i)
    (x : S8x64x128.Idx) :
    p x = keys v g ((Rect.unit (s := S8x64x256) ![0, 0, o] ![8, 64, 128] inb).emb x) := by
  obtain ⟨q, r, i, rfl⟩ := idxHead x
  have e := embHead (N := 256) (o := o) q r i (by omega) inb
  refine (hp q r i).trans ((congrArg (keys v g) e).trans ?_).symm
  refine thead_congr v g q r ?_ _ (by omega) ?_
  · show 1024 + (o + i.val) / 128 * 128 = n
    omega
  · refine Fin.ext ?_
    show (o + i.val) % 128 = i.val
    omega

/-! ## The blocks -/

theorem out4 (x0 : Vec Ideal S8x64x1024 .bf16) (x1 : Vec Ideal S1024x2176 .bf16) (x2 x3 : Vec Ideal S1x128 .f32) : out0_4 x0 x1 x2 x3 = queries (k0_pay5 x0 x1) x2 := by
  unfold out0_4 k0_pay28
  rw [ldH, ldW, ldR]
  refine funext fun y => View.canon_apply_of_pieces (Val := Elt Ideal) (queries (k0_pay5 x0 x1) x2) _ ?_ y (cover0_4 _ _ _ _ _ _ _ _ y)
  intro p hp x
  rcases List.mem_cons.1 hp with rfl | hp
  · exact pieceQ (inb := inb_S8x64x1024_S8x64x128_0_0_896) (k0_pay5 x0 x1) x2 896 (by decide) (by decide) (q7_apply (k0_pay5 x0 x1) x2) x
  rcases List.mem_cons.1 hp with rfl | hp
  · exact pieceQ (inb := inb_S8x64x1024_S8x64x128_0_0_768) (k0_pay5 x0 x1) x2 768 (by decide) (by decide) (q6_apply (k0_pay5 x0 x1) x2) x
  rcases List.mem_cons.1 hp with rfl | hp
  · exact pieceQ (inb := inb_S8x64x1024_S8x64x128_0_0_640) (k0_pay5 x0 x1) x2 640 (by decide) (by decide) (q5_apply (k0_pay5 x0 x1) x2) x
  rcases List.mem_cons.1 hp with rfl | hp
  · exact pieceQ (inb := inb_S8x64x1024_S8x64x128_0_0_512) (k0_pay5 x0 x1) x2 512 (by decide) (by decide) (q4_apply (k0_pay5 x0 x1) x2) x
  rcases List.mem_cons.1 hp with rfl | hp
  · exact pieceQ (inb := inb_S8x64x1024_S8x64x128_0_0_384) (k0_pay5 x0 x1) x2 384 (by decide) (by decide) (q3_apply (k0_pay5 x0 x1) x2) x
  rcases List.mem_cons.1 hp with rfl | hp
  · exact pieceQ (inb := inb_S8x64x1024_S8x64x128_0_0_256) (k0_pay5 x0 x1) x2 256 (by decide) (by decide) (q2_apply (k0_pay5 x0 x1) x2) x
  rcases List.mem_cons.1 hp with rfl | hp
  · exact pieceQ (inb := inb_S8x64x1024_S8x64x128_0_0_128) (k0_pay5 x0 x1) x2 128 (by decide) (by decide) (q1_apply x0 x1 x2) x
  rcases List.mem_cons.1 hp with rfl | hp
  · exact pieceQ (inb := inb_S8x64x1024_S8x64x128_0_0_0) (k0_pay5 x0 x1) x2 0 (by decide) (by decide) (q0_apply x0 x1 x2) x
  simp at hp

theorem out5 (x0 : Vec Ideal S8x64x1024 .bf16) (x1 : Vec Ideal S1024x2176 .bf16) (x2 x3 : Vec Ideal S1x128 .f32) : out0_5 x0 x1 x2 x3 = keys (k0_pay5 x0 x1) x3 := by
  unfold out0_5 k0_pay28
  rw [ldH, ldW, ldR]
  refine funext fun y => View.canon_apply_of_pieces (Val := Elt Ideal) (keys (k0_pay5 x0 x1) x3) _ ?_ y (cover0_5 _ _ y)
  intro p hp x
  rcases List.mem_cons.1 hp with rfl | hp
  · exact pieceK (inb := inb_S8x64x256_S8x64x128_0_0_128) (k0_pay5 x0 x1) x3 128 1152 (by decide) rfl (by decide) (k1_apply (k0_pay5 x0 x1) x3) x
  rcases List.mem_cons.1 hp with rfl | hp
  · exact pieceK (inb := inb_S8x64x256_S8x64x128_0_0_0) (k0_pay5 x0 x1) x3 0 1024 (by decide) rfl (by decide) (k0_apply (k0_pay5 x0 x1) x3) x
  simp at hp

theorem out6 (x0 : Vec Ideal S8x64x1024 .bf16) (x1 : Vec Ideal S1024x2176 .bf16) (x2 x3 : Vec Ideal S1x128 .f32) : out0_6 x0 x1 x2 x3 = k0_pay1 (k0_pay5 x0 x1) := by
  unfold out0_6 k0_pay28
  rw [View.canon_unit_zero hz3, ldH, ldW]

theorem out7 (x0 : Vec Ideal S8x64x1024 .bf16) (x1 : Vec Ideal S1024x2176 .bf16) (x2 x3 : Vec Ideal S1x128 .f32) : out0_7 x0 x1 x2 x3 = k0_pay2 (k0_pay5 x0 x1) := by
  unfold out0_7 k0_pay28
  rw [View.canon_unit_zero hz3, ldH, ldW]

theorem out8 (x0 : Vec Ideal S8x64x1024 .bf16) (x1 : Vec Ideal S1024x2176 .bf16) (x2 x3 : Vec Ideal S1x128 .f32) : out0_8 x0 x1 x2 x3 = k0_pay3 (k0_pay5 x0 x1) := by
  unfold out0_8 k0_pay28
  rw [View.canon_unit_zero hz3, ldH, ldW]

theorem out9 (x0 : Vec Ideal S8x64x1024 .bf16) (x1 : Vec Ideal S1024x2176 .bf16) (x2 x3 : Vec Ideal S1x128 .f32) : out0_9 x0 x1 x2 x3 = k0_pay4 (k0_pay5 x0 x1) := by
  unfold out0_9 k0_pay28
  rw [View.canon_unit_zero hz3, ldH, ldW]

/-! ## The blocks, one element at a time -/

theorem out4_apply (x0 : Vec Ideal S8x64x1024 .bf16) (x1 : Vec Ideal S1024x2176 .bf16) (x2 x3 : Vec Ideal S1x128 .f32) (q : Fin 8) (r : Fin 64) (d : Fin 1024) :
    (out0_4 x0 x1 x2 x3 (ix3 q r d) : EReal) = rms (fun j => tproj x0 x1 q r (d.val / 128 * 128 + j.val) (by omega)) (fun j => x2 (ix2 0 j)) (lane d.val) * qScale := by
  rw [out4]
  refine congrArg (· * qScale) ?_
  show rms (fun j => (k0_pay5 x0 x1) (ix2 (row q r) ⟨d.val / 128 * 128 + j.val, by omega⟩)) (fun j => x2 (ix2 0 j)) (lane d.val) = _
  simp only [p_apply, tproj]

theorem out5_apply (x0 : Vec Ideal S8x64x1024 .bf16) (x1 : Vec Ideal S1024x2176 .bf16) (x2 x3 : Vec Ideal S1x128 .f32) (q : Fin 8) (r : Fin 64) (d : Fin 256) :
    (out0_5 x0 x1 x2 x3 (ix3 q r d) : EReal) = rms (fun j => tproj x0 x1 q r (1024 + (d.val / 128 * 128 + j.val)) (by omega)) (fun j => x3 (ix2 0 j)) (lane d.val) := by
  rw [out5]
  show rms (fun j => (k0_pay5 x0 x1) (ix2 (row q r) ⟨1024 + d.val / 128 * 128 + j.val, by omega⟩)) (fun j => x3 (ix2 0 j)) (lane d.val) = _
  simp only [p_apply, tproj, Nat.add_assoc]

theorem out6_apply (x0 : Vec Ideal S8x64x1024 .bf16) (x1 : Vec Ideal S1024x2176 .bf16) (x2 x3 : Vec Ideal S1x128 .f32) (q : Fin 8) (r : Fin 64) (d : Fin 256) :
    (out0_6 x0 x1 x2 x3 (ix3 q r d) : EReal) = tproj x0 x1 q r (1280 + d.val) (by omega) := by
  rw [out6]
  rw [v_apply, p_apply]
  rfl

theorem out7_apply (x0 : Vec Ideal S8x64x1024 .bf16) (x1 : Vec Ideal S1024x2176 .bf16) (x2 x3 : Vec Ideal S1x128 .f32) (q : Fin 8) (r : Fin 64) (d : Fin 512) :
    (out0_7 x0 x1 x2 x3 (ix3 q r d) : EReal) = tproj x0 x1 q r (1536 + d.val) (by omega) := by
  rw [out7]
  rw [qi_apply, p_apply]
  rfl

theorem out8_apply (x0 : Vec Ideal S8x64x1024 .bf16) (x1 : Vec Ideal S1024x2176 .bf16) (x2 x3 : Vec Ideal S1x128 .f32) (q : Fin 8) (r : Fin 64) (d : Fin 64) :
    (out0_8 x0 x1 x2 x3 (ix3 q r d) : EReal) = tproj x0 x1 q r (2048 + d.val) (by omega) := by
  rw [out8]
  rw [ki_apply, p_apply]
  rfl

theorem out9_apply (x0 : Vec Ideal S8x64x1024 .bf16) (x1 : Vec Ideal S1024x2176 .bf16) (x2 x3 : Vec Ideal S1x128 .f32) (q : Fin 8) (r : Fin 64) (d : Fin 8) :
    (out0_9 x0 x1 x2 x3 (ix3 q r d) : EReal) = tproj x0 x1 q r (2112 + d.val) (by omega) * wScale := by
  rw [out9]
  rw [wi_apply, p_apply]
  rfl

end Cert.ProjSampleIdeal.Block

end
-- ==== Proof.ProjSample.Run.lean ====
module

public import proofs.«01_k».proof.Proof.Gen.ProjSampleIdeal.Frame
public import Idealize.ShloMosaic.Lib.Pipeline.Value
public import Idealize.ShloMosaic.Lib.Pointwise

@[expose] public section

set_option maxRecDepth 16384

noncomputable section

/-! The attention's projections at the sample's shapes: the run of the kernel, its results named. -/

namespace Cert.ProjSampleIdeal.Whole

open Cert.ProjSampleIdeal Cert.ProjSampleIdeal.Gen Idealize.ShloMosaic Idealize.ShloMosaic.TcCoe Idealize.SL.Sem

variable (m : (ℓ : Loc nD τ sig) → Buf (Elt Ideal) ℓ) (ρ : Dev nD → PrngReg)

theorem written4 (c : Dev nD) (t : Fin cfg0.N) :
    (dats m 0 c).flushed 4 t = (cfg0.win 4).cut (grid0.coords t) (out0_4 (iblk m c 0 t) (iblk m c 1 t) (iblk m c 2 t) (iblk m c 3 t)) :=
  congrArg ((cfg0.win 4).cut (grid0.coords t)) (after0_4 m c t)

theorem written5 (c : Dev nD) (t : Fin cfg0.N) :
    (dats m 0 c).flushed 5 t = (cfg0.win 5).cut (grid0.coords t) (out0_5 (iblk m c 0 t) (iblk m c 1 t) (iblk m c 2 t) (iblk m c 3 t)) :=
  congrArg ((cfg0.win 5).cut (grid0.coords t)) (after0_5 m c t)

theorem written6 (c : Dev nD) (t : Fin cfg0.N) :
    (dats m 0 c).flushed 6 t = (cfg0.win 6).cut (grid0.coords t) (out0_6 (iblk m c 0 t) (iblk m c 1 t) (iblk m c 2 t) (iblk m c 3 t)) :=
  congrArg ((cfg0.win 6).cut (grid0.coords t)) (after0_6 m c t)

theorem written7 (c : Dev nD) (t : Fin cfg0.N) :
    (dats m 0 c).flushed 7 t = (cfg0.win 7).cut (grid0.coords t) (out0_7 (iblk m c 0 t) (iblk m c 1 t) (iblk m c 2 t) (iblk m c 3 t)) :=
  congrArg ((cfg0.win 7).cut (grid0.coords t)) (after0_7 m c t)

theorem written8 (c : Dev nD) (t : Fin cfg0.N) :
    (dats m 0 c).flushed 8 t = (cfg0.win 8).cut (grid0.coords t) (out0_8 (iblk m c 0 t) (iblk m c 1 t) (iblk m c 2 t) (iblk m c 3 t)) :=
  congrArg ((cfg0.win 8).cut (grid0.coords t)) (after0_8 m c t)

theorem written9 (c : Dev nD) (t : Fin cfg0.N) :
    (dats m 0 c).flushed 9 t = (cfg0.win 9).cut (grid0.coords t) (out0_9 (iblk m c 0 t) (iblk m c 1 t) (iblk m c 2 t) (iblk m c 3 t)) :=
  congrArg ((cfg0.win 9).cut (grid0.coords t)) (after0_9 m c t)

/-- After the run the six result arrays hold what the grid's points wrote, and the arguments are as they were. -/
theorem run : θ_run defs (onTc (τ := τ) (main (F := Ideal))) ⟨m, fun _ => 0, ρ⟩ fun r => ∀ c : Dev nD,
      r.2.mem ((c : Thread nD τ).loc main_v10_0) = (dats m 0 c).arrAt 4 cfg0.N
      ∧ r.2.mem ((c : Thread nD τ).loc main_v10_1) = (dats m 0 c).arrAt 5 cfg0.N
      ∧ r.2.mem ((c : Thread nD τ).loc main_v10_2) = (dats m 0 c).arrAt 6 cfg0.N
      ∧ r.2.mem ((c : Thread nD τ).loc main_v10_3) = (dats m 0 c).arrAt 7 cfg0.N
      ∧ r.2.mem ((c : Thread nD τ).loc main_v10_4) = (dats m 0 c).arrAt 8 cfg0.N
      ∧ r.2.mem ((c : Thread nD τ).loc main_v10_5) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_main m ρ)
  exact ⟨(h c).1 4, (h c).1 5, (h c).1 6, (h c).1 7, (h c).1 8, (h c).1 9,
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

end Cert.ProjSampleIdeal.Whole

end
-- ==== Proof.ProjSample.Array.lean ====
module

public import proofs.«01_k».proof.Proof.ProjSample.Block
public import proofs.«01_k».proof.Proof.ProjSample.Run
public import Idealize.ShloMosaic.Lib.Pipeline.Value
public import Idealize.ShloMosaic.Lib.StableHlo.Run

@[expose] public section

set_option maxRecDepth 16384

noncomputable section

/-! The attention's projections at the sample's shapes: what the kernel's run leaves.

The grid is four points: point `t` is all 64 tokens of the eight batches from `8 * t` on. -/

namespace Cert.ProjSampleIdeal.Array

open Cert.ProjSampleIdeal Cert.ProjSampleIdeal.Gen Idealize.ShloMosaic Idealize.ShloMosaic.TcCoe Idealize.SL.Sem Cert.ProjSample.Math
open Cert.Proj.Math hiding proj query key
open Idealize.ShloMosaic.Pipeline (Dat)
open Cert.ProjSampleIdeal.Block (tproj)

variable (m : (ℓ : Loc nD τ sig) → Buf (Elt Ideal) ℓ) (ρ : Dev nD → PrngReg)

/-! ## Where a point's blocks lie -/

theorem batch_lt (t : Fin cfg0.N) (q : Fin 8) : t.val * 8 + q.val < 32 := by
  have h : t.val < cfg0.N := t.isLt
  have hN : cfg0.N = 4 := N_0
  have := q.isLt
  omega

/-- The batch at place `q` of point `t`. -/
abbrev batch (t : Fin cfg0.N) (q : Fin 8) : Fin 32 := ⟨t.val * 8 + q.val, batch_lt t q⟩

theorem point_lt (b : Fin 32) : b.val / 8 < cfg0.N := by
  have hN : cfg0.N = 4 := N_0
  omega

/-- The point a batch belongs to. -/
abbrev point (b : Fin 32) : Fin cfg0.N := ⟨b.val / 8, point_lt b⟩
/-- The place of a batch in its point's block. -/
abbrev place (b : Fin 32) : Fin 8 := ⟨b.val % 8, Nat.mod_lt _ (by decide)⟩

theorem batch_point (b : Fin 32) : batch (point b) (place b) = b :=
  Fin.ext (by show b.val / 8 * 8 + b.val % 8 = b.val; omega)

theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem index5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)
theorem index6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)
theorem index7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)
theorem index8 : ∀ t : Fin cfg0.N, win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0)
theorem index9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)

/-! ## The arrays the host prepares -/

theorem w_apply (c : Dev nD) (j : Fin 1024) (n : Nat) (h : n < 2120) :
    (V m c main_v2 (ix2 j ⟨n, by omega⟩) : EReal) = m ((c : Thread nD τ).loc main_arg1) (ix2 j ⟨4096 + n, by omega⟩) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []
  exact dif_pos h

theorem gq_apply (c : Dev nD) (k : Fin 128) :
    (V m c main_v8 (ix2 0 k) : EReal) = m ((c : Thread nD τ).loc main_arg2) (ix1 k) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

theorem gk_apply (c : Dev nD) (k : Fin 128) :
    (V m c main_v9 (ix2 0 k) : EReal) = m ((c : Thread nD τ).loc main_arg3) (ix1 k) := by
  simp only [V, hostOps0, hostOps0_1, hostOps0_2, List.flatten_cons, List.flatten_nil, List.append_nil, List.cons_append,
    List.nil_append, StableHlo.TRef.nullary, StableHlo.TRef.ternary, StableHlo.TRef.binary, StableHlo.TRef.unary,
    StableHlo.TRef.toBuf, StableHlo.TRef.ofBuf, cast_eq]
  after_results
  pointwise []

/-! ## The blocks a point reads -/

/-- The normalised rows' block. -/
theorem h_block (c : Dev nD) (t : Fin cfg0.N) (q : Fin 8) (r : Fin 64) (d : Fin 1024) :
    (iblk m c 0 t (ix3 q r d) : EReal) = m ((c : Thread nD τ).loc main_arg0) (ix3 (batch t q) r d) := by
  have h : (iblk m c 0 t (ix3 q r d) : EReal) = V m c main_arg0 (ix3 (batch t q) r d) := by
    show V m c main_arg0 (((cfg0.win 0).blk t).view.emb (ix3 q r d)) = _
    congr 1
    funext a
    apply Fin.ext
    match a with
    | ⟨0, _⟩ =>
      have eq := (index0 t).1
      show win0_0.index t 0 * 8 + 1 * q.val = t.val * 8 + q.val
      omega
    | ⟨1, _⟩ =>
      have eq := (index0 t).2.1
      show win0_0.index t 1 * 64 + 1 * r.val = r.val
      omega
    | ⟨2, _⟩ =>
      have eq := (index0 t).2.2
      show win0_0.index t 2 * 1024 + 1 * d.val = d.val
      omega
  exact h.trans (congrFun (V_main_arg0 m c) _)

/-- The weights, whole. -/
theorem w_block (c : Dev nD) (t : Fin cfg0.N) (j : Fin 1024) (n : Nat) (hn : n < 2120) :
    (iblk m c 1 t (ix2 j ⟨n, by omega⟩) : EReal) = m ((c : Thread nD τ).loc main_arg1) (ix2 j ⟨4096 + n, by omega⟩) := by
  have h : (iblk m c 1 t (ix2 j ⟨n, by omega⟩) : EReal) = V m c main_v2 (ix2 j ⟨n, by omega⟩) := by
    show V m c main_v2 (((cfg0.win 1).blk t).view.emb (ix2 j ⟨n, by omega⟩)) = _
    congr 1
    funext a
    apply Fin.ext
    match a with
    | ⟨0, _⟩ =>
      have eq := (index1 t).1
      show win0_1.index t 0 * 1024 + 1 * j.val = j.val
      omega
    | ⟨1, _⟩ =>
      have eq := (index1 t).2
      show win0_1.index t 1 * 2176 + 1 * n = n
      omega
  exact h.trans (w_apply m c j n hn)

/-- The queries' scale. -/
theorem gq_block (c : Dev nD) (t : Fin cfg0.N) (k : Fin 128) :
    (iblk m c 2 t (ix2 0 k) : EReal) = m ((c : Thread nD τ).loc main_arg2) (ix1 k) := by
  have h : (iblk m c 2 t (ix2 0 k) : EReal) = V m c main_v8 (ix2 0 k) := by
    show V m c main_v8 (((cfg0.win 2).blk t).view.emb (ix2 0 k)) = _
    congr 1
    funext a
    apply Fin.ext
    match a with
    | ⟨0, _⟩ =>
      have eq := (index2 t).1
      show win0_2.index t 0 * 1 + 1 * 0 = 0
      omega
    | ⟨1, _⟩ =>
      have eq := (index2 t).2
      show win0_2.index t 1 * 128 + 1 * k.val = k.val
      omega
  exact h.trans (gq_apply m c k)

/-- The keys' scale. -/
theorem gk_block (c : Dev nD) (t : Fin cfg0.N) (k : Fin 128) :
    (iblk m c 3 t (ix2 0 k) : EReal) = m ((c : Thread nD τ).loc main_arg3) (ix1 k) := by
  have h : (iblk m c 3 t (ix2 0 k) : EReal) = V m c main_v9 (ix2 0 k) := by
    show V m c main_v9 (((cfg0.win 3).blk t).view.emb (ix2 0 k)) = _
    congr 1
    funext a
    apply Fin.ext
    match a with
    | ⟨0, _⟩ =>
      have eq := (index3 t).1
      show win0_3.index t 0 * 1 + 1 * 0 = 0
      omega
    | ⟨1, _⟩ =>
      have eq := (index3 t).2
      show win0_3.index t 1 * 128 + 1 * k.val = k.val
      omega
  exact h.trans (gk_apply m c k)

/-- A tile's projected rows are its tokens'. -/
theorem own (c : Dev nD) (t : Fin cfg0.N) (q : Fin 8) (r : Fin 64) (n : Nat) (h : n < 2120) :
    tproj (iblk m c 0 t) (iblk m c 1 t) q r n h = proj (m ((c : Thread nD τ).loc main_arg0)) (m ((c : Thread nD τ).loc main_arg1)) (batch t q) r n h := by
  unfold tproj proj
  simp only [h_block]
  congr 1
  funext j
  exact w_block m c t j n h

/-! ## The queries. -/

/-- What this result array holds after the run. -/
def result4 (c : Dev nD) : Vec Ideal S32x64x1024 .bf16 :=
  fun i => query (m ((c : Thread nD τ).loc main_arg0)) (m ((c : Thread nD τ).loc main_arg1)) (m ((c : Thread nD τ).loc main_arg2)) (i 0) (i 1) (i 2)

theorem point4 (c : Dev nD) (t : Fin cfg0.N) (q : Fin 8) (r : Fin 64) (d : Fin 1024) :
    (out0_4 (iblk m c 0 t) (iblk m c 1 t) (iblk m c 2 t) (iblk m c 3 t) (ix3 q r d) : EReal)
      = query (m ((c : Thread nD τ).loc main_arg0)) (m ((c : Thread nD τ).loc main_arg1)) (m ((c : Thread nD τ).loc main_arg2)) (batch t q) r d := by
  refine (Block.out4_apply _ _ _ _ q r d).trans ?_
  unfold query
  simp only [own, gq_block]

theorem emb4 (t : Fin cfg0.N) (q : Fin 8) (r : Fin 64) (d : Fin 1024) :
    ((cfg0.win 4).blk t).view.emb (ix3 q r d) = ix3 (batch t q) r d := by
  funext a
  apply Fin.ext
  match a with
  | ⟨0, _⟩ =>
    have eq := (index4 t).1
    show win0_4.index t 0 * 8 + 1 * q.val = t.val * 8 + q.val
    omega
  | ⟨1, _⟩ =>
    have eq := (index4 t).2.1
    show win0_4.index t 1 * 64 + 1 * r.val = r.val
    omega
  | ⟨2, _⟩ =>
    have eq := (index4 t).2.2
    show win0_4.index t 2 * 1024 + 1 * d.val = d.val
    omega

theorem mem4 (t : Fin cfg0.N) (q : Fin 8) (r : Fin 64) (d : Fin 1024) :
    (ix3 (batch t q) r d : S32x64x1024.Idx) ∈ ((cfg0.win 4).blk t).view.set := by
  rw [← emb4]
  exact View.emb_mem_set _ _

theorem flushed4 (c : Dev nD) (t : Fin cfg0.N) :
    (dats m 0 c).flushed 4 t = ((cfg0.win 4).blk t).view.read (Elt Ideal) (result4 m c) := by
  rw [Whole.written4]
  funext y
  obtain ⟨q, r, d, rfl⟩ : ∃ (q : Fin 8) (r : Fin 64) (d : Fin 1024), y = ix3 q r d :=
    ⟨y 0, y 1, y 2, funext fun a => match a with | ⟨0, _⟩ => rfl | ⟨1, _⟩ => rfl | ⟨2, _⟩ => rfl⟩
  show out0_4 (iblk m c 0 t) (iblk m c 1 t) (iblk m c 2 t) (iblk m c 3 t) (ix3 q r d)
    = result4 m c (((cfg0.win 4).blk t).view.emb (ix3 q r d))
  rw [emb4]
  exact point4 m c t q r d

theorem cover4 (x : S32x64x1024.Idx) :
    ∃ t : Fin cfg0.N, (cfg0.win 4).flush t = true ∧ x ∈ ((cfg0.win 4).blk t).view.set := by
  obtain ⟨b, u, d, rfl⟩ : ∃ (b : Fin 32) (u : Fin 64) (d : Fin 1024), x = ix3 b u d :=
    ⟨x 0, x 1, x 2, funext fun a => match a with | ⟨0, _⟩ => rfl | ⟨1, _⟩ => rfl | ⟨2, _⟩ => rfl⟩
  have h := mem4 (point b) (place b) u d
  rw [batch_point] at h
  exact ⟨_, flush0_4 _, h⟩

theorem final4 (c : Dev nD) : (dats m 0 c).arrAt 4 cfg0.N = result4 m c :=
  (dats m 0 c).arrAt_eq_of_cover 4 (result4 m c) (fun t _ => flushed4 m c t) cover4

/-! ## The keys. -/

/-- What this result array holds after the run. -/
def result5 (c : Dev nD) : Vec Ideal S32x64x256 .f32 :=
  fun i => key (m ((c : Thread nD τ).loc main_arg0)) (m ((c : Thread nD τ).loc main_arg1)) (m ((c : Thread nD τ).loc main_arg3)) (i 0) (i 1) (i 2)

theorem point5 (c : Dev nD) (t : Fin cfg0.N) (q : Fin 8) (r : Fin 64) (d : Fin 256) :
    (out0_5 (iblk m c 0 t) (iblk m c 1 t) (iblk m c 2 t) (iblk m c 3 t) (ix3 q r d) : EReal)
      = key (m ((c : Thread nD τ).loc main_arg0)) (m ((c : Thread nD τ).loc main_arg1)) (m ((c : Thread nD τ).loc main_arg3)) (batch t q) r d := by
  refine (Block.out5_apply _ _ _ _ q r d).trans ?_
  unfold key
  simp only [own, gk_block]

theorem emb5 (t : Fin cfg0.N) (q : Fin 8) (r : Fin 64) (d : Fin 256) :
    ((cfg0.win 5).blk t).view.emb (ix3 q r d) = ix3 (batch t q) r d := by
  funext a
  apply Fin.ext
  match a with
  | ⟨0, _⟩ =>
    have eq := (index5 t).1
    show win0_5.index t 0 * 8 + 1 * q.val = t.val * 8 + q.val
    omega
  | ⟨1, _⟩ =>
    have eq := (index5 t).2.1
    show win0_5.index t 1 * 64 + 1 * r.val = r.val
    omega
  | ⟨2, _⟩ =>
    have eq := (index5 t).2.2
    show win0_5.index t 2 * 256 + 1 * d.val = d.val
    omega

theorem mem5 (t : Fin cfg0.N) (q : Fin 8) (r : Fin 64) (d : Fin 256) :
    (ix3 (batch t q) r d : S32x64x256.Idx) ∈ ((cfg0.win 5).blk t).view.set := by
  rw [← emb5]
  exact View.emb_mem_set _ _

theorem flushed5 (c : Dev nD) (t : Fin cfg0.N) :
    (dats m 0 c).flushed 5 t = ((cfg0.win 5).blk t).view.read (Elt Ideal) (result5 m c) := by
  rw [Whole.written5]
  funext y
  obtain ⟨q, r, d, rfl⟩ : ∃ (q : Fin 8) (r : Fin 64) (d : Fin 256), y = ix3 q r d :=
    ⟨y 0, y 1, y 2, funext fun a => match a with | ⟨0, _⟩ => rfl | ⟨1, _⟩ => rfl | ⟨2, _⟩ => rfl⟩
  show out0_5 (iblk m c 0 t) (iblk m c 1 t) (iblk m c 2 t) (iblk m c 3 t) (ix3 q r d)
    = result5 m c (((cfg0.win 5).blk t).view.emb (ix3 q r d))
  rw [emb5]
  exact point5 m c t q r d

theorem cover5 (x : S32x64x256.Idx) :
    ∃ t : Fin cfg0.N, (cfg0.win 5).flush t = true ∧ x ∈ ((cfg0.win 5).blk t).view.set := by
  obtain ⟨b, u, d, rfl⟩ : ∃ (b : Fin 32) (u : Fin 64) (d : Fin 256), x = ix3 b u d :=
    ⟨x 0, x 1, x 2, funext fun a => match a with | ⟨0, _⟩ => rfl | ⟨1, _⟩ => rfl | ⟨2, _⟩ => rfl⟩
  have h := mem5 (point b) (place b) u d
  rw [batch_point] at h
  exact ⟨_, flush0_5 _, h⟩

theorem final5 (c : Dev nD) : (dats m 0 c).arrAt 5 cfg0.N = result5 m c :=
  (dats m 0 c).arrAt_eq_of_cover 5 (result5 m c) (fun t _ => flushed5 m c t) cover5

/-! ## The values. -/

/-- What this result array holds after the run. -/
def result6 (c : Dev nD) : Vec Ideal S32x64x256 .f32 :=
  fun i => proj (m ((c : Thread nD τ).loc main_arg0)) (m ((c : Thread nD τ).loc main_arg1)) (i 0) (i 1) (1280 + ((i 2)).val) (by have h : (i 2).val < 256 := (i 2).isLt; omega)

theorem point6 (c : Dev nD) (t : Fin cfg0.N) (q : Fin 8) (r : Fin 64) (d : Fin 256) :
    (out0_6 (iblk m c 0 t) (iblk m c 1 t) (iblk m c 2 t) (iblk m c 3 t) (ix3 q r d) : EReal)
      = proj (m ((c : Thread nD τ).loc main_arg0)) (m ((c : Thread nD τ).loc main_arg1)) (batch t q) r (1280 + (d).val) (by omega) := by
  refine (Block.out6_apply _ _ _ _ q r d).trans ?_
  rw [own]

theorem emb6 (t : Fin cfg0.N) (q : Fin 8) (r : Fin 64) (d : Fin 256) :
    ((cfg0.win 6).blk t).view.emb (ix3 q r d) = ix3 (batch t q) r d := by
  funext a
  apply Fin.ext
  match a with
  | ⟨0, _⟩ =>
    have eq := (index6 t).1
    show win0_6.index t 0 * 8 + 1 * q.val = t.val * 8 + q.val
    omega
  | ⟨1, _⟩ =>
    have eq := (index6 t).2.1
    show win0_6.index t 1 * 64 + 1 * r.val = r.val
    omega
  | ⟨2, _⟩ =>
    have eq := (index6 t).2.2
    show win0_6.index t 2 * 256 + 1 * d.val = d.val
    omega

theorem mem6 (t : Fin cfg0.N) (q : Fin 8) (r : Fin 64) (d : Fin 256) :
    (ix3 (batch t q) r d : S32x64x256.Idx) ∈ ((cfg0.win 6).blk t).view.set := by
  rw [← emb6]
  exact View.emb_mem_set _ _

theorem flushed6 (c : Dev nD) (t : Fin cfg0.N) :
    (dats m 0 c).flushed 6 t = ((cfg0.win 6).blk t).view.read (Elt Ideal) (result6 m c) := by
  rw [Whole.written6]
  funext y
  obtain ⟨q, r, d, rfl⟩ : ∃ (q : Fin 8) (r : Fin 64) (d : Fin 256), y = ix3 q r d :=
    ⟨y 0, y 1, y 2, funext fun a => match a with | ⟨0, _⟩ => rfl | ⟨1, _⟩ => rfl | ⟨2, _⟩ => rfl⟩
  show out0_6 (iblk m c 0 t) (iblk m c 1 t) (iblk m c 2 t) (iblk m c 3 t) (ix3 q r d)
    = result6 m c (((cfg0.win 6).blk t).view.emb (ix3 q r d))
  rw [emb6]
  exact point6 m c t q r d

theorem cover6 (x : S32x64x256.Idx) :
    ∃ t : Fin cfg0.N, (cfg0.win 6).flush t = true ∧ x ∈ ((cfg0.win 6).blk t).view.set := by
  obtain ⟨b, u, d, rfl⟩ : ∃ (b : Fin 32) (u : Fin 64) (d : Fin 256), x = ix3 b u d :=
    ⟨x 0, x 1, x 2, funext fun a => match a with | ⟨0, _⟩ => rfl | ⟨1, _⟩ => rfl | ⟨2, _⟩ => rfl⟩
  have h := mem6 (point b) (place b) u d
  rw [batch_point] at h
  exact ⟨_, flush0_6 _, h⟩

theorem final6 (c : Dev nD) : (dats m 0 c).arrAt 6 cfg0.N = result6 m c :=
  (dats m 0 c).arrAt_eq_of_cover 6 (result6 m c) (fun t _ => flushed6 m c t) cover6

/-! ## The index queries. -/

/-- What this result array holds after the run. -/
def result7 (c : Dev nD) : Vec Ideal S32x64x512 .bf16 :=
  fun i => proj (m ((c : Thread nD τ).loc main_arg0)) (m ((c : Thread nD τ).loc main_arg1)) (i 0) (i 1) (1536 + ((i 2)).val) (by have h : (i 2).val < 512 := (i 2).isLt; omega)

theorem point7 (c : Dev nD) (t : Fin cfg0.N) (q : Fin 8) (r : Fin 64) (d : Fin 512) :
    (out0_7 (iblk m c 0 t) (iblk m c 1 t) (iblk m c 2 t) (iblk m c 3 t) (ix3 q r d) : EReal)
      = proj (m ((c : Thread nD τ).loc main_arg0)) (m ((c : Thread nD τ).loc main_arg1)) (batch t q) r (1536 + (d).val) (by omega) := by
  refine (Block.out7_apply _ _ _ _ q r d).trans ?_
  rw [own]

theorem emb7 (t : Fin cfg0.N) (q : Fin 8) (r : Fin 64) (d : Fin 512) :
    ((cfg0.win 7).blk t).view.emb (ix3 q r d) = ix3 (batch t q) r d := by
  funext a
  apply Fin.ext
  match a with
  | ⟨0, _⟩ =>
    have eq := (index7 t).1
    show win0_7.index t 0 * 8 + 1 * q.val = t.val * 8 + q.val
    omega
  | ⟨1, _⟩ =>
    have eq := (index7 t).2.1
    show win0_7.index t 1 * 64 + 1 * r.val = r.val
    omega
  | ⟨2, _⟩ =>
    have eq := (index7 t).2.2
    show win0_7.index t 2 * 512 + 1 * d.val = d.val
    omega

theorem mem7 (t : Fin cfg0.N) (q : Fin 8) (r : Fin 64) (d : Fin 512) :
    (ix3 (batch t q) r d : S32x64x512.Idx) ∈ ((cfg0.win 7).blk t).view.set := by
  rw [← emb7]
  exact View.emb_mem_set _ _

theorem flushed7 (c : Dev nD) (t : Fin cfg0.N) :
    (dats m 0 c).flushed 7 t = ((cfg0.win 7).blk t).view.read (Elt Ideal) (result7 m c) := by
  rw [Whole.written7]
  funext y
  obtain ⟨q, r, d, rfl⟩ : ∃ (q : Fin 8) (r : Fin 64) (d : Fin 512), y = ix3 q r d :=
    ⟨y 0, y 1, y 2, funext fun a => match a with | ⟨0, _⟩ => rfl | ⟨1, _⟩ => rfl | ⟨2, _⟩ => rfl⟩
  show out0_7 (iblk m c 0 t) (iblk m c 1 t) (iblk m c 2 t) (iblk m c 3 t) (ix3 q r d)
    = result7 m c (((cfg0.win 7).blk t).view.emb (ix3 q r d))
  rw [emb7]
  exact point7 m c t q r d

theorem cover7 (x : S32x64x512.Idx) :
    ∃ t : Fin cfg0.N, (cfg0.win 7).flush t = true ∧ x ∈ ((cfg0.win 7).blk t).view.set := by
  obtain ⟨b, u, d, rfl⟩ : ∃ (b : Fin 32) (u : Fin 64) (d : Fin 512), x = ix3 b u d :=
    ⟨x 0, x 1, x 2, funext fun a => match a with | ⟨0, _⟩ => rfl | ⟨1, _⟩ => rfl | ⟨2, _⟩ => rfl⟩
  have h := mem7 (point b) (place b) u d
  rw [batch_point] at h
  exact ⟨_, flush0_7 _, h⟩

theorem final7 (c : Dev nD) : (dats m 0 c).arrAt 7 cfg0.N = result7 m c :=
  (dats m 0 c).arrAt_eq_of_cover 7 (result7 m c) (fun t _ => flushed7 m c t) cover7

/-! ## The index keys. -/

/-- What this result array holds after the run. -/
def result8 (c : Dev nD) : Vec Ideal S32x64x64 .f32 :=
  fun i => proj (m ((c : Thread nD τ).loc main_arg0)) (m ((c : Thread nD τ).loc main_arg1)) (i 0) (i 1) (2048 + ((i 2)).val) (by have h : (i 2).val < 64 := (i 2).isLt; omega)

theorem point8 (c : Dev nD) (t : Fin cfg0.N) (q : Fin 8) (r : Fin 64) (d : Fin 64) :
    (out0_8 (iblk m c 0 t) (iblk m c 1 t) (iblk m c 2 t) (iblk m c 3 t) (ix3 q r d) : EReal)
      = proj (m ((c : Thread nD τ).loc main_arg0)) (m ((c : Thread nD τ).loc main_arg1)) (batch t q) r (2048 + (d).val) (by omega) := by
  refine (Block.out8_apply _ _ _ _ q r d).trans ?_
  rw [own]

theorem emb8 (t : Fin cfg0.N) (q : Fin 8) (r : Fin 64) (d : Fin 64) :
    ((cfg0.win 8).blk t).view.emb (ix3 q r d) = ix3 (batch t q) r d := by
  funext a
  apply Fin.ext
  match a with
  | ⟨0, _⟩ =>
    have eq := (index8 t).1
    show win0_8.index t 0 * 8 + 1 * q.val = t.val * 8 + q.val
    omega
  | ⟨1, _⟩ =>
    have eq := (index8 t).2.1
    show win0_8.index t 1 * 64 + 1 * r.val = r.val
    omega
  | ⟨2, _⟩ =>
    have eq := (index8 t).2.2
    show win0_8.index t 2 * 64 + 1 * d.val = d.val
    omega

theorem mem8 (t : Fin cfg0.N) (q : Fin 8) (r : Fin 64) (d : Fin 64) :
    (ix3 (batch t q) r d : S32x64x64.Idx) ∈ ((cfg0.win 8).blk t).view.set := by
  rw [← emb8]
  exact View.emb_mem_set _ _

theorem flushed8 (c : Dev nD) (t : Fin cfg0.N) :
    (dats m 0 c).flushed 8 t = ((cfg0.win 8).blk t).view.read (Elt Ideal) (result8 m c) := by
  rw [Whole.written8]
  funext y
  obtain ⟨q, r, d, rfl⟩ : ∃ (q : Fin 8) (r : Fin 64) (d : Fin 64), y = ix3 q r d :=
    ⟨y 0, y 1, y 2, funext fun a => match a with | ⟨0, _⟩ => rfl | ⟨1, _⟩ => rfl | ⟨2, _⟩ => rfl⟩
  show out0_8 (iblk m c 0 t) (iblk m c 1 t) (iblk m c 2 t) (iblk m c 3 t) (ix3 q r d)
    = result8 m c (((cfg0.win 8).blk t).view.emb (ix3 q r d))
  rw [emb8]
  exact point8 m c t q r d

theorem cover8 (x : S32x64x64.Idx) :
    ∃ t : Fin cfg0.N, (cfg0.win 8).flush t = true ∧ x ∈ ((cfg0.win 8).blk t).view.set := by
  obtain ⟨b, u, d, rfl⟩ : ∃ (b : Fin 32) (u : Fin 64) (d : Fin 64), x = ix3 b u d :=
    ⟨x 0, x 1, x 2, funext fun a => match a with | ⟨0, _⟩ => rfl | ⟨1, _⟩ => rfl | ⟨2, _⟩ => rfl⟩
  have h := mem8 (point b) (place b) u d
  rw [batch_point] at h
  exact ⟨_, flush0_8 _, h⟩

theorem final8 (c : Dev nD) : (dats m 0 c).arrAt 8 cfg0.N = result8 m c :=
  (dats m 0 c).arrAt_eq_of_cover 8 (result8 m c) (fun t _ => flushed8 m c t) cover8

/-! ## The index weights. -/

/-- What this result array holds after the run. -/
def result9 (c : Dev nD) : Vec Ideal S32x64x8 .f32 :=
  fun i => proj (m ((c : Thread nD τ).loc main_arg0)) (m ((c : Thread nD τ).loc main_arg1)) (i 0) (i 1) (2112 + ((i 2)).val) (by have h : (i 2).val < 8 := (i 2).isLt; omega) * wScale

theorem point9 (c : Dev nD) (t : Fin cfg0.N) (q : Fin 8) (r : Fin 64) (d : Fin 8) :
    (out0_9 (iblk m c 0 t) (iblk m c 1 t) (iblk m c 2 t) (iblk m c 3 t) (ix3 q r d) : EReal)
      = proj (m ((c : Thread nD τ).loc main_arg0)) (m ((c : Thread nD τ).loc main_arg1)) (batch t q) r (2112 + (d).val) (by omega) * wScale := by
  refine (Block.out9_apply _ _ _ _ q r d).trans ?_
  rw [own]

theorem emb9 (t : Fin cfg0.N) (q : Fin 8) (r : Fin 64) (d : Fin 8) :
    ((cfg0.win 9).blk t).view.emb (ix3 q r d) = ix3 (batch t q) r d := by
  funext a
  apply Fin.ext
  match a with
  | ⟨0, _⟩ =>
    have eq := (index9 t).1
    show win0_9.index t 0 * 8 + 1 * q.val = t.val * 8 + q.val
    omega
  | ⟨1, _⟩ =>
    have eq := (index9 t).2.1
    show win0_9.index t 1 * 64 + 1 * r.val = r.val
    omega
  | ⟨2, _⟩ =>
    have eq := (index9 t).2.2
    show win0_9.index t 2 * 8 + 1 * d.val = d.val
    omega

theorem mem9 (t : Fin cfg0.N) (q : Fin 8) (r : Fin 64) (d : Fin 8) :
    (ix3 (batch t q) r d : S32x64x8.Idx) ∈ ((cfg0.win 9).blk t).view.set := by
  rw [← emb9]
  exact View.emb_mem_set _ _

theorem flushed9 (c : Dev nD) (t : Fin cfg0.N) :
    (dats m 0 c).flushed 9 t = ((cfg0.win 9).blk t).view.read (Elt Ideal) (result9 m c) := by
  rw [Whole.written9]
  funext y
  obtain ⟨q, r, d, rfl⟩ : ∃ (q : Fin 8) (r : Fin 64) (d : Fin 8), y = ix3 q r d :=
    ⟨y 0, y 1, y 2, funext fun a => match a with | ⟨0, _⟩ => rfl | ⟨1, _⟩ => rfl | ⟨2, _⟩ => rfl⟩
  show out0_9 (iblk m c 0 t) (iblk m c 1 t) (iblk m c 2 t) (iblk m c 3 t) (ix3 q r d)
    = result9 m c (((cfg0.win 9).blk t).view.emb (ix3 q r d))
  rw [emb9]
  exact point9 m c t q r d

theorem cover9 (x : S32x64x8.Idx) :
    ∃ t : Fin cfg0.N, (cfg0.win 9).flush t = true ∧ x ∈ ((cfg0.win 9).blk t).view.set := by
  obtain ⟨b, u, d, rfl⟩ : ∃ (b : Fin 32) (u : Fin 64) (d : Fin 8), x = ix3 b u d :=
    ⟨x 0, x 1, x 2, funext fun a => match a with | ⟨0, _⟩ => rfl | ⟨1, _⟩ => rfl | ⟨2, _⟩ => rfl⟩
  have h := mem9 (point b) (place b) u d
  rw [batch_point] at h
  exact ⟨_, flush0_9 _, h⟩

theorem final9 (c : Dev nD) : (dats m 0 c).arrAt 9 cfg0.N = result9 m c :=
  (dats m 0 c).arrAt_eq_of_cover 9 (result9 m c) (fun t _ => flushed9 m c t) cover9

end Cert.ProjSampleIdeal.Array

end
-- ==== Proof.ProjSample.Ref.lean ====
module

public import proofs.«01_k».proof.Proof.ProjSample.Math
public import proofs.«01_k».proof.Proof.Gen.ProjSampleRefIdeal.Read

@[expose] public section

set_option maxRecDepth 16384

noncomputable section

/-! The attention's projections at the sample's shapes, one element at a time: what the reference holds. -/

namespace Cert.ProjSampleRefIdeal.Elem

open Cert.ProjSampleRefIdeal Cert.ProjSampleRefIdeal.Gen Cert.ProjSampleRefIdeal.Read Idealize.ShloMosaic Cert.ProjSample.Math
open Cert.Proj.Math hiding proj query key

theorem p_apply (x0 : FVec Ideal S32x64x1024 .bf16) (x1 : FVec Ideal S1024x9288 .f32) (b : Fin 32) (t : Fin 64) (n : Fin 2120) :
    (val_main_v2 (F := Ideal) x0 x1 (ix3 b t n) : EReal) = proj x0 x1 b t n.val n.isLt := by
  pointwise [val_main_v2, val_main_v1, val_main_v0, proj, dot]

/-- The queries' rows, head by head. -/
theorem qhead_apply (x0 : FVec Ideal S32x64x1024 .bf16) (x1 : FVec Ideal S1024x9288 .f32) (x2 : FVec Ideal S128 .f32) (b : Fin 32) (t : Fin 64) (e : Fin 8) (i : Fin 128) :
    (val_main_v19 (F := Ideal) x0 x1 x2 (ix4 b t e i) : EReal)
      = rms (fun j => proj x0 x1 b t (e.val * 128 + j.val) (by omega)) (fun j => x2 (ix1 j)) i * qScale := by
  have h := p_apply x0 x1 b t
  have h4 : ∀ j : Fin 128, (val_main_v4 (F := Ideal) x0 x1 (ix4 b t e j) : EReal) = proj x0 x1 b t (e.val * 128 + j.val) (by omega) := by
    intro j
    unfold val_main_v4 val_main_v3
    generalize val_main_v2 (F := Ideal) x0 x1 = v at h ⊢
    pointwise []
    refine Eq.trans ?_ (h ⟨e.val * 128 + j.val, by omega⟩)
    congr 1
  unfold val_main_v19 val_main_v17 val_main_v14 val_main_v13 val_main_v12 val_main_v11 val_main_v9 val_main_v7 val_main_v6 val_main_v5
  generalize val_main_v4 (F := Ideal) x0 x1 = v at h4 ⊢
  pointwise [val_main_v18, val_main_v16, val_main_v15, val_main_v10, val_main_v8, val_main_cst, val_main_cst_0, val_main_cst_1, val_main_cst_2, rms]
  simp only [h4]

/-- The first result: the queries. -/
theorem q_apply (x0 : FVec Ideal S32x64x1024 .bf16) (x1 : FVec Ideal S1024x9288 .f32) (x2 : FVec Ideal S128 .f32) (b : Fin 32) (t : Fin 64) (d : Fin 1024) :
    (val_main_v43 (F := Ideal) x0 x1 x2 (ix3 b t d) : EReal) = query x0 x1 x2 b t d := by
  have h := qhead_apply x0 x1 x2 b t
  unfold val_main_v43 val_main_v42
  generalize val_main_v19 (F := Ideal) x0 x1 x2 = v at h ⊢
  pointwise []
  refine Eq.trans ?_ (h ⟨d.val / 128, by omega⟩ (lane d.val))
  congr 1

/-- The keys' rows, head by head. -/
theorem khead_apply (x0 : FVec Ideal S32x64x1024 .bf16) (x1 : FVec Ideal S1024x9288 .f32) (x3 : FVec Ideal S128 .f32) (b : Fin 32) (t : Fin 64) (e : Fin 2) (i : Fin 128) :
    (val_main_v34 (F := Ideal) x0 x1 x3 (ix4 b t e i) : EReal)
      = rms (fun j => proj x0 x1 b t (1024 + (e.val * 128 + j.val)) (by omega)) (fun j => x3 (ix1 j)) i := by
  have h := p_apply x0 x1 b t
  have h4 : ∀ j : Fin 128, (val_main_v21 (F := Ideal) x0 x1 (ix4 b t e j) : EReal) = proj x0 x1 b t (1024 + (e.val * 128 + j.val)) (by omega) := by
    intro j
    unfold val_main_v21 val_main_v20
    generalize val_main_v2 (F := Ideal) x0 x1 = v at h ⊢
    pointwise []
    refine Eq.trans ?_ (h ⟨1024 + (e.val * 128 + j.val), by omega⟩)
    congr 1
  unfold val_main_v34 val_main_v31 val_main_v30 val_main_v29 val_main_v28 val_main_v26 val_main_v24 val_main_v23 val_main_v22
  generalize val_main_v21 (F := Ideal) x0 x1 = v at h4 ⊢
  pointwise [val_main_v33, val_main_v32, val_main_v27, val_main_v25, val_main_cst_3, val_main_cst_4, val_main_cst_5, rms]
  simp only [h4]

/-- The second result: the keys. -/
theorem k_apply (x0 : FVec Ideal S32x64x1024 .bf16) (x1 : FVec Ideal S1024x9288 .f32) (x3 : FVec Ideal S128 .f32) (b : Fin 32) (t : Fin 64) (d : Fin 256) :
    (val_main_v35 (F := Ideal) x0 x1 x3 (ix3 b t d) : EReal) = key x0 x1 x3 b t d := by
  have h := khead_apply x0 x1 x3 b t
  unfold val_main_v35
  generalize val_main_v34 (F := Ideal) x0 x1 x3 = v at h ⊢
  pointwise []
  refine Eq.trans ?_ (h ⟨d.val / 128, by omega⟩ (lane d.val))
  congr 1

/-- The third result: the values. -/
theorem v_apply (x0 : FVec Ideal S32x64x1024 .bf16) (x1 : FVec Ideal S1024x9288 .f32) (b : Fin 32) (t : Fin 64) (d : Fin 256) :
    (val_main_v36 (F := Ideal) x0 x1 (ix3 b t d) : EReal) = proj x0 x1 b t (1280 + d.val) (by omega) := by
  have h := p_apply x0 x1 b t
  unfold val_main_v36
  generalize val_main_v2 (F := Ideal) x0 x1 = v at h ⊢
  pointwise []
  exact h ⟨1280 + d.val, by omega⟩

/-- The fourth result: the index queries. -/
theorem qi_apply (x0 : FVec Ideal S32x64x1024 .bf16) (x1 : FVec Ideal S1024x9288 .f32) (b : Fin 32) (t : Fin 64) (d : Fin 512) :
    (val_main_v44 (F := Ideal) x0 x1 (ix3 b t d) : EReal) = proj x0 x1 b t (1536 + d.val) (by omega) := by
  have h := p_apply x0 x1 b t
  unfold val_main_v44 val_main_v37
  generalize val_main_v2 (F := Ideal) x0 x1 = v at h ⊢
  pointwise []
  exact h ⟨1536 + d.val, by omega⟩

/-- The fifth result: the index keys. -/
theorem ki_apply (x0 : FVec Ideal S32x64x1024 .bf16) (x1 : FVec Ideal S1024x9288 .f32) (b : Fin 32) (t : Fin 64) (d : Fin 64) :
    (val_main_v38 (F := Ideal) x0 x1 (ix3 b t d) : EReal) = proj x0 x1 b t (2048 + d.val) (by omega) := by
  have h := p_apply x0 x1 b t
  unfold val_main_v38
  generalize val_main_v2 (F := Ideal) x0 x1 = v at h ⊢
  pointwise []
  exact h ⟨2048 + d.val, by omega⟩

/-- The sixth result: the index weights. -/
theorem wi_apply (x0 : FVec Ideal S32x64x1024 .bf16) (x1 : FVec Ideal S1024x9288 .f32) (b : Fin 32) (t : Fin 64) (n : Fin 8) :
    (val_main_v41 (F := Ideal) x0 x1 (ix3 b t n) : EReal) = proj x0 x1 b t (2112 + n.val) (by omega) * wScale := by
  have h := p_apply x0 x1 b t
  unfold val_main_v41 val_main_v39
  generalize val_main_v2 (F := Ideal) x0 x1 = v at h ⊢
  pointwise [val_main_v40, val_main_cst_6]
  exact congrArg (· * wScale) (h ⟨2112 + n.val, by omega⟩)

end Cert.ProjSampleRefIdeal.Elem

end
-- ==== Proof.ProjSample.Claims.lean ====
module

public import proofs.«01_k».proof.Defs
public import proofs.«01_k».proof.Proof.ProjSample.Array
public import proofs.«01_k».proof.Proof.ProjSample.Ref
public import proofs.«01_k».proof.Proof.Gen.ProjSample.Frame
public import proofs.«01_k».proof.Proof.Gen.ProjSampleRefIdeal.Run
public import Idealize.ShloMosaic.Lib.Quiescent

@[expose] public section

set_option maxRecDepth 16384

noncomputable section

/-! The attention's projections at the sample's shapes: the claims. -/

open Idealize.ShloMosaic Idealize.ShloMosaic.TcCoe Idealize.SL.Sem

namespace Cert.ProjSample.Claims

theorem frame : Cert.quiescent_ProjSample := fun m ρ _ => Cert.ProjSample.Gen.frame m ρ
theorem frame_ideal : Cert.quiescent_ProjSampleIdeal := fun m ρ _ => Cert.ProjSampleIdeal.Gen.frame m ρ
theorem frame_ref : Cert.quiescent_ProjSampleRefIdeal := fun m ρ _ =>
  (θ_run Cert.ProjSampleRefIdeal.defs _ _).mono (fun r h => ⟨fun c => (h c).2.2.2.2.2.2,
      Idealize.ShloMosaic.sem_eq_zero_of_no_sems (by decide) r.2⟩)
    (Cert.ProjSampleRefIdeal.Value.run (F := Ideal) m ρ)

theorem preserves : Cert.preserves_ProjSample_ProjSampleIdeal := trivial

/-- Kernel and reference end at the same six arrays, `Cert.ProjSampleIdeal.Array.result4` to `result9`. -/
theorem algebraic : Cert.algebraic_ProjSampleIdeal_ProjSampleRefIdeal := by
  intro m ρ m' ρ' _ hag
  refine ⟨fun c => Cert.ProjSampleIdeal.Array.result4 m c, fun c => Cert.ProjSampleIdeal.Array.result5 m c, fun c => Cert.ProjSampleIdeal.Array.result6 m c, fun c => Cert.ProjSampleIdeal.Array.result7 m c, fun c => Cert.ProjSampleIdeal.Array.result8 m c, fun c => Cert.ProjSampleIdeal.Array.result9 m c, ?_, ?_⟩
  · exact (θ_run Cert.ProjSampleIdeal.defs _ _).mono
      (fun _ h c => ⟨(h c).1.trans (Cert.ProjSampleIdeal.Array.final4 m c), (h c).2.1.trans (Cert.ProjSampleIdeal.Array.final5 m c), (h c).2.2.1.trans (Cert.ProjSampleIdeal.Array.final6 m c), (h c).2.2.2.1.trans (Cert.ProjSampleIdeal.Array.final7 m c), (h c).2.2.2.2.1.trans (Cert.ProjSampleIdeal.Array.final8 m c), (h c).2.2.2.2.2.1.trans (Cert.ProjSampleIdeal.Array.final9 m c), (h c).2.2.2.2.2.2⟩)
      (Cert.ProjSampleIdeal.Whole.run m ρ)
  · refine (θ_run Cert.ProjSampleRefIdeal.defs _ _).mono
      (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.ProjSampleRefIdeal.Value.run (F := Ideal) m' ρ')
    · obtain ⟨e0, e1, e2, e3⟩ := hag c
      refine (Cert.ProjSampleRefIdeal.Read.val_main_v43_eq _ _ _ ).trans ?_
      show Cert.ProjSampleRefIdeal.Read.val_main_v43 (F := Ideal) (m' ((c : Thread Cert.ProjSampleRefIdeal.nD Cert.ProjSampleRefIdeal.τ).loc Cert.ProjSampleRefIdeal.main_arg0)) (m' ((c : Thread Cert.ProjSampleRefIdeal.nD Cert.ProjSampleRefIdeal.τ).loc Cert.ProjSampleRefIdeal.main_arg1)) (m' ((c : Thread Cert.ProjSampleRefIdeal.nD Cert.ProjSampleRefIdeal.τ).loc Cert.ProjSampleRefIdeal.main_arg2)) = _
      rw [e0, e1, e2]
      funext x
      obtain ⟨b, t, d, rfl⟩ : ∃ (b : Fin 32) (t : Fin 64) (d : Fin 1024), x = ix3 b t d :=
        ⟨x 0, x 1, x 2, funext fun a => match a with | ⟨0, _⟩ => rfl | ⟨1, _⟩ => rfl | ⟨2, _⟩ => rfl⟩
      exact Cert.ProjSampleRefIdeal.Elem.q_apply _ _ _ b t d
    · obtain ⟨e0, e1, e2, e3⟩ := hag c
      refine (Cert.ProjSampleRefIdeal.Read.val_main_v35_eq _ _ _ ).trans ?_
      show Cert.ProjSampleRefIdeal.Read.val_main_v35 (F := Ideal) (m' ((c : Thread Cert.ProjSampleRefIdeal.nD Cert.ProjSampleRefIdeal.τ).loc Cert.ProjSampleRefIdeal.main_arg0)) (m' ((c : Thread Cert.ProjSampleRefIdeal.nD Cert.ProjSampleRefIdeal.τ).loc Cert.ProjSampleRefIdeal.main_arg1)) (m' ((c : Thread Cert.ProjSampleRefIdeal.nD Cert.ProjSampleRefIdeal.τ).loc Cert.ProjSampleRefIdeal.main_arg3)) = _
      rw [e0, e1, e3]
      funext x
      obtain ⟨b, t, d, rfl⟩ : ∃ (b : Fin 32) (t : Fin 64) (d : Fin 256), x = ix3 b t d :=
        ⟨x 0, x 1, x 2, funext fun a => match a with | ⟨0, _⟩ => rfl | ⟨1, _⟩ => rfl | ⟨2, _⟩ => rfl⟩
      exact Cert.ProjSampleRefIdeal.Elem.k_apply _ _ _ b t d
    · obtain ⟨e0, e1, e2, e3⟩ := hag c
      refine (Cert.ProjSampleRefIdeal.Read.val_main_v36_eq _ _ ).trans ?_
      show Cert.ProjSampleRefIdeal.Read.val_main_v36 (F := Ideal) (m' ((c : Thread Cert.ProjSampleRefIdeal.nD Cert.ProjSampleRefIdeal.τ).loc Cert.ProjSampleRefIdeal.main_arg0)) (m' ((c : Thread Cert.ProjSampleRefIdeal.nD Cert.ProjSampleRefIdeal.τ).loc Cert.ProjSampleRefIdeal.main_arg1)) = _
      rw [e0, e1]
      funext x
      obtain ⟨b, t, d, rfl⟩ : ∃ (b : Fin 32) (t : Fin 64) (d : Fin 256), x = ix3 b t d :=
        ⟨x 0, x 1, x 2, funext fun a => match a with | ⟨0, _⟩ => rfl | ⟨1, _⟩ => rfl | ⟨2, _⟩ => rfl⟩
      exact Cert.ProjSampleRefIdeal.Elem.v_apply _ _ b t d
    · obtain ⟨e0, e1, e2, e3⟩ := hag c
      refine (Cert.ProjSampleRefIdeal.Read.val_main_v44_eq _ _ ).trans ?_
      show Cert.ProjSampleRefIdeal.Read.val_main_v44 (F := Ideal) (m' ((c : Thread Cert.ProjSampleRefIdeal.nD Cert.ProjSampleRefIdeal.τ).loc Cert.ProjSampleRefIdeal.main_arg0)) (m' ((c : Thread Cert.ProjSampleRefIdeal.nD Cert.ProjSampleRefIdeal.τ).loc Cert.ProjSampleRefIdeal.main_arg1)) = _
      rw [e0, e1]
      funext x
      obtain ⟨b, t, d, rfl⟩ : ∃ (b : Fin 32) (t : Fin 64) (d : Fin 512), x = ix3 b t d :=
        ⟨x 0, x 1, x 2, funext fun a => match a with | ⟨0, _⟩ => rfl | ⟨1, _⟩ => rfl | ⟨2, _⟩ => rfl⟩
      exact Cert.ProjSampleRefIdeal.Elem.qi_apply _ _ b t d
    · obtain ⟨e0, e1, e2, e3⟩ := hag c
      refine (Cert.ProjSampleRefIdeal.Read.val_main_v38_eq _ _ ).trans ?_
      show Cert.ProjSampleRefIdeal.Read.val_main_v38 (F := Ideal) (m' ((c : Thread Cert.ProjSampleRefIdeal.nD Cert.ProjSampleRefIdeal.τ).loc Cert.ProjSampleRefIdeal.main_arg0)) (m' ((c : Thread Cert.ProjSampleRefIdeal.nD Cert.ProjSampleRefIdeal.τ).loc Cert.ProjSampleRefIdeal.main_arg1)) = _
      rw [e0, e1]
      funext x
      obtain ⟨b, t, d, rfl⟩ : ∃ (b : Fin 32) (t : Fin 64) (d : Fin 64), x = ix3 b t d :=
        ⟨x 0, x 1, x 2, funext fun a => match a with | ⟨0, _⟩ => rfl | ⟨1, _⟩ => rfl | ⟨2, _⟩ => rfl⟩
      exact Cert.ProjSampleRefIdeal.Elem.ki_apply _ _ b t d
    · obtain ⟨e0, e1, e2, e3⟩ := hag c
      refine (Cert.ProjSampleRefIdeal.Read.val_main_v41_eq _ _ ).trans ?_
      show Cert.ProjSampleRefIdeal.Read.val_main_v41 (F := Ideal) (m' ((c : Thread Cert.ProjSampleRefIdeal.nD Cert.ProjSampleRefIdeal.τ).loc Cert.ProjSampleRefIdeal.main_arg0)) (m' ((c : Thread Cert.ProjSampleRefIdeal.nD Cert.ProjSampleRefIdeal.τ).loc Cert.ProjSampleRefIdeal.main_arg1)) = _
      rw [e0, e1]
      funext x
      obtain ⟨b, t, d, rfl⟩ : ∃ (b : Fin 32) (t : Fin 64) (d : Fin 8), x = ix3 b t d :=
        ⟨x 0, x 1, x 2, funext fun a => match a with | ⟨0, _⟩ => rfl | ⟨1, _⟩ => rfl | ⟨2, _⟩ => rfl⟩
      exact Cert.ProjSampleRefIdeal.Elem.wi_apply _ _ b t d

end Cert.ProjSample.Claims

end
-- ==== Proof.MlpSample.Block.lean ====
module

public import proofs.«01_k».proof.Proof.Gen.MlpSampleIdeal.Value
public import proofs.«01_k».proof.Proof.Gen.MlpSampleRefIdeal.Read
public import Idealize.ShloMosaic.Lib.Pointwise

@[expose] public section

set_option maxRecDepth 16384

noncomputable section

/-! The feed-forward part at the sample's shapes, one element at a time: what a block of the kernel holds and what the reference holds. -/

namespace Cert.MlpSample.Math

open Idealize.ShloMosaic

/-- One hidden unit: the squared positive part of a biased product. -/
def unit (s b : EReal) : EReal := max (s + b) 0 * max (s + b) 0

/-- The feed-forward part at the sample's shapes at batch `b`, token `t`, column `d`: the residual plus the gated second product. -/
def ffn (x0 : Cert.MlpSampleIdeal.S32x64x1024.Idx → EReal) (x1 : Cert.MlpSampleIdeal.S32x64x1024.Idx → EReal)
    (x2 : Cert.MlpSampleIdeal.S32x1x1024.Idx → EReal) (x3 : Cert.MlpSampleIdeal.S1024x4096.Idx → EReal)
    (x4 : Cert.MlpSampleIdeal.S4096.Idx → EReal) (x5 : Cert.MlpSampleIdeal.S4096x1024.Idx → EReal)
    (x6 : Cert.MlpSampleIdeal.S1024.Idx → EReal) (b : Fin 32) (t : Fin 64) (d : Fin 1024) : EReal :=
  x0 (ix3 b t d) + x2 (ix3 b 0 d) *
    ((∑ k : Fin 4096, unit (∑ j : Fin 1024, x1 (ix3 b t j) * x3 (ix2 j k)) (x4 (ix1 k)) * x5 (ix2 k d)) + x6 (ix1 d))

end Cert.MlpSample.Math

namespace Cert.MlpSampleIdeal.Block

open Cert.MlpSampleIdeal Cert.MlpSampleIdeal.Gen Idealize.ShloMosaic Cert.MlpSample.Math

set_option maxHeartbeats 1600000 in
/-- A block of the result at its batch `b`, row `r` and column `d`: the four products over a quarter of the hidden units each. -/
theorem E7_apply (P0 : Vec Ideal S8x64x1024 .f32) (P1 : Vec Ideal S8x1x1024 .f32) (P2 : Vec Ideal S8x64x1024 .bf16)
    (A0 : Vec Ideal S1024x1024 .bf16) (b0 : Vec Ideal S1x1024 .f32) (W0 : Vec Ideal S1024x1024 .bf16)
    (A1 : Vec Ideal S1024x1024 .bf16) (b1 : Vec Ideal S1x1024 .f32) (W1 : Vec Ideal S1024x1024 .bf16)
    (A2 : Vec Ideal S1024x1024 .bf16) (b2 : Vec Ideal S1x1024 .f32) (W2 : Vec Ideal S1024x1024 .bf16)
    (A3 : Vec Ideal S1024x1024 .bf16) (b3 : Vec Ideal S1x1024 .f32) (W3 : Vec Ideal S1024x1024 .bf16)
    (P15 : Vec Ideal S1x1024 .f32) (b : Fin 8) (r : Fin 64) (d : Fin 1024) :
    (Value.E7 P0 P1 P2 A0 b0 W0 A1 b1 W1 A2 b2 W2 A3 b3 W3 P15 (ix3 b r d) : EReal)
      = P0 (ix3 b r d) + P1 (ix3 b 0 d) *
        (((((∑ k : Fin 1024, unit (∑ j : Fin 1024, P2 (ix3 b r j) * A0 (ix2 j k)) (b0 (ix2 0 k)) * W0 (ix2 k d))
          + ∑ k : Fin 1024, unit (∑ j : Fin 1024, P2 (ix3 b r j) * A1 (ix2 j k)) (b1 (ix2 0 k)) * W1 (ix2 k d))
          + ∑ k : Fin 1024, unit (∑ j : Fin 1024, P2 (ix3 b r j) * A2 (ix2 j k)) (b2 (ix2 0 k)) * W2 (ix2 k d))
          + ∑ k : Fin 1024, unit (∑ j : Fin 1024, P2 (ix3 b r j) * A3 (ix2 j k)) (b3 (ix2 0 k)) * W3 (ix2 k d))
          + P15 (ix2 0 d)) := by
  have e0 : Value.ix7_0 (ix3 b r d) = ix3 b r d :=
    funext fun a => match a with | ⟨0, _⟩ => rfl | ⟨1, _⟩ => rfl | ⟨2, _⟩ => rfl
  have e1 : Value.ix7_1 (ix3 b r d) = ix3 b 0 d :=
    funext fun a => match a with | ⟨0, _⟩ => rfl | ⟨1, _⟩ => rfl | ⟨2, _⟩ => rfl
  have e2 : Value.ix7_2 (ix3 b r d) = ix3 b r d :=
    funext fun a => match a with | ⟨0, _⟩ => rfl | ⟨1, _⟩ => rfl | ⟨2, _⟩ => rfl
  unfold Value.E7
  rw [e0, e1, e2]
  pointwise [k0_pay4, k0_pay3, k0_pay2, unit]

set_option maxHeartbeats 1600000 in
/-- A block of the result at its batch `b`, row `r` and column `d`, from the input windows' blocks: one sum over all hidden units. -/
theorem out_apply (x0 : Vec Ideal S8x64x1024 .f32) (x1 : Vec Ideal S8x64x1024 .bf16) (x2 : Vec Ideal S8x1x1024 .f32)
    (x3 : Vec Ideal S1024x4096 .bf16) (x4 : Vec Ideal S1x4096 .f32) (x5 : Vec Ideal S4096x1024 .bf16)
    (x6 : Vec Ideal S1x1024 .f32) (b : Fin 8) (r : Fin 64) (d : Fin 1024) :
    (out0_7 x0 x1 x2 x3 x4 x5 x6 (ix3 b r d) : EReal)
      = x0 (ix3 b r d) + x2 (ix3 b 0 d) *
        ((∑ k : Fin 4096, unit (∑ j : Fin 1024, x1 (ix3 b r j) * x3 (ix2 j k)) (x4 (ix2 0 k)) * x5 (ix2 k d)) + x6 (ix2 0 d)) := by
  unfold out0_7
  rw [Value.canon7_eq, E7_apply, Fin.sum_univ_tiles 4 1024 rfl, Fin.sum_univ_four]
  pointwise []

end Cert.MlpSampleIdeal.Block

namespace Cert.MlpSampleRefIdeal.Elem

open Cert.MlpSampleRefIdeal Cert.MlpSampleRefIdeal.Gen Cert.MlpSampleRefIdeal.Read Idealize.ShloMosaic Cert.MlpSample.Math

set_option maxHeartbeats 1600000 in
/-- The reference's result at one element. -/
theorem ref_apply (x0 : FVec Ideal S32x64x1024 .f32) (x1 : FVec Ideal S32x64x1024 .bf16) (x2 : FVec Ideal S32x1x1024 .f32)
    (x3 : FVec Ideal S1024x4096 .f32) (x4 : FVec Ideal S4096 .f32) (x5 : FVec Ideal S4096x1024 .f32)
    (x6 : FVec Ideal S1024 .f32) (b : Fin 32) (t : Fin 64) (d : Fin 1024) :
    (val_main_v13 (F := Ideal) x0 x1 x2 x3 x4 x5 x6 (ix3 b t d) : EReal)
      = ffn x0 x1 x2 x3 x4 x5 x6 b t d := by
  pointwise [val_main_v13, val_main_v12, val_main_v11, val_main_v10, val_main_v9, val_main_v8, val_main_v7, val_main_v6,
    val_main_v5, val_main_v4, val_main_v3, val_main_v2, val_main_v1, val_main_v0, val_main_call0_v0, val_main_call0_cst, ffn, unit]

end Cert.MlpSampleRefIdeal.Elem

end
-- ==== Proof.MlpSample.Array.lean ====
module

public import proofs.«01_k».proof.Proof.MlpSample.Block
public import Idealize.ShloMosaic.Lib.Pipeline.Value
public import Idealize.ShloMosaic.Lib.StableHlo.Run

@[expose] public section

set_option maxRecDepth 16384

noncomputable section

/-! The feed-forward part at the sample's shapes: what the result array holds after the kernel's run.

The grid is four points: point `t` is all 64 tokens of the eight batches from `8 * t` on. -/

namespace Cert.MlpSampleIdeal.Array

open Cert.MlpSampleIdeal Cert.MlpSampleIdeal.Gen Idealize.ShloMosaic Idealize.ShloMosaic.TcCoe Idealize.SL.Sem Cert.MlpSample.Math
open Idealize.ShloMosaic.Pipeline (Dat)

variable (m : (ℓ : Loc nD τ sig) → Buf (Elt Ideal) ℓ) (ρ : Dev nD → PrngReg)

/-! ## Where a point's blocks lie -/

theorem batch_lt (t : Fin cfg0.N) (q : Fin 8) : t.val * 8 + q.val < 32 := by
  have h : t.val < cfg0.N := t.isLt
  have hN : cfg0.N = 4 := N_0
  have := q.isLt
  omega

/-- The batch at place `q` of point `t`. -/
abbrev batch (t : Fin cfg0.N) (q : Fin 8) : Fin 32 := ⟨t.val * 8 + q.val, batch_lt t q⟩

theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)

/-! ## The arrays the host prepares -/

theorem w1_apply (c : Dev nD) (i : S1024x4096.Idx) :
    (V m c main_v0 i : EReal) = m ((c : Thread nD τ).loc main_arg3) i := by
  unfold V hostOps0
  after_results
  rfl

theorem w2_apply (c : Dev nD) (i : S4096x1024.Idx) :
    (V m c main_v1 i : EReal) = m ((c : Thread nD τ).loc main_arg5) i := by
  unfold V hostOps0
  after_results
  rfl

theorem b1_apply (c : Dev nD) (k : Fin 4096) :
    (V m c main_v2 (ix2 0 k) : EReal) = m ((c : Thread nD τ).loc main_arg4) (ix1 k) := by
  unfold V hostOps0
  after_results
  pointwise []

theorem b2_apply (c : Dev nD) (k : Fin 1024) :
    (V m c main_v3 (ix2 0 k) : EReal) = m ((c : Thread nD τ).loc main_arg6) (ix1 k) := by
  unfold V hostOps0
  after_results
  pointwise []

/-! ## The blocks a point reads -/

/-- The residual's block: the rows of eight batches. -/
theorem x_block (c : Dev nD) (t : Fin cfg0.N) (q : Fin 8) (r : Fin 64) (d : Fin 1024) :
    (iblk m c 0 t (ix3 q r d) : EReal) = m ((c : Thread nD τ).loc main_arg0) (ix3 (batch t q) r d) := by
  have h : (iblk m c 0 t (ix3 q r d) : EReal) = V m c main_arg0 (ix3 (batch t q) r d) := by
    show V m c main_arg0 (((cfg0.win 0).blk t).view.emb (ix3 q r d)) = _
    congr 1
    funext a
    apply Fin.ext
    match a with
    | ⟨0, _⟩ =>
      have e := (index0 t).1
      show win0_0.index t 0 * 8 + 1 * q.val = t.val * 8 + q.val
      omega
    | ⟨1, _⟩ =>
      have e := (index0 t).2.1
      show win0_0.index t 1 * 64 + 1 * r.val = r.val
      omega
    | ⟨2, _⟩ =>
      have e := (index0 t).2.2
      show win0_0.index t 2 * 1024 + 1 * d.val = d.val
      omega
  exact h.trans (congrFun (V_main_arg0 m c) _)

/-- The normalised rows' block. -/
theorem h_block (c : Dev nD) (t : Fin cfg0.N) (q : Fin 8) (r : Fin 64) (d : Fin 1024) :
    (iblk m c 1 t (ix3 q r d) : EReal) = m ((c : Thread nD τ).loc main_arg1) (ix3 (batch t q) r d) := by
  have h : (iblk m c 1 t (ix3 q r d) : EReal) = V m c main_arg1 (ix3 (batch t q) r d) := by
    show V m c main_arg1 (((cfg0.win 1).blk t).view.emb (ix3 q r d)) = _
    congr 1
    funext a
    apply Fin.ext
    match a with
    | ⟨0, _⟩ =>
      have e := (index1 t).1
      show win0_1.index t 0 * 8 + 1 * q.val = t.val * 8 + q.val
      omega
    | ⟨1, _⟩ =>
      have e := (index1 t).2.1
      show win0_1.index t 1 * 64 + 1 * r.val = r.val
      omega
    | ⟨2, _⟩ =>
      have e := (index1 t).2.2
      show win0_1.index t 2 * 1024 + 1 * d.val = d.val
      omega
  exact h.trans (congrFun (V_main_arg1 m c) _)

/-- The gate's block: one row for each of the eight batches. -/
theorem g_block (c : Dev nD) (t : Fin cfg0.N) (q : Fin 8) (d : Fin 1024) :
    (iblk m c 2 t (ix3 q 0 d) : EReal) = m ((c : Thread nD τ).loc main_arg2) (ix3 (batch t q) 0 d) := by
  have h : (iblk m c 2 t (ix3 q 0 d) : EReal) = V m c main_arg2 (ix3 (batch t q) 0 d) := by
    show V m c main_arg2 (((cfg0.win 2).blk t).view.emb (ix3 q 0 d)) = _
    congr 1
    funext a
    apply Fin.ext
    match a with
    | ⟨0, _⟩ =>
      have e := (index2 t).1
      show win0_2.index t 0 * 8 + 1 * q.val = t.val * 8 + q.val
      omega
    | ⟨1, _⟩ =>
      have e := (index2 t).2.1
      show win0_2.index t 1 * 1 + 1 * 0 = 0
      omega
    | ⟨2, _⟩ =>
      have e := (index2 t).2.2
      show win0_2.index t 2 * 1024 + 1 * d.val = d.val
      omega
  exact h.trans (congrFun (V_main_arg2 m c) _)

/-- The first weights, whole. -/
theorem w1_block (c : Dev nD) (t : Fin cfg0.N) (j : Fin 1024) (k : Fin 4096) :
    (iblk m c 3 t (ix2 j k) : EReal) = m ((c : Thread nD τ).loc main_arg3) (ix2 j k) := by
  have h : (iblk m c 3 t (ix2 j k) : EReal) = V m c main_v0 (ix2 j k) := by
    show V m c main_v0 (((cfg0.win 3).blk t).view.emb (ix2 j k)) = _
    congr 1
    funext a
    apply Fin.ext
    match a with
    | ⟨0, _⟩ =>
      have e := (index3 t).1
      show win0_3.index t 0 * 1024 + 1 * j.val = j.val
      omega
    | ⟨1, _⟩ =>
      have e := (index3 t).2
      show win0_3.index t 1 * 4096 + 1 * k.val = k.val
      omega
  exact h.trans (w1_apply m c _)

/-- The first bias, whole. -/
theorem b1_block (c : Dev nD) (t : Fin cfg0.N) (k : Fin 4096) :
    (iblk m c 4 t (ix2 0 k) : EReal) = m ((c : Thread nD τ).loc main_arg4) (ix1 k) := by
  have h : (iblk m c 4 t (ix2 0 k) : EReal) = V m c main_v2 (ix2 0 k) := by
    show V m c main_v2 (((cfg0.win 4).blk t).view.emb (ix2 0 k)) = _
    congr 1
    funext a
    apply Fin.ext
    match a with
    | ⟨0, _⟩ =>
      have e := (index4 t).1
      show win0_4.index t 0 * 1 + 1 * 0 = 0
      omega
    | ⟨1, _⟩ =>
      have e := (index4 t).2
      show win0_4.index t 1 * 4096 + 1 * k.val = k.val
      omega
  exact h.trans (b1_apply m c k)

/-- The second weights, whole. -/
theorem w2_block (c : Dev nD) (t : Fin cfg0.N) (k : Fin 4096) (d : Fin 1024) :
    (iblk m c 5 t (ix2 k d) : EReal) = m ((c : Thread nD τ).loc main_arg5) (ix2 k d) := by
  have h : (iblk m c 5 t (ix2 k d) : EReal) = V m c main_v1 (ix2 k d) := by
    show V m c main_v1 (((cfg0.win 5).blk t).view.emb (ix2 k d)) = _
    congr 1
    funext a
    apply Fin.ext
    match a with
    | ⟨0, _⟩ =>
      have e := (index5 t).1
      show win0_5.index t 0 * 4096 + 1 * k.val = k.val
      omega
    | ⟨1, _⟩ =>
      have e := (index5 t).2
      show win0_5.index t 1 * 1024 + 1 * d.val = d.val
      omega
  exact h.trans (w2_apply m c _)

/-- The second bias, whole. -/
theorem b2_block (c : Dev nD) (t : Fin cfg0.N) (d : Fin 1024) :
    (iblk m c 6 t (ix2 0 d) : EReal) = m ((c : Thread nD τ).loc main_arg6) (ix1 d) := by
  have h : (iblk m c 6 t (ix2 0 d) : EReal) = V m c main_v3 (ix2 0 d) := by
    show V m c main_v3 (((cfg0.win 6).blk t).view.emb (ix2 0 d)) = _
    congr 1
    funext a
    apply Fin.ext
    match a with
    | ⟨0, _⟩ =>
      have e := (index6 t).1
      show win0_6.index t 0 * 1 + 1 * 0 = 0
      omega
    | ⟨1, _⟩ =>
      have e := (index6 t).2
      show win0_6.index t 1 * 1024 + 1 * d.val = d.val
      omega
  exact h.trans (b2_apply m c d)

/-! ## The result array -/

/-- What the result array holds after the run. -/
def result (c : Dev nD) : Vec Ideal S32x64x1024 .f32 := fun i =>
  ffn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2)

/-- What point `t` leaves at place `q`, row `r`, column `d` is the result at its batch and token. -/
theorem point_apply (c : Dev nD) (t : Fin cfg0.N) (q : Fin 8) (r : Fin 64) (d : Fin 1024) :
    (out0_7 (iblk m c 0 t) (iblk m c 1 t) (iblk m c 2 t) (iblk m c 3 t) (iblk m c 4 t) (iblk m c 5 t) (iblk m c 6 t) (ix3 q r d) : EReal)
      = ffn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (batch t q) r d := by
  rw [Block.out_apply]
  simp only [x_block, h_block, g_block, w1_block, b1_block, w2_block, b2_block]
  rfl

/-- Where an element of point `t`'s result block lies in the array. -/
theorem emb_apply (t : Fin cfg0.N) (q : Fin 8) (r : Fin 64) (d : Fin 1024) :
    ((cfg0.win 7).blk t).view.emb (ix3 q r d) = ix3 (batch t q) r d := by
  funext a
  apply Fin.ext
  match a with
  | ⟨0, _⟩ =>
    have e := (index7 t).1
    show win0_7.index t 0 * 8 + 1 * q.val = t.val * 8 + q.val
    omega
  | ⟨1, _⟩ =>
    have e := (index7 t).2.1
    show win0_7.index t 1 * 64 + 1 * r.val = r.val
    omega
  | ⟨2, _⟩ =>
    have e := (index7 t).2.2
    show win0_7.index t 2 * 1024 + 1 * d.val = d.val
    omega

/-- So these elements lie in point `t`'s block. -/
theorem emb_mem (t : Fin cfg0.N) (q : Fin 8) (r : Fin 64) (d : Fin 1024) :
    (ix3 (batch t q) r d : S32x64x1024.Idx) ∈ ((cfg0.win 7).blk t).view.set := by
  rw [← emb_apply]
  exact View.emb_mem_set _ _

/-- What a point writes back is its block of the result. -/
theorem flushed_eq (c : Dev nD) (t : Fin cfg0.N) :
    (dats m 0 c).flushed 7 t = ((cfg0.win 7).blk t).view.read (Elt Ideal) (result m c) := by
  rw [Value.flushed7]
  funext y
  obtain ⟨q, r, d, rfl⟩ : ∃ (q : Fin 8) (r : Fin 64) (d : Fin 1024), y = ix3 q r d :=
    ⟨y 0, y 1, y 2, funext fun a => match a with | ⟨0, _⟩ => rfl | ⟨1, _⟩ => rfl | ⟨2, _⟩ => rfl⟩
  show out0_7 (iblk m c 0 t) (iblk m c 1 t) (iblk m c 2 t) (iblk m c 3 t) (iblk m c 4 t) (iblk m c 5 t) (iblk m c 6 t) (ix3 q r d)
    = result m c (((cfg0.win 7).blk t).view.emb (ix3 q r d))
  rw [emb_apply]
  exact point_apply m c t q r d

/-- Every element of the result lies in some point's block. -/
theorem cover (i : S32x64x1024.Idx) :
    ∃ t : Fin cfg0.N, (cfg0.win 7).flush t = true ∧ i ∈ ((cfg0.win 7).blk t).view.set := by
  obtain ⟨b, u, d, rfl⟩ : ∃ (b : Fin 32) (u : Fin 64) (d : Fin 1024), i = ix3 b u d :=
    ⟨i 0, i 1, i 2, funext fun a => match a with | ⟨0, _⟩ => rfl | ⟨1, _⟩ => rfl | ⟨2, _⟩ => rfl⟩
  have hb := b.isLt
  have hN : cfg0.N = 4 := N_0
  have ht : b.val / 8 < cfg0.N := by omega
  have e0 : batch ⟨b.val / 8, ht⟩ ⟨b.val % 8, Nat.mod_lt _ (by decide)⟩ = b :=
    Fin.ext (by show b.val / 8 * 8 + b.val % 8 = b.val; omega)
  have h := emb_mem ⟨b.val / 8, ht⟩ ⟨b.val % 8, Nat.mod_lt _ (by decide)⟩ u d
  rw [e0] at h
  exact ⟨_, flush0_7 _, h⟩

/-- The result array after the run. -/
theorem final (c : Dev nD) : (dats m 0 c).arrAt 7 cfg0.N = result m c :=
  (dats m 0 c).arrAt_eq_of_cover 7 (result m c) (fun t _ => flushed_eq m c t) cover

end Cert.MlpSampleIdeal.Array

end
-- ==== Proof.MlpSample.Claims.lean ====
module

public import proofs.«01_k».proof.Defs
public import proofs.«01_k».proof.Proof.MlpSample.Array
public import proofs.«01_k».proof.Proof.Gen.MlpSample.Frame
public import proofs.«01_k».proof.Proof.Gen.MlpSampleRefIdeal.Run
public import Idealize.ShloMosaic.Lib.Quiescent

@[expose] public section

set_option maxRecDepth 16384

noncomputable section

/-! The feed-forward part at the sample's shapes: the claims. -/

open Idealize.ShloMosaic Idealize.ShloMosaic.TcCoe Idealize.SL.Sem

namespace Cert.MlpSample.Claims

theorem frame : Cert.quiescent_MlpSample := fun m ρ _ => Cert.MlpSample.Gen.frame m ρ
theorem frame_ideal : Cert.quiescent_MlpSampleIdeal := fun m ρ _ => Cert.MlpSampleIdeal.Gen.frame m ρ
theorem frame_ref : Cert.quiescent_MlpSampleRefIdeal := fun m ρ _ =>
  (θ_run Cert.MlpSampleRefIdeal.defs _ _).mono (fun r h => ⟨fun c => (h c).2,
      Idealize.ShloMosaic.sem_eq_zero_of_no_sems (by decide) r.2⟩)
    (Cert.MlpSampleRefIdeal.Value.run (F := Ideal) m ρ)

theorem preserves : Cert.preserves_MlpSample_MlpSampleIdeal := trivial

/-- Kernel and reference end at the same array, `Cert.MlpSampleIdeal.Array.result`. -/
theorem algebraic : Cert.algebraic_MlpSampleIdeal_MlpSampleRefIdeal := by
  intro m ρ m' ρ' _ hag
  refine ⟨fun c => Cert.MlpSampleIdeal.Array.result m c, ?_, ?_⟩
  · exact (θ_run Cert.MlpSampleIdeal.defs _ _).mono
      (fun _ h c => ⟨(h c).1.trans (Cert.MlpSampleIdeal.Array.final m c), (h c).2⟩)
      (Cert.MlpSampleIdeal.Value.run_blocks (F := Ideal) m ρ)
  · refine (θ_run Cert.MlpSampleRefIdeal.defs _ _).mono
      (fun _ h c => ⟨(h c).1.trans ?_, (h c).2⟩)
      (Cert.MlpSampleRefIdeal.Value.run (F := Ideal) m' ρ')
    obtain ⟨e0, e1, e2, e3, e4, e5, e6⟩ := hag c
    rw [e0, e1, e2, e3, e4, e5, e6]
    funext i
    obtain ⟨b, t, d, rfl⟩ : ∃ (b : Fin 32) (t : Fin 64) (d : Fin 1024), i = ix3 b t d :=
      ⟨i 0, i 1, i 2, funext fun a => match a with | ⟨0, _⟩ => rfl | ⟨1, _⟩ => rfl | ⟨2, _⟩ => rfl⟩
    exact Cert.MlpSampleRefIdeal.Elem.ref_apply _ _ _ _ _ _ _ b t d

end Cert.MlpSample.Claims

end
-- ==== Proof.lean ====
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.GmlpIdeal.Value
public import proofs.«01_k».proof.Proof.Gen.GmlpRefIdeal.Run
public import proofs.«01_k».proof.Proof.Gen.GmlpRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleRefIdeal
public import proofs.«01_k».proof.Proof.Gen.ProjSampleRefIdeal.Run
public import proofs.«01_k».proof.Proof.Gen.ProjSampleRefIdeal.Read
public import proofs.«01_k».proof.Proof.Gen.MlpSample
public import proofs.«01_k».proof.Proof.Gen.MlpSample.Skeleton
public import proofs.«01_k».proof.Proof.Gen.MlpSample.Launch
public import proofs.«01_k».proof.Proof.Gen.MlpSample.Points
public import proofs.«01_k».proof.Proof.Gen.MlpSample.Frame
public import proofs.«01_k».proof.Proof.Gen.MlpSampleIdeal
public import proofs.«01_k».proof.Proof.Gen.MlpSampleIdeal.Skeleton
public import proofs.«01_k».proof.Proof.Gen.MlpSampleIdeal.Launch
public import proofs.«01_k».proof.Proof.Gen.MlpSampleIdeal.Points
public import proofs.«01_k».proof.Proof.Gen.MlpSampleIdeal.Frame
public import proofs.«01_k».proof.Proof.Gen.MlpSampleRefIdeal
public import proofs.«01_k».proof.Proof.Gen.MlpSampleIdeal.Value
public import proofs.«01_k».proof.Proof.Gen.MlpSampleRefIdeal.Run
public import proofs.«01_k».proof.Proof.Gen.MlpSampleRefIdeal.Read
public import proofs.«01_k».proof.Proof.Conv.Claims
public import proofs.«01_k».proof.Proof.Gmlp.Claims
public import proofs.«01_k».proof.Proof.Proj.Claims
public import proofs.«01_k».proof.Proof.Merge.Claims
public import proofs.«01_k».proof.Proof.Mlp.Claims
public import proofs.«01_k».proof.Proof.ProjSample.Claims
public import proofs.«01_k».proof.Proof.MlpSample.Claims
public import Idealize.ShloMosaic.Adequacy
public import Idealize.ShloMosaic.Init

@[expose] public section

noncomputable section

namespace Cert.Proof

open Idealize.ShloMosaic Idealize.SL.Sem Cert.Conv

theorem claim : Cert.Claim := ⟨Cert.Conv.Gen.facts, Cert.ConvIdeal.Gen.facts, Cert.ConvRefIdeal.Gen.facts, Cert.Gmlp.Gen.facts, Cert.GmlpIdeal.Gen.facts, Cert.GmlpRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Mlp.Gen.facts, Cert.MlpIdeal.Gen.facts, Cert.MlpRefIdeal.Gen.facts, Cert.ProjSample.Gen.facts, Cert.ProjSampleIdeal.Gen.facts, Cert.ProjSampleRefIdeal.Gen.facts, Cert.MlpSample.Gen.facts, Cert.MlpSampleIdeal.Gen.facts, Cert.MlpSampleRefIdeal.Gen.facts,
  Cert.Conv.Claims.frame,
  Cert.Conv.Claims.frame_ideal,
  Cert.Conv.Claims.frame_ref,
  Cert.Gmlp.Claims.frame,
  Cert.Gmlp.Claims.frame_ideal,
  Cert.Gmlp.Claims.frame_ref,
  Cert.Proj.Claims.frame,
  Cert.Proj.Claims.frame_ideal,
  Cert.Proj.Claims.frame_ref,
  Cert.Merge.Claims.frame,
  Cert.Merge.Claims.frame_ideal,
  Cert.Merge.Claims.frame_ref,
  Cert.Mlp.Claims.frame,
  Cert.Mlp.Claims.frame_ideal,
  Cert.Mlp.Claims.frame_ref,
  Cert.ProjSample.Claims.frame,
  Cert.ProjSample.Claims.frame_ideal,
  Cert.ProjSample.Claims.frame_ref,
  Cert.MlpSample.Claims.frame,
  Cert.MlpSample.Claims.frame_ideal,
  Cert.MlpSample.Claims.frame_ref,
  Cert.Conv.Claims.preserves,
  Cert.Conv.Claims.algebraic,
  Cert.Gmlp.Claims.preserves,
  Cert.Gmlp.Claims.algebraic,
  Cert.Proj.Claims.preserves,
  Cert.Proj.Claims.algebraic,
  Cert.Merge.Claims.preserves,
  Cert.Merge.Claims.algebraic,
  Cert.Mlp.Claims.preserves,
  Cert.Mlp.Claims.algebraic,
  Cert.ProjSample.Claims.preserves,
  Cert.ProjSample.Claims.algebraic,
  Cert.MlpSample.Claims.preserves,
  Cert.MlpSample.Claims.algebraic⟩

end Cert.Proof

end
